-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_ctx [hPre_finite_ctx : Cert.Pre_finite_ctx.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_ctx.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).1 = (fun _ => 1#1)
    ∧ (Cert.Pre_finite_ctx.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_ctx [hPre_finite_ctx : Cert.Pre_finite_ctx.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_ctx.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).1 = (fun _ => 1#1)
    ∧ (Cert.Pre_finite_ctx.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite_ctx [hKernel18Ideal : Cert.Kernel18Ideal.Facts] [hPre_finite_ctx : Cert.Pre_finite_ctx.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_ctx m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite_ctx [hReference18Ideal : Cert.Reference18Ideal.Facts] [hPre_finite_ctx : Cert.Pre_finite_ctx.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_ctx m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v6)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_finite_ctx [hKernel18Ideal : Cert.Kernel18Ideal.Facts] [hReference18Ideal : Cert.Reference18Ideal.Facts] [hPre_finite_ctx : Cert.Pre_finite_ctx.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_ctx m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v51) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v19) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v5_0)) (v1 : (c : Dev Cert.Kernel21Ideal.nD) → Buf (Elt Ideal) ((c.tc : Thread Cert.Kernel21Ideal.nD Cert.Kernel21Ideal.τ).loc Cert.Kernel21Ideal.main_v5_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5_0) = v0 c
          ∧ r.2.mem ((c.tc : Thread Cert.Kernel21Ideal.nD Cert.Kernel21Ideal.τ).loc Cert.Kernel21Ideal.main_v5_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v18) = v0 c
          ∧ r.2.mem ((c.tc : Thread Cert.Reference21Ideal.nD Cert.Reference21Ideal.τ).loc Cert.Reference21Ideal.main_v31) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v26) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v25) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v28) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_ctx (hKernel18Ideal := hKernel18Ideal) (hPre_finite_ctx := hPre_finite_ctx)
    ∧ quiescent_Reference18Ideal (hReference18Ideal := hReference18Ideal)
    ∧ quiescent_Reference18Ideal_pre_finite_ctx (hReference18Ideal := hReference18Ideal) (hPre_finite_ctx := hPre_finite_ctx)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_ctx (hKernel18Ideal := hKernel18Ideal) (hReference18Ideal := hReference18Ideal) (hPre_finite_ctx := hPre_finite_ctx)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S8x4096x6144 : Shape := ⟨3, ![8, 4096, 6144]⟩
abbrev S8x256x6144 : Shape := ⟨3, ![8, 256, 6144]⟩
abbrev S_ : Shape := ⟨0, ![]⟩
abbrev S2048 : Shape := ⟨1, ![2048]⟩
abbrev S8x256x4096 : Shape := ⟨3, ![8, 256, 4096]⟩

class Facts : Prop where
  bcast_S_S8x4096x6144 : S_.BroadcastsInDim S8x4096x6144 (![] : Fin 0 → Fin S8x4096x6144.rank)
  slices_S8x256x6144_S8x256x4096_0_0_2048 : S8x256x6144.Slices ![0, 0, 2048] S8x256x4096
  bcast_S_S8x256x4096 : S_.BroadcastsInDim S8x256x4096 (![] : Fin 0 → Fin S8x256x4096.rank)

variable [Facts]

def fn {F : FTy → Type} [FloatOps F] (main_arg0 : FVec F S8x4096x6144 .bf16) (main_arg1 : FVec F S8x256x6144 .bf16) (main_arg2 : FVec F S_ .f32) (main_arg3 : FVec F S2048 .f32) : IVec S8x4096x6144 1 × IVec S8x256x4096 1 × IVec S_ 1 :=
  let main_v0 : FVec F S8x4096x6144 .bf16 := Host.absf main_arg0
  let main_cst : FVec F S_ .bf16 := constant S_ .bf16 0x7F80#16
  let main_v1 : FVec F S8x4096x6144 .bf16 := broadcastInDim S8x4096x6144 ![] bcast_S_S8x4096x6144 main_cst
  let main_v2 : IVec S8x4096x6144 1 := cmpf .olt main_v0 main_v1
  let main_v3 : FVec F S8x256x4096 .bf16 := (extractStridedSlice S8x256x4096 ![0, 0, 2048] · slices_S8x256x6144_S8x256x4096_0_0_2048) main_arg1
  let main_v4 : FVec F S8x256x4096 .bf16 := Host.absf main_v3
  let main_cst_0 : FVec F S_ .bf16 := constant S_ .bf16 0x7F80#16
  let main_v5 : FVec F S8x256x4096 .bf16 := broadcastInDim S8x256x4096 ![] bcast_S_S8x256x4096 main_cst_0
  let main_v6 : IVec S8x256x4096 1 := cmpf .olt main_v4 main_v5
  let main_v7 : FVec F S_ .f32 := Host.absf main_arg2
  let main_cst_1 : FVec F S_ .f32 := constant S_ .f32 0x7F800000#32
  let main_v8 : IVec S_ 1 := cmpf .olt main_v7 main_cst_1
  (main_v2, main_v6, main_v8)
-- ==== Pre_finite_ctx.lean ====
abbrev S8x256x6144 : Shape := ⟨3, ![8, 256, 6144]⟩
abbrev S_ : Shape := ⟨0, ![]⟩
abbrev S2048 : Shape := ⟨1, ![2048]⟩

class Facts : Prop where
  bcast_S_S8x256x6144 : S_.BroadcastsInDim S8x256x6144 (![] : Fin 0 → Fin S8x256x6144.rank)

variable [Facts]

def fn {F : FTy → Type} [FloatOps F] (main_arg0 : FVec F S8x256x6144 .bf16) (main_arg1 : FVec F S_ .f32) (main_arg2 : FVec F S2048 .f32) : IVec S8x256x6144 1 × IVec S_ 1 :=
  let main_v0 : FVec F S8x256x6144 .bf16 := Host.absf main_arg0
  let main_cst : FVec F S_ .bf16 := constant S_ .bf16 0x7F80#16
  let main_v1 : FVec F S8x256x6144 .bf16 := broadcastInDim S8x256x6144 ![] bcast_S_S8x256x6144 main_cst
  let main_v2 : IVec S8x256x6144 1 := cmpf .olt main_v0 main_v1
  let main_v3 : FVec F S_ .f32 := Host.absf main_arg1
  let main_cst_0 : FVec F S_ .f32 := constant S_ .f32 0x7F800000#32
  let main_v4 : IVec S_ 1 := cmpf .olt main_v3 main_cst_0
  (main_v2, main_v4)
-- ==== Kernel.lean ====
abbrev S8x4096x6144 : Shape := ⟨3, ![8, 4096, 6144]⟩
abbrev S8x256x6144 : Shape := ⟨3, ![8, 256, 6144]⟩
abbrev S_ : Shape := ⟨0, ![]⟩
abbrev S2048 : Shape := ⟨1, ![2048]⟩
abbrev S1 : Shape := ⟨1, ![1]⟩
abbrev S1x2048 : Shape := ⟨2, ![1, 2048]⟩
abbrev S8x4096x2048 : Shape := ⟨3, ![8, 4096, 2048]⟩
abbrev S1x1024x256 : Shape := ⟨3, ![1, 1024, 256]⟩
abbrev S1x256x256 : Shape := ⟨3, ![1, 256, 256]⟩
abbrev S1x4096x256 : Shape := ⟨3, ![1, 4096, 256]⟩
abbrev S1x256 : Shape := ⟨2, ![1, 256]⟩
abbrev S3x256x4352 : Shape := ⟨3, ![3, 256, 4352]⟩
abbrev S1x256x128 : Shape := ⟨3, ![1, 256, 128]⟩
abbrev S256x128 : Shape := ⟨2, ![256, 128]⟩
abbrev S256x256 : Shape := ⟨2, ![256, 256]⟩
abbrev S1x512x128 : Shape := ⟨3, ![1, 512, 128]⟩
abbrev S512x128 : Shape := ⟨2, ![512, 128]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S1x256x4352 : Shape := ⟨3, ![1, 256, 4352]⟩
abbrev S256x4352 : Shape := ⟨2, ![256, 4352]⟩
abbrev S1x256x4096 : Shape := ⟨3, ![1, 256, 4096]⟩
abbrev S256x4096 : Shape := ⟨2, ![256, 4096]⟩
abbrev S4096x256 : Shape := ⟨2, ![4096, 256]⟩

abbrev nBuf : Space → Nat
  | .hbm => 7
  | .vmem => 16
  | .smem => 1
  | _ => 0

abbrev bufTy : (tb : Table) → Fin (tcTables nBuf tb) → BufTy
  | .hbm, ⟨0, _⟩ => ⟨S8x4096x6144, .bf16⟩
  | .hbm, ⟨1, _⟩ => ⟨S8x256x6144, .bf16⟩
  | .hbm, ⟨2, _⟩ => ⟨S_, .f32⟩
  | .hbm, ⟨3, _⟩ => ⟨S2048, .f32⟩
  | .hbm, ⟨4, _⟩ => ⟨S1, .f32⟩
  | .hbm, ⟨5, _⟩ => ⟨S1x2048, .f32⟩
  | .hbm, ⟨6, _⟩ => ⟨S8x4096x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x256, .f32⟩
  | .local _ .vmem, ⟨11, _⟩ => ⟨S1x256, .f32⟩
  | .local _ .vmem, ⟨12, _⟩ => ⟨S1x1024x256, .bf16⟩
  | .local _ .vmem, ⟨13, _⟩ => ⟨S1x1024x256, .bf16⟩
  | .local _ .vmem, ⟨14, _⟩ => ⟨S3x256x4352, .f32⟩
  | .local _ .vmem, ⟨15, _⟩ => ⟨S3x256x4352, .bf16⟩
  | .local _ .smem, ⟨0, _⟩ => ⟨S1, .f32⟩
  | _, _ => ⟨S8x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x4096x6144 : Shape := ⟨3, ![8, 4096, 6144]⟩
abbrev S8x256x6144 : Shape := ⟨3, ![8, 256, 6144]⟩
abbrev S_ : Shape := ⟨0, ![]⟩
abbrev S2048 : Shape := ⟨1, ![2048]⟩
abbrev S8x4096x2048 : Shape := ⟨3, ![8, 4096, 2048]⟩
abbrev S8x4096x8x2x128 : Shape := ⟨5, ![8, 4096, 8, 2, 128]⟩
abbrev S2x8x8x4096x128 : Shape := ⟨5, ![2, 8, 8, 4096, 128]⟩
abbrev S8x4096x8x256 : Shape := ⟨4, ![8, 4096, 8, 256]⟩
abbrev S8x8x4096x256 : Shape := ⟨4, ![8, 8, 4096, 256]⟩
abbrev S8x256x2048 : Shape := ⟨3, ![8, 256, 2048]⟩
abbrev S8x256x8x2x128 : Shape := ⟨5, ![8, 256, 8, 2, 128]⟩
abbrev S2x8x8x256x128 : Shape := ⟨5, ![2, 8, 8, 256, 128]⟩
abbrev S8x256x8x256 : Shape := ⟨4, ![8, 256, 8, 256]⟩
abbrev S8x8x256x256 : Shape := ⟨4, ![8, 8, 256, 256]⟩
abbrev S2x8x8x4352x128 : Shape := ⟨5, ![2, 8, 8, 4352, 128]⟩
abbrev S8x8x4352x256 : Shape := ⟨4, ![8, 8, 4352, 256]⟩
abbrev S2x8x8x4096x4352 : Shape := ⟨5, ![2, 8, 8, 4096, 4352]⟩
abbrev S2x8x8x4096 : Shape := ⟨4, ![2, 8, 8, 4096]⟩
abbrev S2x8x8x4096x1 : Shape := ⟨5, ![2, 8, 8, 4096, 1]⟩
abbrev S1x8x8x4096x4352 : Shape := ⟨5, ![1, 8, 8, 4096, 4352]⟩
abbrev S8x8x4096x4352 : Shape := ⟨4, ![8, 8, 4096, 4352]⟩
abbrev S8x1x256 : Shape := ⟨3, ![8, 1, 256]⟩
abbrev S8x8x4096 : Shape := ⟨3, ![8, 8, 4096]⟩
abbrev S8x8x4096x1 : Shape := ⟨4, ![8, 8, 4096, 1]⟩
abbrev S1x8x1x256 : Shape := ⟨4, ![1, 8, 1, 256]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x6144, .bf16⟩
  | .hbm, ⟨1, _⟩ => ⟨S8x256x6144, .bf16⟩
  | .hbm, ⟨2, _⟩ => ⟨S_, .f32⟩
  | .hbm, ⟨3, _⟩ => ⟨S2048, .f32⟩
  | .hbm, ⟨4, _⟩ => ⟨S8x4096x6144, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x8x2x128, .f32⟩
  | .hbm, ⟨9, _⟩ => ⟨S2x8x8x4096x128, .f32⟩
  | .hbm, ⟨10, _⟩ => ⟨S8x4096x8x2x128, .f32⟩
  | .hbm, ⟨11, _⟩ => ⟨S2x8x8x4096x128, .f32⟩
  | .hbm, ⟨12, _⟩ => ⟨S8x4096x8x256, .f32⟩
  | .hbm, ⟨13, _⟩ => ⟨S8x8x4096x256, .f32⟩
  | .hbm, ⟨14, _⟩ => ⟨S8x256x6144, .f32⟩
  | .hbm, ⟨15, _⟩ => ⟨S8x256x2048, .f32⟩
  | .hbm, ⟨16, _⟩ => ⟨S8x256x2048, .f32⟩
  | .hbm, ⟨17, _⟩ => ⟨S8x256x2048, .f32⟩
  | .hbm, ⟨18, _⟩ => ⟨S8x256x8x2x128, .f32⟩
  | .hbm, ⟨19, _⟩ => ⟨S2x8x8x256x128, .f32⟩
  | .hbm, ⟨20, _⟩ => ⟨S8x256x8x2x128, .f32⟩
  | .hbm, ⟨21, _⟩ => ⟨S2x8x8x256x128, .f32⟩
  | .hbm, ⟨22, _⟩ => ⟨S8x256x8x256, .f32⟩
  | .hbm, ⟨23, _⟩ => ⟨S8x8x256x256, .f32⟩
  | .hbm, ⟨24, _⟩ => ⟨S2x8x8x4352x128, .f32⟩
  | .hbm, ⟨25, _⟩ => ⟨S8x8x4352x256, .f32⟩
  | .hbm, ⟨26, _⟩ => ⟨S2x8x8x4096x4352, .f32⟩
  | .hbm, ⟨27, _⟩ => ⟨S_, .f32⟩
  | .hbm, ⟨28, _⟩ => ⟨S_, .f32⟩
  | .hbm, ⟨29, _⟩ => ⟨S2x8x8x4096x4352, .f32⟩
  | .hbm, ⟨30, _⟩ => ⟨S2x8x8x4096x4352, .f32⟩
  | .hbm, ⟨31, _⟩ => ⟨S_, .f32⟩
  | .hbm, ⟨32, _⟩ => ⟨S2x8x8x4096, .f32⟩
  | .hbm, ⟨33, _⟩ => ⟨S_, .f32⟩
  | .hbm, ⟨34, _⟩ => ⟨S2x8x8x4096, .f32⟩
  | .hbm, ⟨35, _⟩ => ⟨S2x8x8x4096, .f32⟩
  | .hbm, ⟨36, _⟩ => ⟨S2x8x8x4096x1, .f32⟩
  | .hbm, ⟨37, _⟩ => ⟨S2x8x8x4096x4352, .f32⟩
  | .hbm, ⟨38, _⟩ => ⟨S2x8x8x4096x4352, .f32⟩
  | .hbm, ⟨39, _⟩ => ⟨S2x8x8x4096x4352, .f32⟩
  | .hbm, ⟨40, _⟩ => ⟨S_, .f32⟩
  | .hbm, ⟨41, _⟩ => ⟨S2x8x8x4096, .f32⟩
  | .hbm, ⟨42, _⟩ => ⟨S2x8x8x4096x1, .f32⟩
  | .hbm, ⟨43, _⟩ => ⟨S2x8x8x4096x4352, .f32⟩
  | .hbm, ⟨44, _⟩ => ⟨S2x8x8x4096x4352, .f32⟩
  | .hbm, ⟨45, _⟩ => ⟨S1x8x8x4096x4352, .f32⟩
  | .hbm, ⟨46, _⟩ => ⟨S8x8x4096x4352, .f32⟩
  | .hbm, ⟨47, _⟩ => ⟨S1x8x8x4096x4352, .f32⟩
  | .hbm, ⟨48, _⟩ => ⟨S8x8x4096x4352, .f32⟩
  | .hbm, ⟨49, _⟩ => ⟨S8x8x4096x4352, .f32⟩
  | .hbm, ⟨50, _⟩ => ⟨S8x8x4096x4352, .f32⟩
  | .hbm, ⟨51, _⟩ => ⟨S8x8x4096x4352, .f32⟩
  | .hbm, ⟨52, _⟩ => ⟨S8x8x4096x256, .f32⟩
  | .hbm, ⟨53, _⟩ => ⟨S8x1x256, .f32⟩
  | .hbm, ⟨54, _⟩ => ⟨S8x8x4096x256, .f32⟩
  | .hbm, ⟨55, _⟩ => ⟨S_, .f32⟩
  | .hbm, ⟨56, _⟩ => ⟨S8x8x4096, .f32⟩
  | .hbm, ⟨57, _⟩ => ⟨S8x8x4096x1, .f32⟩
  | .hbm, ⟨58, _⟩ => ⟨S_, .f32⟩
  | .hbm, ⟨59, _⟩ => ⟨S8x8x4096x1, .f32⟩
  | .hbm, ⟨60, _⟩ => ⟨S8x8x4096x1, .f32⟩
  | .hbm, ⟨61, _⟩ => ⟨S_, .f32⟩
  | .hbm, ⟨62, _⟩ => ⟨S8x8x4096x1, .f32⟩
  | .hbm, ⟨63, _⟩ => ⟨S8x8x4096x1, .f32⟩
  | .hbm, ⟨64, _⟩ => ⟨S8x8x4096x1, .f32⟩
  | .hbm, ⟨65, _⟩ => ⟨S8x8x4096x256, .f32⟩
  | .hbm, ⟨66, _⟩ => ⟨S8x8x4096x256, .f32⟩
  | .hbm, ⟨67, _⟩ => ⟨S1x8x1x256, .f32⟩
  | .hbm, ⟨68, _⟩ => ⟨S8x8x4096x256, .f32⟩
  | .hbm, ⟨69, _⟩ => ⟨S8x8x4096x256, .f32⟩
  | .hbm, ⟨70, _⟩ => ⟨S_, .f32⟩
  | .hbm, ⟨71, _⟩ => ⟨S8x8x4096x256, .f32⟩
  | .hbm, ⟨72, _⟩ => ⟨S8x8x4096x256, .f32⟩
  | .hbm, ⟨73, _⟩ => ⟨S8x4096x8x256, .f32⟩
  | .hbm, ⟨74, _⟩ => ⟨S8x4096x2048, .f32⟩
  | .hbm, ⟨75, _⟩ => ⟨S8x4096x2048, .bf16⟩
  | _, _ => ⟨S8x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Kernel2.lean ====
abbrev S8x4096x2048 : Shape := ⟨3, ![8, 4096, 2048]⟩
abbrev S2048x6144 : Shape := ⟨2, ![2048, 6144]⟩
abbrev S4096x128 : Shape := ⟨2, ![4096, 128]⟩
abbrev S128 : Shape := ⟨1, ![128]⟩
abbrev S_ : Shape := ⟨0, ![]⟩
abbrev S2048 : Shape := ⟨1, ![2048]⟩
abbrev S4096 : Shape := ⟨1, ![4096]⟩
abbrev S6144 : Shape := ⟨1, ![6144]⟩
abbrev S1x6144 : Shape := ⟨2, ![1, 6144]⟩
abbrev S32768x2048 : Shape := ⟨2, ![32768, 2048]⟩
abbrev S1x128 : Shape := ⟨2, ![1, 128]⟩
abbrev S8192x128 : Shape := ⟨2, ![8192, 128]⟩
abbrev S32768x6144 : Shape := ⟨2, ![32768, 6144]⟩
abbrev S1024x2048 : Shape := ⟨2, ![1024, 2048]⟩
abbrev S2048x1024 : Shape := ⟨2, ![2048, 1024]⟩
abbrev S1x1024 : Shape := ⟨2, ![1, 1024]⟩
abbrev S1024x128 : Shape := ⟨2, ![1024, 128]⟩
abbrev S1024x1024 : Shape := ⟨2, ![1024, 1024]⟩

abbrev nBuf : Space → Nat
  | .hbm => 54
  | .vmem => 12
  | .smem => 0
  | _ => 0

abbrev bufTy : (tb : Table) → Fin (tcTables nBuf tb) → BufTy
  | .hbm, ⟨0, _⟩ => ⟨S8x4096x2048, .bf16⟩
  | .hbm, ⟨1, _⟩ => ⟨S2048x6144, .f32⟩
  | .hbm, ⟨2, _⟩ => ⟨S4096x128, .f32⟩
  | .hbm, ⟨3, _⟩ => ⟨S4096x128, .f32⟩
  | .hbm, ⟨4, _⟩ => ⟨S128, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S_, .i1⟩
  | .hbm, ⟨21, _⟩ => ⟨S128, .i1⟩
  | .hbm, ⟨22, _⟩ => ⟨S128, .i1⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S4096, .f32⟩
  | .hbm, ⟨39, _⟩ => ⟨S6144, .f32⟩
  | .hbm, ⟨40, _⟩ => ⟨S1x6144, .f32⟩
  | .hbm, ⟨41, _⟩ => ⟨S32768x2048, .bf16⟩
  | .hbm, ⟨42, _⟩ => ⟨S2048x6144, .bf16⟩
  | .hbm, ⟨43, _⟩ => ⟨S128, .f32⟩
  | .hbm, ⟨44, _⟩ => ⟨S1x128, .f32⟩
  | .hbm, ⟨45, _⟩ => ⟨S4096x128, .f32⟩
  | .hbm, ⟨46, _⟩ => ⟨S4096x128, .f32⟩
  | .hbm, ⟨47, _⟩ => ⟨S_, .f32⟩
  | .hbm, ⟨48, _⟩ => ⟨S4096x128, .f32⟩
  | .hbm, ⟨49, _⟩ => ⟨S8192x128, .f32⟩
  | .hbm, ⟨50, _⟩ => ⟨S_, .f32⟩
  | .hbm, ⟨51, _⟩ => ⟨S4096x128, .f32⟩
  | .hbm, ⟨52, _⟩ => ⟨S8192x128, .f32⟩
  | .hbm, ⟨53, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v4 : Ref sig .tc := ⟨.hbm, 34, rfl⟩
abbrev main_cst_2 : Ref sig .tc := ⟨.hbm, 35, rfl⟩
abbrev main_v5 : Ref sig .tc := ⟨.hbm, 36, rfl⟩
abbrev main_cst_3 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_v16 : Ref sig .tc := ⟨.hbm, 49, rfl⟩
abbrev main_cst_5 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 1 := Scalar.cmpi .slt arg1 c4_i32_3
  let c0_i32_4 : BitVec 32 := 0#32
  let c4_i32_5 : BitVec 32 := 4#32
  let v11 : BitVec 32 := Scalar.select v10 c0_i32_4 c4_i32_5
  let v12 : BitVec 32 := Scalar.addi v9 v11
  let c0_i32_6 : BitVec 32 := 0#32
  let c0_i32_7 : BitVec 32 := 0#32
  ![v12.toNat, c0_i32_6.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 1 := Scalar.cmpi .slt arg1 c4_i32_3
  let c0_i32_4 : BitVec 32 := 0#32
  let c4_i32_5 : BitVec 32 := 4#32
  let v11 : BitVec 32 := Scalar.select v10 c0_i32_4 c4_i32_5
  let v12 : BitVec 32 := Scalar.addi v9 v11
  let c0_i32_6 : BitVec 32 := 0#32
  let c0_i32_7 : BitVec 32 := 0#32
  ![v12.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x2048 : Shape := ⟨3, ![8, 4096, 2048]⟩
abbrev S2048x6144 : Shape := ⟨2, ![2048, 6144]⟩
abbrev S4096x128 : Shape := ⟨2, ![4096, 128]⟩
abbrev S8x4096x6144 : Shape := ⟨3, ![8, 4096, 6144]⟩
abbrev S8x4096x8x2x128 : Shape := ⟨5, ![8, 4096, 8, 2, 128]⟩
abbrev S2x8x8x4096x128 : Shape := ⟨5, ![2, 8, 8, 4096, 128]⟩
abbrev S2x8x8x4096x32 : Shape := ⟨5, ![2, 8, 8, 4096, 32]⟩
abbrev S1x1x1x4096x128 : Shape := ⟨5, ![1, 1, 1, 4096, 128]⟩
abbrev S_ : Shape := ⟨0, ![]⟩
abbrev S32768x2048 : Shape := ⟨2, ![32768, 2048]⟩
abbrev S32768x6144 : Shape := ⟨2, ![32768, 6144]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x6144, .f32⟩
  | .hbm, ⟨2, _⟩ => ⟨S4096x128, .f32⟩
  | .hbm, ⟨3, _⟩ => ⟨S4096x128, .f32⟩
  | .hbm, ⟨4, _⟩ => ⟨S8x4096x2048, .f32⟩
  | .hbm, ⟨5, _⟩ => ⟨S8x4096x6144, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x8x2x128, .f32⟩
  | .hbm, ⟨10, _⟩ => ⟨S2x8x8x4096x128, .f32⟩
  | .hbm, ⟨11, _⟩ => ⟨S8x4096x8x2x128, .f32⟩
  | .hbm, ⟨12, _⟩ => ⟨S2x8x8x4096x128, .f32⟩
  | .hbm, ⟨13, _⟩ => ⟨S2x8x8x4096x32, .f32⟩
  | .hbm, ⟨14, _⟩ => ⟨S2x8x8x4096x32, .f32⟩
  | .hbm, ⟨15, _⟩ => ⟨S2x8x8x4096x32, .f32⟩
  | .hbm, ⟨16, _⟩ => ⟨S2x8x8x4096x32, .f32⟩
  | .hbm, ⟨17, _⟩ => ⟨S2x8x8x4096x32, .f32⟩
  | .hbm, ⟨18, _⟩ => ⟨S2x8x8x4096x32, .f32⟩
  | .hbm, ⟨19, _⟩ => ⟨S2x8x8x4096x128, .f32⟩
  | .hbm, ⟨20, _⟩ => ⟨S1x1x1x4096x128, .f32⟩
  | .hbm, ⟨21, _⟩ => ⟨S2x8x8x4096x128, .f32⟩
  | .hbm, ⟨22, _⟩ => ⟨S2x8x8x4096x128, .f32⟩
  | .hbm, ⟨23, _⟩ => ⟨S1x1x1x4096x128, .f32⟩
  | .hbm, ⟨24, _⟩ => ⟨S2x8x8x4096x128, .f32⟩
  | .hbm, ⟨25, _⟩ => ⟨S2x8x8x4096x128, .f32⟩
  | .hbm, ⟨26, _⟩ => ⟨S2x8x8x4096x128, .f32⟩
  | .hbm, ⟨27, _⟩ => ⟨S_, .f32⟩
  | .hbm, ⟨28, _⟩ => ⟨S2x8x8x4096x128, .f32⟩
  | .hbm, ⟨29, _⟩ => ⟨S2x8x8x4096x128, .f32⟩
  | .hbm, ⟨30, _⟩ => ⟨S2x8x8x4096x32, .f32⟩
  | .hbm, ⟨31, _⟩ => ⟨S2x8x8x4096x32, .f32⟩
  | .hbm, ⟨32, _⟩ => ⟨S2x8x8x4096x32, .f32⟩
  | .hbm, ⟨33, _⟩ => ⟨S2x8x8x4096x32, .f32⟩
  | .hbm, ⟨34, _⟩ => ⟨S2x8x8x4096x32, .f32⟩
  | .hbm, ⟨35, _⟩ => ⟨S2x8x8x4096x32, .f32⟩
  | .hbm, ⟨36, _⟩ => ⟨S2x8x8x4096x128, .f32⟩
  | .hbm, ⟨37, _⟩ => ⟨S1x1x1x4096x128, .f32⟩
  | .hbm, ⟨38, _⟩ => ⟨S2x8x8x4096x128, .f32⟩
  | .hbm, ⟨39, _⟩ => ⟨S2x8x8x4096x128, .f32⟩
  | .hbm, ⟨40, _⟩ => ⟨S1x1x1x4096x128, .f32⟩
  | .hbm, ⟨41, _⟩ => ⟨S2x8x8x4096x128, .f32⟩
  | .hbm, ⟨42, _⟩ => ⟨S2x8x8x4096x128, .f32⟩
  | .hbm, ⟨43, _⟩ => ⟨S2x8x8x4096x128, .f32⟩
  | .hbm, ⟨44, _⟩ => ⟨S8x4096x8x2x128, .f32⟩
  | .hbm, ⟨45, _⟩ => ⟨S32768x2048, .f32⟩
  | .hbm, ⟨46, _⟩ => ⟨S8x4096x8x2x128, .f32⟩
  | .hbm, ⟨47, _⟩ => ⟨S32768x2048, .f32⟩
  | .hbm, ⟨48, _⟩ => ⟨S32768x2048, .f32⟩
  | .hbm, ⟨49, _⟩ => ⟨S32768x6144, .f32⟩
  | .hbm, ⟨50, _⟩ => ⟨S32768x6144, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩

abbrev nD : Nat := 1
abbrev τ : Topo := Topo.v7x

variable {F : FTy → Type} [FloatOps F]
-- ==== Kernel3.lean ====
abbrev S8x4096x2048 : Shape := ⟨3, ![8, 4096, 2048]⟩
abbrev S2048x5136 : Shape := ⟨2, ![2048, 5136]⟩
abbrev S2048x4096 : Shape := ⟨2, ![2048, 4096]⟩
abbrev S2048x1024 : Shape := ⟨2, ![2048, 1024]⟩
abbrev S2048x5120 : Shape := ⟨2, ![2048, 5120]⟩
abbrev S32768x2048 : Shape := ⟨2, ![32768, 2048]⟩
abbrev S32768x5120 : Shape := ⟨2, ![32768, 5120]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8x4096x2048, .bf16⟩
  | .hbm, ⟨1, _⟩ => ⟨S2048x5136, .f32⟩
  | .hbm, ⟨2, _⟩ => ⟨S2048x4096, .f32⟩
  | .hbm, ⟨3, _⟩ => ⟨S2048x1024, .f32⟩
  | .hbm, ⟨4, _⟩ => ⟨S2048x5120, .f32⟩
  | .hbm, ⟨5, _⟩ => ⟨S2048x5120, .bf16⟩
  | .hbm, ⟨6, _⟩ => ⟨S32768x2048, .bf16⟩
  | .hbm, ⟨7, _⟩ => ⟨S32768x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel3Ideal.lean ====
abbrev S8x4096x2048 : Shape := ⟨3, ![8, 4096, 2048]⟩
abbrev S2048x5136 : Shape := ⟨2, ![2048, 5136]⟩
abbrev S2048x4096 : Shape := ⟨2, ![2048, 4096]⟩
abbrev S2048x1024 : Shape := ⟨2, ![2048, 1024]⟩
abbrev S2048x5120 : Shape := ⟨2, ![2048, 5120]⟩
abbrev S32768x2048 : Shape := ⟨2, ![32768, 2048]⟩
abbrev S32768x5120 : Shape := ⟨2, ![32768, 5120]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8x4096x2048, .bf16⟩
  | .hbm, ⟨1, _⟩ => ⟨S2048x5136, .f32⟩
  | .hbm, ⟨2, _⟩ => ⟨S2048x4096, .f32⟩
  | .hbm, ⟨3, _⟩ => ⟨S2048x1024, .f32⟩
  | .hbm, ⟨4, _⟩ => ⟨S2048x5120, .f32⟩
  | .hbm, ⟨5, _⟩ => ⟨S2048x5120, .bf16⟩
  | .hbm, ⟨6, _⟩ => ⟨S32768x2048, .bf16⟩
  | .hbm, ⟨7, _⟩ => ⟨S32768x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8x4096x2048 : Shape := ⟨3, ![8, 4096, 2048]⟩
abbrev S2048x5136 : Shape := ⟨2, ![2048, 5136]⟩
abbrev S8x4096x5136 : Shape := ⟨3, ![8, 4096, 5136]⟩
abbrev S32768x5136 : Shape := ⟨2, ![32768, 5136]⟩
abbrev S32768x4096 : Shape := ⟨2, ![32768, 4096]⟩
abbrev S32768x1024 : Shape := ⟨2, ![32768, 1024]⟩
abbrev S32768x5120 : Shape := ⟨2, ![32768, 5120]⟩

abbrev nBuf : Space → Nat
  | .hbm => 8
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x5136, .f32⟩
  | .hbm, ⟨2, _⟩ => ⟨S8x4096x2048, .f32⟩
  | .hbm, ⟨3, _⟩ => ⟨S8x4096x5136, .f32⟩
  | .hbm, ⟨4, _⟩ => ⟨S32768x5136, .f32⟩
  | .hbm, ⟨5, _⟩ => ⟨S32768x4096, .f32⟩
  | .hbm, ⟨6, _⟩ => ⟨S32768x1024, .f32⟩
  | .hbm, ⟨7, _⟩ => ⟨S32768x5120, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S8x4096x2048 : Shape := ⟨3, ![8, 4096, 2048]⟩
abbrev S2048x2048 : Shape := ⟨2, ![2048, 2048]⟩
abbrev S8x1x2048 : Shape := ⟨3, ![8, 1, 2048]⟩
abbrev S32768x2048 : Shape := ⟨2, ![32768, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 8
  | .vmem => 9
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
abbrev S8x4096x2048 : Shape := ⟨3, ![8, 4096, 2048]⟩
abbrev S2048x2048 : Shape := ⟨2, ![2048, 2048]⟩
abbrev S8x1x2048 : Shape := ⟨3, ![8, 1, 2048]⟩
abbrev S32768x2048 : Shape := ⟨2, ![32768, 2048]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 8
  | .vmem => 9
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x4096x2048 : Shape := ⟨3, ![8, 4096, 2048]⟩
abbrev S2048x2048 : Shape := ⟨2, ![2048, 2048]⟩
abbrev S8x1x2048 : Shape := ⟨3, ![8, 1, 2048]⟩
abbrev S32768x2048 : Shape := ⟨2, ![32768, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x1x2048, .f32⟩
  | .hbm, ⟨4, _⟩ => ⟨S8x4096x2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S32768x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S8x4096x1024 : Shape := ⟨3, ![8, 4096, 1024]⟩
abbrev S2048x2048 : Shape := ⟨2, ![2048, 2048]⟩
abbrev S8x4096x2048 : Shape := ⟨3, ![8, 4096, 2048]⟩
abbrev S8x1x2048 : Shape := ⟨3, ![8, 1, 2048]⟩
abbrev S32768x1024 : Shape := ⟨2, ![32768, 1024]⟩
abbrev S1024x2048 : Shape := ⟨2, ![1024, 2048]⟩
abbrev S32768x2048 : Shape := ⟨2, ![32768, 2048]⟩
abbrev S512x1024 : Shape := ⟨2, ![512, 1024]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S2048x2048, .f32⟩
  | .hbm, ⟨3, _⟩ => ⟨S8x4096x2048, .f32⟩
  | .hbm, ⟨4, _⟩ => ⟨S8x1x2048, .f32⟩
  | .hbm, ⟨5, _⟩ => ⟨S2048x2048, .bf16⟩
  | .hbm, ⟨6, _⟩ => ⟨S32768x1024, .bf16⟩
  | .hbm, ⟨7, _⟩ => ⟨S1024x2048, .bf16⟩
  | .hbm, ⟨8, _⟩ => ⟨S32768x1024, .bf16⟩
  | .hbm, ⟨9, _⟩ => ⟨S1024x2048, .bf16⟩
  | .hbm, ⟨10, _⟩ => ⟨S32768x2048, .f32⟩
  | .hbm, ⟨11, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel5Ideal.lean ====
abbrev S8x4096x1024 : Shape := ⟨3, ![8, 4096, 1024]⟩
abbrev S2048x2048 : Shape := ⟨2, ![2048, 2048]⟩
abbrev S8x4096x2048 : Shape := ⟨3, ![8, 4096, 2048]⟩
abbrev S8x1x2048 : Shape := ⟨3, ![8, 1, 2048]⟩
abbrev S32768x1024 : Shape := ⟨2, ![32768, 1024]⟩
abbrev S1024x2048 : Shape := ⟨2, ![1024, 2048]⟩
abbrev S32768x2048 : Shape := ⟨2, ![32768, 2048]⟩
abbrev S512x1024 : Shape := ⟨2, ![512, 1024]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S2048x2048, .f32⟩
  | .hbm, ⟨3, _⟩ => ⟨S8x4096x2048, .f32⟩
  | .hbm, ⟨4, _⟩ => ⟨S8x1x2048, .f32⟩
  | .hbm, ⟨5, _⟩ => ⟨S2048x2048, .bf16⟩
  | .hbm, ⟨6, _⟩ => ⟨S32768x1024, .bf16⟩
  | .hbm, ⟨7, _⟩ => ⟨S1024x2048, .bf16⟩
  | .hbm, ⟨8, _⟩ => ⟨S32768x1024, .bf16⟩
  | .hbm, ⟨9, _⟩ => ⟨S1024x2048, .bf16⟩
  | .hbm, ⟨10, _⟩ => ⟨S32768x2048, .f32⟩
  | .hbm, ⟨11, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x4096x1024 : Shape := ⟨3, ![8, 4096, 1024]⟩
abbrev S2048x2048 : Shape := ⟨2, ![2048, 2048]⟩
abbrev S8x4096x2048 : Shape := ⟨3, ![8, 4096, 2048]⟩
abbrev S8x1x2048 : Shape := ⟨3, ![8, 1, 2048]⟩
abbrev S32768x2048 : Shape := ⟨2, ![32768, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S2048x2048, .f32⟩
  | .hbm, ⟨3, _⟩ => ⟨S8x4096x2048, .f32⟩
  | .hbm, ⟨4, _⟩ => ⟨S8x1x2048, .f32⟩
  | .hbm, ⟨5, _⟩ => ⟨S8x4096x2048, .bf16⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S32768x2048, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel6.lean ====
abbrev S8x4096x2048 : Shape := ⟨3, ![8, 4096, 2048]⟩
abbrev S2048 : Shape := ⟨1, ![2048]⟩
abbrev S1x2048 : Shape := ⟨2, ![1, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S1x2048, .f32⟩
  | .hbm, ⟨3, _⟩ => ⟨S8x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x4096x2048, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S8x4096x1, .f32⟩
  | .hbm, ⟨13, _⟩ => ⟨S8x4096x2048, .f32⟩
  | .hbm, ⟨14, _⟩ => ⟨S8x4096x2048, .f32⟩
  | .hbm, ⟨15, _⟩ => ⟨S1x1x2048, .f32⟩
  | .hbm, ⟨16, _⟩ => ⟨S8x4096x2048, .f32⟩
  | .hbm, ⟨17, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S8x4096x1024 : Shape := ⟨3, ![8, 4096, 1024]⟩
abbrev S8x4096x5120 : Shape := ⟨3, ![8, 4096, 5120]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x4096x5120, .f32⟩
  | .hbm, ⟨2, _⟩ => ⟨S1024, .f32⟩
  | .hbm, ⟨3, _⟩ => ⟨S1024x1024, .f32⟩
  | .hbm, ⟨4, _⟩ => ⟨S1024x1024, .bf16⟩
  | .hbm, ⟨5, _⟩ => ⟨S1x1024, .f32⟩
  | .hbm, ⟨6, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel7Ideal.lean ====
abbrev S8x4096x1024 : Shape := ⟨3, ![8, 4096, 1024]⟩
abbrev S8x4096x5120 : Shape := ⟨3, ![8, 4096, 5120]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x4096x5120, .f32⟩
  | .hbm, ⟨2, _⟩ => ⟨S1024, .f32⟩
  | .hbm, ⟨3, _⟩ => ⟨S1024x1024, .f32⟩
  | .hbm, ⟨4, _⟩ => ⟨S1024x1024, .bf16⟩
  | .hbm, ⟨5, _⟩ => ⟨S1x1024, .f32⟩
  | .hbm, ⟨6, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8x4096x1024 : Shape := ⟨3, ![8, 4096, 1024]⟩
abbrev S8x4096x5120 : Shape := ⟨3, ![8, 4096, 5120]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x5120, .f32⟩
  | .hbm, ⟨2, _⟩ => ⟨S1024, .f32⟩
  | .hbm, ⟨3, _⟩ => ⟨S1024x1024, .f32⟩
  | .hbm, ⟨4, _⟩ => ⟨S8x4096x1024, .f32⟩
  | .hbm, ⟨5, _⟩ => ⟨S1x1x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel8.lean ====
abbrev S8x4096x2048 : Shape := ⟨3, ![8, 4096, 2048]⟩
abbrev S2048 : Shape := ⟨1, ![2048]⟩
abbrev S8x1x2048 : Shape := ⟨3, ![8, 1, 2048]⟩
abbrev S2048x16 : Shape := ⟨2, ![2048, 16]⟩
abbrev S_ : Shape := ⟨0, ![]⟩
abbrev S2048x128 : Shape := ⟨2, ![2048, 128]⟩
abbrev S1 : Shape := ⟨1, ![1]⟩
abbrev S1x2048 : Shape := ⟨2, ![1, 2048]⟩
abbrev S8x16x4096 : Shape := ⟨3, ![8, 16, 4096]⟩
abbrev S1x512x2048 : Shape := ⟨3, ![1, 512, 2048]⟩
abbrev S1x1x2048 : Shape := ⟨3, ![1, 1, 2048]⟩
abbrev S1x16x512 : Shape := ⟨3, ![1, 16, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S16x512 : Shape := ⟨2, ![16, 512]⟩
abbrev S1x512 : Shape := ⟨2, ![1, 512]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x16, .f32⟩
  | .hbm, ⟨5, _⟩ => ⟨S_, .f32⟩
  | .hbm, ⟨6, _⟩ => ⟨S2048x128, .f32⟩
  | .hbm, ⟨7, _⟩ => ⟨S_, .i32⟩
  | .hbm, ⟨8, _⟩ => ⟨S1, .i32⟩
  | .hbm, ⟨9, _⟩ => ⟨S2048x128, .f32⟩
  | .hbm, ⟨10, _⟩ => ⟨S2048x128, .bf16⟩
  | .hbm, ⟨11, _⟩ => ⟨S1x2048, .f32⟩
  | .hbm, ⟨12, _⟩ => ⟨S8x4096x2048, .f32⟩
  | .hbm, ⟨13, _⟩ => ⟨S8x16x4096, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .bf16⟩
  | .local _ .vmem, ⟨8, _⟩ => ⟨S1x512x2048, .f32⟩
  | .local _ .vmem, ⟨9, _⟩ => ⟨S1x512x2048, .f32⟩
  | .local _ .vmem, ⟨10, _⟩ => ⟨S1x16x512, .f32⟩
  | .local _ .vmem, ⟨11, _⟩ => ⟨S1x16x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel8Ideal.lean ====
abbrev S8x4096x2048 : Shape := ⟨3, ![8, 4096, 2048]⟩
abbrev S2048 : Shape := ⟨1, ![2048]⟩
abbrev S8x1x2048 : Shape := ⟨3, ![8, 1, 2048]⟩
abbrev S2048x16 : Shape := ⟨2, ![2048, 16]⟩
abbrev S_ : Shape := ⟨0, ![]⟩
abbrev S2048x128 : Shape := ⟨2, ![2048, 128]⟩
abbrev S1 : Shape := ⟨1, ![1]⟩
abbrev S1x2048 : Shape := ⟨2, ![1, 2048]⟩
abbrev S8x16x4096 : Shape := ⟨3, ![8, 16, 4096]⟩
abbrev S1x512x2048 : Shape := ⟨3, ![1, 512, 2048]⟩
abbrev S1x1x2048 : Shape := ⟨3, ![1, 1, 2048]⟩
abbrev S1x16x512 : Shape := ⟨3, ![1, 16, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S16x512 : Shape := ⟨2, ![16, 512]⟩
abbrev S1x512 : Shape := ⟨2, ![1, 512]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x16, .f32⟩
  | .hbm, ⟨5, _⟩ => ⟨S_, .f32⟩
  | .hbm, ⟨6, _⟩ => ⟨S2048x128, .f32⟩
  | .hbm, ⟨7, _⟩ => ⟨S_, .i32⟩
  | .hbm, ⟨8, _⟩ => ⟨S1, .i32⟩
  | .hbm, ⟨9, _⟩ => ⟨S2048x128, .f32⟩
  | .hbm, ⟨10, _⟩ => ⟨S2048x128, .bf16⟩
  | .hbm, ⟨11, _⟩ => ⟨S1x2048, .f32⟩
  | .hbm, ⟨12, _⟩ => ⟨S8x4096x2048, .f32⟩
  | .hbm, ⟨13, _⟩ => ⟨S8x16x4096, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .bf16⟩
  | .local _ .vmem, ⟨8, _⟩ => ⟨S1x512x2048, .f32⟩
  | .local _ .vmem, ⟨9, _⟩ => ⟨S1x512x2048, .f32⟩
  | .local _ .vmem, ⟨10, _⟩ => ⟨S1x16x512, .f32⟩
  | .local _ .vmem, ⟨11, _⟩ => ⟨S1x16x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S8x4096x2048 : Shape := ⟨3, ![8, 4096, 2048]⟩
abbrev S2048 : Shape := ⟨1, ![2048]⟩
abbrev S8x1x2048 : Shape := ⟨3, ![8, 1, 2048]⟩
abbrev S2048x16 : Shape := ⟨2, ![2048, 16]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x16 : Shape := ⟨3, ![8, 4096, 16]⟩
abbrev S8x16x4096 : Shape := ⟨3, ![8, 16, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x16, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S8x4096x16, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S8x4096x1, .f32⟩
  | .hbm, ⟨35, _⟩ => ⟨S8x4096x16, .f32⟩
  | .hbm, ⟨36, _⟩ => ⟨S8x4096x16, .f32⟩
  | .hbm, ⟨37, _⟩ => ⟨S8x4096x16, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x16, .f32⟩
  | .hbm, ⟨42, _⟩ => ⟨S8x4096x16, .f32⟩
  | .hbm, ⟨43, _⟩ => ⟨S8x16x4096, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel9.lean ====
abbrev S8x4096x2048 : Shape := ⟨3, ![8, 4096, 2048]⟩
abbrev S2048 : Shape := ⟨1, ![2048]⟩
abbrev S8x1x2048 : Shape := ⟨3, ![8, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S1x2048, .f32⟩
  | .hbm, ⟨5, _⟩ => ⟨S8x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel9Ideal.lean ====
abbrev S8x4096x2048 : Shape := ⟨3, ![8, 4096, 2048]⟩
abbrev S2048 : Shape := ⟨1, ![2048]⟩
abbrev S8x1x2048 : Shape := ⟨3, ![8, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S1x2048, .f32⟩
  | .hbm, ⟨5, _⟩ => ⟨S8x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8x4096x2048 : Shape := ⟨3, ![8, 4096, 2048]⟩
abbrev S2048 : Shape := ⟨1, ![2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x1x2048, .f32⟩
  | .hbm, ⟨22, _⟩ => ⟨S8x1x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel10.lean ====
abbrev S8x4096x1024 : Shape := ⟨3, ![8, 4096, 1024]⟩
abbrev S8x4096x5120 : Shape := ⟨3, ![8, 4096, 5120]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S1x512x256 : Shape := ⟨3, ![1, 512, 256]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x5120, .f32⟩
  | .hbm, ⟨3, _⟩ => ⟨S1024, .f32⟩
  | .hbm, ⟨4, _⟩ => ⟨S1x1024, .f32⟩
  | .hbm, ⟨5, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel10Ideal.lean ====
abbrev S8x4096x1024 : Shape := ⟨3, ![8, 4096, 1024]⟩
abbrev S8x4096x5120 : Shape := ⟨3, ![8, 4096, 5120]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S1x512x256 : Shape := ⟨3, ![1, 512, 256]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x5120, .f32⟩
  | .hbm, ⟨3, _⟩ => ⟨S1024, .f32⟩
  | .hbm, ⟨4, _⟩ => ⟨S1x1024, .f32⟩
  | .hbm, ⟨5, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8x4096x1024 : Shape := ⟨3, ![8, 4096, 1024]⟩
abbrev S8x4096x5120 : Shape := ⟨3, ![8, 4096, 5120]⟩
abbrev S1024 : Shape := ⟨1, ![1024]⟩
abbrev S8x4096x4x256 : Shape := ⟨4, ![8, 4096, 4, 256]⟩
abbrev S_ : Shape := ⟨0, ![]⟩
abbrev S8x4096x4 : Shape := ⟨3, ![8, 4096, 4]⟩
abbrev S8x4096x4x1 : Shape := ⟨4, ![8, 4096, 4, 1]⟩
abbrev S4x256 : Shape := ⟨2, ![4, 256]⟩
abbrev S1x1x4x256 : Shape := ⟨4, ![1, 1, 4, 256]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x5120, .f32⟩
  | .hbm, ⟨3, _⟩ => ⟨S1024, .f32⟩
  | .hbm, ⟨4, _⟩ => ⟨S8x4096x1024, .f32⟩
  | .hbm, ⟨5, _⟩ => ⟨S8x4096x4x256, .f32⟩
  | .hbm, ⟨6, _⟩ => ⟨S8x4096x4x256, .f32⟩
  | .hbm, ⟨7, _⟩ => ⟨S_, .f32⟩
  | .hbm, ⟨8, _⟩ => ⟨S8x4096x4, .f32⟩
  | .hbm, ⟨9, _⟩ => ⟨S8x4096x4x1, .f32⟩
  | .hbm, ⟨10, _⟩ => ⟨S_, .f32⟩
  | .hbm, ⟨11, _⟩ => ⟨S8x4096x4x1, .f32⟩
  | .hbm, ⟨12, _⟩ => ⟨S8x4096x4x1, .f32⟩
  | .hbm, ⟨13, _⟩ => ⟨S_, .f32⟩
  | .hbm, ⟨14, _⟩ => ⟨S8x4096x4x1, .f32⟩
  | .hbm, ⟨15, _⟩ => ⟨S8x4096x4x1, .f32⟩
  | .hbm, ⟨16, _⟩ => ⟨S8x4096x4x1, .f32⟩
  | .hbm, ⟨17, _⟩ => ⟨S8x4096x4x256, .f32⟩
  | .hbm, ⟨18, _⟩ => ⟨S8x4096x4x256, .f32⟩
  | .hbm, ⟨19, _⟩ => ⟨S4x256, .f32⟩
  | .hbm, ⟨20, _⟩ => ⟨S1x1x4x256, .f32⟩
  | .hbm, ⟨21, _⟩ => ⟨S8x4096x4x256, .f32⟩
  | .hbm, ⟨22, _⟩ => ⟨S8x4096x4x256, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel11.lean ====
abbrev S8x4096x5120 : Shape := ⟨3, ![8, 4096, 5120]⟩
abbrev S3x2048 : Shape := ⟨2, ![3, 2048]⟩
abbrev S_ : Shape := ⟨0, ![]⟩
abbrev S1024 : Shape := ⟨1, ![1024]⟩
abbrev S2048 : Shape := ⟨1, ![2048]⟩
abbrev S1x2048 : Shape := ⟨2, ![1, 2048]⟩
abbrev S8x4096x2048 : Shape := ⟨3, ![8, 4096, 2048]⟩
abbrev S1x4096x256 : Shape := ⟨3, ![1, 4096, 256]⟩
abbrev S3x256 : Shape := ⟨2, ![3, 256]⟩
abbrev S1x256 : Shape := ⟨2, ![1, 256]⟩
abbrev S4096x256 : Shape := ⟨2, ![4096, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x5120, .f32⟩
  | .hbm, ⟨1, _⟩ => ⟨S3x2048, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S2048, .f32⟩
  | .hbm, ⟨7, _⟩ => ⟨S1x2048, .f32⟩
  | .hbm, ⟨8, _⟩ => ⟨S8x4096x2048, .bf16⟩
  | .local _ .vmem, ⟨0, _⟩ => ⟨S1x4096x256, .f32⟩
  | .local _ .vmem, ⟨1, _⟩ => ⟨S1x4096x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x4096x256, .bf16⟩
  | .local _ .vmem, ⟨7, _⟩ => ⟨S1x4096x256, .bf16⟩
  | _, _ => ⟨S8x4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel11Ideal.lean ====
abbrev S8x4096x5120 : Shape := ⟨3, ![8, 4096, 5120]⟩
abbrev S3x2048 : Shape := ⟨2, ![3, 2048]⟩
abbrev S_ : Shape := ⟨0, ![]⟩
abbrev S1024 : Shape := ⟨1, ![1024]⟩
abbrev S2048 : Shape := ⟨1, ![2048]⟩
abbrev S1x2048 : Shape := ⟨2, ![1, 2048]⟩
abbrev S8x4096x2048 : Shape := ⟨3, ![8, 4096, 2048]⟩
abbrev S1x4096x256 : Shape := ⟨3, ![1, 4096, 256]⟩
abbrev S3x256 : Shape := ⟨2, ![3, 256]⟩
abbrev S1x256 : Shape := ⟨2, ![1, 256]⟩
abbrev S4096x256 : Shape := ⟨2, ![4096, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x5120, .f32⟩
  | .hbm, ⟨1, _⟩ => ⟨S3x2048, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S2048, .f32⟩
  | .hbm, ⟨7, _⟩ => ⟨S1x2048, .f32⟩
  | .hbm, ⟨8, _⟩ => ⟨S8x4096x2048, .bf16⟩
  | .local _ .vmem, ⟨0, _⟩ => ⟨S1x4096x256, .f32⟩
  | .local _ .vmem, ⟨1, _⟩ => ⟨S1x4096x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x4096x256, .bf16⟩
  | .local _ .vmem, ⟨7, _⟩ => ⟨S1x4096x256, .bf16⟩
  | _, _ => ⟨S8x4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8x4096x5120 : Shape := ⟨3, ![8, 4096, 5120]⟩
abbrev S3x2048 : Shape := ⟨2, ![3, 2048]⟩
abbrev S8x4096x2048 : Shape := ⟨3, ![8, 4096, 2048]⟩
abbrev S_ : Shape := ⟨0, ![]⟩
abbrev S8x4098x2048 : Shape := ⟨3, ![8, 4098, 2048]⟩
abbrev S1x2048 : Shape := ⟨2, ![1, 2048]⟩
abbrev S2048 : Shape := ⟨1, ![2048]⟩
abbrev S1x1x2048 : Shape := ⟨3, ![1, 1, 2048]⟩
abbrev S8x4096x1024 : Shape := ⟨3, ![8, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x5120, .f32⟩
  | .hbm, ⟨1, _⟩ => ⟨S3x2048, .f32⟩
  | .hbm, ⟨2, _⟩ => ⟨S8x4096x2048, .f32⟩
  | .hbm, ⟨3, _⟩ => ⟨S_, .i32⟩
  | .hbm, ⟨4, _⟩ => ⟨S_, .f32⟩
  | .hbm, ⟨5, _⟩ => ⟨S8x4098x2048, .f32⟩
  | .hbm, ⟨6, _⟩ => ⟨S8x4096x2048, .f32⟩
  | .hbm, ⟨7, _⟩ => ⟨S1x2048, .f32⟩
  | .hbm, ⟨8, _⟩ => ⟨S2048, .f32⟩
  | .hbm, ⟨9, _⟩ => ⟨S1x1x2048, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S8x4096x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S_, .f32⟩
  | .hbm, ⟨29, _⟩ => ⟨S8x4096x2048, .f32⟩
  | .hbm, ⟨30, _⟩ => ⟨S8x4096x2048, .f32⟩
  | .hbm, ⟨31, _⟩ => ⟨S_, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096x1024, .f32⟩
  | .hbm, ⟨39, _⟩ => ⟨S8x4096x1024, .f32⟩
  | .hbm, ⟨40, _⟩ => ⟨S8x4096x2048, .f32⟩
  | .hbm, ⟨41, _⟩ => ⟨S8x4096x2048, .bf16⟩
  | _, _ => ⟨S8x4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel12.lean ====
abbrev S8x256x2048 : Shape := ⟨3, ![8, 256, 2048]⟩
abbrev S2048x6144 : Shape := ⟨2, ![2048, 6144]⟩
abbrev S_ : Shape := ⟨0, ![]⟩
abbrev S2048 : Shape := ⟨1, ![2048]⟩
abbrev S4096 : Shape := ⟨1, ![4096]⟩
abbrev S6144 : Shape := ⟨1, ![6144]⟩
abbrev S1x6144 : Shape := ⟨2, ![1, 6144]⟩
abbrev S2048x2048 : Shape := ⟨2, ![2048, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S2048x6144, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S4096, .f32⟩
  | .hbm, ⟨6, _⟩ => ⟨S6144, .f32⟩
  | .hbm, ⟨7, _⟩ => ⟨S1x6144, .f32⟩
  | .hbm, ⟨8, _⟩ => ⟨S2048x2048, .bf16⟩
  | .hbm, ⟨9, _⟩ => ⟨S2048x6144, .bf16⟩
  | .hbm, ⟨10, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8x256x2048 : Shape := ⟨3, ![8, 256, 2048]⟩
abbrev S2048x6144 : Shape := ⟨2, ![2048, 6144]⟩
abbrev S8x256x6144 : Shape := ⟨3, ![8, 256, 6144]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2048x6144, .f32⟩
  | .hbm, ⟨2, _⟩ => ⟨S8x256x2048, .f32⟩
  | .hbm, ⟨3, _⟩ => ⟨S8x256x6144, .f32⟩
  | .hbm, ⟨4, _⟩ => ⟨S8x256x2048, .f32⟩
  | .hbm, ⟨5, _⟩ => ⟨S8x256x2048, .f32⟩
  | .hbm, ⟨6, _⟩ => ⟨S8x256x2048, .f32⟩
  | .hbm, ⟨7, _⟩ => ⟨S_, .f32⟩
  | .hbm, ⟨8, _⟩ => ⟨S8x256x2048, .f32⟩
  | .hbm, ⟨9, _⟩ => ⟨S8x256x2048, .f32⟩
  | .hbm, ⟨10, _⟩ => ⟨S8x256x6144, .f32⟩
  | .hbm, ⟨11, _⟩ => ⟨S2048x6144, .f32⟩
  | .hbm, ⟨12, _⟩ => ⟨S2048x6144, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S8x2048 : Shape := ⟨2, ![8, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S16x2048 : Shape := ⟨2, ![16, 2048]⟩
abbrev S1 : Shape := ⟨1, ![1]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S16x2048, .f32⟩
  | .hbm, ⟨6, _⟩ => ⟨S_, .i32⟩
  | .hbm, ⟨7, _⟩ => ⟨S1, .i32⟩
  | .hbm, ⟨8, _⟩ => ⟨S16x2048, .f32⟩
  | .hbm, ⟨9, _⟩ => ⟨S_, .i32⟩
  | .hbm, ⟨10, _⟩ => ⟨S1, .i32⟩
  | .hbm, ⟨11, _⟩ => ⟨S16x2048, .f32⟩
  | .hbm, ⟨12, _⟩ => ⟨S4x1x12288, .f32⟩
  | .hbm, ⟨13, _⟩ => ⟨S4x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8x2048 : Shape := ⟨2, ![8, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S_, .f32⟩
  | .hbm, ⟨14, _⟩ => ⟨S16x2048, .f32⟩
  | .hbm, ⟨15, _⟩ => ⟨S16x2048, .f32⟩
  | .hbm, ⟨16, _⟩ => ⟨S16x2048, .f32⟩
  | .hbm, ⟨17, _⟩ => ⟨S4x12288x16, .f32⟩
  | .hbm, ⟨18, _⟩ => ⟨S4x16x12288, .f32⟩
  | .hbm, ⟨19, _⟩ => ⟨S4x1x12288, .f32⟩
  | .hbm, ⟨20, _⟩ => ⟨S4x16x12288, .f32⟩
  | .hbm, ⟨21, _⟩ => ⟨S4x16x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel14.lean ====
abbrev S8x4096x2048 : Shape := ⟨3, ![8, 4096, 2048]⟩
abbrev S2048x5136 : Shape := ⟨2, ![2048, 5136]⟩
abbrev S_ : Shape := ⟨0, ![]⟩
abbrev S2048x128 : Shape := ⟨2, ![2048, 128]⟩
abbrev S2048x16 : Shape := ⟨2, ![2048, 16]⟩
abbrev S1 : Shape := ⟨1, ![1]⟩
abbrev S32768x2048 : Shape := ⟨2, ![32768, 2048]⟩
abbrev S32768x128 : Shape := ⟨2, ![32768, 128]⟩
abbrev S1024x2048 : Shape := ⟨2, ![1024, 2048]⟩
abbrev S1024x128 : Shape := ⟨2, ![1024, 128]⟩

abbrev nBuf : Space → Nat
  | .hbm => 11
  | .vmem => 5
  | .smem => 0
  | _ => 0

abbrev bufTy : (tb : Table) → Fin (tcTables nBuf tb) → BufTy
  | .hbm, ⟨0, _⟩ => ⟨S8x4096x2048, .bf16⟩
  | .hbm, ⟨1, _⟩ => ⟨S2048x5136, .f32⟩
  | .hbm, ⟨2, _⟩ => ⟨S_, .f32⟩
  | .hbm, ⟨3, _⟩ => ⟨S2048x128, .f32⟩
  | .hbm, ⟨4, _⟩ => ⟨S2048x16, .f32⟩
  | .hbm, ⟨5, _⟩ => ⟨S_, .i32⟩
  | .hbm, ⟨6, _⟩ => ⟨S1, .i32⟩
  | .hbm, ⟨7, _⟩ => ⟨S2048x128, .f32⟩
  | .hbm, ⟨8, _⟩ => ⟨S2048x128, .bf16⟩
  | .hbm, ⟨9, _⟩ => ⟨S32768x2048, .bf16⟩
  | .hbm, ⟨10, _⟩ => ⟨S32768x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel14Ideal.lean ====
abbrev S8x4096x2048 : Shape := ⟨3, ![8, 4096, 2048]⟩
abbrev S2048x5136 : Shape := ⟨2, ![2048, 5136]⟩
abbrev S_ : Shape := ⟨0, ![]⟩
abbrev S2048x128 : Shape := ⟨2, ![2048, 128]⟩
abbrev S2048x16 : Shape := ⟨2, ![2048, 16]⟩
abbrev S1 : Shape := ⟨1, ![1]⟩
abbrev S32768x2048 : Shape := ⟨2, ![32768, 2048]⟩
abbrev S32768x128 : Shape := ⟨2, ![32768, 128]⟩
abbrev S1024x2048 : Shape := ⟨2, ![1024, 2048]⟩
abbrev S1024x128 : Shape := ⟨2, ![1024, 128]⟩

abbrev nBuf : Space → Nat
  | .hbm => 11
  | .vmem => 5
  | .smem => 0
  | _ => 0

abbrev bufTy : (tb : Table) → Fin (tcTables nBuf tb) → BufTy
  | .hbm, ⟨0, _⟩ => ⟨S8x4096x2048, .bf16⟩
  | .hbm, ⟨1, _⟩ => ⟨S2048x5136, .f32⟩
  | .hbm, ⟨2, _⟩ => ⟨S_, .f32⟩
  | .hbm, ⟨3, _⟩ => ⟨S2048x128, .f32⟩
  | .hbm, ⟨4, _⟩ => ⟨S2048x16, .f32⟩
  | .hbm, ⟨5, _⟩ => ⟨S_, .i32⟩
  | .hbm, ⟨6, _⟩ => ⟨S1, .i32⟩
  | .hbm, ⟨7, _⟩ => ⟨S2048x128, .f32⟩
  | .hbm, ⟨8, _⟩ => ⟨S2048x128, .bf16⟩
  | .hbm, ⟨9, _⟩ => ⟨S32768x2048, .bf16⟩
  | .hbm, ⟨10, _⟩ => ⟨S32768x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8x4096x2048 : Shape := ⟨3, ![8, 4096, 2048]⟩
abbrev S2048x5136 : Shape := ⟨2, ![2048, 5136]⟩
abbrev S8x4096x5136 : Shape := ⟨3, ![8, 4096, 5136]⟩
abbrev S32768x5136 : Shape := ⟨2, ![32768, 5136]⟩
abbrev S32768x16 : Shape := ⟨2, ![32768, 16]⟩
abbrev S_ : Shape := ⟨0, ![]⟩
abbrev S32768x112 : Shape := ⟨2, ![32768, 112]⟩
abbrev S32768x128 : Shape := ⟨2, ![32768, 128]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x5136, .f32⟩
  | .hbm, ⟨2, _⟩ => ⟨S8x4096x2048, .f32⟩
  | .hbm, ⟨3, _⟩ => ⟨S8x4096x5136, .f32⟩
  | .hbm, ⟨4, _⟩ => ⟨S32768x5136, .f32⟩
  | .hbm, ⟨5, _⟩ => ⟨S32768x16, .f32⟩
  | .hbm, ⟨6, _⟩ => ⟨S_, .f32⟩
  | .hbm, ⟨7, _⟩ => ⟨S32768x112, .f32⟩
  | .hbm, ⟨8, _⟩ => ⟨S32768x128, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8x256x2048 : Shape := ⟨3, ![8, 256, 2048]⟩
abbrev S2048x5136 : Shape := ⟨2, ![2048, 5136]⟩
abbrev S2048x4096 : Shape := ⟨2, ![2048, 4096]⟩
abbrev S2048x1024 : Shape := ⟨2, ![2048, 1024]⟩
abbrev S2048x5120 : Shape := ⟨2, ![2048, 5120]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8x256x2048, .bf16⟩
  | .hbm, ⟨1, _⟩ => ⟨S2048x5136, .f32⟩
  | .hbm, ⟨2, _⟩ => ⟨S2048x4096, .f32⟩
  | .hbm, ⟨3, _⟩ => ⟨S2048x1024, .f32⟩
  | .hbm, ⟨4, _⟩ => ⟨S2048x5120, .f32⟩
  | .hbm, ⟨5, _⟩ => ⟨S2048x5120, .bf16⟩
  | .hbm, ⟨6, _⟩ => ⟨S2048x2048, .bf16⟩
  | .hbm, ⟨7, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8x256x2048 : Shape := ⟨3, ![8, 256, 2048]⟩
abbrev S2048x5136 : Shape := ⟨2, ![2048, 5136]⟩
abbrev S8x256x5136 : Shape := ⟨3, ![8, 256, 5136]⟩
abbrev S2048x4096 : Shape := ⟨2, ![2048, 4096]⟩
abbrev S2048x1024 : Shape := ⟨2, ![2048, 1024]⟩
abbrev S2048x5120 : Shape := ⟨2, ![2048, 5120]⟩

abbrev nBuf : Space → Nat
  | .hbm => 8
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2048x5136, .f32⟩
  | .hbm, ⟨2, _⟩ => ⟨S8x256x2048, .f32⟩
  | .hbm, ⟨3, _⟩ => ⟨S8x256x5136, .f32⟩
  | .hbm, ⟨4, _⟩ => ⟨S2048x5136, .f32⟩
  | .hbm, ⟨5, _⟩ => ⟨S2048x4096, .f32⟩
  | .hbm, ⟨6, _⟩ => ⟨S2048x1024, .f32⟩
  | .hbm, ⟨7, _⟩ => ⟨S2048x5120, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S8x256x2048 : Shape := ⟨3, ![8, 256, 2048]⟩
abbrev S2048x2048 : Shape := ⟨2, ![2048, 2048]⟩
abbrev S8x1x2048 : Shape := ⟨3, ![8, 1, 2048]⟩
abbrev S256x2048 : Shape := ⟨2, ![256, 2048]⟩
abbrev S1x1x2048 : Shape := ⟨3, ![1, 1, 2048]⟩
abbrev S1x2048 : Shape := ⟨2, ![1, 2048]⟩

abbrev nBuf : Space → Nat
  | .hbm => 8
  | .vmem => 9
  | .smem => 0
  | _ => 0

abbrev bufTy : (tb : Table) → Fin (tcTables nBuf tb) → BufTy
  | .hbm, ⟨0, _⟩ => ⟨S8x256x2048, .bf16⟩
  | .hbm, ⟨1, _⟩ => ⟨S2048x2048, .f32⟩
  | .hbm, ⟨2, _⟩ => ⟨S8x256x2048, .f32⟩
  | .hbm, ⟨3, _⟩ => ⟨S8x1x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S8x256x2048 : Shape := ⟨3, ![8, 256, 2048]⟩
abbrev S2048x2048 : Shape := ⟨2, ![2048, 2048]⟩
abbrev S8x1x2048 : Shape := ⟨3, ![8, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2048x2048, .f32⟩
  | .hbm, ⟨2, _⟩ => ⟨S8x256x2048, .f32⟩
  | .hbm, ⟨3, _⟩ => ⟨S8x1x2048, .f32⟩
  | .hbm, ⟨4, _⟩ => ⟨S8x256x2048, .f32⟩
  | .hbm, ⟨5, _⟩ => ⟨S8x256x2048, .f32⟩
  | .hbm, ⟨6, _⟩ => ⟨S8x256x2048, .f32⟩
  | .hbm, ⟨7, _⟩ => ⟨S8x256x2048, .f32⟩
  | .hbm, ⟨8, _⟩ => ⟨S8x256x2048, .f32⟩
  | .hbm, ⟨9, _⟩ => ⟨S2048x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S8x256x1024 : Shape := ⟨3, ![8, 256, 1024]⟩
abbrev S2048x2048 : Shape := ⟨2, ![2048, 2048]⟩
abbrev S8x256x2048 : Shape := ⟨3, ![8, 256, 2048]⟩
abbrev S8x1x2048 : Shape := ⟨3, ![8, 1, 2048]⟩
abbrev S2048x1024 : Shape := ⟨2, ![2048, 1024]⟩
abbrev S1024x2048 : Shape := ⟨2, ![1024, 2048]⟩
abbrev S256x1024 : Shape := ⟨2, ![256, 1024]⟩
abbrev S256x2048 : Shape := ⟨2, ![256, 2048]⟩
abbrev S1x1x2048 : Shape := ⟨3, ![1, 1, 2048]⟩
abbrev S1x2048 : Shape := ⟨2, ![1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2048x2048, .f32⟩
  | .hbm, ⟨3, _⟩ => ⟨S8x256x2048, .f32⟩
  | .hbm, ⟨4, _⟩ => ⟨S8x1x2048, .f32⟩
  | .hbm, ⟨5, _⟩ => ⟨S2048x2048, .bf16⟩
  | .hbm, ⟨6, _⟩ => ⟨S2048x1024, .bf16⟩
  | .hbm, ⟨7, _⟩ => ⟨S1024x2048, .bf16⟩
  | .hbm, ⟨8, _⟩ => ⟨S2048x1024, .bf16⟩
  | .hbm, ⟨9, _⟩ => ⟨S1024x2048, .bf16⟩
  | .hbm, ⟨10, _⟩ => ⟨S2048x2048, .f32⟩
  | .hbm, ⟨11, _⟩ => ⟨S2048x2048, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S256x1024, .bf16⟩
  | .local _ .vmem, ⟨4, _⟩ => ⟨S256x1024, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x1x2048, .f32⟩
  | .local _ .vmem, ⟨9, _⟩ => ⟨S1x1x2048, .f32⟩
  | .local _ .vmem, ⟨10, _⟩ => ⟨S256x2048, .f32⟩
  | .local _ .vmem, ⟨11, _⟩ => ⟨S256x2048, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S8x256x1024 : Shape := ⟨3, ![8, 256, 1024]⟩
abbrev S2048x2048 : Shape := ⟨2, ![2048, 2048]⟩
abbrev S8x256x2048 : Shape := ⟨3, ![8, 256, 2048]⟩
abbrev S8x1x2048 : Shape := ⟨3, ![8, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2048x2048, .f32⟩
  | .hbm, ⟨3, _⟩ => ⟨S8x256x2048, .f32⟩
  | .hbm, ⟨4, _⟩ => ⟨S8x1x2048, .f32⟩
  | .hbm, ⟨5, _⟩ => ⟨S8x256x2048, .bf16⟩
  | .hbm, ⟨6, _⟩ => ⟨S8x256x2048, .f32⟩
  | .hbm, ⟨7, _⟩ => ⟨S8x256x2048, .f32⟩
  | .hbm, ⟨8, _⟩ => ⟨S8x256x2048, .f32⟩
  | .hbm, ⟨9, _⟩ => ⟨S8x256x2048, .f32⟩
  | .hbm, ⟨10, _⟩ => ⟨S8x256x2048, .f32⟩
  | .hbm, ⟨11, _⟩ => ⟨S2048x2048, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel18.lean ====
abbrev S8x256x6144 : Shape := ⟨3, ![8, 256, 6144]⟩
abbrev S_ : Shape := ⟨0, ![]⟩
abbrev S2048 : Shape := ⟨1, ![2048]⟩
abbrev S1 : Shape := ⟨1, ![1]⟩
abbrev S1x2048 : Shape := ⟨2, ![1, 2048]⟩
abbrev S8x256x2048 : Shape := ⟨3, ![8, 256, 2048]⟩
abbrev S1x256x256 : Shape := ⟨3, ![1, 256, 256]⟩
abbrev S1x256 : Shape := ⟨2, ![1, 256]⟩
abbrev S3x256x256 : Shape := ⟨3, ![3, 256, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 1
  | _ => 0

abbrev bufTy : (tb : Table) → Fin (tcTables nBuf tb) → BufTy
  | .hbm, ⟨0, _⟩ => ⟨S8x256x6144, .bf16⟩
  | .hbm, ⟨1, _⟩ => ⟨S_, .f32⟩
  | .hbm, ⟨2, _⟩ => ⟨S2048, .f32⟩
  | .hbm, ⟨3, _⟩ => ⟨S1, .f32⟩
  | .hbm, ⟨4, _⟩ => ⟨S1x2048, .f32⟩
  | .hbm, ⟨5, _⟩ => ⟨S8x256x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S1x256x256, .bf16⟩
  | .local _ .vmem, ⟨9, _⟩ => ⟨S1x256x256, .bf16⟩
  | .local _ .vmem, ⟨10, _⟩ => ⟨S3x256x256, .f32⟩
  | .local _ .vmem, ⟨11, _⟩ => ⟨S3x256x256, .bf16⟩
  | .local _ .smem, ⟨0, _⟩ => ⟨S1, .f32⟩
  | _, _ => ⟨S8x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference18Ideal.lean ====
abbrev S8x256x6144 : Shape := ⟨3, ![8, 256, 6144]⟩
abbrev S_ : Shape := ⟨0, ![]⟩
abbrev S2048 : Shape := ⟨1, ![2048]⟩
abbrev S8x256x2048 : Shape := ⟨3, ![8, 256, 2048]⟩
abbrev S8x256x8x2x128 : Shape := ⟨5, ![8, 256, 8, 2, 128]⟩
abbrev S2x8x8x256x128 : Shape := ⟨5, ![2, 8, 8, 256, 128]⟩
abbrev S8x256x8x256 : Shape := ⟨4, ![8, 256, 8, 256]⟩
abbrev S8x8x256x256 : Shape := ⟨4, ![8, 8, 256, 256]⟩
abbrev S2x8x8x256x256 : Shape := ⟨5, ![2, 8, 8, 256, 256]⟩
abbrev S2x8x8x256 : Shape := ⟨4, ![2, 8, 8, 256]⟩
abbrev S2x8x8x256x1 : Shape := ⟨5, ![2, 8, 8, 256, 1]⟩
abbrev S1x8x8x256x256 : Shape := ⟨5, ![1, 8, 8, 256, 256]⟩
abbrev S8x1x256 : Shape := ⟨3, ![8, 1, 256]⟩
abbrev S8x8x256 : Shape := ⟨3, ![8, 8, 256]⟩
abbrev S8x8x256x1 : Shape := ⟨4, ![8, 8, 256, 1]⟩
abbrev S1x8x1x256 : Shape := ⟨4, ![1, 8, 1, 256]⟩

abbrev nBuf : Space → Nat
  | .hbm => 63
  | .vmem => 0
  | .smem => 0
  | _ => 0

abbrev bufTy : (tb : Table) → Fin (tcTables nBuf tb) → BufTy
  | .hbm, ⟨0, _⟩ => ⟨S8x256x6144, .bf16⟩
  | .hbm, ⟨1, _⟩ => ⟨S_, .f32⟩
  | .hbm, ⟨2, _⟩ => ⟨S2048, .f32⟩
  | .hbm, ⟨3, _⟩ => ⟨S8x256x6144, .f32⟩
  | .hbm, ⟨4, _⟩ => ⟨S8x256x2048, .f32⟩
  | .hbm, ⟨5, _⟩ => ⟨S8x256x2048, .f32⟩
  | .hbm, ⟨6, _⟩ => ⟨S8x256x2048, .f32⟩
  | .hbm, ⟨7, _⟩ => ⟨S8x256x8x2x128, .f32⟩
  | .hbm, ⟨8, _⟩ => ⟨S2x8x8x256x128, .f32⟩
  | .hbm, ⟨9, _⟩ => ⟨S8x256x8x2x128, .f32⟩
  | .hbm, ⟨10, _⟩ => ⟨S2x8x8x256x128, .f32⟩
  | .hbm, ⟨11, _⟩ => ⟨S8x256x8x256, .f32⟩
  | .hbm, ⟨12, _⟩ => ⟨S8x8x256x256, .f32⟩
  | .hbm, ⟨13, _⟩ => ⟨S2x8x8x256x256, .f32⟩
  | .hbm, ⟨14, _⟩ => ⟨S_, .f32⟩
  | .hbm, ⟨15, _⟩ => ⟨S_, .f32⟩
  | .hbm, ⟨16, _⟩ => ⟨S2x8x8x256x256, .f32⟩
  | .hbm, ⟨17, _⟩ => ⟨S2x8x8x256x256, .f32⟩
  | .hbm, ⟨18, _⟩ => ⟨S_, .f32⟩
  | .hbm, ⟨19, _⟩ => ⟨S2x8x8x256, .f32⟩
  | .hbm, ⟨20, _⟩ => ⟨S_, .f32⟩
  | .hbm, ⟨21, _⟩ => ⟨S2x8x8x256, .f32⟩
  | .hbm, ⟨22, _⟩ => ⟨S2x8x8x256, .f32⟩
  | .hbm, ⟨23, _⟩ => ⟨S2x8x8x256x1, .f32⟩
  | .hbm, ⟨24, _⟩ => ⟨S2x8x8x256x256, .f32⟩
  | .hbm, ⟨25, _⟩ => ⟨S2x8x8x256x256, .f32⟩
  | .hbm, ⟨26, _⟩ => ⟨S2x8x8x256x256, .f32⟩
  | .hbm, ⟨27, _⟩ => ⟨S_, .f32⟩
  | .hbm, ⟨28, _⟩ => ⟨S2x8x8x256, .f32⟩
  | .hbm, ⟨29, _⟩ => ⟨S2x8x8x256x1, .f32⟩
  | .hbm, ⟨30, _⟩ => ⟨S2x8x8x256x256, .f32⟩
  | .hbm, ⟨31, _⟩ => ⟨S2x8x8x256x256, .f32⟩
  | .hbm, ⟨32, _⟩ => ⟨S1x8x8x256x256, .f32⟩
  | .hbm, ⟨33, _⟩ => ⟨S8x8x256x256, .f32⟩
  | .hbm, ⟨34, _⟩ => ⟨S1x8x8x256x256, .f32⟩
  | .hbm, ⟨35, _⟩ => ⟨S8x8x256x256, .f32⟩
  | .hbm, ⟨36, _⟩ => ⟨S8x8x256x256, .f32⟩
  | .hbm, ⟨37, _⟩ => ⟨S8x8x256x256, .f32⟩
  | .hbm, ⟨38, _⟩ => ⟨S8x8x256x256, .f32⟩
  | .hbm, ⟨39, _⟩ => ⟨S8x8x256x256, .f32⟩
  | .hbm, ⟨40, _⟩ => ⟨S8x1x256, .f32⟩
  | .hbm, ⟨41, _⟩ => ⟨S8x8x256x256, .f32⟩
  | .hbm, ⟨42, _⟩ => ⟨S_, .f32⟩
  | .hbm, ⟨43, _⟩ => ⟨S8x8x256, .f32⟩
  | .hbm, ⟨44, _⟩ => ⟨S8x8x256x1, .f32⟩
  | .hbm, ⟨45, _⟩ => ⟨S_, .f32⟩
  | .hbm, ⟨46, _⟩ => ⟨S8x8x256x1, .f32⟩
  | .hbm, ⟨47, _⟩ => ⟨S8x8x256x1, .f32⟩
  | .hbm, ⟨48, _⟩ => ⟨S_, .f32⟩
  | .hbm, ⟨49, _⟩ => ⟨S8x8x256x1, .f32⟩
  | .hbm, ⟨50, _⟩ => ⟨S8x8x256x1, .f32⟩
  | .hbm, ⟨51, _⟩ => ⟨S8x8x256x1, .f32⟩
  | .hbm, ⟨52, _⟩ => ⟨S8x8x256x256, .f32⟩
  | .hbm, ⟨53, _⟩ => ⟨S8x8x256x256, .f32⟩
  | .hbm, ⟨54, _⟩ => ⟨S1x8x1x256, .f32⟩
  | .hbm, ⟨55, _⟩ => ⟨S8x8x256x256, .f32⟩
  | .hbm, ⟨56, _⟩ => ⟨S8x8x256x256, .f32⟩
  | .hbm, ⟨57, _⟩ => ⟨S_, .f32⟩
  | .hbm, ⟨58, _⟩ => ⟨S8x8x256x256, .f32⟩
  | .hbm, ⟨59, _⟩ => ⟨S8x8x256x256, .f32⟩
  | .hbm, ⟨60, _⟩ => ⟨S8x256x8x256, .f32⟩
  | .hbm, ⟨61, _⟩ => ⟨S8x256x2048, .f32⟩
  | .hbm, ⟨62, _⟩ => ⟨S8x256x2048, .bf16⟩
  | _, _ => ⟨S8x256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Kernel19.lean ====
abbrev S8x256x2048 : Shape := ⟨3, ![8, 256, 2048]⟩
abbrev S2048 : Shape := ⟨1, ![2048]⟩
abbrev S8x1x2048 : Shape := ⟨3, ![8, 1, 2048]⟩
abbrev S1x2048 : Shape := ⟨2, ![1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S1x2048, .f32⟩
  | .hbm, ⟨5, _⟩ => ⟨S8x256x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x256x2048, .bf16⟩
  | .local _ .vmem, ⟨8, _⟩ => ⟨S1x256x2048, .bf16⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference19Ideal.lean ====
abbrev S8x256x2048 : Shape := ⟨3, ![8, 256, 2048]⟩
abbrev S2048 : Shape := ⟨1, ![2048]⟩
abbrev S8x1x2048 : Shape := ⟨3, ![8, 1, 2048]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x256x2048, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x2048, .f32⟩
  | .hbm, ⟨16, _⟩ => ⟨S8x256x2048, .f32⟩
  | .hbm, ⟨17, _⟩ => ⟨S1x1x2048, .f32⟩
  | .hbm, ⟨18, _⟩ => ⟨S8x256x2048, .f32⟩
  | .hbm, ⟨19, _⟩ => ⟨S8x256x2048, .f32⟩
  | .hbm, ⟨20, _⟩ => ⟨S_, .f32⟩
  | .hbm, ⟨21, _⟩ => ⟨S8x1x2048, .f32⟩
  | .hbm, ⟨22, _⟩ => ⟨S8x1x2048, .f32⟩
  | .hbm, ⟨23, _⟩ => ⟨S8x256x2048, .f32⟩
  | .hbm, ⟨24, _⟩ => ⟨S8x256x2048, .f32⟩
  | .hbm, ⟨25, _⟩ => ⟨S8x256x2048, .f32⟩
  | .hbm, ⟨26, _⟩ => ⟨S8x256x2048, .f32⟩
  | .hbm, ⟨27, _⟩ => ⟨S8x256x2048, .bf16⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel20.lean ====
abbrev S8x256x2048 : Shape := ⟨3, ![8, 256, 2048]⟩
abbrev S2048x5136 : Shape := ⟨2, ![2048, 5136]⟩
abbrev S_ : Shape := ⟨0, ![]⟩
abbrev S2048x128 : Shape := ⟨2, ![2048, 128]⟩
abbrev S2048x16 : Shape := ⟨2, ![2048, 16]⟩
abbrev S1 : Shape := ⟨1, ![1]⟩
abbrev S2048x2048 : Shape := ⟨2, ![2048, 2048]⟩
abbrev S1024x2048 : Shape := ⟨2, ![1024, 2048]⟩
abbrev S1024x128 : Shape := ⟨2, ![1024, 128]⟩

abbrev nBuf : Space → Nat
  | .hbm => 11
  | .vmem => 5
  | .smem => 0
  | _ => 0

abbrev bufTy : (tb : Table) → Fin (tcTables nBuf tb) → BufTy
  | .hbm, ⟨0, _⟩ => ⟨S8x256x2048, .bf16⟩
  | .hbm, ⟨1, _⟩ => ⟨S2048x5136, .f32⟩
  | .hbm, ⟨2, _⟩ => ⟨S_, .f32⟩
  | .hbm, ⟨3, _⟩ => ⟨S2048x128, .f32⟩
  | .hbm, ⟨4, _⟩ => ⟨S2048x16, .f32⟩
  | .hbm, ⟨5, _⟩ => ⟨S_, .i32⟩
  | .hbm, ⟨6, _⟩ => ⟨S1, .i32⟩
  | .hbm, ⟨7, _⟩ => ⟨S2048x128, .f32⟩
  | .hbm, ⟨8, _⟩ => ⟨S2048x128, .bf16⟩
  | .hbm, ⟨9, _⟩ => ⟨S2048x2048, .bf16⟩
  | .hbm, ⟨10, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8x256x2048 : Shape := ⟨3, ![8, 256, 2048]⟩
abbrev S2048x5136 : Shape := ⟨2, ![2048, 5136]⟩
abbrev S8x256x5136 : Shape := ⟨3, ![8, 256, 5136]⟩
abbrev S2048x16 : Shape := ⟨2, ![2048, 16]⟩
abbrev S_ : Shape := ⟨0, ![]⟩
abbrev S2048x112 : Shape := ⟨2, ![2048, 112]⟩
abbrev S2048x128 : Shape := ⟨2, ![2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2048x5136, .f32⟩
  | .hbm, ⟨2, _⟩ => ⟨S8x256x2048, .f32⟩
  | .hbm, ⟨3, _⟩ => ⟨S8x256x5136, .f32⟩
  | .hbm, ⟨4, _⟩ => ⟨S2048x5136, .f32⟩
  | .hbm, ⟨5, _⟩ => ⟨S2048x16, .f32⟩
  | .hbm, ⟨6, _⟩ => ⟨S_, .f32⟩
  | .hbm, ⟨7, _⟩ => ⟨S2048x112, .f32⟩
  | .hbm, ⟨8, _⟩ => ⟨S2048x128, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S8x256x2048 : Shape := ⟨3, ![8, 256, 2048]⟩
abbrev S2048 : Shape := ⟨1, ![2048]⟩
abbrev S8x1x2048 : Shape := ⟨3, ![8, 1, 2048]⟩
abbrev S2048x16 : Shape := ⟨2, ![2048, 16]⟩
abbrev S_ : Shape := ⟨0, ![]⟩
abbrev S2048x128 : Shape := ⟨2, ![2048, 128]⟩
abbrev S1 : Shape := ⟨1, ![1]⟩
abbrev S1x2048 : Shape := ⟨2, ![1, 2048]⟩
abbrev S8x16x256 : Shape := ⟨3, ![8, 16, 256]⟩
abbrev S1x256x2048 : Shape := ⟨3, ![1, 256, 2048]⟩
abbrev S1x1x2048 : Shape := ⟨3, ![1, 1, 2048]⟩
abbrev S1x16x256 : Shape := ⟨3, ![1, 16, 256]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S16x256 : Shape := ⟨2, ![16, 256]⟩
abbrev S1x256 : Shape := ⟨2, ![1, 256]⟩

abbrev nBuf : Space → Nat
  | .hbm => 14
  | .vmem => 12
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x16, .f32⟩
  | .hbm, ⟨5, _⟩ => ⟨S_, .f32⟩
  | .hbm, ⟨6, _⟩ => ⟨S2048x128, .f32⟩
  | .hbm, ⟨7, _⟩ => ⟨S_, .i32⟩
  | .hbm, ⟨8, _⟩ => ⟨S1, .i32⟩
  | .hbm, ⟨9, _⟩ => ⟨S2048x128, .f32⟩
  | .hbm, ⟨10, _⟩ => ⟨S2048x128, .bf16⟩
  | .hbm, ⟨11, _⟩ => ⟨S1x2048, .f32⟩
  | .hbm, ⟨12, _⟩ => ⟨S8x256x2048, .f32⟩
  | .hbm, ⟨13, _⟩ => ⟨S8x16x256, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x128, .bf16⟩
  | .local _ .vmem, ⟨8, _⟩ => ⟨S1x256x2048, .f32⟩
  | .local _ .vmem, ⟨9, _⟩ => ⟨S1x256x2048, .f32⟩
  | .local _ .vmem, ⟨10, _⟩ => ⟨S1x16x256, .f32⟩
  | .local _ .vmem, ⟨11, _⟩ => ⟨S1x16x256, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S8x256x2048 : Shape := ⟨3, ![8, 256, 2048]⟩
abbrev S2048 : Shape := ⟨1, ![2048]⟩
abbrev S8x1x2048 : Shape := ⟨3, ![8, 1, 2048]⟩
abbrev S2048x16 : Shape := ⟨2, ![2048, 16]⟩
abbrev S_ : Shape := ⟨0, ![]⟩
abbrev S8x256 : Shape := ⟨2, ![8, 256]⟩
abbrev S8x256x1 : Shape := ⟨3, ![8, 256, 1]⟩
abbrev S1x1x2048 : Shape := ⟨3, ![1, 1, 2048]⟩
abbrev S8x256x16 : Shape := ⟨3, ![8, 256, 16]⟩
abbrev S8x16x256 : Shape := ⟨3, ![8, 16, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x16, .f32⟩
  | .hbm, ⟨5, _⟩ => ⟨S8x256x2048, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x2048, .f32⟩
  | .hbm, ⟨17, _⟩ => ⟨S8x256x2048, .f32⟩
  | .hbm, ⟨18, _⟩ => ⟨S1x1x2048, .f32⟩
  | .hbm, ⟨19, _⟩ => ⟨S8x256x2048, .f32⟩
  | .hbm, ⟨20, _⟩ => ⟨S8x256x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x256x2048, .f32⟩
  | .hbm, ⟨25, _⟩ => ⟨S8x256x2048, .f32⟩
  | .hbm, ⟨26, _⟩ => ⟨S8x256x2048, .f32⟩
  | .hbm, ⟨27, _⟩ => ⟨S8x256x2048, .f32⟩
  | .hbm, ⟨28, _⟩ => ⟨S8x256x16, .f32⟩
  | .hbm, ⟨29, _⟩ => ⟨S_, .f32⟩
  | .hbm, ⟨30, _⟩ => ⟨S8x256, .f32⟩
  | .hbm, ⟨31, _⟩ => ⟨S_, .f32⟩
  | .hbm, ⟨32, _⟩ => ⟨S8x256, .f32⟩
  | .hbm, ⟨33, _⟩ => ⟨S8x256, .f32⟩
  | .hbm, ⟨34, _⟩ => ⟨S8x256x1, .f32⟩
  | .hbm, ⟨35, _⟩ => ⟨S8x256x16, .f32⟩
  | .hbm, ⟨36, _⟩ => ⟨S8x256x16, .f32⟩
  | .hbm, ⟨37, _⟩ => ⟨S8x256x16, .f32⟩
  | .hbm, ⟨38, _⟩ => ⟨S_, .f32⟩
  | .hbm, ⟨39, _⟩ => ⟨S8x256, .f32⟩
  | .hbm, ⟨40, _⟩ => ⟨S8x256x1, .f32⟩
  | .hbm, ⟨41, _⟩ => ⟨S8x256x16, .f32⟩
  | .hbm, ⟨42, _⟩ => ⟨S8x256x16, .f32⟩
  | .hbm, ⟨43, _⟩ => ⟨S8x16x256, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel22.lean ====
abbrev S8x256x1024 : Shape := ⟨3, ![8, 256, 1024]⟩
abbrev S8x256x5120 : Shape := ⟨3, ![8, 256, 5120]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S256x1024 : Shape := ⟨2, ![256, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S8x256x5120, .f32⟩
  | .hbm, ⟨2, _⟩ => ⟨S1024, .f32⟩
  | .hbm, ⟨3, _⟩ => ⟨S1024x1024, .f32⟩
  | .hbm, ⟨4, _⟩ => ⟨S1024x1024, .bf16⟩
  | .hbm, ⟨5, _⟩ => ⟨S1x1024, .f32⟩
  | .hbm, ⟨6, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x1024, .bf16⟩
  | .local _ .vmem, ⟨6, _⟩ => ⟨S1x256x1024, .bf16⟩
  | .local _ .vmem, ⟨7, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S8x256x1024 : Shape := ⟨3, ![8, 256, 1024]⟩
abbrev S8x256x5120 : Shape := ⟨3, ![8, 256, 5120]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x5120, .f32⟩
  | .hbm, ⟨2, _⟩ => ⟨S1024, .f32⟩
  | .hbm, ⟨3, _⟩ => ⟨S1024x1024, .f32⟩
  | .hbm, ⟨4, _⟩ => ⟨S8x256x1024, .f32⟩
  | .hbm, ⟨5, _⟩ => ⟨S1x1x1024, .f32⟩
  | .hbm, ⟨6, _⟩ => ⟨S8x256x1024, .f32⟩
  | .hbm, ⟨7, _⟩ => ⟨S8x256x1024, .f32⟩
  | .hbm, ⟨8, _⟩ => ⟨S8x256x1024, .f32⟩
  | .hbm, ⟨9, _⟩ => ⟨S8x256x1024, .f32⟩
  | .hbm, ⟨10, _⟩ => ⟨S8x256x1024, .f32⟩
  | .hbm, ⟨11, _⟩ => ⟨S_, .f32⟩
  | .hbm, ⟨12, _⟩ => ⟨S8x256x1024, .f32⟩
  | .hbm, ⟨13, _⟩ => ⟨S8x256x1024, .f32⟩
  | .hbm, ⟨14, _⟩ => ⟨S8x256x1024, .f32⟩
  | .hbm, ⟨15, _⟩ => ⟨S_, .f32⟩
  | .hbm, ⟨16, _⟩ => ⟨S8x256x1024, .f32⟩
  | .hbm, ⟨17, _⟩ => ⟨S8x256x1024, .f32⟩
  | .hbm, ⟨18, _⟩ => ⟨S8x256x1024, .f32⟩
  | .hbm, ⟨19, _⟩ => ⟨S_, .f32⟩
  | .hbm, ⟨20, _⟩ => ⟨S8x256x1024, .f32⟩
  | .hbm, ⟨21, _⟩ => ⟨S8x256x1024, .f32⟩
  | .hbm, ⟨22, _⟩ => ⟨S_, .f32⟩
  | .hbm, ⟨23, _⟩ => ⟨S8x256x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S_, .f32⟩
  | .hbm, ⟨30, _⟩ => ⟨S8x256x1024, .f32⟩
  | .hbm, ⟨31, _⟩ => ⟨S8x256x1024, .f32⟩
  | .hbm, ⟨32, _⟩ => ⟨S_, .f32⟩
  | .hbm, ⟨33, _⟩ => ⟨S8x256x1024, .f32⟩
  | .hbm, ⟨34, _⟩ => ⟨S8x256x1024, .f32⟩
  | .hbm, ⟨35, _⟩ => ⟨S8x256x1024, .f32⟩
  | .hbm, ⟨36, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel23.lean ====
abbrev S8x256x1024 : Shape := ⟨3, ![8, 256, 1024]⟩
abbrev S8x256x5120 : Shape := ⟨3, ![8, 256, 5120]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S1x256x256 : Shape := ⟨3, ![1, 256, 256]⟩

abbrev nBuf : Space → Nat
  | .hbm => 6
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S8x256x5120, .f32⟩
  | .hbm, ⟨3, _⟩ => ⟨S1024, .f32⟩
  | .hbm, ⟨4, _⟩ => ⟨S1x1024, .f32⟩
  | .hbm, ⟨5, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference23Ideal.lean ====
abbrev S8x256x1024 : Shape := ⟨3, ![8, 256, 1024]⟩
abbrev S8x256x5120 : Shape := ⟨3, ![8, 256, 5120]⟩
abbrev S1024 : Shape := ⟨1, ![1024]⟩
abbrev S8x256x4x256 : Shape := ⟨4, ![8, 256, 4, 256]⟩
abbrev S_ : Shape := ⟨0, ![]⟩
abbrev S8x256x4 : Shape := ⟨3, ![8, 256, 4]⟩
abbrev S8x256x4x1 : Shape := ⟨4, ![8, 256, 4, 1]⟩
abbrev S4x256 : Shape := ⟨2, ![4, 256]⟩
abbrev S1x1x4x256 : Shape := ⟨4, ![1, 1, 4, 256]⟩

abbrev nBuf : Space → Nat
  | .hbm => 35
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S8x256x5120, .f32⟩
  | .hbm, ⟨3, _⟩ => ⟨S1024, .f32⟩
  | .hbm, ⟨4, _⟩ => ⟨S8x256x1024, .f32⟩
  | .hbm, ⟨5, _⟩ => ⟨S8x256x4x256, .f32⟩
  | .hbm, ⟨6, _⟩ => ⟨S8x256x4x256, .f32⟩
  | .hbm, ⟨7, _⟩ => ⟨S_, .f32⟩
  | .hbm, ⟨8, _⟩ => ⟨S8x256x4, .f32⟩
  | .hbm, ⟨9, _⟩ => ⟨S8x256x4x1, .f32⟩
  | .hbm, ⟨10, _⟩ => ⟨S_, .f32⟩
  | .hbm, ⟨11, _⟩ => ⟨S8x256x4x1, .f32⟩
  | .hbm, ⟨12, _⟩ => ⟨S8x256x4x1, .f32⟩
  | .hbm, ⟨13, _⟩ => ⟨S_, .f32⟩
  | .hbm, ⟨14, _⟩ => ⟨S8x256x4x1, .f32⟩
  | .hbm, ⟨15, _⟩ => ⟨S8x256x4x1, .f32⟩
  | .hbm, ⟨16, _⟩ => ⟨S8x256x4x1, .f32⟩
  | .hbm, ⟨17, _⟩ => ⟨S8x256x4x256, .f32⟩
  | .hbm, ⟨18, _⟩ => ⟨S8x256x4x256, .f32⟩
  | .hbm, ⟨19, _⟩ => ⟨S4x256, .f32⟩
  | .hbm, ⟨20, _⟩ => ⟨S1x1x4x256, .f32⟩
  | .hbm, ⟨21, _⟩ => ⟨S8x256x4x256, .f32⟩
  | .hbm, ⟨22, _⟩ => ⟨S8x256x4x256, .f32⟩
  | .hbm, ⟨23, _⟩ => ⟨S8x256x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S_, .f32⟩
  | .hbm, ⟨28, _⟩ => ⟨S8x256x1024, .f32⟩
  | .hbm, ⟨29, _⟩ => ⟨S8x256x1024, .f32⟩
  | .hbm, ⟨30, _⟩ => ⟨S_, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel24.lean ====
abbrev S8x256x5120 : Shape := ⟨3, ![8, 256, 5120]⟩
abbrev S3x2048 : Shape := ⟨2, ![3, 2048]⟩
abbrev S_ : Shape := ⟨0, ![]⟩
abbrev S1024 : Shape := ⟨1, ![1024]⟩
abbrev S2048 : Shape := ⟨1, ![2048]⟩
abbrev S1x2048 : Shape := ⟨2, ![1, 2048]⟩
abbrev S8x256x2048 : Shape := ⟨3, ![8, 256, 2048]⟩
abbrev S1x256x256 : Shape := ⟨3, ![1, 256, 256]⟩
abbrev S3x256 : Shape := ⟨2, ![3, 256]⟩
abbrev S1x256 : Shape := ⟨2, ![1, 256]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x256x5120, .f32⟩
  | .hbm, ⟨1, _⟩ => ⟨S3x2048, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S2048, .f32⟩
  | .hbm, ⟨7, _⟩ => ⟨S1x2048, .f32⟩
  | .hbm, ⟨8, _⟩ => ⟨S8x256x2048, .bf16⟩
  | .local _ .vmem, ⟨0, _⟩ => ⟨S1x256x256, .f32⟩
  | .local _ .vmem, ⟨1, _⟩ => ⟨S1x256x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x256x256, .bf16⟩
  | .local _ .vmem, ⟨7, _⟩ => ⟨S1x256x256, .bf16⟩
  | _, _ => ⟨S8x256x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S8x256x5120 : Shape := ⟨3, ![8, 256, 5120]⟩
abbrev S3x2048 : Shape := ⟨2, ![3, 2048]⟩
abbrev S8x256x2048 : Shape := ⟨3, ![8, 256, 2048]⟩
abbrev S_ : Shape := ⟨0, ![]⟩
abbrev S8x258x2048 : Shape := ⟨3, ![8, 258, 2048]⟩
abbrev S1x2048 : Shape := ⟨2, ![1, 2048]⟩
abbrev S2048 : Shape := ⟨1, ![2048]⟩
abbrev S1x1x2048 : Shape := ⟨3, ![1, 1, 2048]⟩
abbrev S8x256x1024 : Shape := ⟨3, ![8, 256, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x256x5120, .f32⟩
  | .hbm, ⟨1, _⟩ => ⟨S3x2048, .f32⟩
  | .hbm, ⟨2, _⟩ => ⟨S8x256x2048, .f32⟩
  | .hbm, ⟨3, _⟩ => ⟨S_, .i32⟩
  | .hbm, ⟨4, _⟩ => ⟨S_, .f32⟩
  | .hbm, ⟨5, _⟩ => ⟨S8x258x2048, .f32⟩
  | .hbm, ⟨6, _⟩ => ⟨S8x256x2048, .f32⟩
  | .hbm, ⟨7, _⟩ => ⟨S1x2048, .f32⟩
  | .hbm, ⟨8, _⟩ => ⟨S2048, .f32⟩
  | .hbm, ⟨9, _⟩ => ⟨S1x1x2048, .f32⟩
  | .hbm, ⟨10, _⟩ => ⟨S8x256x2048, .f32⟩
  | .hbm, ⟨11, _⟩ => ⟨S8x256x2048, .f32⟩
  | .hbm, ⟨12, _⟩ => ⟨S8x256x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S8x256x2048, .f32⟩
  | .hbm, ⟨17, _⟩ => ⟨S8x256x2048, .f32⟩
  | .hbm, ⟨18, _⟩ => ⟨S8x256x2048, .f32⟩
  | .hbm, ⟨19, _⟩ => ⟨S8x256x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S8x256x2048, .f32⟩
  | .hbm, ⟨24, _⟩ => ⟨S8x256x2048, .f32⟩
  | .hbm, ⟨25, _⟩ => ⟨S8x256x2048, .f32⟩
  | .hbm, ⟨26, _⟩ => ⟨S8x256x2048, .f32⟩
  | .hbm, ⟨27, _⟩ => ⟨S8x256x2048, .f32⟩
  | .hbm, ⟨28, _⟩ => ⟨S_, .f32⟩
  | .hbm, ⟨29, _⟩ => ⟨S8x256x2048, .f32⟩
  | .hbm, ⟨30, _⟩ => ⟨S8x256x2048, .f32⟩
  | .hbm, ⟨31, _⟩ => ⟨S_, .f32⟩
  | .hbm, ⟨32, _⟩ => ⟨S8x256x2048, .f32⟩
  | .hbm, ⟨33, _⟩ => ⟨S8x256x2048, .f32⟩
  | .hbm, ⟨34, _⟩ => ⟨S8x256x2048, .f32⟩
  | .hbm, ⟨35, _⟩ => ⟨S8x256x1024, .f32⟩
  | .hbm, ⟨36, _⟩ => ⟨S8x256x1024, .f32⟩
  | .hbm, ⟨37, _⟩ => ⟨S_, .f32⟩
  | .hbm, ⟨38, _⟩ => ⟨S8x256x1024, .f32⟩
  | .hbm, ⟨39, _⟩ => ⟨S8x256x1024, .f32⟩
  | .hbm, ⟨40, _⟩ => ⟨S8x256x2048, .f32⟩
  | .hbm, ⟨41, _⟩ => ⟨S8x256x2048, .bf16⟩
  | _, _ => ⟨S8x256x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Chain.lean ====
/- What one chain of the attention kernel computes: the scores of 256 queries of one half-head against all keys, their row
   maxima, the exponentials, the row sums and the weighted values — each as one function of the loaded blocks, read at an index. -/
module

public import proofs.«01_k».proof.Proof.Gen.KernelIdeal.Value
public import Idealize.ShloMosaic.Lib.Pipeline.ValueKit
public import Idealize.ShloMosaic.Lib.Pipeline.CanonAppend
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F]

/-- A query block against the context keys. -/
def qk256 (q k : Vec F S1x256x128 .bf16) : FVec F S256x256 .f32 :=
  matmul dot_S256x128_S256x128_S256x256_1_1_0_0_n_n none (shapeCast S256x128 q shapeCasts_S1x256x128_S256x128)
    (shapeCast S256x128 k shapeCasts_S1x256x128_S256x128) (constant S256x256 .f32 0x00000000#32)

/-- A query block against 512 latent keys. -/
def qk512 (q : Vec F S1x256x128 .bf16) (k : Vec F S1x512x128 .bf16) : FVec F S256x512 .f32 :=
  matmul dot_S256x128_S512x128_S256x512_1_1_0_0_n_n none (shapeCast S256x128 q shapeCasts_S1x256x128_S256x128)
    (shapeCast S512x128 k shapeCasts_S1x512x128_S512x128) (constant S256x512 .f32 0x00000000#32)

/-- The larger of the two lane groups of the context scores. -/
def lanes2 (s : FVec F S256x256 .f32) : FVec F S256x128 .f32 :=
  maximumf (extractStridedSlice S256x128 ![0, 0] s slices_S256x256_o0_0_S256x128)
    (extractStridedSlice S256x128 ![0, 128] s slices_S256x256_o0_128_S256x128)

/-- The running lane maxima after 512 more scores. -/
def lanes4 (m : FVec F S256x128 .f32) (s : FVec F S256x512 .f32) : FVec F S256x128 .f32 :=
  maximumf (maximumf (maximumf (maximumf m (extractStridedSlice S256x128 ![0, 0] s slices_S256x512_o0_0_S256x128))
    (extractStridedSlice S256x128 ![0, 128] s slices_S256x512_o0_128_S256x128))
    (extractStridedSlice S256x128 ![0, 256] s slices_S256x512_o0_256_S256x128))
    (extractStridedSlice S256x128 ![0, 384] s slices_S256x512_o0_384_S256x128)

/-- The row maxima of a chain. -/
def rowMax (q kc : Vec F S1x256x128 .bf16) (kl : Fin 8 → Vec F S1x512x128 .bf16) : FVec F S256x1 .f32 :=
  shapeCast S256x1 (multiReduction .maximumf [1] S256
    (lanes4 (lanes4 (lanes4 (lanes4 (lanes4 (lanes4 (lanes4 (lanes4 (lanes2 (qk256 q kc)) (qk512 q (kl 0))) (qk512 q (kl 1)))
      (qk512 q (kl 2))) (qk512 q (kl 3))) (qk512 q (kl 4))) (qk512 q (kl 5))) (qk512 q (kl 6))) (qk512 q (kl 7)))
    0xFF800000#32 reduces_S256x128_S256 (.inl rfl) rfl) shapeCasts_S256_S256x1

/-- Two to the score less the row's maximum. -/
def expo (mx : FVec F S256x1 .f32) (s : Vec F S1x256x4352 .f32) : FVec F S256x4352 .f32 :=
  exp2 (subf (shapeCast S256x4352 s shapeCasts_S1x256x4352_S256x4352) (broadcastTo S256x4352 mx broadcasts_S256x1_S256x4352))

/-- The row sums of the exponentials. -/
def rowSum (mx : FVec F S256x1 .f32) (s : Vec F S1x256x4352 .f32) : FVec F S256x1 .f32 :=
  shapeCast S256x1 (multiReduction .add [1] S256 (expo mx s) 0x00000000#32 reduces_S256x4352_S256 (.inl rfl) rfl) shapeCasts_S256_S256x1

/-- The exponentials as stored. -/
def prob (mx : FVec F S256x1 .f32) (s : Vec F S1x256x4352 .f32) : FVec F S1x256x4352 .bf16 :=
  shapeCast S1x256x4352 (truncf .bf16 (expo mx s) bitsLt_bf16_f32) shapeCasts_S256x4352_S1x256x4352

/-- The values weighted by the stored exponentials, over the row sums. -/
def outOf (sum : FVec F S256x1 .f32) (pc : Vec F S1x256x256 .bf16) (vc : Vec F S1x256x256 .bf16) (pl : Vec F S1x256x4096 .bf16)
    (vl : Vec F S1x4096x256 .bf16) : FVec F S256x256 .f32 :=
  divf (addf (matmul dot_S256x256_S256x256_S256x256_1_0_0_1_n_n none (shapeCast S256x256 pc shapeCasts_S1x256x256_S256x256)
      (shapeCast S256x256 vc shapeCasts_S1x256x256_S256x256) (constant S256x256 .f32 0x00000000#32))
    (matmul dot_S256x4096_S4096x256_S256x256_1_0_0_1_n_n none (shapeCast S256x4096 pl shapeCasts_S1x256x4096_S256x4096)
      (shapeCast S4096x256 vl shapeCasts_S1x4096x256_S4096x256) (constant S256x256 .f32 0x00000000#32)))
    (broadcastTo S256x256 sum broadcasts_S256x1_S256x256)

/-- The first half-head less lambda times the second. -/
def diffOf (lam : Elt F .f32) (o₀ o₁ : FVec F S256x256 .f32) : FVec F S256x256 .f32 :=
  subf o₀ (mulf (broadcast S256x256 lam) o₁)

/-- The root mean square normalization and the gains, as stored. -/
def normOf (o : FVec F S256x256 .f32) (g : Vec F S1x256 .f32) : FVec F S1x256x256 .bf16 :=
  shapeCast S1x256x256 (truncf .bf16 (mulf (mulf (mulf o (broadcastTo S256x256 (rsqrt (addf (divf
      (shapeCast S256x1 (multiReduction .add [1] S256 (mulf o o) 0x00000000#32 reduces_S256x256_S256 (.inl rfl) rfl) shapeCasts_S256_S256x1)
      (broadcast S256x1 (Scalar.ofBits .f32 0x43800000#32))) (broadcast S256x1 (Scalar.ofBits .f32 0x358637BD#32)))) broadcasts_S256x1_S256x256))
      (broadcastTo S256x256 (shapeCast S1x256 g shapeCasts_S1x256_S1x256) broadcasts_S1x256_S256x256))
      (broadcast S256x256 (Scalar.ofBits .f32 0x3F24FD5C#32))) bitsLt_bf16_f32) shapeCasts_S256x256_S1x256x256

/-- A store of 512 scores stays inside the scratch. -/
theorem inbL {n l : ℕ} (hn : n < 3) (hl : l ≤ 3840) : ∀ a, (![n, 0, l] : Fin 3 → ℕ) a + S1x256x512.size a ≤ S3x256x4352.size a := by
  intro a; fin_cases a <;> simp <;> omega

/-- A store of the context scores stays inside the scratch. -/
theorem inbC {n : ℕ} (hn : n < 3) : ∀ a, (![n, 0, 0] : Fin 3 → ℕ) a + S1x256x256.size a ≤ S3x256x4352.size a := by
  intro a; fin_cases a <;> simp <;> omega

/-- A store of a whole row block stays inside the scratch. -/
theorem inbW {n : ℕ} (hn : n < 3) : ∀ a, (![n, 0, 0] : Fin 3 → ℕ) a + S1x256x4352.size a ≤ S3x256x4352.size a := by
  intro a; fin_cases a <;> simp <;> omega

/-- The nine stores of a chain's scores into slot `n`, the last first. -/
def scoreL (n : ℕ) (hn : n < 3) (q kc : Vec F S1x256x128 .bf16) (kl : Fin 8 → Vec F S1x512x128 .bf16) :
    List (View.Piece (Elt F) S3x256x4352 .f32) :=
  [⟨Rect.unit ![n, 0, 3840] S1x256x512.size (inbL hn (by decide)), shapeCast S1x256x512 (qk512 q (kl 7)) shapeCasts_S256x512_S1x256x512⟩,
   ⟨Rect.unit ![n, 0, 3328] S1x256x512.size (inbL hn (by decide)), shapeCast S1x256x512 (qk512 q (kl 6)) shapeCasts_S256x512_S1x256x512⟩,
   ⟨Rect.unit ![n, 0, 2816] S1x256x512.size (inbL hn (by decide)), shapeCast S1x256x512 (qk512 q (kl 5)) shapeCasts_S256x512_S1x256x512⟩,
   ⟨Rect.unit ![n, 0, 2304] S1x256x512.size (inbL hn (by decide)), shapeCast S1x256x512 (qk512 q (kl 4)) shapeCasts_S256x512_S1x256x512⟩,
   ⟨Rect.unit ![n, 0, 1792] S1x256x512.size (inbL hn (by decide)), shapeCast S1x256x512 (qk512 q (kl 3)) shapeCasts_S256x512_S1x256x512⟩,
   ⟨Rect.unit ![n, 0, 1280] S1x256x512.size (inbL hn (by decide)), shapeCast S1x256x512 (qk512 q (kl 2)) shapeCasts_S256x512_S1x256x512⟩,
   ⟨Rect.unit ![n, 0, 768] S1x256x512.size (inbL hn (by decide)), shapeCast S1x256x512 (qk512 q (kl 1)) shapeCasts_S256x512_S1x256x512⟩,
   ⟨Rect.unit ![n, 0, 256] S1x256x512.size (inbL hn (by decide)), shapeCast S1x256x512 (qk512 q (kl 0)) shapeCasts_S256x512_S1x256x512⟩,
   ⟨Rect.unit ![n, 0, 0] S1x256x256.size (inbC hn), shapeCast S1x256x256 (qk256 q kc) shapeCasts_S256x256_S1x256x256⟩]

/-- The store of a chain's exponentials into slot `n`. -/
def probP (n : ℕ) (hn : n < 3) (p : FVec F S1x256x4352 .bf16) : View.Piece (Elt F) S3x256x4352 .bf16 :=
  ⟨Rect.unit ![n, 0, 0] S1x256x4352.size (inbW hn), p⟩

end Cert.KernelIdeal.Attn

end
-- ==== Proof.Scores.lean ====
/- A chain's scores read back from the scratch slot they were stored in. -/
module

public import proofs.«01_k».proof.Proof.Chain
public import Idealize.ShloMosaic.Lib.Pipeline.ReadBack

@[expose] public section

set_option maxRecDepth 16384

noncomputable section

namespace Cert.KernelIdeal.Attn

open Idealize.ShloMosaic Idealize.ShloMosaic.TcCoe Idealize.SL.Sem
open Cert.KernelIdeal Cert.KernelIdeal.Gen

/-- Coordinate `d` of key `l`: the context keys first, then the latent ones by blocks of 512. -/
def keyAt (kc : FVec Ideal S1x256x128 .bf16) (kl : Fin 8 → FVec Ideal S1x512x128 .bf16) (l : Fin 4352) (d : Fin 128) : EReal :=
  if h : l.val < 256 then kc (ix3 0 ⟨l.val, h⟩ d)
  else kl ⟨(l.val - 256) / 512, by omega⟩ (ix3 0 ⟨(l.val - 256) % 512, by omega⟩ d)

/-- A chain's scores, query by key. -/
def score (q kc : FVec Ideal S1x256x128 .bf16) (kl : Fin 8 → FVec Ideal S1x512x128 .bf16) : FVec Ideal S1x256x4352 .f32 :=
  fun x => ∑ d : Fin 128, q (ix3 0 (x 1) d) * keyAt kc kl (x 2) d

theorem score_ix (q kc : FVec Ideal S1x256x128 .bf16) (kl : Fin 8 → FVec Ideal S1x512x128 .bf16) (b : Fin 1) (a : Fin 256) (l : Fin 4352) :
    score q kc kl (ix3 b a l) = ∑ d : Fin 128, q (ix3 0 a d) * keyAt kc kl l d := rfl

theorem qk256_apply (q k : FVec Ideal S1x256x128 .bf16) (a l : Fin 256) :
    qk256 (F := Ideal) q k (ix2 a l) = ∑ d : Fin 128, q (ix3 0 a d) * k (ix3 0 l d) := by
  pointwise [qk256]

theorem qk512_apply (q : FVec Ideal S1x256x128 .bf16) (k : FVec Ideal S1x512x128 .bf16) (a : Fin 256) (l : Fin 512) :
    qk512 (F := Ideal) q k (ix2 a l) = ∑ d : Fin 128, q (ix3 0 a d) * k (ix3 0 l d) := by
  pointwise [qk512]

/-- The stored context scores are scores. -/
theorem pieceC (q kc : FVec Ideal S1x256x128 .bf16) (kl : Fin 8 → FVec Ideal S1x512x128 .bf16) (x : S1x256x256.Idx) (b : Fin 1)
    (a : Fin 256) (l : Fin 4352) (ha : a.val = 0 + 1 * (x 1).val) (hl : l.val = 0 + 1 * (x 2).val) :
    shapeCast S1x256x256 (qk256 (F := Ideal) q kc) shapeCasts_S256x256_S1x256x256 x = score q kc kl (ix3 b a l) := by
  idx_vars x
  obtain rfl : a = x1 := Fin.ext (ha.trans (by omega))
  pointwise
  rw [qk256_apply, score_ix]
  refine Finset.sum_congr rfl fun d _ => ?_
  have hl' : l.val = x2.val := hl.trans (by omega)
  have hx : x2.val < 256 := x2.isLt
  have h : l.val < 256 := by omega
  rw [keyAt, dif_pos h]
  have : x2 = (⟨l.val, h⟩ : Fin 256) := Fin.ext hl'.symm
  rw [this]

/-- The stored scores of latent keys are scores. -/
theorem pieceL (q kc : FVec Ideal S1x256x128 .bf16) (kl : Fin 8 → FVec Ideal S1x512x128 .bf16) (j : Fin 8) (x : S1x256x512.Idx) (b : Fin 1)
    (a : Fin 256) (l : Fin 4352) (ha : a.val = 0 + 1 * (x 1).val) (hl : l.val = 256 + 512 * j.val + 1 * (x 2).val) :
    shapeCast S1x256x512 (qk512 (F := Ideal) q (kl j)) shapeCasts_S256x512_S1x256x512 x = score q kc kl (ix3 b a l) := by
  idx_vars x
  obtain rfl : a = x1 := Fin.ext (ha.trans (by omega))
  pointwise
  rw [qk512_apply, score_ix]
  refine Finset.sum_congr rfl fun d _ => ?_
  have hl' : l.val = 256 + 512 * j.val + x2.val := hl.trans (by omega)
  have hx : x2.val < 512 := x2.isLt
  have h : ¬ l.val < 256 := by omega
  rw [keyAt, dif_neg h]
  have h1 : j = (⟨(l.val - 256) / 512, by omega⟩ : Fin 8) := Fin.ext (by show j.val = (l.val - 256) / 512; omega)
  have h2 : x2 = (⟨(l.val - 256) % 512, by omega⟩ : Fin 512) := Fin.ext (by show x2.val = (l.val - 256) % 512; omega)
  rw [← h1, ← h2]

/-- What the slot of a chain holds. -/
def slotG (q kc : FVec Ideal S1x256x128 .bf16) (kl : Fin 8 → FVec Ideal S1x512x128 .bf16) : S3x256x4352.Idx → Elt Ideal .f32 :=
  fun y => score q kc kl (ix3 0 (y 1) (y 2))

theorem scoreL_pieces (n : ℕ) (hn : n < 3) (q kc : FVec Ideal S1x256x128 .bf16) (kl : Fin 8 → FVec Ideal S1x512x128 .bf16) :
    View.PiecesOf (Val := Elt Ideal) (slotG q kc kl) (scoreL (F := Ideal) n hn q kc kl) := by
  exact ⟨fun x => pieceL q kc kl 7 x 0 _ _ rfl rfl, fun x => pieceL q kc kl 6 x 0 _ _ rfl rfl, fun x => pieceL q kc kl 5 x 0 _ _ rfl rfl,
    fun x => pieceL q kc kl 4 x 0 _ _ rfl rfl, fun x => pieceL q kc kl 3 x 0 _ _ rfl rfl, fun x => pieceL q kc kl 2 x 0 _ _ rfl rfl,
    fun x => pieceL q kc kl 1 x 0 _ _ rfl rfl, fun x => pieceL q kc kl 0 x 0 _ _ rfl rfl, fun x => pieceC q kc kl x 0 _ _ rfl rfl, trivial⟩

/-- A chain's slot, read after its stores and any earlier ones, holds its scores. -/
theorem canon_scoreL (n : ℕ) (hn : n < 3) (q kc : FVec Ideal S1x256x128 .bf16) (kl : Fin 8 → FVec Ideal S1x512x128 .bf16)
    (L : List (View.Piece (Elt Ideal) S3x256x4352 .f32)) (y : S3x256x4352.Idx) (hy : (y 0).val = n) :
    View.canon (scoreL (F := Ideal) n hn q kc kl ++ L) y = slotG q kc kl y := by
  refine View.canon_append_of_piecesOf _ _ _ (scoreL_pieces n hn q kc kl) y ?_
  have h1 : (y 1).val < 256 := (y 1).isLt
  have h2 : (y 2).val < 4352 := (y 2).isLt
  have key : ∀ (l : ℕ) (hl : l ≤ 3840), l ≤ (y 2).val → (y 2).val < l + 512 →
      y ∈ (Rect.unit (s := S3x256x4352) ![n, 0, l] S1x256x512.size (inbL hn hl)).set := by
    intro l hl ha hb
    rw [Rect.mem_set_unit]
    intro a
    fin_cases a <;> simp <;> omega
  have key0 : (y 2).val < 256 → y ∈ (Rect.unit (s := S3x256x4352) ![n, 0, 0] S1x256x256.size (inbC hn)).set := by
    intro hb
    rw [Rect.mem_set_unit]
    intro a
    fin_cases a <;> simp <;> omega
  unfold scoreL
  simp only [List.mem_cons, exists_eq_or_imp, exists_eq_left, List.not_mem_nil, false_and, exists_false, or_false]
  by_cases c0 : (y 2).val < 256
  · exact .inr (.inr (.inr (.inr (.inr (.inr (.inr (.inr (key0 c0))))))))
  by_cases c1 : (y 2).val < 768
  · exact .inr (.inr (.inr (.inr (.inr (.inr (.inr (.inl (key 256 (by decide) (by omega) (by omega)))))))))
  by_cases c2 : (y 2).val < 1280
  · exact .inr (.inr (.inr (.inr (.inr (.inr (.inl (key 768 (by decide) (by omega) (by omega))))))))
  by_cases c3 : (y 2).val < 1792
  · exact .inr (.inr (.inr (.inr (.inr (.inl (key 1280 (by decide) (by omega) (by omega)))))))
  by_cases c4 : (y 2).val < 2304
  · exact .inr (.inr (.inr (.inr (.inl (key 1792 (by decide) (by omega) (by omega))))))
  by_cases c5 : (y 2).val < 2816
  · exact .inr (.inr (.inr (.inl (key 2304 (by decide) (by omega) (by omega)))))
  by_cases c6 : (y 2).val < 3328
  · exact .inr (.inr (.inl (key 2816 (by decide) (by omega) (by omega))))
  by_cases c7 : (y 2).val < 3840
  · exact .inr (.inl (key 3328 (by decide) (by omega) (by omega)))
  · exact .inl (key 3840 (by decide) (by omega) (by omega))

/-- A slot is untouched by stores off it. -/
theorem canon_off {e : EltTy} (n : ℕ) (y : S3x256x4352.Idx) (hy : (y 0).val ≠ n) (L' : List (View.Piece (Elt Ideal) S3x256x4352 e)) :
    ∀ L : List (View.Piece (Elt Ideal) S3x256x4352 e), (∀ p ∈ L, ∀ z ∈ p.1.set, (z 0).val = n) →
      View.canon (L ++ L') y = View.canon L' y
  | [], _ => rfl
  | p :: L, h => by
    rw [List.cons_append, View.canon_cons_of_not_mem p _ fun hm => hy (h p (by simp) y hm)]
    exact canon_off n y hy L' L fun q hq => h q (by simp [hq])

theorem unit_slot {n : ℕ} {size : Fin 3 → ℕ} {l : ℕ} {inb} (h : size 0 = 1) (z : S3x256x4352.Idx)
    (hz : z ∈ (Rect.unit (s := S3x256x4352) ![n, 0, l] size inb).set) : (z 0).val = n := by
  have := Rect.mem_set_unit.mp hz 0
  simp only [Matrix.cons_val_zero] at this
  omega

theorem canon_scoreL_off (n : ℕ) (hn : n < 3) (q kc : FVec Ideal S1x256x128 .bf16) (kl : Fin 8 → FVec Ideal S1x512x128 .bf16)
    (L : List (View.Piece (Elt Ideal) S3x256x4352 .f32)) (y : S3x256x4352.Idx) (hy : (y 0).val ≠ n) :
    View.canon (scoreL (F := Ideal) n hn q kc kl ++ L) y = View.canon L y := by
  refine canon_off n y hy L _ ?_
  unfold scoreL
  simp only [List.mem_cons, List.not_mem_nil, or_false, forall_eq_or_imp, forall_eq]
  exact ⟨unit_slot rfl, unit_slot rfl, unit_slot rfl, unit_slot rfl, unit_slot rfl, unit_slot rfl, unit_slot rfl, unit_slot rfl, unit_slot rfl⟩

/-- The load of slot `n` right after a chain's stores there. -/
theorem load_score {sig : RefSig} {κ : Kind} {sp : Space} (v : View sig κ sp S3x256x4352 .f32) (n : ℕ) (hn : n < 3)
    (q kc : FVec Ideal S1x256x128 .bf16) (kl : Fin 8 → FVec Ideal S1x512x128 .bf16) (L : List (View.Piece (Elt Ideal) S3x256x4352 .f32)) :
    v.readCov (scoreL (F := Ideal) n hn q kc kl ++ L) (Rect.unit (s := S3x256x4352) ![n, 0, 0] S1x256x4352.size (inbW hn)).toLoadRect = score q kc kl := by
  rw [View.readCov_eq_canon']
  funext x
  refine (canon_scoreL n hn q kc kl L _ ?_).trans ?_
  · have : (x 0).val < 1 := (x 0).isLt
    refine (Rect.idx_unit_val _ _ _ x 0).trans ?_
    simp
  · show score q kc kl _ = score q kc kl x
    congr 1
    funext a
    fin_cases a
    · exact Subsingleton.elim (α := Fin 1) _ _
    all_goals (refine Fin.ext ((Rect.idx_unit_val _ _ _ x _).trans ?_); simp)

/-- The load of slot `n` after another chain stored into slot `n' ≠ n`. -/
theorem load_score_off {sig : RefSig} {κ : Kind} {sp : Space} (v : View sig κ sp S3x256x4352 .f32) (n n' : ℕ) (hn : n < 3) (hn' : n' < 3) (h : n ≠ n')
    (q kc : FVec Ideal S1x256x128 .bf16) (kl : Fin 8 → FVec Ideal S1x512x128 .bf16) (L : List (View.Piece (Elt Ideal) S3x256x4352 .f32)) :
    v.readCov (scoreL (F := Ideal) n' hn' q kc kl ++ L) (Rect.unit (s := S3x256x4352) ![n, 0, 0] S1x256x4352.size (inbW hn)).toLoadRect
      = v.readCov L (Rect.unit (s := S3x256x4352) ![n, 0, 0] S1x256x4352.size (inbW hn)).toLoadRect := by
  rw [View.readCov_eq_canon', View.readCov_eq_canon']
  funext x
  refine canon_scoreL_off n' hn' q kc kl L _ ?_
  have hx : (x 0).val < 1 := (x 0).isLt
  intro e
  refine h (Eq.trans ?_ e)
  refine Eq.symm ((Rect.idx_unit_val _ _ _ x 0).trans ?_)
  simp

theorem inbPL {n : ℕ} (hn : n < 3) : ∀ a, (![n, 0, 256] : Fin 3 → ℕ) a + S1x256x4096.size a ≤ S3x256x4352.size a := by
  intro a; fin_cases a <;> simp <;> omega

/-- The exponentials of the context keys, out of those of all keys. -/
def pC (p : FVec Ideal S1x256x4352 .bf16) : FVec Ideal S1x256x256 .bf16 := fun x => p (ix3 0 (x 1) ⟨(x 2).val, lt_trans (x 2).isLt (by decide)⟩)

/-- The exponentials of the latent keys, out of those of all keys. -/
def pL (p : FVec Ideal S1x256x4352 .bf16) : FVec Ideal S1x256x4096 .bf16 :=
  fun x => p (ix3 0 (x 1) ⟨256 + (x 2).val, by have : (x 2).val < 4096 := (x 2).isLt; omega⟩)

/-- A slot of exponentials read back, right after its store. -/
theorem canon_prob (n : ℕ) (hn : n < 3) (p : FVec Ideal S1x256x4352 .bf16) (L : List (View.Piece (Elt Ideal) S3x256x4352 .bf16))
    (y : S3x256x4352.Idx) (hy : (y 0).val = n) : View.canon (probP (F := Ideal) n hn p :: L) y = p (ix3 0 (y 1) (y 2)) := by
  have e : y = (Rect.unit (s := S3x256x4352) ![n, 0, 0] S1x256x4352.size (inbW hn)).emb (ix3 0 (y 1) (y 2) : S1x256x4352.Idx) := by
    funext a
    refine Fin.ext (Eq.trans ?_ (Rect.idx_unit_val _ _ _ _ a).symm)
    fin_cases a
    · simp [hy]
    · simp
    · simp
  have h := View.canon_cons_emb (Val := Elt Ideal) (Rect.unit (s := S3x256x4352) ![n, 0, 0] S1x256x4352.size (inbW hn)) p L (ix3 0 (y 1) (y 2) : S1x256x4352.Idx)
  rw [← e] at h
  exact h

theorem load_probC {sig : RefSig} {κ : Kind} {sp : Space} (v : View sig κ sp S3x256x4352 .bf16) (n : ℕ) (hn : n < 3)
    (p : FVec Ideal S1x256x4352 .bf16) (L : List (View.Piece (Elt Ideal) S3x256x4352 .bf16)) :
    v.readCov (probP (F := Ideal) n hn p :: L) (Rect.unit (s := S3x256x4352) ![n, 0, 0] S1x256x256.size (inbC hn)).toLoadRect = pC p := by
  rw [View.readCov_eq_canon']
  funext x
  have hx : (x 0).val < 1 := (x 0).isLt
  refine (canon_prob n hn p L _ ?_).trans ?_
  · refine (Rect.idx_unit_val _ _ _ x 0).trans ?_
    simp
  · refine congrArg p (funext fun a => ?_)
    fin_cases a
    · rfl
    all_goals (refine Fin.ext ((Rect.idx_unit_val _ _ _ x _).trans ?_); simp)

theorem load_probL {sig : RefSig} {κ : Kind} {sp : Space} (v : View sig κ sp S3x256x4352 .bf16) (n : ℕ) (hn : n < 3)
    (p : FVec Ideal S1x256x4352 .bf16) (L : List (View.Piece (Elt Ideal) S3x256x4352 .bf16)) :
    v.readCov (probP (F := Ideal) n hn p :: L) (Rect.unit (s := S3x256x4352) ![n, 0, 256] S1x256x4096.size (inbPL hn)).toLoadRect = pL p := by
  rw [View.readCov_eq_canon']
  funext x
  have hx : (x 0).val < 1 := (x 0).isLt
  refine (canon_prob n hn p L _ ?_).trans ?_
  · refine (Rect.idx_unit_val _ _ _ x 0).trans ?_
    simp
  · refine congrArg p (funext fun a => ?_)
    fin_cases a
    · rfl
    all_goals (refine Fin.ext ((Rect.idx_unit_val _ _ _ x _).trans ?_); simp)

/-- A load of slot `n` does not see a store of exponentials into another slot. -/
theorem load_prob_off {sig : RefSig} {κ : Kind} {sp : Space} (v : View sig κ sp S3x256x4352 .bf16) (n n' : ℕ) (hn' : n' < 3) (h : n ≠ n')
    (l : ℕ) (size : Fin 3 → ℕ) (hs : size 0 = 1) (inb : ∀ a, (![n, 0, l] : Fin 3 → ℕ) a + size a ≤ S3x256x4352.size a)
    (p : FVec Ideal S1x256x4352 .bf16) (L : List (View.Piece (Elt Ideal) S3x256x4352 .bf16)) :
    v.readCov (probP (F := Ideal) n' hn' p :: L) (Rect.unit (s := S3x256x4352) ![n, 0, l] size inb).toLoadRect
      = v.readCov L (Rect.unit (s := S3x256x4352) ![n, 0, l] size inb).toLoadRect := by
  rw [View.readCov_eq_canon', View.readCov_eq_canon']
  funext x
  have hx : (x 0).val < 1 := lt_of_lt_of_eq (x 0).isLt hs
  refine canon_off n' _ ?_ L [probP (F := Ideal) n' hn' p] ?_
  · intro e
    refine h (Eq.trans ?_ e)
    refine Eq.symm ((Rect.idx_unit_val _ _ _ x 0).trans ?_)
    simp
    omega
  · intro q hq
    rw [List.mem_singleton] at hq
    subst hq
    exact unit_slot (inb := inbW hn') rfl

end Cert.KernelIdeal.Attn

end
-- ==== Proof.Witness.lean ====
/- The stores that the kernel's run leaves, named as functions of its loads: the four row blocks of the result, each from two
   chains, the scratch contents they pass through being the chains' scores and exponentials. -/
module

public import proofs.«01_k».proof.Proof.Scores

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.KernelIdeal.Gen.kernelRun0_A

section generic

variable {F : FTy → Type} [FloatOps F]

theorem inbQ (r : Fin 4) (i : Fin 2) : ∀ a, (![0, 256 * r.val, 128 * i.val] : Fin 3 → ℕ) a + S1x256x128.size a ≤ S1x1024x256.size a := by
  intro a; fin_cases a <;> simp <;> omega

theorem inbK (i : Fin 2) : ∀ a, (![0, 0, 128 * i.val] : Fin 3 → ℕ) a + S1x256x128.size a ≤ S1x256x256.size a := by
  intro a; fin_cases a <;> simp <;> omega

theorem inbKL (j : Fin 8) (i : Fin 2) : ∀ a, (![0, 512 * j.val, 128 * i.val] : Fin 3 → ℕ) a + S1x512x128.size a ≤ S1x4096x256.size a := by
  intro a; fin_cases a <;> simp <;> omega

variable (c : Dev nD)
  (arg3 : Memref sig .tc .smem S1 .f32) (harg3 : arg3.IsWhole) (arg4 : Memref sig .tc .vmem S1x1024x256 .bf16) (harg4 : arg4.IsWhole)
  (arg5 : Memref sig .tc .vmem S1x256x256 .bf16) (harg5 : arg5.IsWhole) (arg6 : Memref sig .tc .vmem S1x256x256 .bf16) (harg6 : arg6.IsWhole)
  (arg7 : Memref sig .tc .vmem S1x4096x256 .bf16) (harg7 : arg7.IsWhole) (arg8 : Memref sig .tc .vmem S1x4096x256 .bf16) (harg8 : arg8.IsWhole)
  (arg9 : Memref sig .tc .vmem S1x256 .f32) (harg9 : arg9.IsWhole)
  (arg11 : Memref sig .tc .vmem S3x256x4352 .f32) (arg12 : Memref sig .tc .vmem S3x256x4352 .bf16)
  (x0 : Vec F S1 .f32) (x1 : Vec F S1x1024x256 .bf16) (x2 : Vec F S1x256x256 .bf16) (x3 : Vec F S1x256x256 .bf16)
  (x4 : Vec F S1x4096x256 .bf16) (x5 : Vec F S1x4096x256 .bf16) (x6 : Vec F S1x256 .f32)

/-- The queries of row block `r`, half-head `i`. -/
def Q (r : Fin 4) (i : Fin 2) : Vec F S1x256x128 .bf16 :=
  View.readAt (Elt F) arg4.view (Rect.unit (s := S1x1024x256) ![0, 256 * r.val, 128 * i.val] S1x256x128.size (inbQ r i)).toLoadRect (harg4.unread x1)

/-- The context keys of half-head `i`. -/
def KC (i : Fin 2) : Vec F S1x256x128 .bf16 :=
  View.readAt (Elt F) arg5.view (Rect.unit (s := S1x256x256) ![0, 0, 128 * i.val] S1x256x128.size (inbK i)).toLoadRect (harg5.unread x2)

/-- The latent keys `512 j …` of half-head `i`. -/
def KL (i : Fin 2) (j : Fin 8) : Vec F S1x512x128 .bf16 :=
  View.readAt (Elt F) arg7.view (Rect.unit (s := S1x4096x256) ![0, 512 * j.val, 128 * i.val] S1x512x128.size (inbKL j i)).toLoadRect (harg7.unread x4)

/-- The stores of the scores of row block `r`, half-head `i`, into slot `n`. -/
def SL (n : ℕ) (hn : n < 3) (r : Fin 4) (i : Fin 2) : List (View.Piece (Elt F) S3x256x4352 .f32) :=
  scoreL n hn (Q arg4 harg4 x1 r i) (KC arg5 harg5 x2 i) (KL arg7 harg7 x4 i)

/-- The row maxima of row block `r`, half-head `i`. -/
def MX (r : Fin 4) (i : Fin 2) : FVec F S256x1 .f32 :=
  rowMax (Q arg4 harg4 x1 r i) (KC arg5 harg5 x2 i) (KL arg7 harg7 x4 i)

/-- Each chain's scores go on top of those of the chains before it. -/
theorem stores :
    sl.HS0_18 c arg4 harg4 arg5 harg5 arg7 harg7 x1 x2 x4 = SL arg4 harg4 arg5 harg5 arg7 harg7 x1 x2 x4 1 (by decide) 0 1 ++ (SL arg4 harg4 arg5 harg5 arg7 harg7 x1 x2 x4 0 (by decide) 0 0 ++ [])
    ∧ sl.HS0_27 c arg4 harg4 arg5 harg5 arg7 harg7 x1 x2 x4 = SL arg4 harg4 arg5 harg5 arg7 harg7 x1 x2 x4 2 (by decide) 1 0 ++ sl.HS0_18 c arg4 harg4 arg5 harg5 arg7 harg7 x1 x2 x4
    ∧ sl.HS0_36 c arg4 harg4 arg5 harg5 arg7 harg7 x1 x2 x4 = SL arg4 harg4 arg5 harg5 arg7 harg7 x1 x2 x4 0 (by decide) 1 1 ++ sl.HS0_27 c arg4 harg4 arg5 harg5 arg7 harg7 x1 x2 x4
    ∧ sl.HS0_45 c arg4 harg4 arg5 harg5 arg7 harg7 x1 x2 x4 = SL arg4 harg4 arg5 harg5 arg7 harg7 x1 x2 x4 1 (by decide) 2 0 ++ sl.HS0_36 c arg4 harg4 arg5 harg5 arg7 harg7 x1 x2 x4
    ∧ sl.HS0_54 c arg4 harg4 arg5 harg5 arg7 harg7 x1 x2 x4 = SL arg4 harg4 arg5 harg5 arg7 harg7 x1 x2 x4 2 (by decide) 2 1 ++ sl.HS0_45 c arg4 harg4 arg5 harg5 arg7 harg7 x1 x2 x4
    ∧ sl.HS0_63 c arg4 harg4 arg5 harg5 arg7 harg7 x1 x2 x4 = SL arg4 harg4 arg5 harg5 arg7 harg7 x1 x2 x4 0 (by decide) 3 0 ++ sl.HS0_54 c arg4 harg4 arg5 harg5 arg7 harg7 x1 x2 x4
    ∧ sl.HS0_72 c arg4 harg4 arg5 harg5 arg7 harg7 x1 x2 x4 = SL arg4 harg4 arg5 harg5 arg7 harg7 x1 x2 x4 1 (by decide) 3 1 ++ sl.HS0_63 c arg4 harg4 arg5 harg5 arg7 harg7 x1 x2 x4 :=
  ⟨rfl, rfl, rfl, rfl, rfl, rfl, rfl⟩

/-- The maxima of the eight chains. -/
theorem maxima :
    sl.r_8 c arg4 harg4 arg5 harg5 arg7 harg7 x1 x2 x4 = MX arg4 harg4 arg5 harg5 arg7 harg7 x1 x2 x4 0 0
    ∧ sl.r_15 c arg4 harg4 arg5 harg5 arg7 harg7 x1 x2 x4 = MX arg4 harg4 arg5 harg5 arg7 harg7 x1 x2 x4 0 1
    ∧ sl.r_25 c arg4 harg4 arg5 harg5 arg7 harg7 x1 x2 x4 = MX arg4 harg4 arg5 harg5 arg7 harg7 x1 x2 x4 1 0
    ∧ sl.r_37 c arg4 harg4 arg5 harg5 arg7 harg7 x1 x2 x4 = MX arg4 harg4 arg5 harg5 arg7 harg7 x1 x2 x4 1 1
    ∧ sl.r_47 c arg4 harg4 arg5 harg5 arg7 harg7 x1 x2 x4 = MX arg4 harg4 arg5 harg5 arg7 harg7 x1 x2 x4 2 0
    ∧ sl.r_57 c arg4 harg4 arg5 harg5 arg7 harg7 x1 x2 x4 = MX arg4 harg4 arg5 harg5 arg7 harg7 x1 x2 x4 2 1
    ∧ sl.r_69 c arg4 harg4 arg5 harg5 arg7 harg7 x1 x2 x4 = MX arg4 harg4 arg5 harg5 arg7 harg7 x1 x2 x4 3 0
    ∧ sl.r_80 c arg4 harg4 arg5 harg5 arg7 harg7 x1 x2 x4 = MX arg4 harg4 arg5 harg5 arg7 harg7 x1 x2 x4 3 1 :=
  ⟨rfl, rfl, rfl, rfl, rfl, rfl, rfl, rfl⟩

end generic

section ideal

variable (c : Dev nD)
  (arg3 : Memref sig .tc .smem S1 .f32) (harg3 : arg3.IsWhole) (arg4 : Memref sig .tc .vmem S1x1024x256 .bf16) (harg4 : arg4.IsWhole)
  (arg5 : Memref sig .tc .vmem S1x256x256 .bf16) (harg5 : arg5.IsWhole) (arg6 : Memref sig .tc .vmem S1x256x256 .bf16) (harg6 : arg6.IsWhole)
  (arg7 : Memref sig .tc .vmem S1x4096x256 .bf16) (harg7 : arg7.IsWhole) (arg8 : Memref sig .tc .vmem S1x4096x256 .bf16) (harg8 : arg8.IsWhole)
  (arg9 : Memref sig .tc .vmem S1x256 .f32) (harg9 : arg9.IsWhole)
  (arg11 : Memref sig .tc .vmem S3x256x4352 .f32) (arg12 : Memref sig .tc .vmem S3x256x4352 .bf16)
  (x0 : Vec Ideal S1 .f32) (x1 : Vec Ideal S1x1024x256 .bf16) (x2 : Vec Ideal S1x256x256 .bf16) (x3 : Vec Ideal S1x256x256 .bf16)
  (x4 : Vec Ideal S1x4096x256 .bf16) (x5 : Vec Ideal S1x4096x256 .bf16) (x6 : Vec Ideal S1x256 .f32)

/-- The scores of row block `r`, half-head `i`. -/
def SC (r : Fin 4) (i : Fin 2) : FVec Ideal S1x256x4352 .f32 :=
  score (Q arg4 harg4 x1 r i) (KC arg5 harg5 x2 i) (KL arg7 harg7 x4 i)

/-- The stored exponentials of row block `r`, half-head `i`. -/
def PR (r : Fin 4) (i : Fin 2) : FVec Ideal S1x256x4352 .bf16 :=
  prob (MX arg4 harg4 arg5 harg5 arg7 harg7 x1 x2 x4 r i) (SC arg4 harg4 arg5 harg5 arg7 harg7 x1 x2 x4 r i)

/-- The context values. -/
def VC : Vec Ideal S1x256x256 .bf16 :=
  View.readAt (Elt Ideal) arg6.view (Rect.unit (s := S1x256x256) ![0, 0, 0] S1x256x256.size inb_S1x256x256_S1x256x256_0_0_0).toLoadRect (harg6.unread x3)

/-- The latent values. -/
def VL : Vec Ideal S1x4096x256 .bf16 :=
  View.readAt (Elt Ideal) arg8.view (Rect.unit (s := S1x4096x256) ![0, 0, 0] S1x4096x256.size inb_S1x4096x256_S1x4096x256_0_0_0).toLoadRect (harg8.unread x5)

/-- The attention of row block `r`, half-head `i`. -/
def OUT (r : Fin 4) (i : Fin 2) : FVec Ideal S256x256 .f32 :=
  outOf (rowSum (MX arg4 harg4 arg5 harg5 arg7 harg7 x1 x2 x4 r i) (SC arg4 harg4 arg5 harg5 arg7 harg7 x1 x2 x4 r i)) (pC (PR arg4 harg4 arg5 harg5 arg7 harg7 x1 x2 x4 r i)) (VC arg6 harg6 x3) (pL (PR arg4 harg4 arg5 harg5 arg7 harg7 x1 x2 x4 r i)) (VL arg8 harg8 x5)

/-- Every load of scores finds the scores of its own chain. -/
theorem scores :
    sl.v251 c arg4 harg4 arg5 harg5 arg7 harg7 arg11 x1 x2 x4 = SC arg4 harg4 arg5 harg5 arg7 harg7 x1 x2 x4 0 0
    ∧ sl.v387 c arg4 harg4 arg5 harg5 arg7 harg7 arg11 x1 x2 x4 = SC arg4 harg4 arg5 harg5 arg7 harg7 x1 x2 x4 0 1
    ∧ sl.v536 c arg4 harg4 arg5 harg5 arg7 harg7 arg11 x1 x2 x4 = SC arg4 harg4 arg5 harg5 arg7 harg7 x1 x2 x4 1 0
    ∧ sl.v708 c arg4 harg4 arg5 harg5 arg7 harg7 arg11 x1 x2 x4 = SC arg4 harg4 arg5 harg5 arg7 harg7 x1 x2 x4 1 1
    ∧ sl.v857 c arg4 harg4 arg5 harg5 arg7 harg7 arg11 x1 x2 x4 = SC arg4 harg4 arg5 harg5 arg7 harg7 x1 x2 x4 2 0
    ∧ sl.v1029 c arg4 harg4 arg5 harg5 arg7 harg7 arg11 x1 x2 x4 = SC arg4 harg4 arg5 harg5 arg7 harg7 x1 x2 x4 2 1
    ∧ sl.v1178 c arg4 harg4 arg5 harg5 arg7 harg7 arg11 x1 x2 x4 = SC arg4 harg4 arg5 harg5 arg7 harg7 x1 x2 x4 3 0
    ∧ sl.v1225 c arg4 harg4 arg5 harg5 arg7 harg7 arg11 x1 x2 x4 = SC arg4 harg4 arg5 harg5 arg7 harg7 x1 x2 x4 3 1 := by
  obtain ⟨h1, h2, h3, h4, h5, h6, h7⟩ := stores c arg4 harg4 arg5 harg5 arg7 harg7 x1 x2 x4
  refine ⟨?_, ?_, ?_, ?_, ?_, ?_, ?_, ?_⟩
  · exact (congrArg (fun L => arg11.view.readCov L _) h1).trans ((load_score_off arg11.view 0 1 (by decide) (by decide) (by decide) _ _ _ _).trans (load_score arg11.view 0 (by decide) _ _ _ _))
  · exact (congrArg (fun L => arg11.view.readCov L _) h2).trans ((load_score_off arg11.view 1 2 (by decide) (by decide) (by decide) _ _ _ _).trans ((congrArg (fun L => arg11.view.readCov L _) h1).trans (load_score arg11.view 1 (by decide) _ _ _ _)))
  · exact (congrArg (fun L => arg11.view.readCov L _) h3).trans ((load_score_off arg11.view 2 0 (by decide) (by decide) (by decide) _ _ _ _).trans ((congrArg (fun L => arg11.view.readCov L _) h2).trans (load_score arg11.view 2 (by decide) _ _ _ _)))
  · exact (congrArg (fun L => arg11.view.readCov L _) h4).trans ((load_score_off arg11.view 0 1 (by decide) (by decide) (by decide) _ _ _ _).trans ((congrArg (fun L => arg11.view.readCov L _) h3).trans (load_score arg11.view 0 (by decide) _ _ _ _)))
  · exact (congrArg (fun L => arg11.view.readCov L _) h5).trans ((load_score_off arg11.view 1 2 (by decide) (by decide) (by decide) _ _ _ _).trans ((congrArg (fun L => arg11.view.readCov L _) h4).trans (load_score arg11.view 1 (by decide) _ _ _ _)))
  · exact (congrArg (fun L => arg11.view.readCov L _) h6).trans ((load_score_off arg11.view 2 0 (by decide) (by decide) (by decide) _ _ _ _).trans ((congrArg (fun L => arg11.view.readCov L _) h5).trans (load_score arg11.view 2 (by decide) _ _ _ _)))
  · exact (congrArg (fun L => arg11.view.readCov L _) h7).trans ((load_score_off arg11.view 0 1 (by decide) (by decide) (by decide) _ _ _ _).trans ((congrArg (fun L => arg11.view.readCov L _) h6).trans (load_score arg11.view 0 (by decide) _ _ _ _)))
  · exact (congrArg (fun L => arg11.view.readCov L _) h7).trans (load_score arg11.view 1 (by decide) _ _ _ _)

/-- Each chain's exponentials go on top of those of the chains before it. -/
theorem expStores :
    sl.HS1_2 c arg4 harg4 arg5 harg5 arg7 harg7 arg11 x1 x2 x4 = probP 1 (by decide) (PR arg4 harg4 arg5 harg5 arg7 harg7 x1 x2 x4 0 1) :: probP 0 (by decide) (PR arg4 harg4 arg5 harg5 arg7 harg7 x1 x2 x4 0 0) :: []
    ∧ sl.HS1_3 c arg4 harg4 arg5 harg5 arg7 harg7 arg11 x1 x2 x4 = probP 2 (by decide) (PR arg4 harg4 arg5 harg5 arg7 harg7 x1 x2 x4 1 0) :: sl.HS1_2 c arg4 harg4 arg5 harg5 arg7 harg7 arg11 x1 x2 x4
    ∧ sl.HS1_4 c arg4 harg4 arg5 harg5 arg7 harg7 arg11 x1 x2 x4 = probP 0 (by decide) (PR arg4 harg4 arg5 harg5 arg7 harg7 x1 x2 x4 1 1) :: sl.HS1_3 c arg4 harg4 arg5 harg5 arg7 harg7 arg11 x1 x2 x4
    ∧ sl.HS1_5 c arg4 harg4 arg5 harg5 arg7 harg7 arg11 x1 x2 x4 = probP 1 (by decide) (PR arg4 harg4 arg5 harg5 arg7 harg7 x1 x2 x4 2 0) :: sl.HS1_4 c arg4 harg4 arg5 harg5 arg7 harg7 arg11 x1 x2 x4
    ∧ sl.HS1_6 c arg4 harg4 arg5 harg5 arg7 harg7 arg11 x1 x2 x4 = probP 2 (by decide) (PR arg4 harg4 arg5 harg5 arg7 harg7 x1 x2 x4 2 1) :: sl.HS1_5 c arg4 harg4 arg5 harg5 arg7 harg7 arg11 x1 x2 x4
    ∧ sl.HS1_7 c arg4 harg4 arg5 harg5 arg7 harg7 arg11 x1 x2 x4 = probP 0 (by decide) (PR arg4 harg4 arg5 harg5 arg7 harg7 x1 x2 x4 3 0) :: sl.HS1_6 c arg4 harg4 arg5 harg5 arg7 harg7 arg11 x1 x2 x4
    ∧ sl.HS1_8 c arg4 harg4 arg5 harg5 arg7 harg7 arg11 x1 x2 x4 = probP 1 (by decide) (PR arg4 harg4 arg5 harg5 arg7 harg7 x1 x2 x4 3 1) :: sl.HS1_7 c arg4 harg4 arg5 harg5 arg7 harg7 arg11 x1 x2 x4 := by
  obtain ⟨m0, m1, m2, m3, m4, m5, m6, m7⟩ := maxima c arg4 harg4 arg5 harg5 arg7 harg7 x1 x2 x4
  obtain ⟨s0, s1, s2, s3, s4, s5, s6, s7⟩ := scores c arg4 harg4 arg5 harg5 arg7 harg7 arg11 x1 x2 x4
  unfold PR
  rw [← m0, ← m1, ← m2, ← m3, ← m4, ← m5, ← m6, ← m7, ← s0, ← s1, ← s2, ← s3, ← s4, ← s5, ← s6, ← s7]
  exact ⟨rfl, rfl, rfl, rfl, rfl, rfl, rfl⟩

/-- Every load of exponentials finds those of its own chain. -/
theorem exps :
    (sl.v398 c arg4 harg4 arg5 harg5 arg7 harg7 arg11 arg12 x1 x2 x4 = pC (PR arg4 harg4 arg5 harg5 arg7 harg7 x1 x2 x4 0 0) ∧ sl.v403 c arg4 harg4 arg5 harg5 arg7 harg7 arg11 arg12 x1 x2 x4 = pL (PR arg4 harg4 arg5 harg5 arg7 harg7 x1 x2 x4 0 0))
    ∧ (sl.v547 c arg4 harg4 arg5 harg5 arg7 harg7 arg11 arg12 x1 x2 x4 = pC (PR arg4 harg4 arg5 harg5 arg7 harg7 x1 x2 x4 0 1) ∧ sl.v552 c arg4 harg4 arg5 harg5 arg7 harg7 arg11 arg12 x1 x2 x4 = pL (PR arg4 harg4 arg5 harg5 arg7 harg7 x1 x2 x4 0 1))
    ∧ (sl.v719 c arg4 harg4 arg5 harg5 arg7 harg7 arg11 arg12 x1 x2 x4 = pC (PR arg4 harg4 arg5 harg5 arg7 harg7 x1 x2 x4 1 0) ∧ sl.v724 c arg4 harg4 arg5 harg5 arg7 harg7 arg11 arg12 x1 x2 x4 = pL (PR arg4 harg4 arg5 harg5 arg7 harg7 x1 x2 x4 1 0))
    ∧ (sl.v868 c arg4 harg4 arg5 harg5 arg7 harg7 arg11 arg12 x1 x2 x4 = pC (PR arg4 harg4 arg5 harg5 arg7 harg7 x1 x2 x4 1 1) ∧ sl.v873 c arg4 harg4 arg5 harg5 arg7 harg7 arg11 arg12 x1 x2 x4 = pL (PR arg4 harg4 arg5 harg5 arg7 harg7 x1 x2 x4 1 1))
    ∧ (sl.v1040 c arg4 harg4 arg5 harg5 arg7 harg7 arg11 arg12 x1 x2 x4 = pC (PR arg4 harg4 arg5 harg5 arg7 harg7 x1 x2 x4 2 0) ∧ sl.v1045 c arg4 harg4 arg5 harg5 arg7 harg7 arg11 arg12 x1 x2 x4 = pL (PR arg4 harg4 arg5 harg5 arg7 harg7 x1 x2 x4 2 0))
    ∧ (sl.v1189 c arg4 harg4 arg5 harg5 arg7 harg7 arg11 arg12 x1 x2 x4 = pC (PR arg4 harg4 arg5 harg5 arg7 harg7 x1 x2 x4 2 1) ∧ sl.v1194 c arg4 harg4 arg5 harg5 arg7 harg7 arg11 arg12 x1 x2 x4 = pL (PR arg4 harg4 arg5 harg5 arg7 harg7 x1 x2 x4 2 1))
    ∧ (sl.v1236 c arg4 harg4 arg5 harg5 arg7 harg7 arg11 arg12 x1 x2 x4 = pC (PR arg4 harg4 arg5 harg5 arg7 harg7 x1 x2 x4 3 0) ∧ sl.v1241 c arg4 harg4 arg5 harg5 arg7 harg7 arg11 arg12 x1 x2 x4 = pL (PR arg4 harg4 arg5 harg5 arg7 harg7 x1 x2 x4 3 0))
    ∧ (sl.v1249 c arg4 harg4 arg5 harg5 arg7 harg7 arg11 arg12 x1 x2 x4 = pC (PR arg4 harg4 arg5 harg5 arg7 harg7 x1 x2 x4 3 1) ∧ sl.v1254 c arg4 harg4 arg5 harg5 arg7 harg7 arg11 arg12 x1 x2 x4 = pL (PR arg4 harg4 arg5 harg5 arg7 harg7 x1 x2 x4 3 1)) := by
  obtain ⟨h2, h3, h4, h5, h6, h7, h8⟩ := expStores c arg4 harg4 arg5 harg5 arg7 harg7 arg11 x1 x2 x4
  refine ⟨⟨?_, ?_⟩, ⟨?_, ?_⟩, ⟨?_, ?_⟩, ⟨?_, ?_⟩, ⟨?_, ?_⟩, ⟨?_, ?_⟩, ⟨?_, ?_⟩, ⟨?_, ?_⟩⟩
  · exact (congrArg (fun L => arg12.view.readCov L _) h2).trans ((load_prob_off arg12.view 0 1 (by decide) (by decide) 0 _ rfl _ _ _).trans (load_probC arg12.view 0 (by decide) _ _))
  · exact (congrArg (fun L => arg12.view.readCov L _) h2).trans ((load_prob_off arg12.view 0 1 (by decide) (by decide) 256 _ rfl _ _ _).trans (load_probL arg12.view 0 (by decide) _ _))
  · exact (congrArg (fun L => arg12.view.readCov L _) h3).trans ((load_prob_off arg12.view 1 2 (by decide) (by decide) 0 _ rfl _ _ _).trans ((congrArg (fun L => arg12.view.readCov L _) h2).trans (load_probC arg12.view 1 (by decide) _ _)))
  · exact (congrArg (fun L => arg12.view.readCov L _) h3).trans ((load_prob_off arg12.view 1 2 (by decide) (by decide) 256 _ rfl _ _ _).trans ((congrArg (fun L => arg12.view.readCov L _) h2).trans (load_probL arg12.view 1 (by decide) _ _)))
  · exact (congrArg (fun L => arg12.view.readCov L _) h4).trans ((load_prob_off arg12.view 2 0 (by decide) (by decide) 0 _ rfl _ _ _).trans ((congrArg (fun L => arg12.view.readCov L _) h3).trans (load_probC arg12.view 2 (by decide) _ _)))
  · exact (congrArg (fun L => arg12.view.readCov L _) h4).trans ((load_prob_off arg12.view 2 0 (by decide) (by decide) 256 _ rfl _ _ _).trans ((congrArg (fun L => arg12.view.readCov L _) h3).trans (load_probL arg12.view 2 (by decide) _ _)))
  · exact (congrArg (fun L => arg12.view.readCov L _) h5).trans ((load_prob_off arg12.view 0 1 (by decide) (by decide) 0 _ rfl _ _ _).trans ((congrArg (fun L => arg12.view.readCov L _) h4).trans (load_probC arg12.view 0 (by decide) _ _)))
  · exact (congrArg (fun L => arg12.view.readCov L _) h5).trans ((load_prob_off arg12.view 0 1 (by decide) (by decide) 256 _ rfl _ _ _).trans ((congrArg (fun L => arg12.view.readCov L _) h4).trans (load_probL arg12.view 0 (by decide) _ _)))
  · exact (congrArg (fun L => arg12.view.readCov L _) h6).trans ((load_prob_off arg12.view 1 2 (by decide) (by decide) 0 _ rfl _ _ _).trans ((congrArg (fun L => arg12.view.readCov L _) h5).trans (load_probC arg12.view 1 (by decide) _ _)))
  · exact (congrArg (fun L => arg12.view.readCov L _) h6).trans ((load_prob_off arg12.view 1 2 (by decide) (by decide) 256 _ rfl _ _ _).trans ((congrArg (fun L => arg12.view.readCov L _) h5).trans (load_probL arg12.view 1 (by decide) _ _)))
  · exact (congrArg (fun L => arg12.view.readCov L _) h7).trans ((load_prob_off arg12.view 2 0 (by decide) (by decide) 0 _ rfl _ _ _).trans ((congrArg (fun L => arg12.view.readCov L _) h6).trans (load_probC arg12.view 2 (by decide) _ _)))
  · exact (congrArg (fun L => arg12.view.readCov L _) h7).trans ((load_prob_off arg12.view 2 0 (by decide) (by decide) 256 _ rfl _ _ _).trans ((congrArg (fun L => arg12.view.readCov L _) h6).trans (load_probL arg12.view 2 (by decide) _ _)))
  · exact (congrArg (fun L => arg12.view.readCov L _) h8).trans ((load_prob_off arg12.view 0 1 (by decide) (by decide) 0 _ rfl _ _ _).trans ((congrArg (fun L => arg12.view.readCov L _) h7).trans (load_probC arg12.view 0 (by decide) _ _)))
  · exact (congrArg (fun L => arg12.view.readCov L _) h8).trans ((load_prob_off arg12.view 0 1 (by decide) (by decide) 256 _ rfl _ _ _).trans ((congrArg (fun L => arg12.view.readCov L _) h7).trans (load_probL arg12.view 0 (by decide) _ _)))
  · exact (congrArg (fun L => arg12.view.readCov L _) h8).trans (load_probC arg12.view 1 (by decide) _ _)
  · exact (congrArg (fun L => arg12.view.readCov L _) h8).trans (load_probL arg12.view 1 (by decide) _ _)

/-- Lambda. -/
def LAM : Elt Ideal .f32 := sl.r c arg3 harg3 x0

/-- The gains. -/
def GAIN : Vec Ideal S1x256 .f32 :=
  View.readAt (Elt Ideal) arg9.view (Rect.unit (s := S1x256) ![0, 0] S1x256.size inb_S1x256_S1x256_0_0).toLoadRect (harg9.unread x6)

/-- Row block `r` of the result. -/
def NB (r : Fin 4) : FVec Ideal S1x256x256 .bf16 :=
  normOf (diffOf (LAM c arg3 harg3 x0) (OUT arg4 harg4 arg5 harg5 arg6 harg6 arg7 harg7 arg8 harg8 x1 x2 x3 x4 x5 r 0) (OUT arg4 harg4 arg5 harg5 arg6 harg6 arg7 harg7 arg8 harg8 x1 x2 x3 x4 x5 r 1)) (GAIN arg9 harg9 x6)

/-- The run stores the four row blocks, the last on top. -/
theorem blocks (i : grid0.Coords) (arg10 : Memref sig .tc .vmem S1x1024x256 .bf16) (harg10 : arg10.IsWhole) (harg11 : arg11.IsWhole)
    (harg12 : arg12.IsWhole) :
    (kernelRun0_A c i arg3 harg3 arg4 harg4 arg5 harg5 arg6 harg6 arg7 harg7 arg8 harg8 arg9 harg9 arg10 harg10 arg11 harg11 arg12 harg12
        x0 x1 x2 x3 x4 x5 x6).fst
      = [⟨Rect.unit (s := S1x1024x256) ![0, 768, 0] S1x256x256.size inb_S1x1024x256_S1x256x256_0_768_0, NB c arg3 harg3 arg4 harg4 arg5 harg5 arg6 harg6 arg7 harg7 arg8 harg8 arg9 harg9 x0 x1 x2 x3 x4 x5 x6 3⟩,
         ⟨Rect.unit (s := S1x1024x256) ![0, 512, 0] S1x256x256.size inb_S1x1024x256_S1x256x256_0_512_0, NB c arg3 harg3 arg4 harg4 arg5 harg5 arg6 harg6 arg7 harg7 arg8 harg8 arg9 harg9 x0 x1 x2 x3 x4 x5 x6 2⟩,
         ⟨Rect.unit (s := S1x1024x256) ![0, 256, 0] S1x256x256.size inb_S1x1024x256_S1x256x256_0_256_0, NB c arg3 harg3 arg4 harg4 arg5 harg5 arg6 harg6 arg7 harg7 arg8 harg8 arg9 harg9 x0 x1 x2 x3 x4 x5 x6 1⟩,
         ⟨Rect.unit (s := S1x1024x256) ![0, 0, 0] S1x256x256.size inb_S1x1024x256_S1x256x256_0_0_0, NB c arg3 harg3 arg4 harg4 arg5 harg5 arg6 harg6 arg7 harg7 arg8 harg8 arg9 harg9 x0 x1 x2 x3 x4 x5 x6 0⟩] := by
  obtain ⟨m0, m1, m2, m3, m4, m5, m6, m7⟩ := maxima c arg4 harg4 arg5 harg5 arg7 harg7 x1 x2 x4
  obtain ⟨s0, s1, s2, s3, s4, s5, s6, s7⟩ := scores c arg4 harg4 arg5 harg5 arg7 harg7 arg11 x1 x2 x4
  obtain ⟨⟨p0, q0⟩, ⟨p1, q1⟩, ⟨p2, q2⟩, ⟨p3, q3⟩, ⟨p4, q4⟩, ⟨p5, q5⟩, ⟨p6, q6⟩, ⟨p7, q7⟩⟩ := exps c arg4 harg4 arg5 harg5 arg7 harg7 arg11 arg12 x1 x2 x4
  unfold NB OUT
  rw [← p0, ← q0, ← p1, ← q1, ← p2, ← q2, ← p3, ← q3, ← p4, ← q4, ← p5, ← q5, ← p6, ← q6, ← p7, ← q7]
  rw [← m0, ← m1, ← m2, ← m3, ← m4, ← m5, ← m6, ← m7, ← s0, ← s1, ← s2, ← s3, ← s4, ← s5, ← s6, ← s7]
  rfl

end ideal

end Cert.KernelIdeal.Attn

end
-- ==== Proof.Values.lean ====
/- The values of a chain when its scores, values and lambda are real: a quotient of two sums over the keys. -/
module

public import proofs.«01_k».proof.Proof.Scores

@[expose] public section

set_option maxRecDepth 16384

noncomputable section

namespace Cert.Real

open Idealize.ShloMosaic

/-- A sum of reals is real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The values `V` weighted by two to the scores `S`, the weights scaled to sum to one. -/
def soft {ι : Type*} [Fintype ι] (S V : ι → ℝ) : ℝ := (∑ l, (2 : ℝ) ^ S l * V l) / ∑ l, (2 : ℝ) ^ S l

theorem sum_pos {ι : Type*} [Fintype ι] [Nonempty ι] (S : ι → ℝ) : 0 < ∑ l, (2 : ℝ) ^ S l :=
  Finset.sum_pos (fun _ _ => Real.rpow_pos_of_pos two_pos _) Finset.univ_nonempty

/-- The weights may be scaled by any one factor. -/
theorem soft_scaled {ι : Type*} [Fintype ι] [Nonempty ι] (S V E : ι → ℝ) (c : ℝ) (hc : c ≠ 0) (hE : ∀ l, E l = (2 : ℝ) ^ S l * c) :
    (∑ l, E l * V l) / (∑ l, E l) = soft S V := by
  have h1 : ∑ l, E l * V l = (∑ l, (2 : ℝ) ^ S l * V l) * c := by
    rw [Finset.sum_mul]
    exact Finset.sum_congr rfl fun l _ => by rw [hE]; ring
  have h2 : ∑ l, E l = (∑ l, (2 : ℝ) ^ S l) * c := by
    rw [Finset.sum_mul]
    exact Finset.sum_congr rfl fun l _ => hE l
  rw [h1, h2, soft, mul_div_mul_right _ _ hc]

theorem scaled_sum_ne {ι : Type*} [Fintype ι] [Nonempty ι] (S E : ι → ℝ) (c : ℝ) (hc : c ≠ 0) (hE : ∀ l, E l = (2 : ℝ) ^ S l * c) :
    ∑ l, E l ≠ 0 := by
  have h2 : ∑ l, E l = (∑ l, (2 : ℝ) ^ S l) * c := by
    rw [Finset.sum_mul]
    exact Finset.sum_congr rfl fun l _ => hE l
  rw [h2]
  exact mul_ne_zero (sum_pos S).ne' hc

/-- The quotient of two reals, the second not zero. -/
theorem div_real (x y : ℝ) (h : y ≠ 0) : Ideal.div (x : EReal) (y : EReal) = ((x / y : ℝ) : EReal) := by
  rw [Ideal.div_coe h, ← EReal.coe_mul, mul_one_div]

/-- A number: neither infinity. -/
def Num (x : EReal) : Prop := ⊥ < x ∧ x < ⊤

theorem Num.coe (r : ℝ) : Num (r : EReal) := ⟨EReal.bot_lt_coe r, EReal.coe_lt_top r⟩

theorem Num.eq {x : EReal} (h : Num x) : ∃ r : ℝ, x = (r : EReal) := ⟨x.toReal, (EReal.coe_toReal h.2.ne h.1.ne').symm⟩

theorem Num.max {x y : EReal} (hx : Num x) (hy : Num y) : Num (Max.max x y) := ⟨lt_max_of_lt_left hx.1, max_lt hx.2 hy.2⟩

/-- The largest of several numbers is a number. -/
theorem Num.fold {ι : Type*} [Fintype ι] [Nonempty ι] (f : ι → EReal) (h : ∀ i, Num (f i)) (b : EReal) (hb : b < ⊤) :
    Num (Finset.fold Max.max b f Finset.univ) :=
  ⟨(Finset.lt_fold_max _).mpr (.inr ⟨Classical.arbitrary ι, Finset.mem_univ _, (h _).1⟩),
    (Finset.fold_max_lt _).mpr ⟨hb, fun i _ => (h i).2⟩⟩

theorem negInf_lt : Ideal.ofBits .f32 0xFF800000#32 < ⊤ := by
  simp [Ideal.ofBits, Ideal.ieee]

end Cert.Real

namespace Cert.KernelIdeal.Attn

open Idealize.ShloMosaic Idealize.ShloMosaic.TcCoe Idealize.SL.Sem
open Cert.KernelIdeal Cert.KernelIdeal.Gen Cert.Real

theorem rowSum_apply (mx : FVec Ideal S256x1 .f32) (s : FVec Ideal S1x256x4352 .f32) (a : Fin 256) :
    rowSum (F := Ideal) mx s (ix2 a 0) = ∑ l : Fin 4352, Ideal.exp2 (s (ix3 0 a l) - mx (ix2 a 0)) := by
  pointwise [rowSum, expo]
  rfl

theorem prob_apply (mx : FVec Ideal S256x1 .f32) (s : FVec Ideal S1x256x4352 .f32) (b : Fin 1) (a : Fin 256) (l : Fin 4352) :
    prob (F := Ideal) mx s (ix3 b a l) = Ideal.exp2 (s (ix3 0 a l) - mx (ix2 a 0)) := by
  pointwise [prob, expo]
  rfl

theorem outOf_apply (sum : FVec Ideal S256x1 .f32) (pc vc : FVec Ideal S1x256x256 .bf16) (pl : FVec Ideal S1x256x4096 .bf16)
    (vl : FVec Ideal S1x4096x256 .bf16) (a e : Fin 256) :
    outOf (F := Ideal) sum pc vc pl vl (ix2 a e)
      = Ideal.div ((∑ l : Fin 256, pc (ix3 0 a l) * vc (ix3 0 l e)) + ∑ l : Fin 4096, pl (ix3 0 a l) * vl (ix3 0 l e)) (sum (ix2 a 0)) := by
  pointwise [outOf]

theorem diffOf_apply (lam : EReal) (o₀ o₁ : FVec Ideal S256x256 .f32) (a e : Fin 256) :
    diffOf (F := Ideal) lam o₀ o₁ (ix2 a e) = o₀ (ix2 a e) - lam * o₁ (ix2 a e) := by
  pointwise [diffOf]

theorem normOf_apply (o : FVec Ideal S256x256 .f32) (g : FVec Ideal S1x256 .f32) (b : Fin 1) (a e : Fin 256) :
    normOf (F := Ideal) o g (ix3 b a e) = o (ix2 a e) * Ideal.rsqrt (Ideal.div (∑ x : Fin 256, o (ix2 a x) * o (ix2 a x)) (Ideal.ofBits .f32 0x43800000#32)
      + Ideal.ofBits .f32 0x358637BD#32) * g (ix2 0 e) * Ideal.ofBits .f32 0x3F24FD5C#32 := by
  pointwise [normOf]

theorem lanes2_num (s : FVec Ideal S256x256 .f32) (a : Fin 256) (h : ∀ l, Num (s (ix2 a l))) (l : Fin 128) :
    Num (lanes2 (F := Ideal) s (ix2 a l)) := by
  have e : lanes2 (F := Ideal) s (ix2 a l) = max (s (ix2 a ⟨l.val, by omega⟩)) (s (ix2 a ⟨128 + l.val, by omega⟩)) := by
    pointwise [lanes2]
  rw [e]
  exact (h _).max (h _)

theorem lanes4_num (m : FVec Ideal S256x128 .f32) (s : FVec Ideal S256x512 .f32) (a : Fin 256) (hm : ∀ l, Num (m (ix2 a l)))
    (h : ∀ l, Num (s (ix2 a l))) (l : Fin 128) : Num (lanes4 (F := Ideal) m s (ix2 a l)) := by
  have e : lanes4 (F := Ideal) m s (ix2 a l) = max (max (max (max (m (ix2 a l)) (s (ix2 a ⟨l.val, by omega⟩)))
      (s (ix2 a ⟨128 + l.val, by omega⟩))) (s (ix2 a ⟨256 + l.val, by omega⟩))) (s (ix2 a ⟨384 + l.val, by omega⟩)) := by
    pointwise [lanes4]
  rw [e]
  exact ((((hm _).max (h _)).max (h _)).max (h _)).max (h _)

/-- The scores being numbers, the row maxima are. -/
theorem rowMax_num (q kc : FVec Ideal S1x256x128 .bf16) (kl : Fin 8 → FVec Ideal S1x512x128 .bf16) (a : Fin 256)
    (hc : ∀ l, Num (qk256 (F := Ideal) q kc (ix2 a l))) (hl : ∀ j l, Num (qk512 (F := Ideal) q (kl j) (ix2 a l))) :
    Num (rowMax (F := Ideal) q kc kl (ix2 a 0)) := by
  have e : ∀ m : FVec Ideal S256x128 .f32, (∀ l, Num (m (ix2 a l))) → Num (shapeCast S256x1 (multiReduction (F := Ideal) .maximumf [1] S256 m
      0xFF800000#32 reduces_S256x128_S256 (.inl rfl) rfl) shapeCasts_S256_S256x1 (ix2 a 0)) := by
    intro m hm
    have e' : shapeCast S256x1 (multiReduction (F := Ideal) .maximumf [1] S256 m 0xFF800000#32 reduces_S256x128_S256 (.inl rfl) rfl)
        shapeCasts_S256_S256x1 (ix2 a 0) = Finset.fold max (Ideal.ofBits .f32 0xFF800000#32) (fun x : Fin 128 => m (ix2 a x)) Finset.univ := by
      pointwise
    rw [e']
    exact Num.fold _ hm _ negInf_lt
  exact e _ (lanes4_num _ _ a (lanes4_num _ _ a (lanes4_num _ _ a (lanes4_num _ _ a (lanes4_num _ _ a (lanes4_num _ _ a (lanes4_num _ _ a
    (lanes4_num _ _ a (lanes2_num _ a hc) (hl 0)) (hl 1)) (hl 2)) (hl 3)) (hl 4)) (hl 5)) (hl 6)) (hl 7))

/-- The output of a chain whose row maximum, scores and values are real. -/
theorem chain_real (mx : FVec Ideal S256x1 .f32) (s : FVec Ideal S1x256x4352 .f32) (vc : FVec Ideal S1x256x256 .bf16)
    (vl : FVec Ideal S1x4096x256 .bf16) (a e : Fin 256) (m : ℝ) (S V : Fin 4352 → ℝ) (hm : mx (ix2 a 0) = (m : EReal))
    (hs : ∀ l, s (ix3 0 a l) = (S l : EReal)) (hc : ∀ l : Fin 256, vc (ix3 0 l e) = (V ⟨l.val, by omega⟩ : EReal))
    (hl : ∀ l : Fin 4096, vl (ix3 0 l e) = (V ⟨256 + l.val, by omega⟩ : EReal)) :
    outOf (F := Ideal) (rowSum mx s) (pC (prob mx s)) vc (pL (prob mx s)) vl (ix2 a e) = (soft S V : EReal) := by
  have hp : ∀ l : Fin 4352, Ideal.exp2 (s (ix3 0 a l) - mx (ix2 a 0)) = (((2 : ℝ) ^ (S l - m) : ℝ) : EReal) := by
    intro l
    rw [hs, hm, ← EReal.coe_sub, Ideal.exp2_coe]
    rfl
  have hE : ∀ l, (2 : ℝ) ^ (S l - m) = (2 : ℝ) ^ S l * (2 : ℝ) ^ (-m) := by
    intro l
    rw [← Real.rpow_add two_pos, sub_eq_add_neg]
  have hz : (2 : ℝ) ^ (-m) ≠ 0 := (Real.rpow_pos_of_pos two_pos _).ne'
  have hsplit : (∑ l : Fin 256, pC (prob mx s) (ix3 0 a l) * vc (ix3 0 l e)) + ∑ l : Fin 4096, pL (prob mx s) (ix3 0 a l) * vl (ix3 0 l e)
      = ((∑ l : Fin 4352, (2 : ℝ) ^ (S l - m) * V l : ℝ) : EReal) := by
    rw [coe_sum, Fin.sum_univ_add (a := 256) (b := 4096) (fun l : Fin (256 + 4096) => (((2 : ℝ) ^ (S l - m) * V l : ℝ) : EReal))]
    refine congrArg₂ (· + ·) (Finset.sum_congr rfl fun l _ => ?_) (Finset.sum_congr rfl fun l _ => ?_)
    · rw [hc, EReal.coe_mul]
      refine congrArg (· * _) ?_
      exact (prob_apply mx s 0 a _).trans (hp _)
    · rw [hl, EReal.coe_mul]
      refine congrArg (· * _) ?_
      exact (prob_apply mx s 0 a _).trans (hp _)
  rw [outOf_apply, hsplit, rowSum_apply, Finset.sum_congr rfl fun l _ => hp l, ← coe_sum,
    div_real _ _ (scaled_sum_ne S _ _ hz hE), soft_scaled S V _ _ hz hE]

end Cert.KernelIdeal.Attn

end
-- ==== Proof.Tile.lean ====
/- The value of the whole tile that one grid point writes, when its queries, keys, values and lambda are real. -/
module

public import proofs.«01_k».proof.Proof.Witness
public import proofs.«01_k».proof.Proof.Values

@[expose] public section

set_option maxRecDepth 16384

noncomputable section

namespace Cert.Real

open Idealize.ShloMosaic

/-- The place of a context token among all keys. -/
def ctxKey (l : Fin 256) : Fin 4352 := ⟨l.val, by omega⟩

/-- The place of a latent token among all keys. -/
def latKey (l : Fin 4096) : Fin 4352 := ⟨256 + l.val, by omega⟩

/-- Column `d` of half-head `i`. -/
def halfCol (i : Fin 2) (d : Fin 128) : Fin 256 := ⟨128 * i.val + d.val, by omega⟩

/-- The score of a query and a key in half-head `i`. -/
def dotHalf (i : Fin 2) (q k : Fin 256 → ℝ) : ℝ := ∑ d : Fin 128, q (halfCol i d) * k (halfCol i d)

/-- Differential attention of one query at value column `e`: the two halves' weighted values, the second times lambda. -/
def diffAttn {ι : Type*} [Fintype ι] (q : Fin 256 → ℝ) (k v : ι → Fin 256 → ℝ) (lam : ℝ) (e : Fin 256) : ℝ :=
  soft (fun l => dotHalf 0 q (k l)) (fun l => v l e) - lam * soft (fun l => dotHalf 1 q (k l)) (fun l => v l e)

/-- The root mean square normalization of a head's 256 columns, with its gains and the constant factor. -/
def headNorm (o : Fin 256 → EReal) (g : EReal) (e : Fin 256) : EReal :=
  o e * Ideal.rsqrt (Ideal.div (∑ x : Fin 256, o x * o x) (Ideal.ofBits .f32 0x43800000#32) + Ideal.ofBits .f32 0x358637BD#32) * g
    * Ideal.ofBits .f32 0x3F24FD5C#32

end Cert.Real

namespace Cert.KernelIdeal.Attn

open Idealize.ShloMosaic Idealize.ShloMosaic.TcCoe Idealize.SL.Sem
open Cert.KernelIdeal Cert.KernelIdeal.Gen Cert.Real

/-- A load of a whole buffer's rectangle reads the buffer's contents there. -/
theorem load_apply {sp : Space} {s : Shape} {e : EltTy} (A : Memref sig .tc sp s e) (hA : A.IsWhole) (x : Vec Ideal s e) (r : Rect s) (j : r.shape.Idx) :
    View.readAt (Elt Ideal) A.view r.toLoadRect (hA.unread x) j = x (r.emb j) := by
  rw [View.readAt_eq_ld, hA.read_unread]
  rfl

variable (c : Dev nD)
  (arg3 : Memref sig .tc .smem S1 .f32) (harg3 : arg3.IsWhole) (arg4 : Memref sig .tc .vmem S1x1024x256 .bf16) (harg4 : arg4.IsWhole)
  (arg5 : Memref sig .tc .vmem S1x256x256 .bf16) (harg5 : arg5.IsWhole) (arg6 : Memref sig .tc .vmem S1x256x256 .bf16) (harg6 : arg6.IsWhole)
  (arg7 : Memref sig .tc .vmem S1x4096x256 .bf16) (harg7 : arg7.IsWhole) (arg8 : Memref sig .tc .vmem S1x4096x256 .bf16) (harg8 : arg8.IsWhole)
  (arg9 : Memref sig .tc .vmem S1x256 .f32) (harg9 : arg9.IsWhole)
  (arg11 : Memref sig .tc .vmem S3x256x4352 .f32) (arg12 : Memref sig .tc .vmem S3x256x4352 .bf16)
  (x0 : Vec Ideal S1 .f32) (x1 : Vec Ideal S1x1024x256 .bf16) (x2 : Vec Ideal S1x256x256 .bf16) (x3 : Vec Ideal S1x256x256 .bf16)
  (x4 : Vec Ideal S1x4096x256 .bf16) (x5 : Vec Ideal S1x4096x256 .bf16) (x6 : Vec Ideal S1x256 .f32)

theorem Q_apply (r : Fin 4) (i : Fin 2) (a : Fin 256) (d : Fin 128) :
    Q arg4 harg4 x1 r i (ix3 0 a d) = x1 (ix3 0 ⟨256 * r.val + a.val, by omega⟩ (halfCol i d)) := by
  refine (load_apply arg4 harg4 x1 _ (ix3 0 a d : S1x256x128.Idx)).trans (congrArg x1 (funext fun k => Fin.ext ((Rect.idx_unit_val _ _ _ _ k).trans ?_)))
  fin_cases k <;> simp [halfCol]

theorem KC_apply (i : Fin 2) (l : Fin 256) (d : Fin 128) : KC arg5 harg5 x2 i (ix3 0 l d) = x2 (ix3 0 l (halfCol i d)) := by
  refine (load_apply arg5 harg5 x2 _ (ix3 0 l d : S1x256x128.Idx)).trans (congrArg x2 (funext fun k => Fin.ext ((Rect.idx_unit_val _ _ _ _ k).trans ?_)))
  fin_cases k <;> simp [halfCol]

theorem KL_apply (i : Fin 2) (j : Fin 8) (l : Fin 512) (d : Fin 128) :
    KL arg7 harg7 x4 i j (ix3 0 l d) = x4 (ix3 0 ⟨512 * j.val + l.val, by omega⟩ (halfCol i d)) := by
  refine (load_apply arg7 harg7 x4 _ (ix3 0 l d : S1x512x128.Idx)).trans (congrArg x4 (funext fun k => Fin.ext ((Rect.idx_unit_val _ _ _ _ k).trans ?_)))
  fin_cases k <;> simp [halfCol]

theorem VC_eq : VC arg6 harg6 x3 = x3 := by
  funext j
  refine (load_apply arg6 harg6 x3 _ j).trans (congrArg x3 (funext fun k => Fin.ext ((Rect.idx_unit_val _ _ _ _ k).trans ?_)))
  fin_cases k <;> simp

theorem VL_eq : VL arg8 harg8 x5 = x5 := by
  funext j
  refine (load_apply arg8 harg8 x5 _ j).trans (congrArg x5 (funext fun k => Fin.ext ((Rect.idx_unit_val _ _ _ _ k).trans ?_)))
  fin_cases k <;> simp

theorem GAIN_eq : GAIN arg9 harg9 x6 = x6 := by
  funext j
  refine (load_apply arg9 harg9 x6 _ j).trans (congrArg x6 (funext fun k => Fin.ext ((Rect.idx_unit_val _ _ _ _ k).trans ?_)))
  fin_cases k <;> simp

theorem LAM_eq : LAM c arg3 harg3 x0 = x0 (ix1 0) := by
  refine (load_apply arg3 harg3 x0 (Rect.unit (s := S1) ![0] S1.size _) _).trans (congrArg x0 (funext fun k => ?_))
  fin_cases k
  exact Subsingleton.elim (α := Fin 1) _ _

variable (q : Fin 1024 → Fin 256 → ℝ) (k v : Fin 4352 → Fin 256 → ℝ) (lam : ℝ)
  (hlam : x0 (ix1 0) = (lam : EReal)) (hq : ∀ R C, x1 (ix3 0 R C) = (q R C : EReal))
  (hkc : ∀ (l C : Fin 256), x2 (ix3 0 l C) = (k (ctxKey l) C : EReal))
  (hkl : ∀ (l : Fin 4096) (C : Fin 256), x4 (ix3 0 l C) = (k (latKey l) C : EReal))
  (hvc : ∀ (l C : Fin 256), x3 (ix3 0 l C) = (v (ctxKey l) C : EReal))
  (hvl : ∀ (l : Fin 4096) (C : Fin 256), x5 (ix3 0 l C) = (v (latKey l) C : EReal))

/-- Real factors make a real sum of products. -/
theorem sum_real {n : ℕ} (f g : Fin n → EReal) (f' g' : Fin n → ℝ) (hf : ∀ d, f d = (f' d : EReal)) (hg : ∀ d, g d = (g' d : EReal)) :
    ∑ d, f d * g d = ((∑ d, f' d * g' d : ℝ) : EReal) := by
  rw [coe_sum]
  exact Finset.sum_congr rfl fun d _ => by rw [hf, hg, EReal.coe_mul]

include hkc hkl in
theorem key_real (i : Fin 2) (l : Fin 4352) (d : Fin 128) :
    keyAt (KC arg5 harg5 x2 i) (KL arg7 harg7 x4 i) l d = (k l (halfCol i d) : EReal) := by
  unfold keyAt
  split
  · exact (KC_apply _ _ _ _ _ _).trans (hkc _ _)
  · refine ((KL_apply _ _ _ _ _ _ _).trans (hkl _ _)).trans (congrArg (fun l' => ((k l' (halfCol i d) : ℝ) : EReal)) (Fin.ext ?_))
    simp only [latKey]
    omega

include hq hkc hkl in
theorem score_real (r : Fin 4) (i : Fin 2) (a : Fin 256) (l : Fin 4352) :
    SC arg4 harg4 arg5 harg5 arg7 harg7 x1 x2 x4 r i (ix3 0 a l)
      = (dotHalf i (q ⟨256 * r.val + a.val, by omega⟩) (k l) : EReal) := by
  unfold SC
  rw [score_ix]
  exact sum_real _ _ _ _ (fun d => (Q_apply _ _ _ _ _ _ _).trans (hq _ _)) fun d => key_real _ _ _ _ _ _ k hkc hkl i l d

include hq hkc hkl in
theorem max_real (r : Fin 4) (i : Fin 2) (a : Fin 256) :
    ∃ m : ℝ, MX arg4 harg4 arg5 harg5 arg7 harg7 x1 x2 x4 r i (ix2 a 0) = (m : EReal) := by
  refine Num.eq (rowMax_num _ _ _ a (fun l => ?_) fun j l => ?_)
  · rw [qk256_apply, sum_real _ _ _ _ (fun d => (Q_apply _ _ _ _ _ _ _).trans (hq _ _)) fun d => (KC_apply _ _ _ _ _ _).trans (hkc _ _)]
    exact Num.coe _
  · rw [qk512_apply, sum_real _ _ _ _ (fun d => (Q_apply _ _ _ _ _ _ _).trans (hq _ _)) fun d => (KL_apply _ _ _ _ _ _ _).trans (hkl _ _)]
    exact Num.coe _

include hq hkc hkl hvc hvl in
theorem out_real (r : Fin 4) (i : Fin 2) (a e : Fin 256) :
    OUT arg4 harg4 arg5 harg5 arg6 harg6 arg7 harg7 arg8 harg8 x1 x2 x3 x4 x5 r i (ix2 a e)
      = (soft (fun l => dotHalf i (q ⟨256 * r.val + a.val, by omega⟩) (k l)) (fun l => v l e) : EReal) := by
  obtain ⟨m, hm⟩ := max_real arg4 harg4 arg5 harg5 arg7 harg7 x1 x2 x4 q k hq hkc hkl r i a
  unfold OUT PR
  rw [VC_eq, VL_eq]
  exact chain_real _ _ _ _ a e m _ _ hm (score_real arg4 harg4 arg5 harg5 arg7 harg7 x1 x2 x4 q k hq hkc hkl r i a) (fun l => hvc l e) fun l => hvl l e

include hlam hq hkc hkl hvc hvl in
/-- Row block `r` of the tile. -/
theorem block_real (r : Fin 4) (b : Fin 1) (a e : Fin 256) :
    NB c arg3 harg3 arg4 harg4 arg5 harg5 arg6 harg6 arg7 harg7 arg8 harg8 arg9 harg9 x0 x1 x2 x3 x4 x5 x6 r (ix3 b a e)
      = headNorm (fun e => (diffAttn (q ⟨256 * r.val + a.val, by omega⟩) k v lam e : EReal)) (x6 (ix2 0 e)) e := by
  unfold NB
  rw [normOf_apply, GAIN_eq]
  have ho : ∀ e, diffOf (F := Ideal) (LAM c arg3 harg3 x0)
      (OUT arg4 harg4 arg5 harg5 arg6 harg6 arg7 harg7 arg8 harg8 x1 x2 x3 x4 x5 r 0)
      (OUT arg4 harg4 arg5 harg5 arg6 harg6 arg7 harg7 arg8 harg8 x1 x2 x3 x4 x5 r 1) (ix2 a e)
        = (diffAttn (q ⟨256 * r.val + a.val, by omega⟩) k v lam e : EReal) := by
    intro e
    refine (diffOf_apply _ _ _ a e).trans ?_
    rw [out_real arg4 harg4 arg5 harg5 arg6 harg6 arg7 harg7 arg8 harg8 x1 x2 x3 x4 x5 q k v hq hkc hkl hvc hvl r 0 a e,
      out_real arg4 harg4 arg5 harg5 arg6 harg6 arg7 harg7 arg8 harg8 x1 x2 x3 x4 x5 q k v hq hkc hkl hvc hvl r 1 a e,
      LAM_eq, hlam, ← EReal.coe_mul, ← EReal.coe_sub]
    rfl
  simp only [ho]
  rfl

/-- What a tile holds. -/
def tileG : S1x1024x256.Idx → Elt Ideal .bf16 :=
  fun y => headNorm (fun e => (diffAttn (q (y 1)) k v lam e : EReal)) (x6 (ix2 0 (y 2))) (y 2)

include hlam hq hkc hkl hvc hvl in
theorem piece_real (r : Fin 4) (x : S1x256x256.Idx) (b : Fin 1) (R : Fin 1024) (e : Fin 256) (hR : R.val = 256 * r.val + 1 * (x 1).val)
    (he : e.val = 0 + 1 * (x 2).val) :
    NB c arg3 harg3 arg4 harg4 arg5 harg5 arg6 harg6 arg7 harg7 arg8 harg8 arg9 harg9 x0 x1 x2 x3 x4 x5 x6 r x
      = tileG x6 q k v lam (ix3 b R e) := by
  have hx : x = ix3 (x 0) (x 1) (x 2) := by funext a; fin_cases a <;> rfl
  rw [hx]
  refine (block_real c arg3 harg3 arg4 harg4 arg5 harg5 arg6 harg6 arg7 harg7 arg8 harg8 arg9 harg9 x0 x1 x2 x3 x4 x5 x6 q k v lam hlam hq hkc hkl
    hvc hvl r _ _ _).trans ?_
  have e1 : (⟨256 * r.val + (x 1).val, by have : (x 1).val < 256 := (x 1).isLt; omega⟩ : Fin 1024) = R := Fin.ext (by simp only [hR]; omega)
  have e2 : (x 2 : Fin 256) = e := Fin.ext (by simp only [he]; omega)
  show headNorm (fun e => (diffAttn (q ⟨256 * r.val + (x 1).val, _⟩) k v lam e : EReal)) (x6 (ix2 0 (x 2))) (x 2) = _
  rw [e1]
  exact e2 ▸ rfl

include hlam hq hkc hkl hvc hvl in
/-- The tile that the run leaves. -/
theorem tile_real (i : grid0.Coords) (arg10 : Memref sig .tc .vmem S1x1024x256 .bf16) (harg10 : arg10.IsWhole) (harg11 : arg11.IsWhole)
    (harg12 : arg12.IsWhole) (y : S1x1024x256.Idx) :
    View.canon (kernelRun0_A c i arg3 harg3 arg4 harg4 arg5 harg5 arg6 harg6 arg7 harg7 arg8 harg8 arg9 harg9 arg10 harg10 arg11 harg11 arg12 harg12
        x0 x1 x2 x3 x4 x5 x6).fst y = tileG x6 q k v lam y := by
  rw [blocks]
  have pr := piece_real c arg3 harg3 arg4 harg4 arg5 harg5 arg6 harg6 arg7 harg7 arg8 harg8 arg9 harg9 x0 x1 x2 x3 x4 x5 x6 q k v lam hlam hq hkc hkl
    hvc hvl
  refine (congrArg (fun L => View.canon L y) (List.append_nil _).symm).trans ?_
  refine View.canon_append_of_piecesOf (Val := Elt Ideal) (tileG x6 q k v lam) [] _ ?_ y ?_
  · exact ⟨fun x => pr 3 x 0 _ _ rfl rfl, fun x => pr 2 x 0 _ _ rfl rfl, fun x => pr 1 x 0 _ _ rfl rfl, fun x => pr 0 x 0 _ _ rfl rfl, trivial⟩
  · have h1 : (y 1).val < 1024 := (y 1).isLt
    have h2 : (y 2).val < 256 := (y 2).isLt
    have key : ∀ (R : ℕ) (h : ∀ a, (![0, R, 0] : Fin 3 → ℕ) a + S1x256x256.size a ≤ S1x1024x256.size a), R ≤ (y 1).val → (y 1).val < R + 256 →
        y ∈ (Rect.unit (s := S1x1024x256) ![0, R, 0] S1x256x256.size h).set := by
      intro R h ha hb
      rw [Rect.mem_set_unit]
      intro a
      fin_cases a <;> simp <;> omega
    simp only [List.mem_cons, exists_eq_or_imp, exists_eq_left, List.not_mem_nil, false_and, exists_false, or_false]
    by_cases c0 : (y 1).val < 256
    · exact .inr (.inr (.inr (key 0 _ (by omega) (by omega))))
    by_cases c1 : (y 1).val < 512
    · exact .inr (.inr (.inl (key 256 _ (by omega) (by omega))))
    by_cases c2 : (y 1).val < 768
    · exact .inr (.inl (key 512 _ (by omega) (by omega)))
    · exact .inl (key 768 _ (by omega) (by omega))

end Cert.KernelIdeal.Attn

end
-- ==== Proof.Final.lean ====
/- The kernel's result array: every element is the normalized differential attention of its query over the context and latent keys. -/
module

public import proofs.«01_k».proof.Proof.Tile
public import Idealize.ShloMosaic.Lib.Claim

@[expose] public section

set_option maxRecDepth 16384

noncomputable section

namespace Cert.Real

open Idealize.ShloMosaic

/-- A token's projected row of the latents, at a head's columns from `base` on: its queries, keys or values. -/
def latR (A : FVec Ideal ⟨3, ![8, 4096, 6144]⟩ .bf16) (base : ℕ) (hb : base ≤ 4096) (b h : Fin 8) (t : Fin 4096) (C : Fin 256) : ℝ :=
  (A (ix3 b t ⟨base + 256 * h.val + C.val, by omega⟩) : EReal).toReal

/-- The same of the context. -/
def ctxR (A : FVec Ideal ⟨3, ![8, 256, 6144]⟩ .bf16) (base : ℕ) (hb : base ≤ 4096) (b h : Fin 8) (t : Fin 256) (C : Fin 256) : ℝ :=
  (A (ix3 b t ⟨base + 256 * h.val + C.val, by omega⟩) : EReal).toReal

/-- The same of all tokens, the context first. -/
def allR (A : FVec Ideal ⟨3, ![8, 4096, 6144]⟩ .bf16) (B : FVec Ideal ⟨3, ![8, 256, 6144]⟩ .bf16) (base : ℕ) (hb : base ≤ 4096) (b h : Fin 8)
    (l : Fin 4352) (C : Fin 256) : ℝ :=
  if hl : l.val < 256 then ctxR B base hb b h ⟨l.val, hl⟩ C else latR A base hb b h ⟨l.val - 256, by omega⟩ C

/-- The attention's result for token `t` of batch `b`, column `e` of head `h`. -/
def attnAt (A : FVec Ideal ⟨3, ![8, 4096, 6144]⟩ .bf16) (B : FVec Ideal ⟨3, ![8, 256, 6144]⟩ .bf16) (lam : EReal) (g : FVec Ideal ⟨1, ![2048]⟩ .f32)
    (b h : Fin 8) (t : Fin 4096) (e : Fin 256) : EReal :=
  headNorm (fun e => (diffAttn (latR A 0 (by decide) b h t) (allR A B 2048 (by decide) b h) (allR A B 4096 (by decide) b h) lam.toReal e : EReal))
    (g (ix1 ⟨256 * h.val + e.val, by omega⟩)) e

/-- The attention's result array. -/
def attn (A : FVec Ideal ⟨3, ![8, 4096, 6144]⟩ .bf16) (B : FVec Ideal ⟨3, ![8, 256, 6144]⟩ .bf16) (lam : EReal) (g : FVec Ideal ⟨1, ![2048]⟩ .f32) :
    FVec Ideal ⟨3, ![8, 4096, 2048]⟩ .bf16 :=
  fun y => attnAt A B lam g (y 0) ⟨(y 2).val / 256, by have : (y 2).val < 2048 := (y 2).isLt; omega⟩ (y 1) ⟨(y 2).val % 256, Nat.mod_lt _ (by decide)⟩

theorem attn_ix (A : FVec Ideal ⟨3, ![8, 4096, 6144]⟩ .bf16) (B : FVec Ideal ⟨3, ![8, 256, 6144]⟩ .bf16) (lam : EReal)
    (g : FVec Ideal ⟨1, ![2048]⟩ .f32) (b h : Fin 8) (t : Fin 4096) (e : Fin 256) (C : Fin 2048) (hC : C.val = 256 * h.val + e.val) :
    attn A B lam g (ix3 b t C) = attnAt A B lam g b h t e := by
  show attnAt A B lam g b ⟨C.val / 256, _⟩ t ⟨C.val % 256, _⟩ = _
  congr 1
  · exact Fin.ext (by simp only; omega)
  · exact Fin.ext (by simp only; omega)

theorem coe_of_num {x : EReal} (h : Num x) : x = (x.toReal : EReal) := (EReal.coe_toReal h.2.ne h.1.ne').symm

/-- The projected rows and lambda that are read are numbers. -/
structure Nums (A : FVec Ideal ⟨3, ![8, 4096, 6144]⟩ .bf16) (B : FVec Ideal ⟨3, ![8, 256, 6144]⟩ .bf16) (lam : EReal) : Prop where
  lat : ∀ i, Num (A i)
  ctx : ∀ (b : Fin 8) (l : Fin 256) (C : Fin 6144), 2048 ≤ C.val → Num (B (ix3 b l C))
  lam : Num lam

theorem allR_ctx (A : FVec Ideal ⟨3, ![8, 4096, 6144]⟩ .bf16) (B : FVec Ideal ⟨3, ![8, 256, 6144]⟩ .bf16) {lam : EReal} (hn : Nums A B lam) (base : ℕ)
    (hb : base ≤ 4096) (h2 : 2048 ≤ base) (b h : Fin 8) (l C : Fin 256) :
    (B (ix3 b l ⟨base + 256 * h.val + C.val, by omega⟩) : EReal) = (allR A B base hb b h (ctxKey l) C : EReal) := by
  rw [allR, dif_pos (show (ctxKey l).val < 256 from l.isLt), ctxR]
  exact coe_of_num (hn.ctx _ _ _ (by show 2048 ≤ base + 256 * h.val + C.val; omega))

theorem allR_lat (A : FVec Ideal ⟨3, ![8, 4096, 6144]⟩ .bf16) (B : FVec Ideal ⟨3, ![8, 256, 6144]⟩ .bf16) {lam : EReal} (hn : Nums A B lam) (base : ℕ)
    (hb : base ≤ 4096) (b h : Fin 8) (l : Fin 4096) (C : Fin 256) :
    (A (ix3 b l ⟨base + 256 * h.val + C.val, by omega⟩) : EReal) = (allR A B base hb b h (latKey l) C : EReal) := by
  rw [allR, dif_neg (show ¬ (latKey l).val < 256 by simp [latKey]), latR]
  have e : (⟨(latKey l).val - 256, by simp [latKey]⟩ : Fin 4096) = l := Fin.ext (by simp [latKey])
  rw [e]
  exact coe_of_num (hn.lat _)

end Cert.Real

namespace Cert.KernelIdeal.Attn

open Idealize.ShloMosaic Idealize.ShloMosaic.TcCoe Idealize.SL.Sem
open Idealize.ShloMosaic.Pipeline (Dat)
open Cert.KernelIdeal Cert.KernelIdeal.Gen Cert.Real

variable (m : (ℓ : Loc nD τ sig) → Buf (Elt Ideal) ℓ)

/-- The blocks' places, point by point: batch, head and tile of 1024 queries. -/
theorem idx : ∀ t : Fin cfg0.N, win0_0.index t = ![0] ∧ win0_1.index t = ![t.val / 32, t.val % 4, t.val / 4 % 8]
    ∧ win0_2.index t = ![t.val / 32, 0, 8 + t.val / 4 % 8] ∧ win0_3.index t = ![t.val / 32, 0, 16 + t.val / 4 % 8]
    ∧ win0_4.index t = ![t.val / 32, 0, 8 + t.val / 4 % 8] ∧ win0_5.index t = ![t.val / 32, 0, 16 + t.val / 4 % 8]
    ∧ win0_6.index t = ![0, t.val / 4 % 8] ∧ win0_7.index t = ![t.val / 32, t.val % 4, t.val / 4 % 8] ∧ t.val < 256 :=
  (by decide +kernel : ∀ t : Fin grid0.N, _)

def bOf (t : Fin cfg0.N) : Fin 8 := ⟨t.val / 32, by have := (idx t).2.2.2.2.2.2.2.2; omega⟩
def hOf (t : Fin cfg0.N) : Fin 8 := ⟨t.val / 4 % 8, by omega⟩
def rowOf (t : Fin cfg0.N) (R : Fin 1024) : Fin 4096 := ⟨1024 * (t.val % 4) + R.val, by omega⟩

theorem lam_block (c : Dev nD) (t : Fin cfg0.N) : iblk m c 0 t (ix1 0) = m ((c : Thread nD τ).loc main_arg2) ix0 := by
  have := (idx t).2.2.2.2.2.2.2.2
  blk_simp [iblk]
  entry_read
  pointwise
  blk_ext [idx t]

theorem q_block (c : Dev nD) (t : Fin cfg0.N) (R : Fin 1024) (C : Fin 256) :
    iblk m c 1 t (ix3 0 R C) = m ((c : Thread nD τ).loc main_arg0) (ix3 (bOf t) (rowOf t R) ⟨0 + 256 * (hOf t).val + C.val, by omega⟩) := by
  blk_ext! [iblk, V, idx t, bOf, hOf, rowOf]

theorem kc_block (c : Dev nD) (t : Fin cfg0.N) (l C : Fin 256) :
    iblk m c 2 t (ix3 0 l C) = m ((c : Thread nD τ).loc main_arg1) (ix3 (bOf t) l ⟨2048 + 256 * (hOf t).val + C.val, by omega⟩) := by
  blk_ext! [iblk, V, idx t, bOf, hOf, rowOf]

theorem vc_block (c : Dev nD) (t : Fin cfg0.N) (l C : Fin 256) :
    iblk m c 3 t (ix3 0 l C) = m ((c : Thread nD τ).loc main_arg1) (ix3 (bOf t) l ⟨4096 + 256 * (hOf t).val + C.val, by omega⟩) := by
  blk_ext! [iblk, V, idx t, bOf, hOf, rowOf]

theorem kl_block (c : Dev nD) (t : Fin cfg0.N) (l : Fin 4096) (C : Fin 256) :
    iblk m c 4 t (ix3 0 l C) = m ((c : Thread nD τ).loc main_arg0) (ix3 (bOf t) l ⟨2048 + 256 * (hOf t).val + C.val, by omega⟩) := by
  blk_ext! [iblk, V, idx t, bOf, hOf, rowOf]

theorem vl_block (c : Dev nD) (t : Fin cfg0.N) (l : Fin 4096) (C : Fin 256) :
    iblk m c 5 t (ix3 0 l C) = m ((c : Thread nD τ).loc main_arg0) (ix3 (bOf t) l ⟨4096 + 256 * (hOf t).val + C.val, by omega⟩) := by
  blk_ext! [iblk, V, idx t, bOf, hOf, rowOf]

theorem g_block (c : Dev nD) (t : Fin cfg0.N) (C : Fin 256) :
    iblk m c 6 t (ix2 0 C) = m ((c : Thread nD τ).loc main_arg3) (ix1 ⟨256 * (hOf t).val + C.val, by omega⟩) := by
  blk_simp [iblk]
  entry_read
  pointwise
  blk_ext [idx t, hOf]

theorem out_place (t : Fin cfg0.N) (y : S1x1024x256.Idx) :
    ((cfg0.win 7).blk t).view.emb y = ix3 (bOf t) (rowOf t (y 1)) ⟨256 * (hOf t).val + (y 2).val, by have : (y 2).val < 256 := (y 2).isLt; omega⟩ := by
  blk_ext! [idx t, bOf, hOf, rowOf]

/-- The kernel's result array. -/
theorem final (c : Dev nD) (hn : Nums (m ((c : Thread nD τ).loc main_arg0)) (m ((c : Thread nD τ).loc main_arg1)) (m ((c : Thread nD τ).loc main_arg2) ix0)) :
    (dats m 0 c).arrAt 7 cfg0.N = attn (m ((c : Thread nD τ).loc main_arg0)) (m ((c : Thread nD τ).loc main_arg1))
      (m ((c : Thread nD τ).loc main_arg2) ix0) (m ((c : Thread nD τ).loc main_arg3)) := by
  refine (dats m 0 c).arrAt_eq_of_covers 7 _ (by decide +kernel) fun t _ y => ?_
  blk_simp
  rw [after0_7, out_place, attn_ix _ _ _ _ _ (hOf t) _ (y 2) _ rfl]
  unfold outsAt0 out0_A_7
  rw [View.read_writes_junk_eq_canon]
  refine (tile_real c _ _ _ _ _ _ _ _ _ _ _ _ _ _ _ _ (iblk m c 0 t) (iblk m c 1 t) (iblk m c 2 t) (iblk m c 3 t) (iblk m c 4 t) (iblk m c 5 t) (iblk m c 6 t)
    (fun R => latR (m ((c : Thread nD τ).loc main_arg0)) 0 (by decide) (bOf t) (hOf t) (rowOf t R))
    (allR (m ((c : Thread nD τ).loc main_arg0)) (m ((c : Thread nD τ).loc main_arg1)) 2048 (by decide) (bOf t) (hOf t))
    (allR (m ((c : Thread nD τ).loc main_arg0)) (m ((c : Thread nD τ).loc main_arg1)) 4096 (by decide) (bOf t) (hOf t))
    (EReal.toReal (m ((c : Thread nD τ).loc main_arg2) ix0))
    ((lam_block m c t).trans (coe_of_num hn.lam)) (fun R C => (q_block m c t R C).trans (coe_of_num (hn.lat _)))
    (fun l C => (kc_block m c t l C).trans (allR_ctx _ _ hn _ _ (by decide) _ _ _ _))
    (fun l C => (kl_block m c t l C).trans (allR_lat _ _ hn _ _ _ _ _ _))
    (fun l C => (vc_block m c t l C).trans (allR_ctx _ _ hn _ _ (by decide) _ _ _ _))
    (fun l C => (vl_block m c t l C).trans (allR_lat _ _ hn _ _ _ _ _ _)) _ _ _ _ _ y).trans ?_
  unfold tileG attnAt
  exact congrArg (fun z => headNorm _ z _) (g_block m c t (y 2))

end Cert.KernelIdeal.Attn

end
-- ==== Proof.Ref.lean ====
/- The reference's value: the softmax of its scores times ln 2 weighs the values as the powers of two of the scores do. -/
module

public import proofs.«01_k».proof.Proof.Final
public import proofs.«01_k».proof.Proof.Gen.ReferenceIdeal.Read

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Real Cert.ReferenceIdeal.Read

variable (A : FVec Ideal S8x4096x6144 .bf16) (B : FVec Ideal S8x256x6144 .bf16) (lam : FVec Ideal S_ .f32) (g : FVec Ideal S2048 .f32)

theorem two_bits : Ideal.ofBits .f32 0x40000000#32 = ((2 : ℝ) : EReal) := by
  simp [Ideal.ofBits, Ideal.ieee]
  rw [← EReal.coe_mul]
  norm_num

theorem zero_bits : Ideal.ofBits .f32 0x00000000#32 = 0 := by
  simp [Ideal.ofBits, Ideal.ieee]

/-! ## The arguments, head by head -/

theorem v5_ix (i : Fin 2) (b h : Fin 8) (t : Fin 4096) (d : Fin 128) :
    val_main_v5 (F := Ideal) A (ix5 i b h t d) = A (ix3 b t ⟨0 + 256 * h.val + (halfCol i d).val, by omega⟩) := by
  pointwise [val_main_v5, val_main_v4, val_main_v1, val_main_v0]
  exact congrArg (fun C => A (ix3 b t C)) (Fin.ext (by simp only [halfCol]; omega))

theorem v7_ix (i : Fin 2) (b h : Fin 8) (t : Fin 4096) (d : Fin 128) :
    val_main_v7 (F := Ideal) A (ix5 i b h t d) = A (ix3 b t ⟨2048 + 256 * h.val + (halfCol i d).val, by omega⟩) := by
  pointwise [val_main_v7, val_main_v6, val_main_v2, val_main_v0]
  exact congrArg (fun C => A (ix3 b t C)) (Fin.ext (by simp only [halfCol]; omega))

theorem v9_ix (b h : Fin 8) (t : Fin 4096) (e : Fin 256) :
    val_main_v9 (F := Ideal) A (ix4 b h t e) = A (ix3 b t ⟨4096 + 256 * h.val + e.val, by omega⟩) := by
  pointwise [val_main_v9, val_main_v8, val_main_v3, val_main_v0]
  exact congrArg (fun C => A (ix3 b t C)) (Fin.ext (by simp only; omega))

theorem v17_ix (i : Fin 2) (b h : Fin 8) (t : Fin 256) (d : Fin 128) :
    val_main_v17 (F := Ideal) B (ix5 i b h t d) = B (ix3 b t ⟨2048 + 256 * h.val + (halfCol i d).val, by omega⟩) := by
  pointwise [val_main_v17, val_main_v16, val_main_v12, val_main_v10]
  exact congrArg (fun C => B (ix3 b t C)) (Fin.ext (by simp only [halfCol]; omega))

theorem v19_ix (b h : Fin 8) (t : Fin 256) (e : Fin 256) :
    val_main_v19 (F := Ideal) B (ix4 b h t e) = B (ix3 b t ⟨4096 + 256 * h.val + e.val, by omega⟩) := by
  pointwise [val_main_v19, val_main_v18, val_main_v13, val_main_v10]
  exact congrArg (fun C => B (ix3 b t C)) (Fin.ext (by simp only; omega))

theorem cat20 (x : FVec Ideal S2x8x8x256x128 .f32) (y : FVec Ideal S2x8x8x4096x128 .f32) (i : Fin 2) (b h : Fin 8) (l : Fin 4352) (d : Fin 128) :
    concatenate S2x8x8x4352x128 3 [⟨S2x8x8x256x128, x⟩, ⟨S2x8x8x4096x128, y⟩] concatenates_S2x8x8x256x128_S2x8x8x4096x128_S2x8x8x4352x128_d3
        (ix5 i b h l d)
      = if hl : l.val < 256 then x (ix5 i b h ⟨l.val, hl⟩ d) else y (ix5 i b h ⟨l.val - 256, by omega⟩ d) := by
  pointwise

theorem cat21 (x : FVec Ideal S8x8x256x256 .f32) (y : FVec Ideal S8x8x4096x256 .f32) (b h : Fin 8) (l : Fin 4352) (e : Fin 256) :
    concatenate S8x8x4352x256 2 [⟨S8x8x256x256, x⟩, ⟨S8x8x4096x256, y⟩] concatenates_S8x8x256x256_S8x8x4096x256_S8x8x4352x256_d2 (ix4 b h l e)
      = if hl : l.val < 256 then x (ix4 b h ⟨l.val, hl⟩ e) else y (ix4 b h ⟨l.val - 256, by omega⟩ e) := by
  pointwise

theorem max26 (x : FVec Ideal S2x8x8x4096x4352 .f32) (y : FVec Ideal S_ .f32) (i : Fin 2) (b h : Fin 8) (t : Fin 4096) :
    Host.reduce FloatOps.maximumf x y reducesTo_S2x8x8x4096x4352_S2x8x8x4096_d4 h_S_ (ix4 i b h t)
      = Finset.fold max (y (Shape.Idx.first h_S_)) (fun l : Fin 4352 => x (ix5 i b h t l)) Finset.univ := by
  pointwise

theorem cast38 (x : FVec Ideal S1x8x8x4096x4352 .f32) (b h : Fin 8) (t : Fin 4096) (l : Fin 4352) :
    shapeCast S8x8x4096x4352 x shapeCasts_S1x8x8x4096x4352_S8x8x4096x4352 (ix4 b h t l) = x (ix5 0 b h t l) := by
  pointwise

theorem cast45 (b h : Fin 8) (t : Fin 4096) (e : Fin 256) :
    val_main_v57 (F := Ideal) g (ix4 b h t e) = g (ix1 ⟨256 * h.val + e.val, by omega⟩) := by
  pointwise [val_main_v57, val_main_v56, val_main_v45]
  exact congrArg (fun C => g (ix1 C)) (Fin.ext (by simp only; omega))

theorem cast62 (x : FVec Ideal S8x8x4096x256 .f32) (b : Fin 8) (t : Fin 4096) (C : Fin 2048) :
    shapeCast S8x4096x2048 (transpose S8x4096x8x256 [0, 2, 1, 3] x transposes_S8x8x4096x256_S8x4096x8x256_0_2_1_3)
        shapeCasts_S8x4096x8x256_S8x4096x2048 (ix3 b t C)
      = x (ix4 b ⟨C.val / 256, by omega⟩ t ⟨C.val % 256, by omega⟩) := by
  pointwise

/-! ## The softmax -/

variable (hn : Nums A B (lam ix0))

include hn in
theorem key_real (i : Fin 2) (b h : Fin 8) (l : Fin 4352) (d : Fin 128) :
    val_main_v20 (F := Ideal) A B (ix5 i b h l d) = (allR A B 2048 (by decide) b h l (halfCol i d) : EReal) := by
  refine (cat20 _ _ i b h l d).trans ?_
  unfold allR
  split
  · exact (v17_ix B i b h _ d).trans (coe_of_num (hn.ctx _ _ _ (by show 2048 ≤ 2048 + 256 * h.val + (halfCol i d).val; omega)))
  · exact (v7_ix A i b h _ d).trans (coe_of_num (hn.lat _))

include hn in
theorem value_real (b h : Fin 8) (l : Fin 4352) (e : Fin 256) :
    val_main_v21 (F := Ideal) A B (ix4 b h l e) = (allR A B 4096 (by decide) b h l e : EReal) := by
  refine (cat21 _ _ b h l e).trans ?_
  unfold allR
  split
  · exact (v19_ix B b h _ e).trans (coe_of_num (hn.ctx _ _ _ (by show 2048 ≤ 4096 + 256 * h.val + e.val; omega)))
  · exact (v9_ix A b h _ e).trans (coe_of_num (hn.lat _))

/-- The score of token `t` against key `l`. -/
def scoreR (i : Fin 2) (b h : Fin 8) (t : Fin 4096) (l : Fin 4352) : ℝ :=
  dotHalf i (latR A 0 (by decide) b h t) (allR A B 2048 (by decide) b h l)

include hn in
theorem score_real (i : Fin 2) (b h : Fin 8) (t : Fin 4096) (l : Fin 4352) :
    val_main_v22 (F := Ideal) A B (ix5 i b h t l) = (scoreR A B i b h t l : EReal) := by
  have e1 : ∀ k, lidx_main_v22 (ix5 i b h t l) k = ix5 i b h t k := fun k => funext fun a => by fin_cases a <;> rfl
  have e2 : ∀ k, ridx_main_v22 (ix5 i b h t l) k = ix5 i b h l k := fun k => funext fun a => by fin_cases a <;> rfl
  rw [val_main_v22_apply]
  refine Cert.KernelIdeal.Attn.sum_real _ _ (fun d => latR A 0 (by decide) b h t (halfCol i d))
    (fun d => allR A B 2048 (by decide) b h l (halfCol i d)) (fun d => ?_) fun d => ?_
  · rw [e1]
    exact (v5_ix A i b h t d).trans (coe_of_num (hn.lat _))
  · rw [e2]
    exact key_real A B lam hn i b h l d

theorem log_two (x : S2x8x8x4096x4352.Idx) : val_main_v24 (F := Ideal) x = (Real.log 2 : EReal) := by
  rw [val_main_v24_apply, val_main_v23_apply, val_main_cst_apply]
  show Ideal.log (Ideal.ofBits .f32 0x40000000#32) = _
  rw [two_bits, Ideal.log_coe, if_neg (by norm_num)]

include hn in
theorem logit_real (i : Fin 2) (b h : Fin 8) (t : Fin 4096) (l : Fin 4352) :
    val_main_v25 (F := Ideal) A B (ix5 i b h t l) = (scoreR A B i b h t l * Real.log 2 : ℝ) := by
  rw [val_main_v25_apply, score_real A B lam hn, log_two]
  exact (EReal.coe_mul _ _).symm

include hn in
theorem max_real (i : Fin 2) (b h : Fin 8) (t : Fin 4096) : ∃ m : ℝ, val_main_v28 (F := Ideal) A B (ix4 i b h t) = (m : EReal) := by
  have hf : Num (val_main_v26 (F := Ideal) A B (ix4 i b h t)) := by
    unfold val_main_v26
    rw [max26]
    exact Num.fold _ (fun l => by rw [logit_real A B lam hn]; exact Num.coe _) _ negInf_lt
  rw [val_main_v28_apply, val_main_v27_apply, val_main_cst_1_apply]
  refine Num.eq (x := max (Ideal.ofBits .f32 0xFF800000#32) (val_main_v26 (F := Ideal) A B (ix4 i b h t))) ?_
  exact ⟨lt_max_of_lt_right hf.1, max_lt negInf_lt hf.2⟩

theorem max_spread (i : Fin 2) (b h : Fin 8) (t : Fin 4096) (l : Fin 4352) :
    val_main_v30 (F := Ideal) A B (ix5 i b h t l) = val_main_v28 (F := Ideal) A B (ix4 i b h t) := by
  rw [val_main_v30_apply, val_main_v29_apply]
  exact congrArg (val_main_v28 (F := Ideal) A B) (funext fun a => by fin_cases a <;> rfl)

theorem sum_spread (i : Fin 2) (b h : Fin 8) (t : Fin 4096) (l : Fin 4352) :
    val_main_v35 (F := Ideal) A B (ix5 i b h t l) = ∑ k : Fin 4352, val_main_v32 (F := Ideal) A B (ix5 i b h t k) := by
  have e : ∀ k, idx_main_v33 (idx_main_v34 (idx_main_v35 (ix5 i b h t l))) k = ix5 i b h t k := fun k => funext fun a => by fin_cases a <;> rfl
  rw [val_main_v35_apply, val_main_v34_apply, val_main_v33_apply, val_main_cst_2_apply]
  refine (congrArg (· + _) zero_bits).trans ((zero_add _).trans (Finset.sum_congr rfl fun k _ => ?_))
  rw [e]

include hn in
/-- The reference's weights: two to the score over the sum of those powers, in one common scale. -/
theorem weight_real (i : Fin 2) (b h : Fin 8) (t : Fin 4096) : ∃ (E : Fin 4352 → ℝ) (s : ℝ), s ≠ 0 ∧ (∀ l, E l = (2 : ℝ) ^ scoreR A B i b h t l * s)
    ∧ ∀ l, val_main_v36 (F := Ideal) A B (ix5 i b h t l) = (E l / ∑ k, E k : ℝ) := by
  obtain ⟨m, hm⟩ := max_real A B lam hn i b h t
  have hE : ∀ l, Real.exp (scoreR A B i b h t l * Real.log 2 - m) = (2 : ℝ) ^ scoreR A B i b h t l * Real.exp (-m) := by
    intro l
    rw [sub_eq_add_neg, Real.exp_add, Real.rpow_def_of_pos two_pos, mul_comm (Real.log 2)]
  have hx : ∀ l, val_main_v32 (F := Ideal) A B (ix5 i b h t l) = (Real.exp (scoreR A B i b h t l * Real.log 2 - m) : EReal) := by
    intro l
    rw [val_main_v32_apply, val_main_v31_apply, max_spread, hm, logit_real A B lam hn]
    refine (congrArg Ideal.exp (EReal.coe_sub _ _).symm).trans (Ideal.exp_coe _)
  refine ⟨_, Real.exp (-m), (Real.exp_pos _).ne', hE, fun l => ?_⟩
  rw [val_main_v36_apply, sum_spread, hx, Finset.sum_congr rfl fun k _ => hx k, ← coe_sum]
  exact div_real _ _ (scaled_sum_ne _ _ _ (Real.exp_pos _).ne' hE)

/-! ## The difference and the normalization -/

theorem weight_fst (b h : Fin 8) (t : Fin 4096) (l : Fin 4352) :
    val_main_v38 (F := Ideal) A B (ix4 b h t l) = val_main_v36 (F := Ideal) A B (ix5 0 b h t l) := by
  have e : idx_main_v37 (ix5 0 b h t l) = ix5 0 b h t l := funext fun a => by fin_cases a <;> rfl
  unfold val_main_v38
  rw [cast38, val_main_v37_apply, e]

theorem weight_snd (b h : Fin 8) (t : Fin 4096) (l : Fin 4352) :
    val_main_v40 (F := Ideal) A B (ix4 b h t l) = val_main_v36 (F := Ideal) A B (ix5 1 b h t l) := by
  have e : idx_main_v39 (ix5 0 b h t l) = ix5 1 b h t l := funext fun a => by fin_cases a <;> rfl
  unfold val_main_v40
  rw [cast38, val_main_v39_apply, e]

include hn in
theorem attn_real (b h : Fin 8) (t : Fin 4096) (e : Fin 256) :
    val_main_v44 (F := Ideal) A B lam (ix4 b h t e)
      = (diffAttn (latR A 0 (by decide) b h t) (allR A B 2048 (by decide) b h) (allR A B 4096 (by decide) b h) (EReal.toReal (lam ix0)) e : EReal) := by
  obtain ⟨E, s, hs, hE, hw⟩ := weight_real A B lam hn 0 b h t
  obtain ⟨E', s', hs', hE', hw'⟩ := weight_real A B lam hn 1 b h t
  have e1 : ∀ k, lidx_main_v44 (ix4 b h t e) k = ix4 b h t k := fun k => funext fun a => by fin_cases a <;> rfl
  have e2 : ∀ k, ridx_main_v44 (ix4 b h t e) k = ix4 b h k e := fun k => funext fun a => by fin_cases a <;> rfl
  have hd : ∀ l, val_main_v43 (F := Ideal) A B lam (ix4 b h t l)
      = ((E l / ∑ k, E k) - EReal.toReal (lam ix0) * (E' l / ∑ k, E' k) : ℝ) := by
    intro l
    rw [val_main_v43_apply, val_main_v42_apply, weight_fst, weight_snd, hw, hw', val_main_v41_apply]
    rw [EReal.coe_sub, EReal.coe_mul]
    refine congrArg (fun z : EReal => _ - z * _) ?_
    exact (congrArg lam (funext fun a => a.elim0)).trans (coe_of_num hn.lam)
  rw [val_main_v44_apply]
  refine (Cert.KernelIdeal.Attn.sum_real _ _ _ (fun l => allR A B 4096 (by decide) b h l e) (fun l => (congrArg _ (e1 l)).trans (hd l)) fun l =>
    (congrArg _ (e2 l)).trans (value_real A B lam hn b h l e)).trans ?_
  refine congrArg _ ?_
  have s0 := soft_scaled (scoreR A B 0 b h t) (fun l => allR A B 4096 (by decide) b h l e) E s hs hE
  have s1 := soft_scaled (scoreR A B 1 b h t) (fun l => allR A B 4096 (by decide) b h l e) E' s' hs' hE'
  show _ = soft (scoreR A B 0 b h t) _ - _ * soft (scoreR A B 1 b h t) _
  rw [← s0, ← s1, Finset.sum_div, Finset.sum_div, Finset.mul_sum, ← Finset.sum_sub_distrib]
  exact Finset.sum_congr rfl fun l _ => by ring

theorem mul_def (x y : Ideal .f32) : FloatOps.mulf x y = ((x : EReal) * (y : EReal) : EReal) := rfl

theorem bits_def (x : BitVec 32) : (FloatOps.ofBits .f32 x : Ideal .f32) = Ideal.ofBits .f32 x := rfl

theorem norm_def (x y z : Ideal .f32) : FloatOps.hostUnary .rsqrt (FloatOps.addf (FloatOps.hostDivf x y) z) = Ideal.rsqrt (Ideal.div x y + z) := rfl

theorem mean_spread (b h : Fin 8) (t : Fin 4096) (e : Fin 256) :
    val_main_v54 (F := Ideal) A B lam (ix4 b h t e)
      = Ideal.rsqrt (Ideal.div (∑ x : Fin 256, val_main_v44 (F := Ideal) A B lam (ix4 b h t x) * val_main_v44 (F := Ideal) A B lam (ix4 b h t x))
          (Ideal.ofBits .f32 0x43800000#32) + Ideal.ofBits .f32 0x358637BD#32) := by
  have e1 : ∀ k, idx_main_v47 (idx_main_v48 (idx_main_v54 (ix4 b h t e))) k = ix4 b h t k := fun k => funext fun a => by fin_cases a <;> rfl
  have h47 : val_main_v47 (F := Ideal) A B lam (idx_main_v48 (idx_main_v54 (ix4 b h t e)))
      = ∑ x : Fin 256, val_main_v44 (F := Ideal) A B lam (ix4 b h t x) * val_main_v44 (F := Ideal) A B lam (ix4 b h t x) := by
    rw [val_main_v47_apply, val_main_cst_3_apply]
    refine (congrArg (· + _) zero_bits).trans ((zero_add _).trans (Finset.sum_congr rfl fun k _ => ?_))
    rw [e1, val_main_v46_apply, mul_def]
  rw [val_main_v54_apply, val_main_v53_apply, val_main_v52_apply, val_main_v50_apply, val_main_v48_apply, h47, val_main_v49_apply,
    val_main_v51_apply, val_main_cst_4_apply, val_main_cst_5_apply, norm_def, bits_def, bits_def]

include hn in
/-- The reference's result is the attention. -/
theorem ref_value : val_main_v63 (F := Ideal) A B lam g = attn A B (lam ix0) g := by
  funext y
  obtain ⟨b, t, C, rfl⟩ : ∃ b t C, y = ix3 b t C := ⟨y 0, y 1, y 2, funext fun a => by fin_cases a <;> rfl⟩
  refine ((cast62 (val_main_v60 (F := Ideal) A B lam g) b t C).trans ?_).trans
    (attn_ix A B (lam ix0) g b ⟨C.val / 256, by omega⟩ t ⟨C.val % 256, by omega⟩ C (by simp only; omega)).symm
  rw [val_main_v60_apply, val_main_v58_apply, val_main_v55_apply, mean_spread, cast45, val_main_v59_apply, val_main_cst_6_apply, mul_def, mul_def, mul_def, bits_def]
  simp only [attn_real A B lam hn]
  unfold attnAt headNorm
  with_reducible rfl

end Cert.ReferenceIdeal.Attn

end
-- ==== Proof.Pre.lean ====
/- What the precondition says: the latents' projections, the context's keys and values and the factor lambda are
   real numbers. -/
module

public import proofs.«01_k».proof.Proof.Final
public import proofs.«01_k».proof.Proof.Gen.Pre_finite
public import proofs.«01_k».proof.Defs

@[expose] public section

noncomputable section

namespace Cert.Pre_finite.Attn

open Idealize.ShloMosaic Cert.Pre_finite Cert.Pre_finite.Facts Cert.Real

/-- A value whose absolute value is below the format's infinity is a real number. -/
theorem num_of_abs (x z : EReal) (hz : z = ⊤) (h : Ideal.cmp .olt (max x (-x)) z = 1#1) : Num x := by
  subst hz
  unfold Ideal.cmp at h
  by_cases hx : max x (-x) < ⊤
  · rw [max_lt_iff] at hx
    refine ⟨?_, hx.1⟩
    rw [bot_lt_iff_ne_bot]
    rintro rfl
    simp at hx
  · simp [hx] at h

theorem top_bf16 : Ideal.ofBits .bf16 0x7F80#16 = ⊤ := by simp [Ideal.ofBits, Ideal.ieee]

theorem top_f32 : Ideal.ofBits .f32 0x7F800000#32 = ⊤ := by simp [Ideal.ofBits, Ideal.ieee]

/-- The entry `C ≥ 2048` of the context's projection, in the slice that the precondition reads. -/
theorem slice_ix (B : FVec Ideal S8x256x6144 .bf16) (b : Fin 8) (l : Fin 256) (C : Fin 6144) (hC : 2048 ≤ C.val) :
    extractStridedSlice S8x256x4096 ![0, 0, 2048] B slices_S8x256x6144_S8x256x4096_0_0_2048 (ix3 b l ⟨C.val - 2048, by omega⟩) = B (ix3 b l C) := by
  pointwise
  exact congrArg (fun D => B (ix3 b l D)) (Fin.ext (by simp only; omega))

theorem nums (A : FVec Ideal S8x4096x6144 .bf16) (B : FVec Ideal S8x256x6144 .bf16) (lam : FVec Ideal S_ .f32) (g : FVec Ideal S2048 .f32)
    (h0 : (fn (F := Ideal) A B lam g).1 = fun _ => 1#1) (h1 : (fn (F := Ideal) A B lam g).2.1 = fun _ => 1#1)
    (h2 : (fn (F := Ideal) A B lam g).2.2 = fun _ => 1#1) : Nums A B (lam ix0) where
  lat i := num_of_abs _ _ top_bf16 (congrFun h0 i)
  ctx b l C hC := slice_ix B b l C hC ▸ num_of_abs _ _ top_bf16 (congrFun h1 (ix3 b l ⟨C.val - 2048, by omega⟩))
  lam := num_of_abs _ _ top_f32 (congrFun h2 ix0)

end Cert.Pre_finite.Attn

end
-- ==== Proof.In.lean ====
/- The input projection of an even layer: the call's result, and the reference's, are the same sums. -/
module

public import proofs.«01_k».proof.Proof.Gen.Kernel3Ideal.Value
public import proofs.«01_k».proof.Proof.Gen.Reference3Ideal.Read
public import Idealize.ShloMosaic.Lib.Claim
public import Idealize.ShloMosaic.Lib.Pointwise
public import Idealize.ShloMosaic.Lib.Pipeline.ValueKit
public import Idealize.ShloMosaic.Lib.Pipeline.CanonAppend
public import Idealize.ShloMosaic.Lib.Pipeline.ReadBack

@[expose] public section

set_option maxRecDepth 16384

noncomputable section

namespace Cert.Real

open Idealize.ShloMosaic

/-- The column of the weights that column `C` of the result comes from: the 16 columns of the gates are left out. -/
def inCol (C : Fin 5120) : Fin 5136 := ⟨if C.val < 4096 then C.val else C.val + 16, by split <;> omega⟩

/-- The input projection of row `r` (a token of a batch), at column `C`. -/
def inAt (A : FVec Ideal ⟨3, ![8, 4096, 2048]⟩ .bf16) (W : FVec Ideal ⟨2, ![2048, 5136]⟩ .f32) (r : Fin 32768) (C : Fin 5120) : EReal :=
  ∑ k : Fin 2048, A (ix3 ⟨r.val / 4096, by omega⟩ ⟨r.val % 4096, by omega⟩ k) * W (ix2 k (inCol C))

def inProj (A : FVec Ideal ⟨3, ![8, 4096, 2048]⟩ .bf16) (W : FVec Ideal ⟨2, ![2048, 5136]⟩ .f32) : FVec Ideal ⟨2, ![32768, 5120]⟩ .f32 :=
  fun y => inAt A W (y 0) (y 1)

end Cert.Real

namespace Cert.Kernel3Ideal.In

open Idealize.ShloMosaic Idealize.ShloMosaic.TcCoe Idealize.SL.Sem
open Cert.Kernel3Ideal Cert.Kernel3Ideal.Gen Cert.Real

variable (m : (ℓ : Loc nD τ sig) → Buf (Elt Ideal) ℓ)

theorem idx : ∀ t : Fin cfg0.N, win0_0.index t = ![t.val / 5, 0] ∧ win0_1.index t = ![0, t.val % 5] ∧ win0_2.index t = ![t.val / 5, t.val % 5]
    ∧ t.val < 160 := (by decide +kernel : ∀ t : Fin grid0.N, _)

def rowOf (t : Fin cfg0.N) (R : Fin 1024) : Fin 32768 := ⟨1024 * (t.val / 5) + R.val, by have := (idx t).2.2.2; omega⟩
def colOf (t : Fin cfg0.N) (C : Fin 1024) : Fin 5120 := ⟨1024 * (t.val % 5) + C.val, by omega⟩

theorem a_block (c : Dev nD) (t : Fin cfg0.N) (R : Fin 1024) (k : Fin 2048) :
    iblk m c 0 t (ix2 R k) = m ((c : Thread nD τ).loc main_arg0) (ix3 ⟨(rowOf t R).val / 4096, by omega⟩ ⟨(rowOf t R).val % 4096, by omega⟩ k) := by
  blk_simp [iblk]
  entry_read
  pointwise
  blk_ext [idx t, rowOf]

theorem concat_ix (x : FVec Ideal S2048x4096 .f32) (y : FVec Ideal S2048x1024 .f32) (k : Fin 2048) (C : Fin 5120) :
    concatenate S2048x5120 1 [⟨S2048x4096, x⟩, ⟨S2048x1024, y⟩] concatenates_S2048x4096_S2048x1024_S2048x5120_d1 (ix2 k C)
      = if h : C.val < 4096 then x (ix2 k ⟨C.val, h⟩) else y (ix2 k ⟨C.val - 4096, by omega⟩) := by
  pointwise

theorem left_ix (x : FVec Ideal S2048x5136 .f32) (k : Fin 2048) (C : Fin 4096) :
    extractStridedSlice S2048x4096 ![0, 0] x slices_S2048x5136_S2048x4096_0_0 (ix2 k C) = x (ix2 k ⟨C.val, by omega⟩) := by
  pointwise
  blk_ext []

theorem right_ix (x : FVec Ideal S2048x5136 .f32) (k : Fin 2048) (C : Fin 1024) :
    extractStridedSlice S2048x1024 ![0, 4112] x slices_S2048x5136_S2048x1024_0_4112 (ix2 k C) = x (ix2 k ⟨4112 + C.val, by omega⟩) := by
  pointwise

/-- The selection of the columns, at an element. -/
theorem main_ix (x : FVec Ideal S2048x5136 .f32) (k : Fin 2048) (C : Fin 5120) :
    concatenate S2048x5120 1 [⟨S2048x4096, extractStridedSlice S2048x4096 ![0, 0] x slices_S2048x5136_S2048x4096_0_0⟩,
        ⟨S2048x1024, extractStridedSlice S2048x1024 ![0, 4112] x slices_S2048x5136_S2048x1024_0_4112⟩]
      concatenates_S2048x4096_S2048x1024_S2048x5120_d1 (ix2 k C) = x (ix2 k (inCol C)) := by
  rw [concat_ix]
  split
  · next h =>
    rw [left_ix]
    exact congrArg (fun j => x (ix2 k j)) (Fin.ext (by show _ = if _ then _ else _; rw [if_pos h]))
  · next h =>
    rw [right_ix]
    exact congrArg (fun j => x (ix2 k j)) (Fin.ext (by
      show 4112 + (C.val - 4096) = if _ then _ else _
      rw [if_neg h]
      omega))

theorem w_block (c : Dev nD) (t : Fin cfg0.N) (k : Fin 2048) (C : Fin 1024) :
    iblk m c 1 t (ix2 k C) = m ((c : Thread nD τ).loc main_arg1) (ix2 k (inCol (colOf t C))) := by
  have e : ((cfg0.win 1).blk t).view.emb (ix2 k C) = ix2 k (colOf t C) := by blk_ext! [idx t, colOf]
  blk_simp [iblk]
  rw [e]
  entry_read
  exact main_ix _ k (colOf t C)

theorem pay (v0 : FVec Ideal S1024x2048 .bf16) (v2 : FVec Ideal S2048x1024 .bf16) (R C : Fin 1024) :
    (k0_pay1 (F := Ideal) v0 v2 (ix2 R C) : EReal) = ∑ k : Fin 2048, (v0 (ix2 R k) : EReal) * (v2 (ix2 k C) : EReal) := by
  pointwise [k0_pay1]

theorem final (c : Dev nD) :
    (dats m 0 c).arrAt 2 cfg0.N = inProj (m ((c : Thread nD τ).loc main_arg0)) (m ((c : Thread nD τ).loc main_arg1)) := by
  refine (dats m 0 c).arrAt_eq_of_covers 2 _ (by decide +kernel) fun t hf y => ?_
  obtain ⟨R, C, rfl⟩ : ∃ (R : Fin 1024) (C : Fin 1024), y = ix2 R C := ⟨y 0, y 1, funext fun a => by fin_cases a <;> rfl⟩
  have e : ((cfg0.win 2).blk t).view.emb (ix2 R C) = ix2 (rowOf t R) (colOf t C) := by blk_ext! [idx t, colOf, rowOf]
  rw [e]
  blk_simp
  rw [after0_2]
  frame_out
  refine (pay _ _ _ _).trans ?_
  show _ = inAt _ _ (rowOf t R) (colOf t C)
  unfold inAt
  refine Finset.sum_congr rfl fun k _ => ?_
  rw [a_block, w_block]

end Cert.Kernel3Ideal.In

namespace Cert.Reference3Ideal.In

open Idealize.ShloMosaic Idealize.ShloMosaic.TcCoe Idealize.SL.Sem
open Cert.Reference3Ideal Cert.Reference3Ideal.Gen Cert.Real Cert.Reference3Ideal.Read

variable (A : FVec Ideal S8x4096x2048 .bf16) (W : FVec Ideal S2048x5136 .f32)

theorem concat_ix (x : FVec Ideal S32768x4096 .f32) (y : FVec Ideal S32768x1024 .f32) (r : Fin 32768) (C : Fin 5120) :
    concatenate S32768x5120 1 [⟨S32768x4096, x⟩, ⟨S32768x1024, y⟩] concatenates_S32768x4096_S32768x1024_S32768x5120_d1 (ix2 r C)
      = if h : C.val < 4096 then x (ix2 r ⟨C.val, h⟩) else y (ix2 r ⟨C.val - 4096, by omega⟩) := by
  pointwise

theorem v2_ix (r : Fin 32768) (C : Fin 5136) :
    val_main_v2 (F := Ideal) A W (ix2 r C) = ∑ k : Fin 2048, A (ix3 ⟨r.val / 4096, by omega⟩ ⟨r.val % 4096, by omega⟩ k) * W (ix2 k C) := by
  have e : idx_main_v2 (ix2 r C) = ix3 ⟨r.val / 4096, by omega⟩ ⟨r.val % 4096, by omega⟩ C := by
    funext a
    fin_cases a <;> apply Fin.ext
    · show (r.val * 5136 + C.val) / 21037056 = r.val / 4096
      omega
    · show (r.val * 5136 + C.val) / 5136 % 4096 = r.val % 4096
      omega
    · show (r.val * 5136 + C.val) % 5136 = C.val
      omega
  rw [val_main_v2_apply, e, val_main_v1_apply]
  refine Finset.sum_congr rfl fun k _ => ?_
  congr 1
  · rw [val_main_v0_apply]
    refine congrArg A (funext fun a => by fin_cases a <;> rfl)
  · refine congrArg W (funext fun a => by fin_cases a <;> rfl)

theorem value : val_main_v5 (F := Ideal) A W = inProj A W := by
  funext y
  obtain ⟨r, C, rfl⟩ : ∃ (r : Fin 32768) (C : Fin 5120), y = ix2 r C := ⟨y 0, y 1, funext fun a => by fin_cases a <;> rfl⟩
  show _ = inAt A W r C
  unfold val_main_v5
  rw [concat_ix]
  split
  · next h =>
    have e : idx_main_v3 (ix2 r ⟨C.val, h⟩) = ix2 r (inCol C) := by
      funext a
      fin_cases a <;> apply Fin.ext
      · rfl
      · simp [inCol, h]
    rw [val_main_v3_apply, e, v2_ix]
    rfl
  · next h =>
    have e : idx_main_v4 (ix2 r ⟨C.val - 4096, by omega⟩) = ix2 r (inCol C) := by
      have e' : inCol C = ⟨4112 + (C.val - 4096), by omega⟩ := Fin.ext (by
        show (if C.val < 4096 then C.val else C.val + 16) = 4112 + (C.val - 4096)
        rw [if_neg h]
        omega)
      rw [e']
      refine funext fun a => ?_
      match a with
      | ⟨0, _⟩ => rfl
      | ⟨1, _⟩ => rfl
    rw [val_main_v4_apply, e, v2_ix]
    rfl

end Cert.Reference3Ideal.In

end
-- ==== Proof.Out.lean ====
/- The output projection with its residual: the call's result, and the reference's, are the same sums. -/
module

public import proofs.«01_k».proof.Proof.Gen.Kernel4Ideal.Value
public import proofs.«01_k».proof.Proof.Gen.Reference4Ideal.Read
public import Idealize.ShloMosaic.Lib.Claim
public import Idealize.ShloMosaic.Lib.Pointwise
public import Idealize.ShloMosaic.Lib.Pipeline.ValueKit
public import Idealize.ShloMosaic.Lib.Pipeline.CanonAppend
public import Idealize.ShloMosaic.Lib.Pipeline.ReadBack

@[expose] public section

set_option maxRecDepth 16384

noncomputable section

namespace Cert.Real

open Idealize.ShloMosaic

/-- The batch and the token of row `r`. -/
def bat (r : Fin 32768) : Fin 8 := ⟨r.val / 4096, by omega⟩
def tok (r : Fin 32768) : Fin 4096 := ⟨r.val % 4096, by omega⟩

/-- The residual plus the gate times the projection, at row `r` and column `C`. -/
def outAt (A : FVec Ideal ⟨3, ![8, 4096, 2048]⟩ .bf16) (W : FVec Ideal ⟨2, ![2048, 2048]⟩ .f32) (X : FVec Ideal ⟨3, ![8, 4096, 2048]⟩ .f32)
    (G : FVec Ideal ⟨3, ![8, 1, 2048]⟩ .f32) (r : Fin 32768) (C : Fin 2048) : EReal :=
  X (ix3 (bat r) (tok r) C) + G (ix3 (bat r) 0 C) * ∑ k : Fin 2048, A (ix3 (bat r) (tok r) k) * W (ix2 k C)

def outProj (A : FVec Ideal ⟨3, ![8, 4096, 2048]⟩ .bf16) (W : FVec Ideal ⟨2, ![2048, 2048]⟩ .f32) (X : FVec Ideal ⟨3, ![8, 4096, 2048]⟩ .f32)
    (G : FVec Ideal ⟨3, ![8, 1, 2048]⟩ .f32) : FVec Ideal ⟨2, ![32768, 2048]⟩ .f32 :=
  fun y => outAt A W X G (y 0) (y 1)

end Cert.Real

namespace Cert.Kernel4Ideal.Out

open Idealize.ShloMosaic Idealize.ShloMosaic.TcCoe Idealize.SL.Sem
open Cert.Kernel4Ideal Cert.Kernel4Ideal.Gen Cert.Real

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val / 8, 0, 0] ∧ win0_4.index t = ![t.val, 0] ∧ t.val < 64 := (by decide +kernel : ∀ t : Fin grid0.N, _)

def rowOf (t : Fin cfg0.N) (R : Fin 512) : Fin 32768 := ⟨512 * t.val + R.val, by have := (idx t).2.2.2.2.2; omega⟩

theorem a_block (c : Dev nD) (t : Fin cfg0.N) (R : Fin 512) (k : Fin 2048) :
    iblk m c 0 t (ix2 R k) = m ((c : Thread nD τ).loc main_arg0) (ix3 (bat (rowOf t R)) (tok (rowOf t R)) k) := by
  blk_simp [iblk]
  entry_read
  pointwise
  blk_ext [idx t, rowOf, bat, tok]

theorem w_block (c : Dev nD) (t : Fin cfg0.N) (k C : Fin 2048) :
    iblk m c 1 t (ix2 k C) = m ((c : Thread nD τ).loc main_arg1) (ix2 k C) := by
  blk_simp [iblk]
  entry_read
  pointwise
  blk_ext [idx t]

theorem x_block (c : Dev nD) (t : Fin cfg0.N) (R : Fin 512) (C : Fin 2048) :
    iblk m c 2 t (ix2 R C) = m ((c : Thread nD τ).loc main_arg2) (ix3 (bat (rowOf t R)) (tok (rowOf t R)) C) := by
  blk_simp [iblk]
  entry_read
  pointwise
  blk_ext [idx t, rowOf, bat, tok]

theorem g_block (c : Dev nD) (t : Fin cfg0.N) (R : Fin 512) (C : Fin 2048) :
    iblk m c 3 t (ix3 0 0 C) = m ((c : Thread nD τ).loc main_arg3) (ix3 (bat (rowOf t R)) 0 C) := by
  blk_ext! [iblk, V, idx t, rowOf, bat]

theorem pay (v0 : FVec Ideal S512x2048 .bf16) (v2 : FVec Ideal S2048x2048 .bf16) (v5 : FVec Ideal S512x2048 .f32) (v7 : FVec Ideal S1x1x2048 .f32)
    (R : Fin 512) (C : Fin 2048) :
    (k0_pay1 (F := Ideal) v0 v2 v5 v7 (ix2 R C) : EReal)
      = v5 (ix2 R C) + v7 (ix3 0 0 C) * ∑ k : Fin 2048, (v0 (ix2 R k) : EReal) * (v2 (ix2 k C) : EReal) := by
  pointwise [k0_pay1]

theorem final (c : Dev nD) :
    (dats m 0 c).arrAt 4 cfg0.N = outProj (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨R, C, rfl⟩ : ∃ (R : Fin 512) (C : Fin 2048), y = ix2 R C := ⟨y 0, y 1, funext fun a => by fin_cases a <;> rfl⟩
  have e : ((cfg0.win 4).blk t).view.emb (ix2 R C) = ix2 (rowOf t R) C := by blk_ext! [idx t, rowOf]
  rw [e]
  blk_simp
  rw [after0_4]
  frame_out
  refine (pay _ _ _ _ _ _).trans ?_
  rw [x_block, g_block m c t R]
  show _ = outAt _ _ _ _ (rowOf t R) C
  unfold outAt
  congr 2
  refine Finset.sum_congr rfl fun k _ => ?_
  rw [a_block, w_block]

end Cert.Kernel4Ideal.Out

namespace Cert.Reference4Ideal.Out

open Idealize.ShloMosaic Idealize.ShloMosaic.TcCoe Idealize.SL.Sem
open Cert.Reference4Ideal Cert.Reference4Ideal.Gen Cert.Real Cert.Reference4Ideal.Read

variable (A : FVec Ideal S8x4096x2048 .bf16) (W : FVec Ideal S2048x2048 .f32) (X : FVec Ideal S8x4096x2048 .f32) (G : FVec Ideal S8x1x2048 .f32)

theorem v1_ix (b : Fin 8) (n : Fin 4096) (C : Fin 2048) :
    (val_main_v1 (F := Ideal) A W (ix3 b n C) : EReal) = ∑ k : Fin 2048, A (ix3 b n k) * W (ix2 k C) := by
  rw [val_main_v1_apply]
  refine Finset.sum_congr rfl fun k _ => ?_
  congr 1
  · rw [val_main_v0_apply]
    refine congrArg A (funext fun a => by fin_cases a <;> rfl)
  · refine congrArg W (funext fun a => by fin_cases a <;> rfl)

theorem add_def (x y : Ideal .f32) : (FloatOps.addf x y : Ideal .f32) = x + y := rfl
theorem mul_def (x y : Ideal .f32) : (FloatOps.mulf x y : Ideal .f32) = x * y := rfl

theorem value : val_main_v5 (F := Ideal) A W X G = outProj A W X G := by
  funext y
  obtain ⟨r, C, rfl⟩ : ∃ (r : Fin 32768) (C : Fin 2048), y = ix2 r C := ⟨y 0, y 1, funext fun a => by fin_cases a <;> rfl⟩
  show _ = outAt A W X G r C
  have e : idx_main_v5 (ix2 r C) = ix3 (bat r) (tok r) C := by
    funext a
    fin_cases a <;> apply Fin.ext
    · show (r.val * 2048 + C.val) / 8388608 = r.val / 4096
      omega
    · show (r.val * 2048 + C.val) / 2048 % 4096 = r.val % 4096
      omega
    · show (r.val * 2048 + C.val) % 2048 = C.val
      omega
  have eg : idx_main_v2 (ix3 (bat r) (tok r) C) = ix3 (bat r) 0 C := funext fun a => by fin_cases a <;> rfl
  rw [val_main_v5_apply, e, val_main_v4_apply, val_main_v3_apply, v1_ix, val_main_v2_apply, eg, add_def, mul_def]
  rfl

end Cert.Reference4Ideal.Out

end
-- ==== Proof.Mix.lean ====
/- The output projection of an even layer, of two operands side by side: the call's result, and the reference's, are the same sums. -/
module

public import proofs.«01_k».proof.Proof.Out
public import proofs.«01_k».proof.Proof.Gen.Kernel5Ideal.Value
public import proofs.«01_k».proof.Proof.Gen.Reference5Ideal.Read

@[expose] public section

set_option maxRecDepth 16384

noncomputable section

namespace Cert.Real

open Idealize.ShloMosaic

/-- The rows of the weights that the first and the second operand meet. -/
def lo (k : Fin 1024) : Fin 2048 := ⟨k.val, by omega⟩
def hi (k : Fin 1024) : Fin 2048 := ⟨1024 + k.val, by omega⟩

/-- The residual plus the gate times the projection of both operands, at row `r` and column `C`. -/
def mixAt (A B : FVec Ideal ⟨3, ![8, 4096, 1024]⟩ .bf16) (W : FVec Ideal ⟨2, ![2048, 2048]⟩ .f32) (X : FVec Ideal ⟨3, ![8, 4096, 2048]⟩ .f32)
    (G : FVec Ideal ⟨3, ![8, 1, 2048]⟩ .f32) (r : Fin 32768) (C : Fin 2048) : EReal :=
  X (ix3 (bat r) (tok r) C) + G (ix3 (bat r) 0 C)
    * (∑ k : Fin 1024, A (ix3 (bat r) (tok r) k) * W (ix2 (lo k) C) + ∑ k : Fin 1024, B (ix3 (bat r) (tok r) k) * W (ix2 (hi k) C))

def mixProj (A B : FVec Ideal ⟨3, ![8, 4096, 1024]⟩ .bf16) (W : FVec Ideal ⟨2, ![2048, 2048]⟩ .f32) (X : FVec Ideal ⟨3, ![8, 4096, 2048]⟩ .f32)
    (G : FVec Ideal ⟨3, ![8, 1, 2048]⟩ .f32) : FVec Ideal ⟨2, ![32768, 2048]⟩ .f32 :=
  fun y => mixAt A B W X G (y 0) (y 1)

end Cert.Real

namespace Cert.Kernel5Ideal.Mix

open Idealize.ShloMosaic Idealize.ShloMosaic.TcCoe Idealize.SL.Sem
open Cert.Kernel5Ideal Cert.Kernel5Ideal.Gen Cert.Real

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val / 8, 0, 0] ∧ win0_6.index t = ![t.val, 0] ∧ t.val < 64 :=
  (by decide +kernel : ∀ t : Fin grid0.N, _)

def rowOf (t : Fin cfg0.N) (R : Fin 512) : Fin 32768 := ⟨512 * t.val + R.val, by have := (idx t).2.2.2.2.2.2.2; omega⟩

theorem a_block (c : Dev nD) (t : Fin cfg0.N) (R : Fin 512) (k : Fin 1024) :
    iblk m c 0 t (ix2 R k) = m ((c : Thread nD τ).loc main_arg0) (ix3 (bat (rowOf t R)) (tok (rowOf t R)) k) := by
  blk_simp [iblk]
  entry_read
  pointwise
  blk_ext [idx t, rowOf, bat, tok]

theorem b_block (c : Dev nD) (t : Fin cfg0.N) (R : Fin 512) (k : Fin 1024) :
    iblk m c 2 t (ix2 R k) = m ((c : Thread nD τ).loc main_arg1) (ix3 (bat (rowOf t R)) (tok (rowOf t R)) k) := by
  blk_simp [iblk]
  entry_read
  pointwise
  blk_ext [idx t, rowOf, bat, tok]

theorem w_block (c : Dev nD) (t : Fin cfg0.N) (k : Fin 1024) (C : Fin 2048) :
    iblk m c 1 t (ix2 k C) = m ((c : Thread nD τ).loc main_arg2) (ix2 (lo k) C) := by
  blk_simp [iblk]
  entry_read
  pointwise
  blk_ext [idx t, lo]

theorem u_block (c : Dev nD) (t : Fin cfg0.N) (k : Fin 1024) (C : Fin 2048) :
    iblk m c 3 t (ix2 k C) = m ((c : Thread nD τ).loc main_arg2) (ix2 (hi k) C) := by
  blk_simp [iblk]
  entry_read
  pointwise
  blk_ext [idx t, hi]

theorem x_block (c : Dev nD) (t : Fin cfg0.N) (R : Fin 512) (C : Fin 2048) :
    iblk m c 4 t (ix2 R C) = m ((c : Thread nD τ).loc main_arg3) (ix3 (bat (rowOf t R)) (tok (rowOf t R)) C) := by
  blk_simp [iblk]
  entry_read
  pointwise
  blk_ext [idx t, rowOf, bat, tok]

theorem g_block (c : Dev nD) (t : Fin cfg0.N) (R : Fin 512) (C : Fin 2048) :
    iblk m c 5 t (ix3 0 0 C) = m ((c : Thread nD τ).loc main_arg4) (ix3 (bat (rowOf t R)) 0 C) := by
  blk_ext! [iblk, V, idx t, rowOf, bat]

theorem pay (v0 : FVec Ideal S512x1024 .bf16) (v2 : FVec Ideal S1024x2048 .bf16) (v5 : FVec Ideal S512x1024 .bf16) (v7 : FVec Ideal S1024x2048 .bf16)
    (v11 : FVec Ideal S512x2048 .f32) (v13 : FVec Ideal S1x1x2048 .f32) (R : Fin 512) (C : Fin 2048) :
    (k0_pay1 (F := Ideal) v0 v2 v5 v7 v11 v13 (ix2 R C) : EReal)
      = v11 (ix2 R C) + v13 (ix3 0 0 C) * (∑ k : Fin 1024, (v0 (ix2 R k) : EReal) * (v2 (ix2 k C) : EReal)
          + ∑ k : Fin 1024, (v5 (ix2 R k) : EReal) * (v7 (ix2 k C) : EReal)) := by
  pointwise [k0_pay1]

theorem final (c : Dev nD) :
    (dats m 0 c).arrAt 6 cfg0.N = mixProj (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨R, C, rfl⟩ : ∃ (R : Fin 512) (C : Fin 2048), y = ix2 R C := ⟨y 0, y 1, funext fun a => by fin_cases a <;> rfl⟩
  have e : ((cfg0.win 6).blk t).view.emb (ix2 R C) = ix2 (rowOf t R) C := by blk_ext! [idx t, rowOf]
  rw [e]
  blk_simp
  rw [after0_6]
  frame_out
  refine (pay _ _ _ _ _ _ _ _).trans ?_
  rw [x_block, g_block m c t R]
  show _ = mixAt _ _ _ _ _ (rowOf t R) C
  unfold mixAt
  congr 2
  congr 1
  · refine Finset.sum_congr rfl fun k _ => ?_
    rw [a_block, w_block]
  · refine Finset.sum_congr rfl fun k _ => ?_
    rw [b_block, u_block]

end Cert.Kernel5Ideal.Mix

namespace Cert.Reference5Ideal.Mix

open Idealize.ShloMosaic Idealize.ShloMosaic.TcCoe Idealize.SL.Sem
open Cert.Reference5Ideal Cert.Reference5Ideal.Gen Cert.Real Cert.Reference5Ideal.Read

variable (A B : FVec Ideal S8x4096x1024 .bf16) (W : FVec Ideal S2048x2048 .f32) (X : FVec Ideal S8x4096x2048 .f32) (G : FVec Ideal S8x1x2048 .f32)

theorem concat_ix (x y : FVec Ideal S8x4096x1024 .bf16) (b : Fin 8) (n : Fin 4096) (k : Fin 2048) :
    concatenate S8x4096x2048 2 [⟨S8x4096x1024, x⟩, ⟨S8x4096x1024, y⟩] concatenates_S8x4096x1024_S8x4096x1024_S8x4096x2048_d2 (ix3 b n k)
      = if h : k.val < 1024 then x (ix3 b n ⟨k.val, h⟩) else y (ix3 b n ⟨k.val - 1024, by omega⟩) := by
  pointwise

theorem v0_lo (b : Fin 8) (n : Fin 4096) (k : Fin 1024) : val_main_v0 (F := Ideal) A B (ix3 b n (lo k)) = A (ix3 b n k) := by
  unfold val_main_v0
  rw [concat_ix, dif_pos (show (lo k).val < 1024 from k.isLt)]
  rfl

theorem v0_hi (b : Fin 8) (n : Fin 4096) (k : Fin 1024) : val_main_v0 (F := Ideal) A B (ix3 b n (hi k)) = B (ix3 b n k) := by
  unfold val_main_v0
  rw [concat_ix, dif_neg (show ¬ (hi k).val < 1024 from by show ¬ 1024 + k.val < 1024; omega)]
  exact congrArg (fun j => B (ix3 b n j)) (Fin.ext (Nat.add_sub_cancel_left 1024 k.val))

theorem v2_sum (b : Fin 8) (n : Fin 4096) (C : Fin 2048) :
    (val_main_v2 (F := Ideal) A B W (ix3 b n C) : EReal) = ∑ k : Fin 2048, (val_main_v0 (F := Ideal) A B (ix3 b n k) : EReal) * W (ix2 k C) := by
  rw [val_main_v2_apply]
  refine Finset.sum_congr rfl fun k _ => ?_
  congr 1
  · rw [val_main_v1_apply]
    refine congrArg (val_main_v0 (F := Ideal) A B) (funext fun a => by fin_cases a <;> rfl)
  · refine congrArg W (funext fun a => by fin_cases a <;> rfl)

theorem v2_ix (b : Fin 8) (n : Fin 4096) (C : Fin 2048) :
    (val_main_v2 (F := Ideal) A B W (ix3 b n C) : EReal)
      = ∑ k : Fin 1024, A (ix3 b n k) * W (ix2 (lo k) C) + ∑ k : Fin 1024, B (ix3 b n k) * W (ix2 (hi k) C) := by
  rw [v2_sum]
  refine (Fin.sum_univ_add (a := 1024) (b := 1024) (fun k : Fin 2048 => (val_main_v0 (F := Ideal) A B (ix3 b n k) : EReal) * W (ix2 k C))).trans ?_
  congr 1
  · refine Finset.sum_congr rfl fun k _ => ?_
    rw [← v0_lo A B b n k]
    rfl
  · refine Finset.sum_congr rfl fun k _ => ?_
    rw [← v0_hi A B b n k]
    rfl

theorem add_def (x y : Ideal .f32) : (FloatOps.addf x y : Ideal .f32) = x + y := rfl
theorem mul_def (x y : Ideal .f32) : (FloatOps.mulf x y : Ideal .f32) = x * y := rfl

theorem value : val_main_v6 (F := Ideal) A B W X G = mixProj A B W X G := by
  funext y
  obtain ⟨r, C, rfl⟩ : ∃ (r : Fin 32768) (C : Fin 2048), y = ix2 r C := ⟨y 0, y 1, funext fun a => by fin_cases a <;> rfl⟩
  show _ = mixAt A B W X G r C
  have e : idx_main_v6 (ix2 r C) = ix3 (bat r) (tok r) C := by
    funext a
    fin_cases a <;> apply Fin.ext
    · show (r.val * 2048 + C.val) / 8388608 = r.val / 4096
      omega
    · show (r.val * 2048 + C.val) / 2048 % 4096 = r.val % 4096
      omega
    · show (r.val * 2048 + C.val) % 2048 = C.val
      omega
  have eg : idx_main_v3 (ix3 (bat r) (tok r) C) = ix3 (bat r) 0 C := funext fun a => by fin_cases a <;> rfl
  rw [val_main_v6_apply, e, val_main_v5_apply, val_main_v4_apply, v2_ix, val_main_v3_apply, eg, add_def, mul_def]
  rfl

end Cert.Reference5Ideal.Mix

end
-- ==== Proof.Qkv.lean ====
/- The projection to queries, keys and values of an odd layer, queries and keys rotated: the call's result is the reference's. -/
module

public import proofs.«01_k».proof.Proof.Out
public import proofs.«01_k».proof.Proof.Gen.Kernel2Ideal.Value
public import proofs.«01_k».proof.Proof.Gen.Reference2Ideal.Read

@[expose] public section

set_option maxRecDepth 16384

noncomputable section

namespace Cert.Real

open Idealize.ShloMosaic

/-- The factor of a query's column, and of no other: 128 to the -1/2, times log2 of e. -/
def qFac : EReal := Ideal.ofBits .f32 0x3E0293EE#32

def colFac (C : Fin 6144) : EReal := if C.val < 2048 then qFac else 1

/-- The column that column `C` is rotated with: the other half of its 64. -/
def mate (C : Fin 6144) : Fin 6144 := ⟨if C.val % 64 < 32 then C.val + 32 else C.val - 32, by split <;> omega⟩

/-- The cosine and the signed sine of column `C`: 1 and 0 at a value's column. -/
def cosAt (K : FVec Ideal ⟨2, ![4096, 128]⟩ .f32) (n : Fin 4096) (C : Fin 6144) : EReal :=
  if C.val < 4096 then K (ix2 n ⟨C.val % 128, by omega⟩) else 1

def sinAt (S : FVec Ideal ⟨2, ![4096, 128]⟩ .f32) (n : Fin 4096) (C : Fin 6144) : EReal :=
  if C.val < 4096 then S (ix2 n ⟨C.val % 128, by omega⟩) * (if C.val % 64 < 32 then -1 else 1) else 0

def prjAt (A : FVec Ideal ⟨3, ![8, 4096, 2048]⟩ .bf16) (W : FVec Ideal ⟨2, ![2048, 6144]⟩ .f32) (b : Fin 8) (n : Fin 4096) (C : Fin 6144) : EReal :=
  ∑ k : Fin 2048, A (ix3 b n k) * W (ix2 k C)

/-- The projection at row `r` and column `C`, scaled, rotated with its mate. -/
def qkvAt (A : FVec Ideal ⟨3, ![8, 4096, 2048]⟩ .bf16) (W : FVec Ideal ⟨2, ![2048, 6144]⟩ .f32) (K S : FVec Ideal ⟨2, ![4096, 128]⟩ .f32)
    (r : Fin 32768) (C : Fin 6144) : EReal :=
  prjAt A W (bat r) (tok r) C * colFac C * cosAt K (tok r) C
    + prjAt A W (bat r) (tok r) (mate C) * colFac (mate C) * sinAt S (tok r) C

def qkvProj (A : FVec Ideal ⟨3, ![8, 4096, 2048]⟩ .bf16) (W : FVec Ideal ⟨2, ![2048, 6144]⟩ .f32) (K S : FVec Ideal ⟨2, ![4096, 128]⟩ .f32) :
    FVec Ideal ⟨2, ![32768, 6144]⟩ .bf16 :=
  fun y => qkvAt A W K S (y 0) (y 1)

theorem one_bits : Ideal.ofBits .f32 0x3F800000#32 = 1 := by
  simp [Ideal.ofBits, Ideal.ieee]
  rw [← EReal.coe_mul]
  norm_num

theorem negOne_bits : Ideal.ofBits .f32 0xBF800000#32 = -1 := by
  simp [Ideal.ofBits, Ideal.ieee]
  rw [← EReal.coe_mul]
  norm_num

theorem zero_bits : Ideal.ofBits .f32 0x00000000#32 = 0 := by
  simp [Ideal.ofBits, Ideal.ieee]

end Cert.Real

namespace Cert.Kernel2Ideal.Qkv

open Idealize.ShloMosaic Idealize.ShloMosaic.TcCoe Idealize.SL.Sem
open Cert.Kernel2Ideal Cert.Kernel2Ideal.Gen Cert.Real

variable (m : (ℓ : Loc nD τ sig) → Buf (Elt Ideal) ℓ)

theorem mask (R : Fin 1024) (d : Fin 128) : k0_pay7 (ix2 R d) = if d.val % 64 < 32 then 1#1 else 0#1 := by
  pointwise [k0_pay7]
  revert d
  decide +kernel

theorem scaled (v0 : FVec Ideal S1024x2048 .bf16) (v2 : FVec Ideal S2048x1024 .bf16) (v5 : FVec Ideal S1x1024 .f32) (R C : Fin 1024) :
    (k0_pay4 (F := Ideal) v0 v2 v5 (ix2 R C) : EReal)
      = (∑ k : Fin 2048, (v0 (ix2 R k) : EReal) * (v2 (ix2 k C) : EReal)) * v5 (ix2 0 C) := by
  pointwise [k0_pay4]

theorem cast_ix (v : FVec Ideal S1024x128 .f32) : k0_pay5 (F := Ideal) v = v := shapeCast_self _ _
theorem cast_ix' (v : FVec Ideal S1024x128 .f32) : k0_pay6 (F := Ideal) v = v := shapeCast_self _ _

/-- Column `d` of the `g`-th 128 columns, and the mate of a column, in a tile. -/
def colIn (g : Fin 8) (d : Fin 128) : Fin 1024 := ⟨128 * g.val + d.val, by omega⟩
def mateIn (C : Fin 1024) : Fin 1024 := ⟨if C.val % 64 < 32 then C.val + 32 else C.val - 32, by split <;> omega⟩

/-- A tile rotated. -/
def tileAt (v8 : FVec Ideal S1024x1024 .f32) (v10 v12 : FVec Ideal S1024x128 .f32) (R C : Fin 1024) : EReal :=
  v8 (ix2 R C) * v10 (ix2 R ⟨C.val % 128, by omega⟩) + v8 (ix2 R (mateIn C)) * v12 (ix2 R ⟨C.val % 128, by omega⟩)

def tile (v8 : FVec Ideal S1024x1024 .f32) (v10 v12 : FVec Ideal S1024x128 .f32) : FVec Ideal S1024x1024 .bf16 :=
  fun y => tileAt v8 v10 v12 (y 0) (y 1)

/-- What a store of the `g`-th 128 columns holds is the rotated tile's. -/
theorem tileAt_piece (v8 : FVec Ideal S1024x1024 .f32) (v10 v12 : FVec Ideal S1024x128 .f32) (R : Fin 1024) (g : Fin 8) (d : Fin 128)
    (i a b : Fin 1024) (hi : i.val = 128 * g.val + d.val) (ha : a.val = 128 * g.val + (d.val + 128 - 96) % 128)
    (hb : b.val = 128 * g.val + (d.val + 128 - 32) % 128) :
    (v8 (ix2 R i) * v10 (ix2 R d) + (Scalar.select (k0_pay7 (ix2 R d)) (v8 (ix2 R a)) (v8 (ix2 R b)) : EReal) * v12 (ix2 R d) : EReal)
      = tileAt v8 v10 v12 R (colIn g d) := by
  have ei : i = colIn g d := Fin.ext hi
  have ed : (⟨(colIn g d).val % 128, by omega⟩ : Fin 128) = d := Fin.ext (by show (128 * g.val + d.val) % 128 = d.val; omega)
  rw [mask, ei]
  unfold tileAt
  rw [ed]
  congr 2
  by_cases h : d.val % 64 < 32
  · rw [if_pos h]
    show v8 (ix2 R a) = _
    refine congrArg (fun j => v8 (ix2 R j)) (Fin.ext ?_)
    show a.val = if (128 * g.val + d.val) % 64 < 32 then (128 * g.val + d.val) + 32 else (128 * g.val + d.val) - 32
    rw [if_pos (by omega)]
    omega
  · rw [if_neg h]
    show v8 (ix2 R b) = _
    refine congrArg (fun j => v8 (ix2 R j)) (Fin.ext ?_)
    show b.val = if (128 * g.val + d.val) % 64 < 32 then (128 * g.val + d.val) + 32 else (128 * g.val + d.val) - 32
    rw [if_neg (by omega)]
    omega

theorem pay11_ix (v0 : FVec Ideal S1024x2048 .bf16) (v2 : FVec Ideal S2048x1024 .bf16) (v5 : FVec Ideal S1x1024 .f32) (v9 v11 : FVec Ideal S1024x128 .f32)
    (R : Fin 1024) (d : Fin 128) :
    (k0_pay11 (F := Ideal) (k0_pay9 v0 v2 v5 v9) (k0_pay10 v0 v2 v5 v11) (ix2 R d) : EReal) = tileAt (k0_pay4 v0 v2 v5) v9 v11 R (colIn 0 d) := by
  unfold k0_pay9 k0_pay10 k0_pay8
  rw [cast_ix, cast_ix']
  generalize k0_pay4 (F := Ideal) v0 v2 v5 = v8
  generalize hm : k0_pay7 = v31
  pointwise [k0_pay11]
  subst hm
  exact tileAt_piece v8 v9 v11 R 0 d _ _ _ (by simp) (by simp) (by simp)

theorem pay12_ix (v8 : FVec Ideal S1024x1024 .f32) (v10 v12 : FVec Ideal S1024x128 .f32) (R : Fin 1024) (d : Fin 128) :
    (k0_pay12 (F := Ideal) v8 v10 v12 k0_pay7 (ix2 R d) : EReal) = tileAt v8 v10 v12 R (colIn 1 d) := by
  generalize hm : k0_pay7 = v31
  pointwise [k0_pay12]
  subst hm
  exact tileAt_piece v8 v10 v12 R 1 d _ _ _ rfl rfl rfl

theorem pay13_ix (v8 : FVec Ideal S1024x1024 .f32) (v10 v12 : FVec Ideal S1024x128 .f32) (R : Fin 1024) (d : Fin 128) :
    (k0_pay13 (F := Ideal) v8 v10 v12 k0_pay7 (ix2 R d) : EReal) = tileAt v8 v10 v12 R (colIn 2 d) := by
  generalize hm : k0_pay7 = v31
  pointwise [k0_pay13]
  subst hm
  exact tileAt_piece v8 v10 v12 R 2 d _ _ _ rfl rfl rfl

theorem pay14_ix (v8 : FVec Ideal S1024x1024 .f32) (v10 v12 : FVec Ideal S1024x128 .f32) (R : Fin 1024) (d : Fin 128) :
    (k0_pay14 (F := Ideal) v8 v10 v12 k0_pay7 (ix2 R d) : EReal) = tileAt v8 v10 v12 R (colIn 3 d) := by
  generalize hm : k0_pay7 = v31
  pointwise [k0_pay14]
  subst hm
  exact tileAt_piece v8 v10 v12 R 3 d _ _ _ rfl rfl rfl

theorem pay15_ix (v8 : FVec Ideal S1024x1024 .f32) (v10 v12 : FVec Ideal S1024x128 .f32) (R : Fin 1024) (d : Fin 128) :
    (k0_pay15 (F := Ideal) v8 v10 v12 k0_pay7 (ix2 R d) : EReal) = tileAt v8 v10 v12 R (colIn 4 d) := by
  generalize hm : k0_pay7 = v31
  pointwise [k0_pay15]
  subst hm
  exact tileAt_piece v8 v10 v12 R 4 d _ _ _ rfl rfl rfl

theorem pay1_ix (v8 : FVec Ideal S1024x1024 .f32) (v10 v12 : FVec Ideal S1024x128 .f32) (R : Fin 1024) (d : Fin 128) :
    (k0_pay1 (F := Ideal) v8 v10 v12 k0_pay7 (ix2 R d) : EReal) = tileAt v8 v10 v12 R (colIn 5 d) := by
  generalize hm : k0_pay7 = v31
  pointwise [k0_pay1]
  subst hm
  exact tileAt_piece v8 v10 v12 R 5 d _ _ _ rfl rfl rfl

theorem pay2_ix (v8 : FVec Ideal S1024x1024 .f32) (v10 v12 : FVec Ideal S1024x128 .f32) (R : Fin 1024) (d : Fin 128) :
    (k0_pay2 (F := Ideal) v8 v10 v12 k0_pay7 (ix2 R d) : EReal) = tileAt v8 v10 v12 R (colIn 6 d) := by
  generalize hm : k0_pay7 = v31
  pointwise [k0_pay2]
  subst hm
  exact tileAt_piece v8 v10 v12 R 6 d _ _ _ rfl rfl rfl

theorem pay3_ix (v8 : FVec Ideal S1024x1024 .f32) (v10 v12 : FVec Ideal S1024x128 .f32) (R : Fin 1024) (d : Fin 128) :
    (k0_pay3 (F := Ideal) v8 v10 v12 k0_pay7 (ix2 R d) : EReal) = tileAt v8 v10 v12 R (colIn 7 d) := by
  generalize hm : k0_pay7 = v31
  pointwise [k0_pay3]
  subst hm
  exact tileAt_piece v8 v10 v12 R 7 d _ _ _ rfl rfl rfl

theorem idx : ∀ t : Fin cfg0.N, win0_0.index t = ![t.val / 6, 0] ∧ win0_1.index t = ![0, t.val % 6] ∧ win0_2.index t = ![0, t.val % 6]
    ∧ win0_3.index t = ![t.val / 6 % 4 + (if t.val % 6 < 4 then 0 else 4), 0] ∧ win0_4.index t = ![t.val / 6 % 4 + (if t.val % 6 < 4 then 0 else 4), 0]
    ∧ win0_5.index t = ![t.val / 6, t.val % 6] ∧ t.val < 192 := (by decide +kernel : ∀ t : Fin grid0.N, _)

def rowOf (t : Fin cfg0.N) (R : Fin 1024) : Fin 32768 := ⟨1024 * (t.val / 6) + R.val, by have := (idx t).2.2.2.2.2.2; omega⟩
def colOf (t : Fin cfg0.N) (C : Fin 1024) : Fin 6144 := ⟨1024 * (t.val % 6) + C.val, by omega⟩

/-- The row of the doubled tables that a point reads. -/
def tabOf (t : Fin cfg0.N) (R : Fin 1024) : Fin 8192 :=
  ⟨1024 * (t.val / 6 % 4 + (if t.val % 6 < 4 then 0 else 4)) + R.val, by split <;> omega⟩

theorem a_block (c : Dev nD) (t : Fin cfg0.N) (R : Fin 1024) (k : Fin 2048) :
    iblk m c 0 t (ix2 R k) = m ((c : Thread nD τ).loc main_arg0) (ix3 (bat (rowOf t R)) (tok (rowOf t R)) k) := by
  have e : ((cfg0.win 0).blk t).view.emb (ix2 R k) = ix2 (rowOf t R) k := by blk_ext! [idx t, rowOf]
  blk_simp [iblk]
  rw [e]
  show V m c main_v9 (ix2 (rowOf t R) k) = _
  unfold V
  simp only [hostOps0, hostOps0_1, hostOps0_2, hostOps0_3, hostOps0_4, List.flatten_cons, List.flatten_nil, List.append_nil, List.cons_append, List.nil_append]
  entry_read
  pointwise
  rfl

theorem w_block (c : Dev nD) (t : Fin cfg0.N) (k : Fin 2048) (C : Fin 1024) :
    iblk m c 1 t (ix2 k C) = m ((c : Thread nD τ).loc main_arg1) (ix2 k (colOf t C)) := by
  blk_simp [iblk]
  simp only [hostOps0, hostOps0_1, hostOps0_2, hostOps0_3, hostOps0_4, List.flatten_cons, List.flatten_nil, List.append_nil, List.cons_append, List.nil_append]
  entry_read
  pointwise
  blk_ext [idx t, colOf]

theorem fac_ix (x : FVec Ideal S2048 .f32) (y : FVec Ideal S4096 .f32) (C : Fin 6144) :
    shapeCast S1x6144 (concatenate S6144 0 [⟨S2048, x⟩, ⟨S4096, y⟩] concatenates_S2048_S4096_S6144_d0) shapeCasts_S6144_S1x6144 (ix2 0 C)
      = if h : C.val < 2048 then x (ix1 ⟨C.val, h⟩) else y (ix1 ⟨C.val - 2048, by omega⟩) := by
  pointwise

theorem s_block (c : Dev nD) (t : Fin cfg0.N) (C : Fin 1024) : (iblk m c 2 t (ix2 0 C) : EReal) = colFac (colOf t C) := by
  have e : ((cfg0.win 2).blk t).view.emb (ix2 0 C) = ix2 0 (colOf t C) := by blk_ext! [idx t, colOf]
  blk_simp [iblk]
  rw [e]
  simp only [hostOps0, hostOps0_1, hostOps0_2, hostOps0_3, hostOps0_4, List.flatten_cons, List.flatten_nil, List.append_nil, List.cons_append, List.nil_append]
  entry_read
  refine (fac_ix _ _ (colOf t C)).trans ?_
  unfold colFac
  split
  · rfl
  · exact one_bits

/-- The host's modulus, 64. -/
def hostMod : IVec S_ 32 :=
  select (cmpi .eq (constantI S_ 32 64#32) (constantI S_ 32 0#32)) (constantI S_ 32 1#32) (constantI S_ 32 64#32)

/-- The host's mask of the first half of a column's 64, and the sign that it picks. -/
def hostMask : IVec S128 1 :=
  cmpi .slt
    (select
      (andi
        (cmpi .ne
          (cmpi .slt (Host.remsi (iotaInDim S128 32 0) (broadcastInDim S128 ![] bcast_S_S128 hostMod)) (broadcastInDim S128 ![] bcast_S_S128 (constantI S_ 32 0#32)))
          (broadcastInDim S128 ![] bcast_S_S128 (cmpi .slt hostMod (constantI S_ 32 0#32))))
        (cmpi .ne (Host.remsi (iotaInDim S128 32 0) (broadcastInDim S128 ![] bcast_S_S128 hostMod)) (broadcastInDim S128 ![] bcast_S_S128 (constantI S_ 32 0#32))))
      (addi (Host.remsi (iotaInDim S128 32 0) (broadcastInDim S128 ![] bcast_S_S128 hostMod)) (broadcastInDim S128 ![] bcast_S_S128 hostMod))
      (Host.remsi (iotaInDim S128 32 0) (broadcastInDim S128 ![] bcast_S_S128 hostMod)))
    (broadcastInDim S128 ![] bcast_S_S128 (constantI S_ 32 32#32))

def hostSign : FVec Ideal S128 .f32 :=
  select hostMask (broadcastInDim S128 ![] bcast_S_S128 (constant S_ .f32 0xBF800000#32)) (broadcastInDim S128 ![] bcast_S_S128 (constant S_ .f32 0x3F800000#32))

theorem tab_ix (x y : FVec Ideal S4096x128 .f32) (r : Fin 8192) (d : Fin 128) :
    concatenate S8192x128 0 [⟨S4096x128, x⟩, ⟨S4096x128, y⟩] concatenates_S4096x128_S4096x128_S8192x128_d0 (ix2 r d)
      = if h : r.val < 4096 then x (ix2 ⟨r.val, h⟩ d) else y (ix2 ⟨r.val - 4096, by omega⟩ d) := by
  pointwise

theorem k_block (c : Dev nD) (t : Fin cfg0.N) (R : Fin 1024) (d : Fin 128) (C : Fin 6144) (hC : C.val / 1024 = t.val % 6) (hd : C.val % 128 = d.val) :
    (iblk m c 3 t (ix2 R d) : EReal) = cosAt (m ((c : Thread nD τ).loc main_arg2)) (tok (rowOf t R)) C := by
  have e : ((cfg0.win 3).blk t).view.emb (ix2 R d) = ix2 (tabOf t R) d := by blk_ext! [idx t, tabOf]
  blk_simp [iblk]
  rw [e]
  simp only [hostOps0, hostOps0_1, hostOps0_2, hostOps0_3, hostOps0_4, List.flatten_cons, List.flatten_nil, List.append_nil, List.cons_append, List.nil_append]
  entry_read
  refine (tab_ix _ _ (tabOf t R) d).trans ?_
  have ht := idx t
  unfold cosAt
  by_cases h : t.val % 6 < 4
  · have hr : (tabOf t R).val = (tok (rowOf t R)).val := by
      show 1024 * (t.val / 6 % 4 + (if t.val % 6 < 4 then 0 else 4)) + R.val = (1024 * (t.val / 6) + R.val) % 4096
      rw [if_pos h]
      omega
    have h' : (tabOf t R).val < 4096 := by rw [hr]; exact (tok (rowOf t R)).isLt
    rw [dif_pos h', if_pos (by omega)]
    have e1 : (⟨(tabOf t R).val, h'⟩ : Fin 4096) = tok (rowOf t R) := Fin.ext hr
    have e2 : (⟨C.val % 128, by omega⟩ : Fin 128) = d := Fin.ext hd
    rw [e1, e2]
    after_results_simp
  · have h' : ¬ (tabOf t R).val < 4096 := by
      show ¬ 1024 * (t.val / 6 % 4 + (if t.val % 6 < 4 then 0 else 4)) + R.val < 4096
      rw [if_neg h]
      omega
    rw [dif_neg h', if_neg (by omega)]
    exact one_bits

theorem select_ix (k : IVec S128 1) (x y : EReal) (d : Fin 128) :
    (select k (broadcastInDim S128 ![] bcast_S_S128 ((fun _ => x) : FVec Ideal S_ .f32)) (broadcastInDim S128 ![] bcast_S_S128 ((fun _ => y) : FVec Ideal S_ .f32)) (ix1 d) : EReal)
      = if k (ix1 d) = 1#1 then x else y := rfl

/-- The host's sign of a sine's column. -/
theorem sign_ix (x : FVec Ideal S4096x128 .f32) (n : Fin 4096) (d : Fin 128) :
    (mulf x (broadcastInDim S4096x128 ![0, 1] bcast_S1x128_S4096x128_0_1 (broadcastInDim S1x128 ![1] bcast_S128_S1x128_1 hostSign)) (ix2 n d) : EReal)
      = x (ix2 n d) * (if d.val % 64 < 32 then -1 else 1) := by
  have e : (hostSign (ix1 d) : EReal) = if d.val % 64 < 32 then -1 else 1 := by
    have em : hostMask (ix1 d) = if d.val % 64 < 32 then 1#1 else 0#1 := by
      pointwise [hostMask, hostMod]
      revert d
      decide +kernel
    generalize hh : hostSign = s
    rw [← hh]
    unfold hostSign
    generalize hostMask = mk at em
    refine (select_ix mk (Ideal.ofBits .f32 0xBF800000#32) (Ideal.ofBits .f32 0x3F800000#32) d).trans ?_
    by_cases h : d.val % 64 < 32
    · exact (if_pos (em.trans (if_pos h))).trans (negOne_bits.trans (if_pos h).symm)
    · exact (if_neg (by rw [em, if_neg h]; decide)).trans (one_bits.trans (if_neg h).symm)
  generalize hostSign = s at e
  pointwise
  rw [e]

theorem n_block (c : Dev nD) (t : Fin cfg0.N) (R : Fin 1024) (d : Fin 128) (C : Fin 6144) (hC : C.val / 1024 = t.val % 6) (hd : C.val % 128 = d.val) :
    (iblk m c 4 t (ix2 R d) : EReal) = sinAt (m ((c : Thread nD τ).loc main_arg3)) (tok (rowOf t R)) C := by
  have e : ((cfg0.win 4).blk t).view.emb (ix2 R d) = ix2 (tabOf t R) d := by blk_ext! [idx t, tabOf]
  blk_simp [iblk]
  rw [e]
  simp only [hostOps0, hostOps0_1, hostOps0_2, hostOps0_3, hostOps0_4, List.flatten_cons, List.flatten_nil, List.append_nil, List.cons_append, List.nil_append]
  entry_read
  refine (tab_ix _ _ (tabOf t R) d).trans ?_
  have ht := idx t
  unfold sinAt
  by_cases h : t.val % 6 < 4
  · have hr : (tabOf t R).val = (tok (rowOf t R)).val := by
      show 1024 * (t.val / 6 % 4 + (if t.val % 6 < 4 then 0 else 4)) + R.val = (1024 * (t.val / 6) + R.val) % 4096
      rw [if_pos h]
      omega
    have h' : (tabOf t R).val < 4096 := by rw [hr]; exact (tok (rowOf t R)).isLt
    rw [dif_pos h', if_pos (by omega)]
    have e1 : (⟨(tabOf t R).val, h'⟩ : Fin 4096) = tok (rowOf t R) := Fin.ext hr
    have e2 : (⟨C.val % 128, by omega⟩ : Fin 128) = d := Fin.ext hd
    have e3 : C.val % 64 = d.val % 64 := by omega
    rw [e1, e2, e3]
    clear e1 e2 e3
    after_results_simp
    simp only [StableHlo.TRef.ofBuf, StableHlo.TRef.toBuf, cast_eq, id_eq]
    exact sign_ix _ _ _
  · have h' : ¬ (tabOf t R).val < 4096 := by
      show ¬ 1024 * (t.val / 6 % 4 + (if t.val % 6 < 4 then 0 else 4)) + R.val < 4096
      rw [if_neg h]
      omega
    rw [dif_neg h', if_neg (by omega)]
    exact zero_bits

theorem piece_eq (v8 : FVec Ideal S1024x1024 .f32) (v10 v12 : FVec Ideal S1024x128 .f32) (g : Fin 8) (o : Nat) (ho : o = 128 * g.val)
    (inb : ∀ a, (![0, o] : Fin 2 → Nat) a + S1024x128.size a ≤ S1024x1024.size a) (p : FVec Ideal S1024x128 .bf16)
    (h : ∀ (R : Fin 1024) (d : Fin 128), (p (ix2 R d) : EReal) = tileAt v8 v10 v12 R (colIn g d)) (x : S1024x128.Idx) :
    p x = tile v8 v10 v12 ((Rect.unit (s := S1024x1024) ![0, o] S1024x128.size inb).emb x) := by
  obtain ⟨R, d, rfl⟩ : ∃ (R : Fin 1024) (d : Fin 128), x = ix2 R d := ⟨x 0, x 1, funext fun a => by fin_cases a <;> rfl⟩
  have e : (Rect.unit (s := S1024x1024) ![0, o] S1024x128.size inb).emb (ix2 R d) = ix2 R (colIn g d) := by
    refine funext fun a => Fin.ext ((Rect.emb_apply _ _ a).trans ?_)
    match a with
    | ⟨0, _⟩ => show 0 + 1 * R.val = R.val; omega
    | ⟨1, _⟩ => show o + 1 * d.val = 128 * g.val + d.val; omega
  rw [e]
  exact h R d

theorem out_eq (x0 : FVec Ideal S1024x2048 .bf16) (x1 : FVec Ideal S2048x1024 .bf16) (x2 : FVec Ideal S1x1024 .f32) (x3 x4 : FVec Ideal S1024x128 .f32)
    (R C : Fin 1024) : (out0_5 (F := Ideal) x0 x1 x2 x3 x4 (ix2 R C) : EReal) = tileAt (k0_pay4 x0 x1 x2) x3 x4 R C := by
  unfold out0_5 k0_pay16 k0_pay17 k0_pay18 k0_pay19
  have e0 : View.ld (Val := Elt Ideal) (e' := .bf16) x0 r0_0 = x0 := View.ld_unit_lit (Val := Elt Ideal) (e := .bf16) (S := S1024x2048) (off := ![0, 0]) inb_S1024x2048_S1024x2048_0_0 x0 (by decide)
  have e1 : View.ld (Val := Elt Ideal) (e' := .bf16) x1 r0_1 = x1 := View.ld_unit_lit (Val := Elt Ideal) (e := .bf16) (S := S2048x1024) (off := ![0, 0]) inb_S2048x1024_S2048x1024_0_0 x1 (by decide)
  have e2 : View.ld (Val := Elt Ideal) (e' := .f32) x2 r0_2 = x2 := View.ld_unit_lit (Val := Elt Ideal) (e := .f32) (S := S1x1024) (off := ![0, 0]) inb_S1x1024_S1x1024_0_0 x2 (by decide)
  have e3 : View.ld (Val := Elt Ideal) (e' := .f32) x3 r0_3 = x3 := View.ld_unit_lit (Val := Elt Ideal) (e := .f32) (S := S1024x128) (off := ![0, 0]) inb_S1024x128_S1024x128_0_0 x3 (by decide)
  have e4 : View.ld (Val := Elt Ideal) (e' := .f32) x4 r0_3 = x4 := View.ld_unit_lit (Val := Elt Ideal) (e := .f32) (S := S1024x128) (off := ![0, 0]) inb_S1024x128_S1024x128_0_0 x4 (by decide)
  rw [e0, e1, e2, e3, e4, cast_ix, cast_ix']
  refine View.canon_apply_of_pieces (Val := Elt Ideal) (tile (k0_pay4 x0 x1 x2) x3 x4) _ ?_ (ix2 R C) (cover0_5 _ _ _ _ _ _ _ _ _)
  intro p hp x
  simp only [List.mem_cons, List.not_mem_nil, or_false] at hp
  rcases hp with rfl | rfl | rfl | rfl | rfl | rfl | rfl | rfl
  · exact piece_eq _ _ _ 7 896 rfl inb_S1024x1024_S1024x128_0_896 _ (pay3_ix _ _ _) x
  · exact piece_eq _ _ _ 6 768 rfl inb_S1024x1024_S1024x128_0_768 _ (pay2_ix _ _ _) x
  · exact piece_eq _ _ _ 5 640 rfl inb_S1024x1024_S1024x128_0_640 _ (pay1_ix _ _ _) x
  · exact piece_eq _ _ _ 4 512 rfl inb_S1024x1024_S1024x128_0_512 _ (pay15_ix _ _ _) x
  · exact piece_eq _ _ _ 3 384 rfl inb_S1024x1024_S1024x128_0_384 _ (pay14_ix _ _ _) x
  · exact piece_eq _ _ _ 2 256 rfl inb_S1024x1024_S1024x128_0_256 _ (pay13_ix _ _ _) x
  · exact piece_eq _ _ _ 1 128 rfl inb_S1024x1024_S1024x128_0_128 _ (pay12_ix _ _ _) x
  · exact piece_eq _ _ _ 0 0 rfl inb_S1024x1024_S1024x128_0_0 _ (pay11_ix _ _ _ _ _) x

theorem tile_qkv (x0 : FVec Ideal S1024x2048 .bf16) (x1 : FVec Ideal S2048x1024 .bf16) (x2 : FVec Ideal S1x1024 .f32) (x3 x4 : FVec Ideal S1024x128 .f32)
    (A : FVec Ideal ⟨3, ![8, 4096, 2048]⟩ .bf16) (W : FVec Ideal ⟨2, ![2048, 6144]⟩ .f32) (K S : FVec Ideal ⟨2, ![4096, 128]⟩ .f32)
    (r : Fin 32768) (C : Fin 6144) (R c : Fin 1024) (h0 : ∀ k, (x0 (ix2 R k) : EReal) = A (ix3 (bat r) (tok r) k))
    (h1 : ∀ k, (x1 (ix2 k c) : EReal) = W (ix2 k C)) (h1' : ∀ k, (x1 (ix2 k (mateIn c)) : EReal) = W (ix2 k (mate C)))
    (h2 : (x2 (ix2 0 c) : EReal) = colFac C) (h2' : (x2 (ix2 0 (mateIn c)) : EReal) = colFac (mate C))
    (h3 : (x3 (ix2 R ⟨c.val % 128, by omega⟩) : EReal) = cosAt K (tok r) C) (h4 : (x4 (ix2 R ⟨c.val % 128, by omega⟩) : EReal) = sinAt S (tok r) C) :
    tileAt (k0_pay4 x0 x1 x2) x3 x4 R c = qkvAt A W K S r C := by
  unfold tileAt qkvAt prjAt
  rw [scaled, scaled, h2, h2', h3, h4]
  simp only [h0, h1, h1']

theorem final (c : Dev nD) :
    (dats m 0 c).arrAt 5 cfg0.N = qkvProj (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  obtain ⟨R, C, rfl⟩ : ∃ (R : Fin 1024) (C : Fin 1024), y = ix2 R C := ⟨y 0, y 1, funext fun a => by fin_cases a <;> rfl⟩
  have e : ((cfg0.win 5).blk t).view.emb (ix2 R C) = ix2 (rowOf t R) (colOf t C) := by blk_ext! [idx t, rowOf, colOf]
  rw [e]
  blk_simp
  rw [after0_5]
  refine (out_eq _ _ _ _ _ R C).trans ?_
  show _ = qkvAt _ _ _ _ (rowOf t R) (colOf t C)
  have em : colOf t (mateIn C) = mate (colOf t C) := Fin.ext (by
    show 1024 * (t.val % 6) + (if C.val % 64 < 32 then C.val + 32 else C.val - 32)
      = if (1024 * (t.val % 6) + C.val) % 64 < 32 then 1024 * (t.val % 6) + C.val + 32 else 1024 * (t.val % 6) + C.val - 32
    by_cases h : C.val % 64 < 32
    · rw [if_pos h, if_pos (by omega)]
      omega
    · rw [if_neg h, if_neg (by omega)]
      omega)
  have hC : (colOf t C).val / 1024 = t.val % 6 := by show (1024 * (t.val % 6) + C.val) / 1024 = _; omega
  have hd : (colOf t C).val % 128 = (⟨C.val % 128, by omega⟩ : Fin 128).val := by show (1024 * (t.val % 6) + C.val) % 128 = C.val % 128; omega
  exact tile_qkv _ _ _ _ _ _ _ _ _ (rowOf t R) (colOf t C) R C (a_block m c t R) (fun k => w_block m c t k C)
    (fun k => (w_block m c t k (mateIn C)).trans (by rw [em])) (s_block m c t C) ((s_block m c t (mateIn C)).trans (by rw [em]))
    (k_block m c t R _ (colOf t C) hC hd) (n_block m c t R _ (colOf t C) hC hd)

end Cert.Kernel2Ideal.Qkv

end
-- ==== Proof.RefQkv.lean ====
/- The projection to queries, keys and values: the reference's result at an index. -/
module

public import proofs.«01_k».proof.Proof.Qkv

@[expose] public section

set_option maxRecDepth 16384

noncomputable section

namespace Cert.Real

open Idealize.ShloMosaic

theorem qFac_real : ∃ r : ℝ, 0 ≤ r ∧ qFac = (r : EReal) := by
  refine ⟨2 ^ (-26 : ℤ) * 8557550, by positivity, ?_⟩
  simp [qFac, Ideal.ofBits, Ideal.ieee]
  exact mul_comm _ _

theorem distrib_qFac (x y : EReal) : (x + y) * qFac = x * qFac + y * qFac := by
  obtain ⟨r, h0, h⟩ := qFac_real
  rw [h]
  exact EReal.right_distrib_of_nonneg_of_ne_top (EReal.coe_nonneg.mpr h0) (EReal.coe_ne_top r) x y

theorem qFac_mul (a k f : EReal) : a * k * f = a * f * k := by rw [mul_assoc, mul_comm k f, mul_assoc]

theorem neg_qFac (b s f : EReal) : -b * s * f = b * f * (s * -1) := by
  rw [show s * -1 = -s from by rw [mul_neg, mul_one], neg_mul, neg_mul, mul_neg, qFac_mul]

end Cert.Real

namespace Cert.Reference2Ideal.Qkv

open Idealize.ShloMosaic Idealize.ShloMosaic.TcCoe Idealize.SL.Sem
open Cert.Reference2Ideal Cert.Reference2Ideal.Gen Cert.Real Cert.Reference2Ideal.Read

variable (A : FVec Ideal S8x4096x2048 .bf16) (W : FVec Ideal S2048x6144 .f32) (K S : FVec Ideal S4096x128 .f32)

theorem v1_ix (b : Fin 8) (n : Fin 4096) (C : Fin 6144) : (val_main_v1 (F := Ideal) A W (ix3 b n C) : EReal) = prjAt A W b n C := by
  rw [val_main_v1_apply]
  refine Finset.sum_congr rfl fun k _ => ?_
  congr 1
  · rw [val_main_v0_apply]
    exact congrArg A (funext fun a => by fin_cases a <;> rfl)
  · exact congrArg W (funext fun a => by fin_cases a <;> rfl)

/-- The column of head `h`'s map `i`, entry `d`. -/
def qCol (i : Fin 2) (h : Fin 8) (d : Fin 128) : Fin 6144 := ⟨256 * h.val + 128 * i.val + d.val, by omega⟩
def kCol (i : Fin 2) (h : Fin 8) (d : Fin 128) : Fin 6144 := ⟨2048 + (256 * h.val + 128 * i.val + d.val), by omega⟩

theorem v6_ix (i : Fin 2) (b h : Fin 8) (n : Fin 4096) (d : Fin 128) :
    (val_main_v6 (F := Ideal) A W (ix5 i b h n d) : EReal) = prjAt A W b n (qCol i h d) := by
  have e : idx_main_v2 (idx_main_v5 (idx_main_v6 (ix5 i b h n d))) = ix3 b n (qCol i h d) := by
    funext a
    fin_cases a <;> apply Fin.ext
    · show ((((b.val * 4096 + n.val) * 8 + h.val) * 2 + i.val) * 128 + d.val) / 8388608 = b.val
      omega
    · show ((((b.val * 4096 + n.val) * 8 + h.val) * 2 + i.val) * 128 + d.val) / 2048 % 4096 = n.val
      omega
    · show ((((b.val * 4096 + n.val) * 8 + h.val) * 2 + i.val) * 128 + d.val) % 2048 = 256 * h.val + 128 * i.val + d.val
      omega
  rw [val_main_v6_apply, val_main_v5_apply, val_main_v2_apply, e, v1_ix]

theorem v8_ix (i : Fin 2) (b h : Fin 8) (n : Fin 4096) (d : Fin 128) :
    (val_main_v8 (F := Ideal) A W (ix5 i b h n d) : EReal) = prjAt A W b n (kCol i h d) := by
  have e : idx_main_v3 (idx_main_v7 (idx_main_v8 (ix5 i b h n d))) = ix3 b n (kCol i h d) := by
    funext a
    fin_cases a <;> apply Fin.ext
    · show ((((b.val * 4096 + n.val) * 8 + h.val) * 2 + i.val) * 128 + d.val) / 8388608 = b.val
      omega
    · show ((((b.val * 4096 + n.val) * 8 + h.val) * 2 + i.val) * 128 + d.val) / 2048 % 4096 = n.val
      omega
    · show 2048 + ((((b.val * 4096 + n.val) * 8 + h.val) * 2 + i.val) * 128 + d.val) % 2048 = 2048 + (256 * h.val + 128 * i.val + d.val)
      omega
  rw [val_main_v8_apply, val_main_v7_apply, val_main_v3_apply, e, v1_ix]

/-- A half's rotation: its second quarter's negation, then its first. -/
def rot (q : FVec Ideal S2x8x8x4096x128 .f32) : FVec Ideal S2x8x8x4096x128 .f32 :=
  concatenate S2x8x8x4096x128 4
    [⟨S2x8x8x4096x32, Host.negf (extractStridedSlice S2x8x8x4096x32 ![0, 0, 0, 0, 32] q slices_S2x8x8x4096x128_S2x8x8x4096x32_0_0_0_0_32)⟩,
     ⟨S2x8x8x4096x32, extractStridedSlice S2x8x8x4096x32 ![0, 0, 0, 0, 0] q slices_S2x8x8x4096x128_S2x8x8x4096x32_0_0_0_0_0⟩,
     ⟨S2x8x8x4096x32, Host.negf (extractStridedSlice S2x8x8x4096x32 ![0, 0, 0, 0, 96] q slices_S2x8x8x4096x128_S2x8x8x4096x32_0_0_0_0_96)⟩,
     ⟨S2x8x8x4096x32, extractStridedSlice S2x8x8x4096x32 ![0, 0, 0, 0, 64] q slices_S2x8x8x4096x128_S2x8x8x4096x32_0_0_0_0_64⟩]
    concatenates_S2x8x8x4096x32_S2x8x8x4096x32_S2x8x8x4096x32_S2x8x8x4096x32_S2x8x8x4096x128_d4

def swap (d : Fin 128) : Fin 128 := ⟨if d.val % 64 < 32 then d.val + 32 else d.val - 32, by split <;> omega⟩

theorem rot_ix (q : FVec Ideal S2x8x8x4096x128 .f32) (i : Fin 2) (b h : Fin 8) (n : Fin 4096) (d : Fin 128) :
    (rot q (ix5 i b h n d) : EReal) = if d.val % 64 < 32 then -(q (ix5 i b h n (swap d)) : EReal) else q (ix5 i b h n (swap d)) := by
  have e : (rot q (ix5 i b h n d) : EReal)
      = if h1 : d.val < 32 then -(q (ix5 i b h n ⟨32 + d.val, by omega⟩) : EReal)
        else if h2 : d.val - 32 < 32 then q (ix5 i b h n ⟨d.val - 32, by omega⟩)
        else if h3 : d.val - 32 - 32 < 32 then -(q (ix5 i b h n ⟨96 + (d.val - 32 - 32), by omega⟩) : EReal)
        else q (ix5 i b h n ⟨64 + (d.val - 32 - 32 - 32), by omega⟩) := by
    pointwise [rot]
  rw [e]
  have es : ∀ k : Fin 128, k.val = (if d.val % 64 < 32 then d.val + 32 else d.val - 32) → k = swap d := fun k hk => Fin.ext hk
  by_cases h1 : d.val < 32
  · rw [dif_pos h1, if_pos (show d.val % 64 < 32 by omega), es ⟨32 + d.val, by omega⟩ (by show 32 + d.val = _; rw [if_pos (by omega)]; omega)]
  · rw [dif_neg h1]
    by_cases h2 : d.val - 32 < 32
    · rw [dif_pos h2, if_neg (show ¬ d.val % 64 < 32 by omega), es ⟨d.val - 32, by omega⟩ (by show d.val - 32 = _; rw [if_neg (by omega)])]
    · rw [dif_neg h2]
      by_cases h3 : d.val - 32 - 32 < 32
      · rw [dif_pos h3, if_pos (show d.val % 64 < 32 by omega),
          es ⟨96 + (d.val - 32 - 32), by omega⟩ (by show 96 + (d.val - 32 - 32) = _; rw [if_pos (by omega)]; omega)]
      · rw [dif_neg h3, if_neg (show ¬ d.val % 64 < 32 by omega),
          es ⟨64 + (d.val - 32 - 32 - 32), by omega⟩ (by show 64 + (d.val - 32 - 32 - 32) = _; rw [if_neg (by omega)]; omega)]

theorem v15_eq : val_main_v15 (F := Ideal) A W = rot (val_main_v6 (F := Ideal) A W) := rfl
theorem v31_eq : val_main_v31 (F := Ideal) A W = rot (val_main_v8 (F := Ideal) A W) := rfl

theorem add_def (x y : Ideal .f32) : (FloatOps.addf x y : Ideal .f32) = x + y := rfl
theorem mul_def (x y : Ideal .f32) : (FloatOps.mulf x y : Ideal .f32) = x * y := rfl

theorem v17_ix (i : Fin 2) (b h : Fin 8) (n : Fin 4096) (d : Fin 128) : val_main_v17 (F := Ideal) K (ix5 i b h n d) = K (ix2 n d) := by
  rw [val_main_v17_apply, val_main_v16_apply]
  exact congrArg K (funext fun a => by fin_cases a <;> rfl)
theorem v20_ix (i : Fin 2) (b h : Fin 8) (n : Fin 4096) (d : Fin 128) : val_main_v20 (F := Ideal) S (ix5 i b h n d) = S (ix2 n d) := by
  rw [val_main_v20_apply, val_main_v19_apply]
  exact congrArg S (funext fun a => by fin_cases a <;> rfl)
theorem v33_ix (i : Fin 2) (b h : Fin 8) (n : Fin 4096) (d : Fin 128) : val_main_v33 (F := Ideal) K (ix5 i b h n d) = K (ix2 n d) := by
  rw [val_main_v33_apply, val_main_v32_apply]
  exact congrArg K (funext fun a => by fin_cases a <;> rfl)
theorem v36_ix (i : Fin 2) (b h : Fin 8) (n : Fin 4096) (d : Fin 128) : val_main_v36 (F := Ideal) S (ix5 i b h n d) = S (ix2 n d) := by
  rw [val_main_v36_apply, val_main_v35_apply]
  exact congrArg S (funext fun a => by fin_cases a <;> rfl)

theorem v24_ix (i : Fin 2) (b h : Fin 8) (n : Fin 4096) (d : Fin 128) :
    (val_main_v24 (F := Ideal) A W K S (ix5 i b h n d) : EReal)
      = (prjAt A W b n (qCol i h d) * K (ix2 n d)
          + (if d.val % 64 < 32 then -prjAt A W b n (qCol i h (swap d)) else prjAt A W b n (qCol i h (swap d))) * S (ix2 n d)) * qFac := by
  rw [val_main_v24_apply, val_main_v22_apply, val_main_v18_apply, val_main_v21_apply, v15_eq, v17_ix, v20_ix, val_main_v23_apply,
    mul_def, mul_def, mul_def, add_def, rot_ix, v6_ix, v6_ix]
  rfl

theorem v38_ix (i : Fin 2) (b h : Fin 8) (n : Fin 4096) (d : Fin 128) :
    (val_main_v38 (F := Ideal) A W K S (ix5 i b h n d) : EReal)
      = prjAt A W b n (kCol i h d) * K (ix2 n d)
          + (if d.val % 64 < 32 then -prjAt A W b n (kCol i h (swap d)) else prjAt A W b n (kCol i h (swap d))) * S (ix2 n d) := by
  rw [val_main_v38_apply, val_main_v34_apply, val_main_v37_apply, v31_eq, v33_ix, v36_ix, mul_def, mul_def, add_def, rot_ix, v8_ix, v8_ix]

theorem concat_ix (x y z : FVec Ideal S32768x2048 .f32) (r : Fin 32768) (C : Fin 6144) :
    concatenate S32768x6144 1 [⟨S32768x2048, x⟩, ⟨S32768x2048, y⟩, ⟨S32768x2048, z⟩] concatenates_S32768x2048_S32768x2048_S32768x2048_S32768x6144_d1 (ix2 r C)
      = if h : C.val < 2048 then x (ix2 r ⟨C.val, h⟩) else if h' : C.val < 4096 then y (ix2 r ⟨C.val - 2048, by omega⟩)
        else z (ix2 r ⟨C.val - 4096, by omega⟩) := by
  have e : concatenate S32768x6144 1 [⟨S32768x2048, x⟩, ⟨S32768x2048, y⟩, ⟨S32768x2048, z⟩] concatenates_S32768x2048_S32768x2048_S32768x2048_S32768x6144_d1 (ix2 r C)
      = if h : C.val < 2048 then x (ix2 r ⟨C.val, h⟩) else if h' : C.val - 2048 < 2048 then y (ix2 r ⟨C.val - 2048, h'⟩)
        else z (ix2 r ⟨C.val - 2048 - 2048, by omega⟩) := by
    pointwise
  rw [e]
  by_cases h : C.val < 2048
  · rw [dif_pos h, dif_pos h]
  · rw [dif_neg h, dif_neg h]
    by_cases h' : C.val < 4096
    · rw [dif_pos h', dif_pos (show C.val - 2048 < 2048 by omega)]
    · rw [dif_neg h', dif_neg (show ¬ C.val - 2048 < 2048 by omega)]
      exact congrArg (fun j => z (ix2 r j)) (Fin.ext (by show C.val - 2048 - 2048 = C.val - 4096; omega))

theorem v40_ix (r : Fin 32768) (C : Fin 2048) :
    val_main_v40 (F := Ideal) A W K S (ix2 r C)
      = val_main_v24 (F := Ideal) A W K S (ix5 ⟨C.val / 128 % 2, by omega⟩ (bat r) ⟨C.val / 256, by omega⟩ (tok r) ⟨C.val % 128, by omega⟩) := by
  rw [val_main_v40_apply, val_main_v39_apply]
  refine congrArg (val_main_v24 (F := Ideal) A W K S) ?_
  funext a
  fin_cases a <;> apply Fin.ext
  · show (r.val * 2048 + C.val) / 128 % 2 = C.val / 128 % 2
    omega
  · show (r.val * 2048 + C.val) / 8388608 = r.val / 4096
    omega
  · show (r.val * 2048 + C.val) / 256 % 8 = C.val / 256
    omega
  · show (r.val * 2048 + C.val) / 2048 % 4096 = r.val % 4096
    omega
  · show (r.val * 2048 + C.val) % 128 = C.val % 128
    omega

theorem v42_ix (r : Fin 32768) (C : Fin 2048) :
    val_main_v42 (F := Ideal) A W K S (ix2 r C)
      = val_main_v38 (F := Ideal) A W K S (ix5 ⟨C.val / 128 % 2, by omega⟩ (bat r) ⟨C.val / 256, by omega⟩ (tok r) ⟨C.val % 128, by omega⟩) := by
  rw [val_main_v42_apply, val_main_v41_apply]
  refine congrArg (val_main_v38 (F := Ideal) A W K S) ?_
  funext a
  fin_cases a <;> apply Fin.ext
  · show (r.val * 2048 + C.val) / 128 % 2 = C.val / 128 % 2
    omega
  · show (r.val * 2048 + C.val) / 8388608 = r.val / 4096
    omega
  · show (r.val * 2048 + C.val) / 256 % 8 = C.val / 256
    omega
  · show (r.val * 2048 + C.val) / 2048 % 4096 = r.val % 4096
    omega
  · show (r.val * 2048 + C.val) % 128 = C.val % 128
    omega

theorem v43_ix (r : Fin 32768) (C : Fin 2048) (hC : 4096 + C.val < 6144) :
    (val_main_v43 (F := Ideal) A W (ix2 r C) : EReal) = prjAt A W (bat r) (tok r) ⟨4096 + C.val, hC⟩ := by
  have e : idx_main_v4 (idx_main_v43 (ix2 r C)) = ix3 (bat r) (tok r) ⟨4096 + C.val, hC⟩ := by
    funext a
    fin_cases a <;> apply Fin.ext
    · show (r.val * 2048 + C.val) / 8388608 = r.val / 4096
      omega
    · show (r.val * 2048 + C.val) / 2048 % 4096 = r.val % 4096
      omega
    · show 4096 + (r.val * 2048 + C.val) % 2048 = 4096 + C.val
      omega
  rw [val_main_v43_apply, val_main_v4_apply, e, v1_ix]

theorem value : val_main_v45 (F := Ideal) A W K S = qkvProj A W K S := by
  funext y
  obtain ⟨r, C, rfl⟩ : ∃ (r : Fin 32768) (C : Fin 6144), y = ix2 r C := ⟨y 0, y 1, funext fun a => by fin_cases a <;> rfl⟩
  show _ = qkvAt A W K S r C
  have e45 : (val_main_v45 (F := Ideal) A W K S (ix2 r C) : EReal) = val_main_v44 (F := Ideal) A W K S (ix2 r C) := rfl
  refine e45.trans ?_
  unfold val_main_v44
  rw [concat_ix]
  unfold qkvAt
  have hs : (⟨C.val % 128, by omega⟩ : Fin 128).val % 64 = C.val % 64 := by show C.val % 128 % 64 = C.val % 64; omega
  by_cases h : C.val < 2048
  · have hm : (mate C).val < 2048 := by
      show (if C.val % 64 < 32 then C.val + 32 else C.val - 32) < 2048
      split <;> omega
    have e1 : qCol ⟨C.val / 128 % 2, by omega⟩ ⟨C.val / 256, by omega⟩ ⟨C.val % 128, by omega⟩ = C := Fin.ext (by
      show 256 * (C.val / 256) + 128 * (C.val / 128 % 2) + C.val % 128 = C.val
      omega)
    have e2 : qCol ⟨C.val / 128 % 2, by omega⟩ ⟨C.val / 256, by omega⟩ (swap ⟨C.val % 128, by omega⟩) = mate C := Fin.ext (by
      show 256 * (C.val / 256) + 128 * (C.val / 128 % 2) + (if C.val % 128 % 64 < 32 then C.val % 128 + 32 else C.val % 128 - 32)
        = if C.val % 64 < 32 then C.val + 32 else C.val - 32
      by_cases hh : C.val % 64 < 32
      · rw [if_pos hh, if_pos (by omega)]
        omega
      · rw [if_neg hh, if_neg (by omega)]
        omega)
    rw [dif_pos h, v40_ix, v24_ix]
    show (prjAt A W (bat r) (tok r) (qCol ⟨C.val / 128 % 2, by omega⟩ ⟨C.val / 256, by omega⟩ ⟨C.val % 128, by omega⟩) * _ + (if C.val % 128 % 64 < 32 then -prjAt A W (bat r) (tok r) (qCol ⟨C.val / 128 % 2, by omega⟩ ⟨C.val / 256, by omega⟩ (swap ⟨C.val % 128, by omega⟩)) else prjAt A W (bat r) (tok r) (qCol ⟨C.val / 128 % 2, by omega⟩ ⟨C.val / 256, by omega⟩ (swap ⟨C.val % 128, by omega⟩))) * _) * qFac = _
    rw [e1, e2]
    unfold colFac cosAt sinAt
    rw [if_pos h, if_pos hm, if_pos (show C.val < 4096 by omega), if_pos (show C.val < 4096 by omega), distrib_qFac]
    refine congrArg₂ (· + ·) (qFac_mul _ _ _) ?_
    by_cases hh : C.val % 64 < 32
    · rw [if_pos hh, if_pos (show C.val % 128 % 64 < 32 by omega), neg_qFac]
    · rw [if_neg hh, if_neg (show ¬ C.val % 128 % 64 < 32 by omega), qFac_mul, mul_one]
  · have hm : ¬ (mate C).val < 2048 := by
      show ¬ (if C.val % 64 < 32 then C.val + 32 else C.val - 32) < 2048
      split <;> omega
    rw [dif_neg h]
    by_cases h' : C.val < 4096
    · have e1 : kCol ⟨(C.val - 2048) / 128 % 2, by omega⟩ ⟨(C.val - 2048) / 256, by omega⟩ ⟨(C.val - 2048) % 128, by omega⟩ = C := Fin.ext (by
        show 2048 + (256 * ((C.val - 2048) / 256) + 128 * ((C.val - 2048) / 128 % 2) + (C.val - 2048) % 128) = C.val
        omega)
      have e2 : kCol ⟨(C.val - 2048) / 128 % 2, by omega⟩ ⟨(C.val - 2048) / 256, by omega⟩ (swap ⟨(C.val - 2048) % 128, by omega⟩) = mate C := Fin.ext (by
        show 2048 + (256 * ((C.val - 2048) / 256) + 128 * ((C.val - 2048) / 128 % 2)
            + (if (C.val - 2048) % 128 % 64 < 32 then (C.val - 2048) % 128 + 32 else (C.val - 2048) % 128 - 32))
          = if C.val % 64 < 32 then C.val + 32 else C.val - 32
        by_cases hh : C.val % 64 < 32
        · rw [if_pos hh, if_pos (by omega)]
          omega
        · rw [if_neg hh, if_neg (by omega)]
          omega)
      have e3 : (⟨(C.val - 2048) % 128, by omega⟩ : Fin 128) = ⟨C.val % 128, by omega⟩ := Fin.ext (by
        show (C.val - 2048) % 128 = C.val % 128
        omega)
      rw [dif_pos h', v42_ix, v38_ix]
      show prjAt A W (bat r) (tok r) (kCol ⟨(C.val - 2048) / 128 % 2, by omega⟩ ⟨(C.val - 2048) / 256, by omega⟩ ⟨(C.val - 2048) % 128, by omega⟩) * K (ix2 (tok r) ⟨(C.val - 2048) % 128, by omega⟩) + (if (C.val - 2048) % 128 % 64 < 32 then -prjAt A W (bat r) (tok r) (kCol ⟨(C.val - 2048) / 128 % 2, by omega⟩ ⟨(C.val - 2048) / 256, by omega⟩ (swap ⟨(C.val - 2048) % 128, by omega⟩)) else prjAt A W (bat r) (tok r) (kCol ⟨(C.val - 2048) / 128 % 2, by omega⟩ ⟨(C.val - 2048) / 256, by omega⟩ (swap ⟨(C.val - 2048) % 128, by omega⟩))) * S (ix2 (tok r) ⟨(C.val - 2048) % 128, by omega⟩) = _
      rw [e1, e2, e3]
      unfold colFac cosAt sinAt
      rw [if_neg h, if_neg hm, if_pos h', if_pos h', mul_one, mul_one]
      by_cases hh : C.val % 64 < 32
      · rw [if_pos hh, if_pos (show (C.val - 2048) % 128 % 64 < 32 by omega), neg_mul, mul_neg, mul_neg, mul_one]
      · rw [if_neg hh, if_neg (show ¬ (C.val - 2048) % 128 % 64 < 32 by omega), mul_one]
    · have e1 : (⟨4096 + (C.val - 4096), by omega⟩ : Fin 6144) = C := Fin.ext (by
        show 4096 + (C.val - 4096) = C.val
        omega)
      rw [dif_neg h', v43_ix _ _ r ⟨C.val - 4096, by omega⟩ (by show 4096 + (C.val - 4096) < 6144; omega)]
      show prjAt A W (bat r) (tok r) ⟨4096 + (C.val - 4096), by omega⟩ = _
      rw [e1]
      unfold colFac cosAt sinAt
      rw [if_neg h, if_neg hm, if_neg h', if_neg h', mul_one, mul_one, mul_one, mul_zero, add_zero]

end Cert.Reference2Ideal.Qkv

end
-- ==== Proof.Norm.lean ====
/- The final normalization: the call's result, and the reference's, are the same array. -/
module

public import proofs.«01_k».proof.Proof.Gen.Kernel6Ideal.Value
public import proofs.«01_k».proof.Proof.Gen.Reference6Ideal.Read
public import Idealize.ShloMosaic.Lib.Claim
public import Idealize.ShloMosaic.Lib.Pointwise
public import Idealize.ShloMosaic.Lib.Pipeline.ValueKit
public import Idealize.ShloMosaic.Lib.Pipeline.CanonAppend
public import Idealize.ShloMosaic.Lib.Pipeline.ReadBack

@[expose] public section

set_option maxRecDepth 16384

noncomputable section

namespace Cert.Real

open Idealize.ShloMosaic

/-- One over the root mean square of a token's 2048 channels; the small constant is the programs' own. -/
def rmsInv (x : Fin 2048 → EReal) : EReal :=
  Ideal.rsqrt (Ideal.div (∑ k, x k * x k) (Ideal.ofBits .f32 0x45000000#32) + Ideal.ofBits .f32 0x358637BD#32)

/-- Channel `C` of token `n` of batch `b`, normalized and scaled by its gain. -/
def normAt (X : FVec Ideal ⟨3, ![8, 4096, 2048]⟩ .f32) (g : FVec Ideal ⟨1, ![2048]⟩ .f32) (b : Fin 8) (n : Fin 4096) (C : Fin 2048) : EReal :=
  X (ix3 b n C) * rmsInv (fun k => X (ix3 b n k)) * g (ix1 C)

def normed (X : FVec Ideal ⟨3, ![8, 4096, 2048]⟩ .f32) (g : FVec Ideal ⟨1, ![2048]⟩ .f32) : FVec Ideal ⟨3, ![8, 4096, 2048]⟩ .f32 :=
  fun y => normAt X g (y 0) (y 1) (y 2)

theorem zeroWord : Ideal.ofBits .f32 0x00000000#32 = 0 := by
  simp [Ideal.ofBits, Ideal.ieee]

end Cert.Real

namespace Cert.Kernel6Ideal.Norm

open Idealize.ShloMosaic Idealize.ShloMosaic.TcCoe Idealize.SL.Sem
open Cert.Kernel6Ideal Cert.Kernel6Ideal.Gen Cert.Real

variable (m : (ℓ : Loc nD τ sig) → Buf (Elt Ideal) ℓ)

theorem idx : ∀ t : Fin cfg0.N, win0_0.index t = ![t.val / 8, t.val % 8, 0] ∧ win0_1.index t = ![0, 0] ∧ win0_2.index t = ![t.val / 8, t.val % 8, 0]
    ∧ t.val < 64 := (by decide +kernel : ∀ t : Fin grid0.N, _)

/-- The batch of grid point `t`, and the token of row `R` of its block. -/
def batOf (t : Fin cfg0.N) : Fin 8 := ⟨t.val / 8, by have := (idx t).2.2.2; omega⟩
def tokOf (t : Fin cfg0.N) (R : Fin 512) : Fin 4096 := ⟨512 * (t.val % 8) + R.val, by omega⟩

theorem x_block (c : Dev nD) (t : Fin cfg0.N) (R : Fin 512) (k : Fin 2048) :
    iblk m c 0 t (ix3 0 R k) = m ((c : Thread nD τ).loc main_arg0) (ix3 (batOf t) (tokOf t R) k) := by
  blk_ext! [iblk, V, idx t, batOf, tokOf]

theorem g_block (c : Dev nD) (t : Fin cfg0.N) (C : Fin 2048) :
    iblk m c 1 t (ix2 0 C) = m ((c : Thread nD τ).loc main_arg1) (ix1 C) := by
  blk_simp [iblk]
  entry_read
  pointwise
  blk_ext [idx t]

theorem pay (v0 : FVec Ideal S1x512x2048 .f32) (v12 : FVec Ideal S1x2048 .f32) (R : Fin 512) (C : Fin 2048) :
    (k0_pay1 (F := Ideal) v0 v12 (ix3 0 R C) : EReal) = v0 (ix3 0 R C) * rmsInv (fun k => v0 (ix3 0 R k)) * v12 (ix2 0 C) := by
  unfold rmsInv
  pointwise [k0_pay1]

theorem final (c : Dev nD) :
    (dats m 0 c).arrAt 2 cfg0.N = normed (m ((c : Thread nD τ).loc main_arg0)) (m ((c : Thread nD τ).loc main_arg1)) := by
  refine (dats m 0 c).arrAt_eq_of_covers 2 _ (by decide +kernel) fun t hf y => ?_
  obtain ⟨R, C, rfl⟩ : ∃ (R : Fin 512) (C : Fin 2048), y = ix3 0 R C :=
    ⟨y 1, y 2, funext fun a => by fin_cases a <;> first | rfl | exact Subsingleton.elim (α := Fin 1) _ _⟩
  have e : ((cfg0.win 2).blk t).view.emb (ix3 0 R C) = ix3 (batOf t) (tokOf t R) C := by blk_ext! [idx t, batOf, tokOf]
  rw [e]
  blk_simp
  rw [after0_2]
  frame_out
  refine (pay _ _ _ _).trans ?_
  show _ = normAt _ _ (batOf t) (tokOf t R) C
  unfold normAt
  simp only [x_block, g_block]

end Cert.Kernel6Ideal.Norm

namespace Cert.Reference6Ideal.Norm

open Idealize.ShloMosaic Idealize.ShloMosaic.TcCoe Idealize.SL.Sem
open Cert.Reference6Ideal Cert.Reference6Ideal.Gen Cert.Real Cert.Reference6Ideal.Read

variable (X : FVec Ideal S8x4096x2048 .f32) (g : FVec Ideal S2048 .f32)

theorem mul_def (x y : Ideal .f32) : FloatOps.mulf x y = ((x : EReal) * (y : EReal) : EReal) := rfl
theorem bits_def (x : BitVec 32) : (FloatOps.ofBits .f32 x : Ideal .f32) = Ideal.ofBits .f32 x := rfl
theorem inv_def (x y z : Ideal .f32) : FloatOps.hostUnary .rsqrt (FloatOps.addf (FloatOps.hostDivf x y) z) = Ideal.rsqrt (Ideal.div x y + z) := rfl

theorem inv_ix (b : Fin 8) (n : Fin 4096) (C : Fin 2048) :
    val_main_v8 (F := Ideal) X (ix3 b n C) = rmsInv (fun k => X (ix3 b n k)) := by
  have e1 : ∀ k, idx_main_v1 (idx_main_v2 (idx_main_v8 (ix3 b n C))) k = ix3 b n k := fun k => funext fun a => by fin_cases a <;> rfl
  have h : val_main_v1 (F := Ideal) X (idx_main_v2 (idx_main_v8 (ix3 b n C))) = ∑ k : Fin 2048, X (ix3 b n k) * X (ix3 b n k) := by
    rw [val_main_v1_apply, val_main_cst_apply]
    refine (congrArg (· + _) zeroWord).trans ((zero_add _).trans (Finset.sum_congr rfl fun k _ => ?_))
    rw [e1, val_main_v0_apply, mul_def]
  rw [val_main_v8_apply, val_main_v7_apply, val_main_v6_apply, val_main_v4_apply, val_main_v2_apply, h, val_main_v3_apply, val_main_v5_apply,
    val_main_cst_0_apply, val_main_cst_1_apply, inv_def, bits_def, bits_def]
  rfl

theorem value : val_main_v12 (F := Ideal) X g = normed X g := by
  funext y
  obtain ⟨b, n, C, rfl⟩ : ∃ b n C, y = ix3 b n C := ⟨y 0, y 1, y 2, funext fun a => by fin_cases a <;> rfl⟩
  have eg : idx_main_v10 (idx_main_v11 (ix3 b n C)) = ix1 C := funext fun a => by fin_cases a; rfl
  show _ = normAt X g b n C
  rw [val_main_v12_apply, val_main_v9_apply, inv_ix, val_main_v11_apply, val_main_v10_apply, eg, mul_def, mul_def]
  rfl

end Cert.Reference6Ideal.Norm

end
-- ==== Proof.Glu.lean ====
/- The gate of an even layer's S5 channels: the call's result, and the reference's, are the same array. -/
module

public import proofs.«01_k».proof.Proof.Gen.Kernel7Ideal.Value
public import proofs.«01_k».proof.Proof.Gen.Reference7Ideal.Read
public import Idealize.ShloMosaic.Lib.Claim
public import Idealize.ShloMosaic.Lib.Pointwise
public import Idealize.ShloMosaic.Lib.Pipeline.ValueKit
public import Idealize.ShloMosaic.Lib.Pipeline.CanonAppend
public import Idealize.ShloMosaic.Lib.Pipeline.ReadBack

@[expose] public section

set_option maxRecDepth 16384

noncomputable section

namespace Cert.Real

open Idealize.ShloMosaic

/-- The gelu in its tanh form, with the programs' constants. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The gelu of the scan's output with the skip: channel `C` of token `n`. The skip's inputs are the last 1024 columns of `Z`. -/
def skipAt (Y : FVec Ideal ⟨3, ![8, 4096, 1024]⟩ .f32) (Z : FVec Ideal ⟨3, ![8, 4096, 5120]⟩ .f32) (D : FVec Ideal ⟨1, ![1024]⟩ .f32)
    (b : Fin 8) (n : Fin 4096) (C : Fin 1024) : EReal :=
  gelu (Y (ix3 b n C) + D (ix1 C) * Z (ix3 b n ⟨4096 + C.val, by omega⟩))

def gluAt (Y : FVec Ideal ⟨3, ![8, 4096, 1024]⟩ .f32) (Z : FVec Ideal ⟨3, ![8, 4096, 5120]⟩ .f32) (D : FVec Ideal ⟨1, ![1024]⟩ .f32)
    (W : FVec Ideal ⟨2, ![1024, 1024]⟩ .f32) (b : Fin 8) (n : Fin 4096) (C : Fin 1024) : EReal :=
  skipAt Y Z D b n C * Ideal.logistic (∑ k : Fin 1024, skipAt Y Z D b n k * W (ix2 k C))

def glu (Y : FVec Ideal ⟨3, ![8, 4096, 1024]⟩ .f32) (Z : FVec Ideal ⟨3, ![8, 4096, 5120]⟩ .f32) (D : FVec Ideal ⟨1, ![1024]⟩ .f32)
    (W : FVec Ideal ⟨2, ![1024, 1024]⟩ .f32) : FVec Ideal ⟨3, ![8, 4096, 1024]⟩ .bf16 :=
  fun y => gluAt Y Z D W (y 0) (y 1) (y 2)

theorem oneWord : Ideal.ofBits .f32 0x3F800000#32 = 1 := by
  simp [Ideal.ofBits, Ideal.ieee]
  rw [← EReal.coe_mul]
  norm_num

end Cert.Real

namespace Cert.Kernel7Ideal.Glu

open Idealize.ShloMosaic Idealize.ShloMosaic.TcCoe Idealize.SL.Sem
open Cert.Kernel7Ideal Cert.Kernel7Ideal.Gen Cert.Real

variable (m : (ℓ : Loc nD τ sig) → Buf (Elt Ideal) ℓ)

theorem idx : ∀ t : Fin cfg0.N, win0_0.index t = ![t.val / 8, t.val % 8, 0] ∧ win0_1.index t = ![t.val / 8, t.val % 8, 4] ∧ win0_2.index t = ![0, 0]
    ∧ win0_3.index t = ![0, 0] ∧ win0_4.index t = ![t.val / 8, t.val % 8, 0] ∧ t.val < 64 := (by decide +kernel : ∀ t : Fin grid0.N, _)

/-- The batch of grid point `t`, and the token of row `R` of its block. -/
def batOf (t : Fin cfg0.N) : Fin 8 := ⟨t.val / 8, by have := (idx t).2.2.2.2.2; omega⟩
def tokOf (t : Fin cfg0.N) (R : Fin 512) : Fin 4096 := ⟨512 * (t.val % 8) + R.val, by omega⟩

theorem y_block (c : Dev nD) (t : Fin cfg0.N) (R : Fin 512) (k : Fin 1024) :
    iblk m c 0 t (ix3 0 R k) = m ((c : Thread nD τ).loc main_arg0) (ix3 (batOf t) (tokOf t R) k) := by
  blk_ext! [iblk, V, idx t, batOf, tokOf]

theorem z_block (c : Dev nD) (t : Fin cfg0.N) (R : Fin 512) (k : Fin 1024) :
    iblk m c 1 t (ix3 0 R k) = m ((c : Thread nD τ).loc main_arg1) (ix3 (batOf t) (tokOf t R) ⟨4096 + k.val, by omega⟩) := by
  blk_ext! [iblk, V, idx t, batOf, tokOf]

theorem d_block (c : Dev nD) (t : Fin cfg0.N) (C : Fin 1024) :
    iblk m c 2 t (ix2 0 C) = m ((c : Thread nD τ).loc main_arg2) (ix1 C) := by
  blk_simp [iblk]
  entry_read
  pointwise
  blk_ext [idx t]

theorem w_block (c : Dev nD) (t : Fin cfg0.N) (k C : Fin 1024) :
    iblk m c 3 t (ix2 k C) = m ((c : Thread nD τ).loc main_arg3) (ix2 k C) := by
  blk_simp [iblk]
  entry_read
  pointwise
  blk_ext [idx t]

theorem pay (v0 : FVec Ideal S1x512x1024 .f32) (v2 : FVec Ideal S1x1024 .f32) (v4 : FVec Ideal S1x512x1024 .f32) (v23 : FVec Ideal S1024x1024 .bf16)
    (R : Fin 512) (C : Fin 1024) :
    (k0_pay1 (F := Ideal) v0 v2 v4 v23 (ix3 0 R C) : EReal)
      = gelu (v0 (ix3 0 R C) + v2 (ix2 0 C) * v4 (ix3 0 R C))
        * Ideal.logistic (∑ k : Fin 1024, gelu (v0 (ix3 0 R k) + v2 (ix2 0 k) * v4 (ix3 0 R k)) * (v23 (ix2 k C) : EReal)) := by
  unfold gelu
  pointwise [k0_pay1]

theorem final (c : Dev nD) :
    (dats m 0 c).arrAt 4 cfg0.N = glu (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨R, C, rfl⟩ : ∃ (R : Fin 512) (C : Fin 1024), y = ix3 0 R C :=
    ⟨y 1, y 2, funext fun a => by fin_cases a <;> first | rfl | exact Subsingleton.elim (α := Fin 1) _ _⟩
  have e : ((cfg0.win 4).blk t).view.emb (ix3 0 R C) = ix3 (batOf t) (tokOf t R) C := by blk_ext! [idx t, batOf, tokOf]
  rw [e]
  blk_simp
  rw [after0_4]
  frame_out
  refine (pay _ _ _ _ _ _).trans ?_
  show _ = gluAt _ _ _ _ (batOf t) (tokOf t R) C
  unfold gluAt skipAt
  simp only [y_block, z_block, d_block, w_block]

end Cert.Kernel7Ideal.Glu

namespace Cert.Reference7Ideal.Glu

open Idealize.ShloMosaic Idealize.ShloMosaic.TcCoe Idealize.SL.Sem
open Cert.Reference7Ideal Cert.Reference7Ideal.Gen Cert.Real Cert.Reference7Ideal.Read

variable (Y : FVec Ideal S8x4096x1024 .f32) (Z : FVec Ideal S8x4096x5120 .f32) (D : FVec Ideal S1024 .f32) (W : FVec Ideal S1024x1024 .f32)

theorem mul_def (x y : Ideal .f32) : FloatOps.mulf x y = ((x : EReal) * (y : EReal) : EReal) := rfl
theorem add_def (x y : Ideal .f32) : FloatOps.addf x y = ((x : EReal) + (y : EReal) : EReal) := rfl
theorem bits_def (x : BitVec 32) : (FloatOps.ofBits .f32 x : Ideal .f32) = Ideal.ofBits .f32 x := rfl
theorem tanh_def (x : Ideal .f32) : FloatOps.hostUnary .tanh x = Ideal.tanh x := rfl

theorem sum_ix (b : Fin 8) (n : Fin 4096) (C : Fin 1024) :
    (val_main_v4 (F := Ideal) Y Z D (ix3 b n C) : EReal) = Y (ix3 b n C) + D (ix1 C) * Z (ix3 b n ⟨4096 + C.val, by omega⟩) := by
  have ez : idx_main_v0 (ix3 b n C) = ix3 b n ⟨4096 + C.val, by omega⟩ := funext fun a => by fin_cases a <;> rfl
  have ed : idx_main_v1 (idx_main_v2 (ix3 b n C)) = ix1 C := funext fun a => by fin_cases a; rfl
  rw [val_main_v4_apply, val_main_v3_apply, val_main_v2_apply, val_main_v1_apply, ed, val_main_v0_apply, ez, add_def, mul_def]

theorem skip_ix (b : Fin 8) (n : Fin 4096) (C : Fin 1024) : (val_main_v17 (F := Ideal) Y Z D (ix3 b n C) : EReal) = skipAt Y Z D b n C := by
  rw [val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_v5_apply, sum_ix,
    val_main_cst_apply, val_main_cst_0_apply, val_main_cst_1_apply, val_main_cst_2_apply]
  simp only [mul_def, add_def, bits_def, tanh_def]
  unfold skipAt gelu
  generalize Y (ix3 b n C) + D (ix1 C) * Z (ix3 b n ⟨4096 + C.val, by omega⟩) = x
  rw [mul_comm (x * x) x]

theorem value : val_main_v26 (F := Ideal) Y Z D W = glu Y Z D W := by
  funext y
  obtain ⟨b, n, C, rfl⟩ : ∃ b n C, y = ix3 b n C := ⟨y 0, y 1, y 2, funext fun a => by fin_cases a <;> rfl⟩
  have el : ∀ k, lidx_main_v18 (ix3 b n C) k = ix3 b n k := fun k => funext fun a => by fin_cases a <;> rfl
  have er : ∀ k, ridx_main_v18 (ix3 b n C) k = ix2 k C := fun k => funext fun a => by fin_cases a <;> rfl
  have h : (val_main_v18 (F := Ideal) Y Z D W (ix3 b n C) : EReal) = ∑ k : Fin 1024, skipAt Y Z D b n k * W (ix2 k C) := by
    rw [val_main_v18_apply]
    refine Finset.sum_congr rfl fun k _ => ?_
    rw [el, er, skip_ix]
  show _ = gluAt Y Z D W b n C
  rw [val_main_v26_apply, val_main_v25_apply, val_main_v24_apply, val_main_v23_apply, val_main_v22_apply, val_main_v21_apply, val_main_v20_apply,
    val_main_v19_apply, h, skip_ix, val_main_cst_3_apply, val_main_cst_4_apply]
  show skipAt Y Z D b n C * Ideal.div (Ideal.ofBits .f32 0x3F800000#32) (Ideal.ofBits .f32 0x3F800000#32 + Ideal.exp (-_)) = _
  rw [oneWord]
  rfl

end Cert.Reference7Ideal.Glu

end
-- ==== Proof.Route.lean ====
/- The modulated normalization before the experts and the router's affinities: the call's two results, and the reference's,
   are the same arrays. -/
module

public import proofs.«01_k».proof.Proof.Gen.Kernel8Ideal.Value
public import proofs.«01_k».proof.Proof.Gen.Reference8Ideal.Read
public import proofs.«01_k».proof.Proof.Norm
public import Idealize.ShloMosaic.Lib.Routing.OpsPair
public import Idealize.ShloMosaic.Lib.Routing.OpsSet

@[expose] public section

set_option maxRecDepth 16384

noncomputable section

namespace Cert.Real

open Idealize.ShloMosaic

abbrev Tokens := FVec Ideal ⟨3, ![8, 4096, 2048]⟩ .f32
abbrev Gains := FVec Ideal ⟨1, ![2048]⟩ .f32
abbrev Mods := FVec Ideal ⟨3, ![8, 1, 2048]⟩ .f32
abbrev Routers := FVec Ideal ⟨2, ![2048, 16]⟩ .f32

/-- Channel `C` of token `n` of batch `b`, normalized, scaled by its gain and by one plus the batch's scale, and shifted. -/
def modAt (X : Tokens) (g : Gains) (s h : Mods) (b : Fin 8) (n : Fin 4096) (C : Fin 2048) : EReal :=
  normAt X g b n C * (Ideal.ofBits .f32 0x3F800000#32 + s (ix3 b 0 C)) + h (ix3 b 0 C)

def modulated (X : Tokens) (g : Gains) (s h : Mods) : Tokens := fun y => modAt X g s h (y 0) (y 1) (y 2)

/-- The greatest of sixteen values, from the programs' constant. -/
def greatest (l : Fin 16 → EReal) : EReal := Finset.univ.fold max (Ideal.ofBits .f32 0xFF800000#32) l

/-- The softmax of sixteen values, about their greatest. -/
def softmax16 (l : Fin 16 → EReal) (e : Fin 16) : EReal :=
  Ideal.div (Ideal.exp (l e - greatest l)) (∑ k, Ideal.exp (l k - greatest l))

/-- Token `n`'s affinity to expert `e`, before the softmax. -/
def routeAt (X : Tokens) (g : Gains) (s h : Mods) (W : Routers) (b : Fin 8) (n : Fin 4096) (e : Fin 16) : EReal :=
  ∑ k : Fin 2048, modAt X g s h b n k * W (ix2 k e)

/-- The affinities, expert by expert. -/
def affinities (X : Tokens) (g : Gains) (s h : Mods) (W : Routers) : FVec Ideal ⟨3, ![8, 16, 4096]⟩ .f32 :=
  fun y => softmax16 (routeAt X g s h W (y 0) (y 2)) (y 1)

/-- The constant the maximum starts from adds nothing to one. -/
theorem greatest_max (l : Fin 16 → EReal) : max (Ideal.ofBits .f32 0xFF800000#32) (greatest l) = greatest l :=
  max_eq_right ((Finset.le_fold_max _).2 (Or.inl le_rfl))

end Cert.Real

namespace Cert.Kernel8Ideal.Route

open Idealize.ShloMosaic Idealize.ShloMosaic.TcCoe Idealize.SL.Sem
open Cert.Kernel8Ideal Cert.Kernel8Ideal.Gen Cert.Real

variable (m : (ℓ : Loc nD τ sig) → Buf (Elt Ideal) ℓ)

theorem idx : ∀ t : Fin cfg0.N, win0_0.index t = ![t.val / 8, t.val % 8, 0] ∧ win0_1.index t = ![0, 0] ∧ win0_2.index t = ![t.val / 8, 0, 0]
    ∧ win0_3.index t = ![t.val / 8, 0, 0] ∧ win0_4.index t = ![0, 0] ∧ win0_5.index t = ![t.val / 8, t.val % 8, 0]
    ∧ win0_6.index t = ![t.val / 8, 0, t.val % 8] ∧ t.val < 64 := (by decide +kernel : ∀ t : Fin grid0.N, _)

/-- The batch of grid point `t`, and the token of row `R` of its block. -/
def batOf (t : Fin cfg0.N) : Fin 8 := ⟨t.val / 8, by have := (idx t).2.2.2.2.2.2.2; omega⟩
def tokOf (t : Fin cfg0.N) (R : Fin 512) : Fin 4096 := ⟨512 * (t.val % 8) + R.val, by omega⟩

theorem x_block (c : Dev nD) (t : Fin cfg0.N) (R : Fin 512) (k : Fin 2048) :
    iblk m c 0 t (ix3 0 R k) = m ((c : Thread nD τ).loc main_arg0) (ix3 (batOf t) (tokOf t R) k) := by
  blk_ext! [iblk, V, idx t, batOf, tokOf]

theorem g_block (c : Dev nD) (t : Fin cfg0.N) (C : Fin 2048) :
    iblk m c 1 t (ix2 0 C) = m ((c : Thread nD τ).loc main_arg1) (ix1 C) := by
  blk_simp [iblk]
  entry_read
  pointwise
  blk_ext [idx t]

theorem s_block (c : Dev nD) (t : Fin cfg0.N) (C : Fin 2048) :
    iblk m c 2 t (ix3 0 0 C) = m ((c : Thread nD τ).loc main_arg2) (ix3 (batOf t) 0 C) := by
  blk_ext! [iblk, V, idx t, batOf]

theorem h_block (c : Dev nD) (t : Fin cfg0.N) (C : Fin 2048) :
    iblk m c 3 t (ix3 0 0 C) = m ((c : Thread nD τ).loc main_arg3) (ix3 (batOf t) 0 C) := by
  blk_ext! [iblk, V, idx t, batOf]

/-! ## The router's weights, padded to 128 columns -/

/-- An expert's column among the 128. -/
def lane (e : Fin 16) : Fin 128 := ⟨e.val, by omega⟩

theorem lands (i : IVec S1 32) (hi : ∀ x, i x = 0#32) (a k : Fin 2048) (d e : Fin 16) :
    scatter_S2048x128_S1_S2048x16_01_n_1_0.resultIdx? (ix2 a d) i = some (ix2 k (lane e)) ↔ a = k ∧ d = e := by
  have w0 : scatter_S2048x128_S1_S2048x16_01_n_1_0.window (ix2 a d) 0 = a.val := rfl
  have w1 : scatter_S2048x128_S1_S2048x16_01_n_1_0.window (ix2 a d) 1 = d.val := rfl
  have s0 : scatter_S2048x128_S1_S2048x16_01_n_1_0.start (ix2 a d) i 0 = 0 := rfl
  have s1 : scatter_S2048x128_S1_S2048x16_01_n_1_0.start (ix2 a d) i 1 = 0 := by
    show (i _).toInt = 0
    rw [hi]
    rfl
  refine (Routing.resultIdx?_ix2 (R := 2048) (C := 128) _ _ i k (lane e)).trans ?_
  rw [s0, s1, w0, w1, Fin.ext_iff, Fin.ext_iff]
  show _ ∧ (0 : Int) + (d.val : Int) = ((e.val : Nat) : Int) ↔ _
  omega

theorem padded (x : FVec Ideal S2048x128 .f32) (i : IVec S1 32) (hi : ∀ x, i x = 0#32) (u : FVec Ideal S2048x16 .f32) (k : Fin 2048) (e : Fin 16) :
    Host.scatter scatter_S2048x128_S1_S2048x16_01_n_1_0 (fun _ b => b) x i u (ix2 k (lane e)) = u (ix2 k e) := by
  refine Routing.scatter_set_hit _ x i u _ _ (fun j hj => ?_) (ix2 k e) ((lands i hi k k e e).2 ⟨rfl, rfl⟩)
  obtain ⟨a, d, rfl⟩ : ∃ a d, j = ix2 a d := ⟨j 0, j 1, funext fun b => by fin_cases b <;> rfl⟩
  obtain ⟨rfl, rfl⟩ := (lands i hi a k d e).1 hj
  rfl

theorem w_block (c : Dev nD) (t : Fin cfg0.N) (k : Fin 2048) (e : Fin 16) :
    (iblk m c 4 t (ix2 k (lane e)) : EReal) = m ((c : Thread nD τ).loc main_arg4) (ix2 k e) := by
  blk_simp [iblk]
  entry_read
  pointwise
  have he : ((View.whole main_v3).slice (win0_4.rect t)).emb (ix2 k (lane e)) = ix2 k (lane e) := by blk_ext [idx t]
  rw [he]
  generalize hi : broadcastInDim S1 ![] bcast_S_S1 (constantI S_ 32 0#32) = i
  exact padded _ i (fun x => hi ▸ rfl) _ k e

/-! ## What the body computes -/

variable (v0 : FVec Ideal S1x512x2048 .f32) (v2 : FVec Ideal S1x2048 .f32) (v4 v6 : FVec Ideal S1x1x2048 .f32) (v30 : FVec Ideal S2048x128 .bf16)

theorem pay2 (R : Fin 512) (C : Fin 2048) :
    (k0_pay2 (F := Ideal) v0 v2 v4 v6 (ix2 R C) : EReal)
      = v0 (ix3 0 R C) * rmsInv (fun k => v0 (ix3 0 R k)) * v2 (ix2 0 C) * (Ideal.ofBits .f32 0x3F800000#32 + v4 (ix3 0 0 C)) + v6 (ix3 0 0 C) := by
  unfold rmsInv
  pointwise [k0_pay2]

theorem pay3 (R : Fin 512) (C : Fin 2048) : k0_pay3 (F := Ideal) v0 v2 v4 v6 (ix3 0 R C) = k0_pay2 (F := Ideal) v0 v2 v4 v6 (ix2 R C) := by
  unfold k0_pay3
  generalize k0_pay2 (F := Ideal) v0 v2 v4 v6 = y
  pointwise

theorem pay4 (e : Fin 16) (R : Fin 512) :
    (k0_pay4 (F := Ideal) v0 v2 v4 v6 v30 (ix2 e R) : EReal) = ∑ k : Fin 2048, (k0_pay2 (F := Ideal) v0 v2 v4 v6 (ix2 R k) : EReal) * v30 (ix2 k (lane e)) := by
  unfold k0_pay4
  generalize k0_pay2 (F := Ideal) v0 v2 v4 v6 = y
  pointwise [lane]

theorem pay1 (l : FVec Ideal S16x512 .f32) (e : Fin 16) (R : Fin 512) :
    (k0_pay1 (F := Ideal) l (ix3 0 e R) : EReal) = softmax16 (fun k => l (ix2 k R)) e := by
  unfold softmax16 greatest
  pointwise [k0_pay1]

/-! ## The results -/

theorem mod_ix (c : Dev nD) (t : Fin cfg0.N) (R : Fin 512) (C : Fin 2048) :
    (k0_pay2 (F := Ideal) (iblk m c 0 t) (iblk m c 1 t) (iblk m c 2 t) (iblk m c 3 t) (ix2 R C) : EReal)
      = modAt (m ((c : Thread nD τ).loc main_arg0)) (m ((c : Thread nD τ).loc main_arg1)) (m ((c : Thread nD τ).loc main_arg2))
        (m ((c : Thread nD τ).loc main_arg3)) (batOf t) (tokOf t R) C := by
  refine (pay2 _ _ _ _ _ _).trans ?_
  unfold modAt normAt
  simp only [x_block, g_block, s_block, h_block]

theorem final (c : Dev nD) :
    (dats m 0 c).arrAt 5 cfg0.N = modulated (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  obtain ⟨R, C, rfl⟩ : ∃ (R : Fin 512) (C : Fin 2048), y = ix3 0 R C :=
    ⟨y 1, y 2, funext fun a => by fin_cases a <;> first | rfl | exact Subsingleton.elim (α := Fin 1) _ _⟩
  have e : ((cfg0.win 5).blk t).view.emb (ix3 0 R C) = ix3 (batOf t) (tokOf t R) C := by blk_ext! [idx t, batOf, tokOf]
  rw [e]
  blk_simp
  rw [after0_5]
  frame_out
  refine (pay3 _ _ _ _ _ _).trans ?_
  exact mod_ix m c t R C

theorem final_aff (c : Dev nD) :
    (dats m 0 c).arrAt 6 cfg0.N = affinities (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e, R, rfl⟩ : ∃ (e : Fin 16) (R : Fin 512), y = ix3 0 e R :=
    ⟨y 1, y 2, funext fun a => by fin_cases a <;> first | rfl | exact Subsingleton.elim (α := Fin 1) _ _⟩
  have he : ((cfg0.win 6).blk t).view.emb (ix3 0 e R) = ix3 (batOf t) e (tokOf t R) := by blk_ext! [idx t, batOf, tokOf]
  rw [he]
  blk_simp
  rw [after0_6]
  frame_out
  refine (pay1 _ _ _).trans ?_
  refine congrArg (fun l => softmax16 l e) (funext fun k => ?_)
  refine (pay4 _ _ _ _ _ _ _).trans (Finset.sum_congr rfl fun j _ => ?_)
  exact congrArg₂ (· * ·) (mod_ix m c t R j) (w_block m c t j k)

end Cert.Kernel8Ideal.Route

namespace Cert.Reference8Ideal.Route

open Idealize.ShloMosaic Idealize.ShloMosaic.TcCoe Idealize.SL.Sem
open Cert.Reference8Ideal Cert.Reference8Ideal.Gen Cert.Real Cert.Reference8Ideal.Read

variable (X : FVec Ideal S8x4096x2048 .f32) (g : FVec Ideal S2048 .f32) (s h : FVec Ideal S8x1x2048 .f32) (W : FVec Ideal S2048x16 .f32)

theorem mul_def (x y : Ideal .f32) : FloatOps.mulf x y = ((x : EReal) * (y : EReal) : EReal) := rfl
theorem add_def (x y : Ideal .f32) : FloatOps.addf x y = ((x : EReal) + (y : EReal) : EReal) := rfl
theorem bits_def (x : BitVec 32) : (FloatOps.ofBits .f32 x : Ideal .f32) = Ideal.ofBits .f32 x := rfl

theorem inv_ix (b : Fin 8) (n : Fin 4096) (C : Fin 2048) :
    val_main_v8 (F := Ideal) X (ix3 b n C) = rmsInv (fun k => X (ix3 b n k)) :=
  Cert.Reference6Ideal.Norm.inv_ix X b n C

theorem mod_ix (b : Fin 8) (n : Fin 4096) (C : Fin 2048) : (val_main_v18 (F := Ideal) X g s h (ix3 b n C) : EReal) = modAt X g s h b n C := by
  have eg : idx_main_v10 (idx_main_v11 (ix3 b n C)) = ix1 C := funext fun a => by fin_cases a; rfl
  have es : idx_main_v15 (ix3 b n C) = ix3 b 0 C := funext fun a => by fin_cases a <;> rfl
  have eh : idx_main_v17 (ix3 b n C) = ix3 b 0 C := funext fun a => by fin_cases a <;> rfl
  rw [val_main_v18_apply, val_main_v16_apply, val_main_v12_apply, val_main_v9_apply, inv_ix, val_main_v11_apply, val_main_v10_apply, eg,
    val_main_v15_apply, es, val_main_v14_apply, val_main_v13_apply, val_main_cst_2_apply, val_main_v17_apply, eh]
  rfl

theorem value : val_main_v18 (F := Ideal) X g s h = modulated X g s h := by
  funext y
  obtain ⟨b, n, C, rfl⟩ : ∃ b n C, y = ix3 b n C := ⟨y 0, y 1, y 2, funext fun a => by fin_cases a <;> rfl⟩
  exact mod_ix X g s h b n C

theorem route_ix (b : Fin 8) (n : Fin 4096) (e : Fin 16) : (val_main_v19 (F := Ideal) X g s h W (ix3 b n e) : EReal) = routeAt X g s h W b n e := by
  have el : ∀ k, lidx_main_v19 (ix3 b n e) k = ix3 b n k := fun k => funext fun a => by fin_cases a <;> rfl
  have er : ∀ k, ridx_main_v19 (ix3 b n e) k = ix2 k e := fun k => funext fun a => by fin_cases a <;> rfl
  rw [val_main_v19_apply]
  refine Finset.sum_congr rfl fun k _ => ?_
  rw [el, er, mod_ix]

theorem max20 (x : FVec Ideal S8x4096x16 .f32) (y : FVec Ideal S_ .f32) (b : Fin 8) (n : Fin 4096) :
    Host.reduce FloatOps.maximumf x y reducesTo_S8x4096x16_S8x4096_d2 h_S_ (ix2 b n)
      = Finset.fold max (y (Shape.Idx.first h_S_)) (fun e : Fin 16 => x (ix3 b n e)) Finset.univ := by
  pointwise

theorem greatest_ix (b : Fin 8) (n : Fin 4096) (e : Fin 16) :
    (val_main_v24 (F := Ideal) X g s h W (ix3 b n e) : EReal) = greatest (routeAt X g s h W b n) := by
  have ei : idx_main_v23 (idx_main_v24 (ix3 b n e)) = ix2 b n := funext fun a => by fin_cases a <;> rfl
  have h20 : (val_main_v20 (F := Ideal) X g s h W (ix2 b n) : EReal) = greatest (routeAt X g s h W b n) := by
    unfold val_main_v20
    rw [max20, val_main_cst_3_apply]
    exact congrArg (fun l => Finset.univ.fold max _ l) (funext fun k => route_ix X g s h W b n k)
  rw [val_main_v24_apply, val_main_v23_apply, ei, val_main_v22_apply, val_main_v21_apply, val_main_cst_4_apply, h20]
  exact greatest_max _

theorem exp_ix (b : Fin 8) (n : Fin 4096) (e : Fin 16) : (val_main_v26 (F := Ideal) X g s h W (ix3 b n e) : EReal)
    = Ideal.exp (routeAt X g s h W b n e - greatest (routeAt X g s h W b n)) := by
  rw [val_main_v26_apply, val_main_v25_apply, route_ix, greatest_ix]
  rfl

theorem value_aff : val_main_v31 (F := Ideal) X g s h W = affinities X g s h W := by
  funext y
  obtain ⟨b, e, n, rfl⟩ : ∃ b e n, y = ix3 b e n := ⟨y 0, y 1, y 2, funext fun a => by fin_cases a <;> rfl⟩
  have ei : idx_main_v31 (ix3 b e n) = ix3 b n e := funext fun a => by fin_cases a <;> rfl
  have ek : ∀ k, idx_main_v27 (idx_main_v28 (idx_main_v29 (ix3 b n e))) k = ix3 b n k := fun k => funext fun a => by fin_cases a <;> rfl
  have hs : (val_main_v29 (F := Ideal) X g s h W (ix3 b n e) : EReal)
      = ∑ k, Ideal.exp (routeAt X g s h W b n k - greatest (routeAt X g s h W b n)) := by
    rw [val_main_v29_apply, val_main_v28_apply, val_main_v27_apply, val_main_cst_5_apply]
    refine (congrArg (· + _) zeroWord).trans ((zero_add _).trans (Finset.sum_congr rfl fun k _ => ?_))
    rw [ek, exp_ix]
  rw [val_main_v31_apply, ei, val_main_v30_apply, hs, exp_ix]
  rfl

end Cert.Reference8Ideal.Route

end
-- ==== Proof.Mod.lean ====
/- The modulated normalization before the projections: the call's result, and the reference's, are the same array. -/
module

public import proofs.«01_k».proof.Proof.Gen.Kernel9Ideal.Value
public import proofs.«01_k».proof.Proof.Gen.Reference9Ideal.Read
public import proofs.«01_k».proof.Proof.Route

@[expose] public section

set_option maxRecDepth 16384

noncomputable section

namespace Cert.Real

open Idealize.ShloMosaic

/-- The normalized and modulated tokens, as the projections take them. -/
def modulatedCast (X : Tokens) (g : Gains) (s h : Mods) : FVec Ideal ⟨3, ![8, 4096, 2048]⟩ .bf16 :=
  fun y => modAt X g s h (y 0) (y 1) (y 2)

end Cert.Real

namespace Cert.Kernel9Ideal.Mod

open Idealize.ShloMosaic Idealize.ShloMosaic.TcCoe Idealize.SL.Sem
open Cert.Kernel9Ideal Cert.Kernel9Ideal.Gen Cert.Real

variable (m : (ℓ : Loc nD τ sig) → Buf (Elt Ideal) ℓ)

theorem idx : ∀ t : Fin cfg0.N, win0_0.index t = ![t.val / 8, t.val % 8, 0] ∧ win0_1.index t = ![0, 0] ∧ win0_2.index t = ![t.val / 8, 0, 0]
    ∧ win0_3.index t = ![t.val / 8, 0, 0] ∧ win0_4.index t = ![t.val / 8, t.val % 8, 0] ∧ t.val < 64 :=
  (by decide +kernel : ∀ t : Fin grid0.N, _)

/-- The batch of grid point `t`, and the token of row `R` of its block. -/
def batOf (t : Fin cfg0.N) : Fin 8 := ⟨t.val / 8, by have := (idx t).2.2.2.2.2; omega⟩
def tokOf (t : Fin cfg0.N) (R : Fin 512) : Fin 4096 := ⟨512 * (t.val % 8) + R.val, by omega⟩

theorem x_block (c : Dev nD) (t : Fin cfg0.N) (R : Fin 512) (k : Fin 2048) :
    iblk m c 0 t (ix3 0 R k) = m ((c : Thread nD τ).loc main_arg0) (ix3 (batOf t) (tokOf t R) k) := by
  blk_ext! [iblk, V, idx t, batOf, tokOf]

theorem g_block (c : Dev nD) (t : Fin cfg0.N) (C : Fin 2048) :
    iblk m c 1 t (ix2 0 C) = m ((c : Thread nD τ).loc main_arg1) (ix1 C) := by
  blk_simp [iblk]
  entry_read
  pointwise
  blk_ext [idx t]

theorem s_block (c : Dev nD) (t : Fin cfg0.N) (C : Fin 2048) :
    iblk m c 2 t (ix3 0 0 C) = m ((c : Thread nD τ).loc main_arg2) (ix3 (batOf t) 0 C) := by
  blk_ext! [iblk, V, idx t, batOf]

theorem h_block (c : Dev nD) (t : Fin cfg0.N) (C : Fin 2048) :
    iblk m c 3 t (ix3 0 0 C) = m ((c : Thread nD τ).loc main_arg3) (ix3 (batOf t) 0 C) := by
  blk_ext! [iblk, V, idx t, batOf]

theorem pay1 (x : FVec Ideal S1x512x2048 .f32) (g : FVec Ideal S1x2048 .f32) (s h : FVec Ideal S1x1x2048 .f32) (R : Fin 512) (C : Fin 2048) :
    (k0_pay1 (F := Ideal) x g s h (ix3 0 R C) : EReal)
      = x (ix3 0 R C) * rmsInv (fun k => x (ix3 0 R k)) * g (ix2 0 C) * (Ideal.ofBits .f32 0x3F800000#32 + s (ix3 0 0 C)) + h (ix3 0 0 C) := by
  unfold rmsInv
  pointwise [k0_pay1]

theorem final (c : Dev nD) :
    (dats m 0 c).arrAt 4 cfg0.N = modulatedCast (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨R, C, rfl⟩ : ∃ (R : Fin 512) (C : Fin 2048), y = ix3 0 R C :=
    ⟨y 1, y 2, funext fun a => by fin_cases a <;> first | rfl | exact Subsingleton.elim (α := Fin 1) _ _⟩
  have e : ((cfg0.win 4).blk t).view.emb (ix3 0 R C) = ix3 (batOf t) (tokOf t R) C := by blk_ext! [idx t, batOf, tokOf]
  rw [e]
  blk_simp
  rw [after0_4]
  frame_out
  refine (pay1 _ _ _ _ _ _).trans ?_
  show _ = modAt _ _ _ _ (batOf t) (tokOf t R) C
  unfold modAt normAt
  simp only [x_block, g_block, s_block, h_block]

end Cert.Kernel9Ideal.Mod

namespace Cert.Reference9Ideal.Mod

open Idealize.ShloMosaic Idealize.ShloMosaic.TcCoe Idealize.SL.Sem
open Cert.Reference9Ideal Cert.Reference9Ideal.Gen Cert.Real Cert.Reference9Ideal.Read

theorem value (X : FVec Ideal S8x4096x2048 .f32) (g : FVec Ideal S2048 .f32) (s h : FVec Ideal S8x1x2048 .f32) :
    val_main_v19 (F := Ideal) X g s h = modulatedCast X g s h := by
  funext y
  obtain ⟨b, n, C, rfl⟩ : ∃ b n C, y = ix3 b n C := ⟨y 0, y 1, y 2, funext fun a => by fin_cases a <;> rfl⟩
  rw [val_main_v19_apply]
  exact Cert.Reference8Ideal.Route.mod_ix X g s h b n C

end Cert.Reference9Ideal.Mod

end
-- ==== Proof.Heads.lean ====
/- The normalization of an mLSTM's heads under its gate: the call's result, and the reference's, are the same array. -/
module

public import proofs.«01_k».proof.Proof.Gen.Kernel10Ideal.Value
public import proofs.«01_k».proof.Proof.Gen.Reference10Ideal.Read
public import proofs.«01_k».proof.Proof.Glu
public import proofs.«01_k».proof.Proof.Norm

@[expose] public section

set_option maxRecDepth 16384

noncomputable section

namespace Cert.Real

open Idealize.ShloMosaic

abbrev Cells := FVec Ideal ⟨3, ![8, 4096, 1024]⟩ .f32
abbrev Branches := FVec Ideal ⟨3, ![8, 4096, 5120]⟩ .f32
abbrev HeadGains := FVec Ideal ⟨1, ![1024]⟩ .f32

/-- Column `d` of head `h`. -/
def headCol (h : Fin 4) (d : Fin 256) : Fin 1024 := ⟨256 * h.val + d.val, by omega⟩

/-- One over the root mean square of a head's 256 columns; the small constant is the programs' own. -/
def headInv (x : Fin 256 → EReal) : EReal :=
  Ideal.rsqrt (Ideal.div (∑ k, x k * x k) (Ideal.ofBits .f32 0x43800000#32) + Ideal.ofBits .f32 0x358637BD#32)

/-- The two directions' sum at column `d` of a head, normalized over the head, scaled by its gain and gated. The gate's inputs
    are columns 3072 to 4095 of `Z`. -/
def headAt (P Q : Cells) (Z : Branches) (g : HeadGains) (b : Fin 8) (n : Fin 4096) (h : Fin 4) (d : Fin 256) : EReal :=
  (P (ix3 b n (headCol h d)) + Q (ix3 b n (headCol h d))) * headInv (fun k => P (ix3 b n (headCol h k)) + Q (ix3 b n (headCol h k)))
    * g (ix1 (headCol h d)) * Ideal.logistic (Z (ix3 b n ⟨3072 + (headCol h d).val, by omega⟩))

/-- The head of a column, and its column there. -/
def headOf (C : Fin 1024) : Fin 4 := ⟨C.val / 256, by omega⟩
def inHead (C : Fin 1024) : Fin 256 := ⟨C.val % 256, by omega⟩

theorem headOf_headCol (h : Fin 4) (d : Fin 256) : headOf (headCol h d) = h := Fin.ext (by show (256 * h.val + d.val) / 256 = h.val; omega)
theorem inHead_headCol (h : Fin 4) (d : Fin 256) : inHead (headCol h d) = d := Fin.ext (by show (256 * h.val + d.val) % 256 = d.val; omega)

def heads (P Q : Cells) (Z : Branches) (g : HeadGains) : FVec Ideal ⟨3, ![8, 4096, 1024]⟩ .bf16 :=
  fun y => headAt P Q Z g (y 0) (y 1) (headOf (y 2)) (inHead (y 2))

end Cert.Real

namespace Cert.Kernel10Ideal.Heads

open Idealize.ShloMosaic Idealize.ShloMosaic.TcCoe Idealize.SL.Sem
open Cert.Kernel10Ideal Cert.Kernel10Ideal.Gen Cert.Real

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![t.val / 8, t.val % 8, 3] ∧ win0_3.index t = ![0, 0] ∧ win0_4.index t = ![t.val / 8, t.val % 8, 0] ∧ t.val < 64 :=
  (by decide +kernel : ∀ t : Fin grid0.N, _)

/-- The batch of grid point `t`, and the token of row `R` of its block. -/
def batOf (t : Fin cfg0.N) : Fin 8 := ⟨t.val / 8, by have := (idx t).2.2.2.2.2; omega⟩
def tokOf (t : Fin cfg0.N) (R : Fin 512) : Fin 4096 := ⟨512 * (t.val % 8) + R.val, by omega⟩

theorem p_block (c : Dev nD) (t : Fin cfg0.N) (R : Fin 512) (k : Fin 1024) :
    iblk m c 0 t (ix3 0 R k) = m ((c : Thread nD τ).loc main_arg0) (ix3 (batOf t) (tokOf t R) k) := by
  blk_ext! [iblk, V, idx t, batOf, tokOf]

theorem q_block (c : Dev nD) (t : Fin cfg0.N) (R : Fin 512) (k : Fin 1024) :
    iblk m c 1 t (ix3 0 R k) = m ((c : Thread nD τ).loc main_arg1) (ix3 (batOf t) (tokOf t R) k) := by
  blk_ext! [iblk, V, idx t, batOf, tokOf]

theorem z_block (c : Dev nD) (t : Fin cfg0.N) (R : Fin 512) (k : Fin 1024) :
    iblk m c 2 t (ix3 0 R k) = m ((c : Thread nD τ).loc main_arg2) (ix3 (batOf t) (tokOf t R) ⟨3072 + k.val, by omega⟩) := by
  blk_ext! [iblk, V, idx t, batOf, tokOf]

theorem g_block (c : Dev nD) (t : Fin cfg0.N) (C : Fin 1024) :
    iblk m c 3 t (ix2 0 C) = m ((c : Thread nD τ).loc main_arg3) (ix1 C) := by
  blk_simp [iblk]
  entry_read
  pointwise
  blk_ext [idx t]

/-! ## What the body computes -/

variable (x0 x1 x2 : FVec Ideal S1x512x1024 .f32) (x3 : FVec Ideal S1x1024 .f32)

/-- Column `d` of head `h` in a block, from the two sums, the gates and the gains. -/
def tileAt (R : Fin 512) (h : Fin 4) (d : Fin 256) : EReal :=
  (x0 (ix3 0 R (headCol h d)) + x1 (ix3 0 R (headCol h d))) * headInv (fun k => x0 (ix3 0 R (headCol h k)) + x1 (ix3 0 R (headCol h k)))
    * x3 (ix2 0 (headCol h d)) * Ideal.logistic (x2 (ix3 0 R (headCol h d)))

def tile : FVec Ideal S1x512x1024 .bf16 := fun y => tileAt x0 x1 x2 x3 (y 1) (headOf (y 2)) (inHead (y 2))

/-! Each store's values, head by head. -/

theorem head0 (R : Fin 512) (d : Fin 256) : (k0_pay5 (F := Ideal) x0 x1 x2 x3 (ix3 0 R d) : EReal) = tileAt x0 x1 x2 x3 R 0 d := by
  unfold tileAt headInv headCol
  pointwise [k0_pay5, k0_pay2, k0_pay3, k0_pay4]

theorem head1 (R : Fin 512) (d : Fin 256) :
    (k0_pay9 (F := Ideal) (k0_pay3 x2) (k0_pay4 x3) (k0_pay6 x0 x1) (k0_pay7 x0 x1) k0_pay8 (ix3 0 R d) : EReal) = tileAt x0 x1 x2 x3 R 1 d := by
  unfold tileAt headInv headCol
  pointwise [k0_pay9, k0_pay2, k0_pay3, k0_pay4, k0_pay6, k0_pay7, k0_pay8]

theorem head2 (R : Fin 512) (d : Fin 256) :
    (k0_pay10 (F := Ideal) (k0_pay2 x0 x1) (k0_pay3 x2) (k0_pay4 x3) (ix3 0 R d) : EReal) = tileAt x0 x1 x2 x3 R 2 d := by
  unfold tileAt headInv headCol
  pointwise [k0_pay10, k0_pay2, k0_pay3, k0_pay4]

theorem head3 (R : Fin 512) (d : Fin 256) :
    (k0_pay1 (F := Ideal) (k0_pay3 x2) (k0_pay11 (k0_pay2 x0 x1)) (k0_pay12 (k0_pay4 x3)) (ix3 0 R d) : EReal) = tileAt x0 x1 x2 x3 R 3 d := by
  unfold tileAt headInv headCol
  pointwise [k0_pay1, k0_pay2, k0_pay3, k0_pay4, k0_pay11, k0_pay12]

theorem piece_eq (h : Fin 4) (o : Nat) (ho : o = 256 * h.val) (inb : ∀ a, (![0, 0, o] : Fin 3 → Nat) a + S1x512x256.size a ≤ S1x512x1024.size a)
    (p : FVec Ideal S1x512x256 .bf16) (hp : ∀ (R : Fin 512) (d : Fin 256), (p (ix3 0 R d) : EReal) = tileAt x0 x1 x2 x3 R h d) (x : S1x512x256.Idx) :
    p x = tile x0 x1 x2 x3 ((Rect.unit (s := S1x512x1024) ![0, 0, o] S1x512x256.size inb).emb x) := by
  obtain ⟨R, d, rfl⟩ : ∃ (R : Fin 512) (d : Fin 256), x = ix3 0 R d :=
    ⟨x 1, x 2, funext fun a => by fin_cases a <;> first | rfl | exact Subsingleton.elim (α := Fin 1) _ _⟩
  have e : (Rect.unit (s := S1x512x1024) ![0, 0, o] S1x512x256.size inb).emb (ix3 0 R d) = ix3 0 R (headCol h d) := by
    refine funext fun a => Fin.ext ((Rect.emb_apply _ _ a).trans ?_)
    match a with
    | ⟨0, _⟩ => rfl
    | ⟨1, _⟩ => show 0 + 1 * R.val = R.val; omega
    | ⟨2, _⟩ => show o + 1 * d.val = 256 * h.val + d.val; omega
  rw [e]
  show _ = tileAt x0 x1 x2 x3 R (headOf (headCol h d)) (inHead (headCol h d))
  rw [headOf_headCol, inHead_headCol]
  exact hp R d

theorem out_eq (R : Fin 512) (C : Fin 1024) : out0_4 (F := Ideal) x0 x1 x2 x3 (ix3 0 R C) = tile x0 x1 x2 x3 (ix3 0 R C) := by
  unfold out0_4 k0_pay13 k0_pay14 k0_pay15
  have e : ∀ x : FVec Ideal S1x512x1024 .f32, View.ld (Val := Elt Ideal) (e' := .f32) x r0_0 = x := fun x =>
    View.ld_unit_lit (Val := Elt Ideal) (e := .f32) (S := S1x512x1024) (off := ![0, 0, 0]) inb_S1x512x1024_S1x512x1024_0_0_0 x (by decide)
  have e3 : View.ld (Val := Elt Ideal) (e' := .f32) x3 r0_1 = x3 :=
    View.ld_unit_lit (Val := Elt Ideal) (e := .f32) (S := S1x1024) (off := ![0, 0]) inb_S1x1024_S1x1024_0_0 x3 (by decide)
  rw [e, e, e, e3]
  refine View.canon_apply_of_pieces (Val := Elt Ideal) (tile x0 x1 x2 x3) _ ?_ (ix3 0 R C) (cover0_4 _ _ _ _ _)
  intro p hp x
  simp only [List.mem_cons, List.not_mem_nil, or_false] at hp
  rcases hp with rfl | rfl | rfl | rfl
  · exact piece_eq _ _ _ _ 3 768 rfl inb_S1x512x1024_S1x512x256_0_0_768 _ (head3 _ _ _ _) x
  · exact piece_eq _ _ _ _ 2 512 rfl inb_S1x512x1024_S1x512x256_0_0_512 _ (head2 _ _ _ _) x
  · exact piece_eq _ _ _ _ 1 256 rfl inb_S1x512x1024_S1x512x256_0_0_256 _ (head1 _ _ _ _) x
  · exact piece_eq _ _ _ _ 0 0 rfl inb_S1x512x1024_S1x512x256_0_0_0 _ (head0 _ _ _ _) x

theorem final (c : Dev nD) :
    (dats m 0 c).arrAt 4 cfg0.N = heads (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨R, C, rfl⟩ : ∃ (R : Fin 512) (C : Fin 1024), y = ix3 0 R C :=
    ⟨y 1, y 2, funext fun a => by fin_cases a <;> first | rfl | exact Subsingleton.elim (α := Fin 1) _ _⟩
  have e : ((cfg0.win 4).blk t).view.emb (ix3 0 R C) = ix3 (batOf t) (tokOf t R) C := by blk_ext! [idx t, batOf, tokOf]
  rw [e]
  blk_simp
  rw [after0_4]
  refine (out_eq _ _ _ _ R C).trans ?_
  show tileAt _ _ _ _ R (headOf C) (inHead C) = headAt _ _ _ _ (batOf t) (tokOf t R) (headOf C) (inHead C)
  unfold tileAt headAt
  simp only [p_block, q_block, z_block, g_block]

end Cert.Kernel10Ideal.Heads

namespace Cert.Reference10Ideal.Heads

open Idealize.ShloMosaic Idealize.ShloMosaic.TcCoe Idealize.SL.Sem
open Cert.Reference10Ideal Cert.Reference10Ideal.Gen Cert.Real Cert.Reference10Ideal.Read

variable (P Q : FVec Ideal S8x4096x1024 .f32) (Z : FVec Ideal S8x4096x5120 .f32) (g : FVec Ideal S1024 .f32)

theorem mul_def (x y : Ideal .f32) : FloatOps.mulf x y = ((x : EReal) * (y : EReal) : EReal) := rfl
theorem add_def (x y : Ideal .f32) : FloatOps.addf x y = ((x : EReal) + (y : EReal) : EReal) := rfl
theorem bits_def (x : BitVec 32) : (FloatOps.ofBits .f32 x : Ideal .f32) = Ideal.ofBits .f32 x := rfl
theorem inv_def (x y z : Ideal .f32) : FloatOps.hostUnary .rsqrt (FloatOps.addf (FloatOps.hostDivf x y) z) = Ideal.rsqrt (Ideal.div x y + z) := rfl

theorem sum_ix (b : Fin 8) (n : Fin 4096) (h : Fin 4) (d : Fin 256) :
    (val_main_v1 (F := Ideal) P Q (ix4 b n h d) : EReal) = P (ix3 b n (headCol h d)) + Q (ix3 b n (headCol h d)) := by
  have e : idx_main_v1 (ix4 b n h d) = ix3 b n (headCol h d) := by
    funext a
    fin_cases a <;> apply Fin.ext
    · show (((b.val * 4096 + n.val) * 4 + h.val) * 256 + d.val) / 4194304 = b.val
      omega
    · show (((b.val * 4096 + n.val) * 4 + h.val) * 256 + d.val) / 1024 % 4096 = n.val
      omega
    · show (((b.val * 4096 + n.val) * 4 + h.val) * 256 + d.val) % 1024 = 256 * h.val + d.val
      omega
  rw [val_main_v1_apply, e, val_main_v0_apply, add_def]

theorem inv_ix (b : Fin 8) (n : Fin 4096) (h : Fin 4) (d : Fin 256) :
    (val_main_v10 (F := Ideal) P Q (ix4 b n h d) : EReal) = headInv (fun k => P (ix3 b n (headCol h k)) + Q (ix3 b n (headCol h k))) := by
  have e3 : ∀ k, idx_main_v3 (idx_main_v4 (idx_main_v10 (ix4 b n h d))) k = ix4 b n h k := fun k => funext fun a => by fin_cases a <;> rfl
  have hs : (val_main_v3 (F := Ideal) P Q (idx_main_v4 (idx_main_v10 (ix4 b n h d))) : EReal)
      = ∑ k : Fin 256, (P (ix3 b n (headCol h k)) + Q (ix3 b n (headCol h k))) * (P (ix3 b n (headCol h k)) + Q (ix3 b n (headCol h k))) := by
    rw [val_main_v3_apply, val_main_cst_apply]
    refine (congrArg (· + _) zeroWord).trans ((zero_add _).trans (Finset.sum_congr rfl fun k _ => ?_))
    rw [e3, val_main_v2_apply, sum_ix, mul_def]
  rw [val_main_v10_apply, val_main_v9_apply, val_main_v8_apply, val_main_v6_apply, val_main_v4_apply, hs, val_main_v5_apply, val_main_v7_apply,
    val_main_cst_0_apply, val_main_cst_1_apply, inv_def, bits_def, bits_def]
  rfl

theorem gain_ix (b : Fin 8) (n : Fin 4096) (h : Fin 4) (d : Fin 256) : val_main_v14 (F := Ideal) g (ix4 b n h d) = g (ix1 (headCol h d)) := by
  have e : idx_main_v12 (idx_main_v13 (idx_main_v14 (ix4 b n h d))) = ix1 (headCol h d) := by
    funext a
    fin_cases a
    exact Fin.ext (by show h.val * 256 + d.val = 256 * h.val + d.val; omega)
  rw [val_main_v14_apply, val_main_v13_apply, val_main_v12_apply, e]

theorem value : val_main_v25 (F := Ideal) P Q Z g = heads P Q Z g := by
  funext y
  obtain ⟨b, n, C, rfl⟩ : ∃ b n C, y = ix3 b n C := ⟨y 0, y 1, y 2, funext fun a => by fin_cases a <;> rfl⟩
  show _ = headAt P Q Z g b n (headOf C) (inHead C)
  have e17 : idx_main_v17 (ix3 b n C) = ix4 b n (headOf C) (inHead C) := by
    funext a
    fin_cases a <;> apply Fin.ext
    · show ((b.val * 4096 + n.val) * 1024 + C.val) / 4194304 = b.val
      omega
    · show ((b.val * 4096 + n.val) * 1024 + C.val) / 1024 % 4096 = n.val
      omega
    · show ((b.val * 4096 + n.val) * 1024 + C.val) / 256 % 4 = C.val / 256
      omega
    · show ((b.val * 4096 + n.val) * 1024 + C.val) % 256 = C.val % 256
      omega
  have e16 : idx_main_v16 (ix3 b n C) = ix3 b n ⟨3072 + (headCol (headOf C) (inHead C)).val, by omega⟩ := by
    funext a
    fin_cases a
    · rfl
    · rfl
    · exact Fin.ext (by show 3072 + C.val = 3072 + (256 * (C.val / 256) + C.val % 256); omega)
  rw [val_main_v25_apply, val_main_v24_apply, val_main_v17_apply, e17, val_main_v15_apply, val_main_v11_apply, sum_ix, inv_ix, gain_ix,
    val_main_v23_apply, val_main_v22_apply, val_main_v21_apply, val_main_v20_apply, val_main_v19_apply, val_main_v18_apply, val_main_v16_apply, e16,
    val_main_cst_2_apply, val_main_cst_3_apply]
  unfold headAt
  show _ * _ * _ * Ideal.div (Ideal.ofBits .f32 0x3F800000#32) (Ideal.ofBits .f32 0x3F800000#32 + Ideal.exp (-_)) = _
  rw [oneWord]
  rfl

end Cert.Reference10Ideal.Heads

end
-- ==== Proof.Conv.lean ====
/- The convolution of an mLSTM's queries and keys over the tokens: the call's result, and the reference's, are the same array. -/
module

public import proofs.«01_k».proof.Proof.Gen.Kernel11Ideal.Value
public import proofs.«01_k».proof.Proof.Gen.Reference11Ideal.Read
public import proofs.«01_k».proof.Proof.Glu
public import proofs.«01_k».proof.Proof.Norm

@[expose] public section

set_option maxRecDepth 16384

noncomputable section

namespace Cert.Real

open Idealize.ShloMosaic

/-- The first tap, on the token before, and the last, on the token after: nothing at the ends. -/
def tapBefore (x : Fin 4096 → EReal) (w : EReal) (n : Fin 4096) : EReal :=
  if n.val = 0 then 0 else x ⟨(n.val + 4096 - 1) % 4096, by omega⟩ * w

def tapAfter (x : Fin 4096 → EReal) (w : EReal) (n : Fin 4096) : EReal :=
  if n.val = 4095 then 0 else x ⟨(n.val + 4096 - 4095) % 4096, by omega⟩ * w

/-- The three taps at token `n`, by a channel's weights. -/
def taps (x : Fin 4096 → EReal) (w : Fin 3 → EReal) (n : Fin 4096) : EReal :=
  tapBefore x (w 0) n + x n * w 1 + tapAfter x (w 2) n

/-- The factor of a key's column, and of no other: 256 to the -1/2. -/
def keyFac (C : Fin 2048) : EReal := if C.val < 1024 then 1 else Ideal.ofBits .f32 0x3D800000#32

def convAt (Z : FVec Ideal ⟨3, ![8, 4096, 5120]⟩ .f32) (w : FVec Ideal ⟨2, ![3, 2048]⟩ .f32) (b : Fin 8) (n : Fin 4096) (C : Fin 2048) : EReal :=
  taps (fun k => Z (ix3 b k ⟨C.val, by omega⟩)) (fun i => w (ix2 i C)) n
    * Ideal.logistic (taps (fun k => Z (ix3 b k ⟨C.val, by omega⟩)) (fun i => w (ix2 i C)) n) * keyFac C

def convolved (Z : FVec Ideal ⟨3, ![8, 4096, 5120]⟩ .f32) (w : FVec Ideal ⟨2, ![3, 2048]⟩ .f32) : FVec Ideal ⟨3, ![8, 4096, 2048]⟩ .bf16 :=
  fun y => convAt Z w (y 0) (y 1) (y 2)

end Cert.Real

namespace Cert.Kernel11Ideal.Conv

open Idealize.ShloMosaic Idealize.ShloMosaic.TcCoe Idealize.SL.Sem
open Cert.Kernel11Ideal Cert.Kernel11Ideal.Gen Cert.Real

variable (m : (ℓ : Loc nD τ sig) → Buf (Elt Ideal) ℓ)

theorem idx : ∀ t : Fin cfg0.N, win0_0.index t = ![t.val / 8, 0, t.val % 8] ∧ win0_1.index t = ![0, t.val % 8] ∧ win0_2.index t = ![0, t.val % 8]
    ∧ win0_3.index t = ![t.val / 8, 0, t.val % 8] ∧ t.val < 64 := (by decide +kernel : ∀ t : Fin grid0.N, _)

/-- The batch of grid point `t`, and its block's column `C`. -/
def batOf (t : Fin cfg0.N) : Fin 8 := ⟨t.val / 8, by have := (idx t).2.2.2.2; omega⟩
def colOf (t : Fin cfg0.N) (C : Fin 256) : Fin 2048 := ⟨256 * (t.val % 8) + C.val, by omega⟩

theorem z_block (c : Dev nD) (t : Fin cfg0.N) (R : Fin 4096) (C : Fin 256) :
    iblk m c 0 t (ix3 0 R C) = m ((c : Thread nD τ).loc main_arg0) (ix3 (batOf t) R ⟨(colOf t C).val, by omega⟩) := by
  blk_ext! [iblk, V, idx t, batOf, colOf]

theorem w_block (c : Dev nD) (t : Fin cfg0.N) (i : Fin 3) (C : Fin 256) :
    iblk m c 1 t (ix2 i C) = m ((c : Thread nD τ).loc main_arg1) (ix2 i (colOf t C)) := by
  blk_ext! [iblk, V, idx t, colOf]

theorem fac_ix (x y : FVec Ideal S1024 .f32) (C : Fin 2048) :
    shapeCast S1x2048 (concatenate S2048 0 [⟨S1024, x⟩, ⟨S1024, y⟩] concatenates_S1024_S1024_S2048_d0) shapeCasts_S2048_S1x2048 (ix2 0 C)
      = if h : C.val < 1024 then x (ix1 ⟨C.val, h⟩) else y (ix1 ⟨C.val - 1024, by omega⟩) := by
  pointwise

theorem s_block (c : Dev nD) (t : Fin cfg0.N) (C : Fin 256) : (iblk m c 2 t (ix2 0 C) : EReal) = keyFac (colOf t C) := by
  have e : ((cfg0.win 2).blk t).view.emb (ix2 0 C) = ix2 0 (colOf t C) := by blk_ext! [idx t, colOf]
  blk_simp [iblk]
  rw [e]
  entry_read
  refine (fac_ix _ _ (colOf t C)).trans ?_
  unfold keyFac
  split
  · exact oneWord
  · rfl

/-! ## What the body computes -/

theorem before_ix (x : FVec Ideal S4096x256 .f32) (R : Fin 4096) (C : Fin 256) :
    dynamicRotate 0 1#32 none x rotates_S4096x256_d0 (ix2 R C) = x (ix2 ⟨(R.val + 4096 - 1) % 4096, by omega⟩ C) := by
  refine congrArg x (funext fun a => ?_)
  fin_cases a
  · exact Fin.ext (by show (R.val + 4096 - 1) % 4096 = _; rfl)
  · rfl

theorem after_ix (x : FVec Ideal S4096x256 .f32) (R : Fin 4096) (C : Fin 256) :
    dynamicRotate 0 4095#32 none x rotates_S4096x256_d0 (ix2 R C) = x (ix2 ⟨(R.val + 4096 - 4095) % 4096, by omega⟩ C) := by
  refine congrArg x (funext fun a => ?_)
  fin_cases a
  · exact Fin.ext (by show (R.val + 4096 - 4095) % 4096 = _; rfl)
  · rfl

theorem mask_ix (v : BitVec 32) (R : Fin 4096) (C : Fin 256) :
    cmpi .eq (iota .tc S4096x256 32 [0] iota_S4096x256_d0_w32) (broadcast S4096x256 v) (ix2 R C) = if R.val = v.toNat then 1#1 else 0#1 := by
  pointwise
  have e : BitVec.ofNat 32 R.val = v ↔ R.val = v.toNat := by
    rw [← BitVec.toNat_inj, BitVec.toNat_ofNat, Nat.mod_eq_of_lt (by omega)]
  by_cases h : R.val = v.toNat
  · rw [if_pos h, e.2 h]
    simp [IntOp.cmpi]
  · rw [if_neg h]
    show BitVec.ofBool (_ == v) = 0#1
    rw [beq_eq_false_iff_ne.2 (mt e.1 h)]
    rfl

theorem pick (p : Prop) [Decidable p] (i : BitVec 1) (x : EReal) (h : i = if p then 1#1 else 0#1) :
    Scalar.select i 0 x = if p then 0 else x := by
  subst h
  by_cases hp : p
  · rw [if_pos hp, if_pos hp]
    rfl
  · rw [if_neg hp, if_neg hp]
    rfl

theorem pay1 (z : FVec Ideal S1x4096x256 .f32) (w : FVec Ideal S3x256 .f32) (s : FVec Ideal S1x256 .f32) (R : Fin 4096) (C : Fin 256) :
    (k0_pay1 (F := Ideal) z w s (ix3 0 R C) : EReal)
      = taps (fun k => z (ix3 0 k C)) (fun i => w (ix2 i C)) R * Ideal.logistic (taps (fun k => z (ix3 0 k C)) (fun i => w (ix2 i C)) R) * s (ix2 0 C) := by
  have cast_ix : ∀ k : Fin 4096, shapeCast S4096x256 z shapeCasts_S1x4096x256_S4096x256 (ix2 k C) = z (ix3 0 k C) := fun k => by pointwise
  unfold k0_pay1
  dsimp only
  have m0 := mask_ix 0#32 R C
  have m1 := mask_ix 4095#32 R C
  generalize cmpi .eq (iota .tc S4096x256 32 [0] iota_S4096x256_d0_w32) (broadcast S4096x256 0#32) = i0 at m0 ⊢
  generalize cmpi .eq (iota .tc S4096x256 32 [0] iota_S4096x256_d0_w32) (broadcast S4096x256 4095#32) = i1 at m1 ⊢
  have r0 := before_ix (shapeCast S4096x256 z shapeCasts_S1x4096x256_S4096x256) R C
  have r1 := after_ix (shapeCast S4096x256 z shapeCasts_S1x4096x256_S4096x256) R C
  rw [cast_ix] at r0 r1
  generalize dynamicRotate 0 1#32 none (shapeCast S4096x256 z shapeCasts_S1x4096x256_S4096x256) rotates_S4096x256_d0 = y0 at r0 ⊢
  generalize dynamicRotate 0 4095#32 none (shapeCast S4096x256 z shapeCasts_S1x4096x256_S4096x256) rotates_S4096x256_d0 = y1 at r1 ⊢
  pointwise
  rw [pick _ _ _ m0, pick _ _ _ m1, r0, r1]
  rfl

theorem final (c : Dev nD) :
    (dats m 0 c).arrAt 3 cfg0.N = convolved (m ((c : Thread nD τ).loc main_arg0)) (m ((c : Thread nD τ).loc main_arg1)) := by
  refine (dats m 0 c).arrAt_eq_of_covers 3 _ (by decide +kernel) fun t hf y => ?_
  obtain ⟨R, C, rfl⟩ : ∃ (R : Fin 4096) (C : Fin 256), y = ix3 0 R C :=
    ⟨y 1, y 2, funext fun a => by fin_cases a <;> first | rfl | exact Subsingleton.elim (α := Fin 1) _ _⟩
  have e : ((cfg0.win 3).blk t).view.emb (ix3 0 R C) = ix3 (batOf t) R (colOf t C) := by blk_ext! [idx t, batOf, colOf]
  rw [e]
  blk_simp
  rw [after0_3]
  frame_out
  refine (pay1 _ _ _ _ _).trans ?_
  show _ = convAt _ _ (batOf t) R (colOf t C)
  unfold convAt
  simp only [z_block, w_block, s_block]

end Cert.Kernel11Ideal.Conv

namespace Cert.Reference11Ideal.Conv

open Idealize.ShloMosaic Idealize.ShloMosaic.TcCoe Idealize.SL.Sem
open Cert.Reference11Ideal Cert.Reference11Ideal.Gen Cert.Real Cert.Reference11Ideal.Read

variable (Z : FVec Ideal S8x4096x5120 .f32) (w : FVec Ideal S3x2048 .f32)

theorem mul_def (x y : Ideal .f32) : FloatOps.mulf x y = ((x : EReal) * (y : EReal) : EReal) := rfl
theorem add_def (x y : Ideal .f32) : FloatOps.addf x y = ((x : EReal) + (y : EReal) : EReal) := rfl

theorem padded (x : FVec Ideal S8x4096x2048 .f32) (v : FVec Ideal S_ .f32) (b : Fin 8) (j : Fin 4098) (C : Fin 2048) :
    pad S8x4098x2048 ![0, 1, 0] ![0, 1, 0] ![0, 0, 0] x v pads_S8x4096x2048_S8x4098x2048_000_110_000 h_S_ (ix3 b j C)
      = if h : 1 ≤ j.val ∧ j.val - 1 < 4096 then x (ix3 b ⟨j.val - 1, h.2⟩ C) else v (Shape.Idx.first h_S_) := by
  pointwise

theorem pad_zero (i : S_.Idx) : (val_main_call0_v0 (F := Ideal) i : EReal) = 0 := by
  rw [val_main_call0_v0_apply, val_main_c_apply]
  show (((0#32 : BitVec 32).toInt : ℝ) : EReal) = 0
  simp

/-- Row `j` of the padded array: token `j - 1`, and nothing at the two ends. -/
theorem row_in (b : Fin 8) (j : Fin 4098) (k : Fin 4096) (hk : j.val = k.val + 1) (C : Fin 2048) :
    (val_main_v1 (F := Ideal) Z (ix3 b j C) : EReal) = Z (ix3 b k ⟨C.val, by omega⟩) := by
  have e : idx_main_v0 (ix3 b k C) = ix3 b k ⟨C.val, by omega⟩ := funext fun a => by fin_cases a <;> rfl
  have ek : (⟨j.val - 1, by omega⟩ : Fin 4096) = k := Fin.ext (by show j.val - 1 = k.val; omega)
  unfold val_main_v1
  rw [padded, dif_pos ⟨by omega, by omega⟩, ek, val_main_v0_apply, e]

theorem row_out (b : Fin 8) (j : Fin 4098) (hj : j.val = 0 ∨ j.val = 4097) (C : Fin 2048) : (val_main_v1 (F := Ideal) Z (ix3 b j C) : EReal) = 0 := by
  unfold val_main_v1
  rw [padded, dif_neg (by omega)]
  exact pad_zero _

theorem taps_ix (b : Fin 8) (n : Fin 4096) (C : Fin 2048) :
    (val_main_v21 (F := Ideal) Z w (ix3 b n C) : EReal) = taps (fun k => Z (ix3 b k ⟨C.val, by omega⟩)) (fun i => w (ix2 i C)) n := by
  have e0 : idx_main_v3 (idx_main_v4 (idx_main_v5 (idx_main_v6 (ix3 b n C)))) = ix2 0 C := by
    funext a
    fin_cases a
    · rfl
    · exact Fin.ext (Nat.mod_eq_of_lt C.isLt)
  have e1 : idx_main_v9 (idx_main_v10 (idx_main_v11 (idx_main_v12 (ix3 b n C)))) = ix2 1 C := by
    funext a
    fin_cases a
    · rfl
    · exact Fin.ext (Nat.mod_eq_of_lt C.isLt)
  have e2 : idx_main_v16 (idx_main_v17 (idx_main_v18 (idx_main_v19 (ix3 b n C)))) = ix2 2 C := by
    funext a
    fin_cases a
    · rfl
    · exact Fin.ext (Nat.mod_eq_of_lt C.isLt)
  have d0 : idx_main_v2 (ix3 b n C) = ix3 b ⟨n.val, by omega⟩ C := funext fun a => by fin_cases a <;> rfl
  have d1 : idx_main_v8 (ix3 b n C) = ix3 b ⟨1 + n.val, by omega⟩ C := funext fun a => by fin_cases a <;> rfl
  have d2 : idx_main_v15 (ix3 b n C) = ix3 b ⟨2 + n.val, by omega⟩ C := funext fun a => by fin_cases a <;> rfl
  rw [val_main_v21_apply, val_main_v14_apply, val_main_v7_apply, val_main_v13_apply, val_main_v20_apply, val_main_v6_apply, val_main_v5_apply,
    val_main_v4_apply, val_main_v3_apply, e0, val_main_v12_apply, val_main_v11_apply, val_main_v10_apply, val_main_v9_apply, e1,
    val_main_v19_apply, val_main_v18_apply, val_main_v17_apply, val_main_v16_apply, e2, val_main_v2_apply, d0, val_main_v8_apply, d1,
    val_main_v15_apply, d2, row_in Z b ⟨1 + n.val, by omega⟩ n (Nat.add_comm _ _) C]
  simp only [mul_def, add_def]
  unfold taps tapBefore tapAfter
  refine congrArg₂ (· + ·) (congrArg (· + _) ?_) ?_
  · split
    · next h => rw [row_out Z b ⟨n.val, by omega⟩ (Or.inl h) C, zero_mul]
    · next h => rw [row_in Z b ⟨n.val, by omega⟩ ⟨(n.val + 4096 - 1) % 4096, by omega⟩ (by show n.val = (n.val + 4096 - 1) % 4096 + 1; omega) C]
  · split
    · next h => rw [row_out Z b ⟨2 + n.val, by omega⟩ (Or.inr (by show 2 + n.val = 4097; omega)) C, zero_mul]
    · next h => rw [row_in Z b ⟨2 + n.val, by omega⟩ ⟨(n.val + 4096 - 4095) % 4096, by omega⟩ (by show 2 + n.val = (n.val + 4096 - 4095) % 4096 + 1; omega) C]

theorem silu_ix (b : Fin 8) (n : Fin 4096) (C : Fin 2048) :
    (val_main_v22 (F := Ideal) Z w (ix3 b n C) : EReal) = taps (fun k => Z (ix3 b k ⟨C.val, by omega⟩)) (fun i => w (ix2 i C)) n
      * Ideal.logistic (taps (fun k => Z (ix3 b k ⟨C.val, by omega⟩)) (fun i => w (ix2 i C)) n) := by
  rw [val_main_v22_apply, val_main_call1_v5_apply, val_main_call1_v4_apply, val_main_call1_cst_0_apply, val_main_call1_v3_apply, val_main_call1_v2_apply,
    val_main_call1_cst_apply, val_main_call1_v1_apply, val_main_call1_v0_apply, taps_ix]
  show _ * Ideal.div (Ideal.ofBits .f32 0x3F800000#32) (Ideal.ofBits .f32 0x3F800000#32 + Ideal.exp (-_)) = _
  rw [oneWord]
  rfl

theorem concat_ix (x y : FVec Ideal S8x4096x1024 .f32) (b : Fin 8) (n : Fin 4096) (C : Fin 2048) :
    concatenate S8x4096x2048 2 [⟨S8x4096x1024, x⟩, ⟨S8x4096x1024, y⟩] concatenates_S8x4096x1024_S8x4096x1024_S8x4096x2048_d2 (ix3 b n C)
      = if h : C.val < 1024 then x (ix3 b n ⟨C.val, h⟩) else y (ix3 b n ⟨C.val - 1024, by omega⟩) := by
  pointwise

theorem value : val_main_v28 (F := Ideal) Z w = convolved Z w := by
  funext y
  obtain ⟨b, n, C, rfl⟩ : ∃ b n C, y = ix3 b n C := ⟨y 0, y 1, y 2, funext fun a => by fin_cases a <;> rfl⟩
  show _ = convAt Z w b n C
  rw [val_main_v28_apply]
  unfold convAt keyFac val_main_v27
  rw [← silu_ix]
  refine (concat_ix _ _ b n C).trans ?_
  split
  · next h =>
    have e : idx_main_v23 (ix3 b n ⟨C.val, h⟩) = ix3 b n C := funext fun a => by fin_cases a <;> rfl
    rw [val_main_v23_apply, e, mul_one]
  · next h =>
    have e : idx_main_v24 (ix3 b n ⟨C.val - 1024, by omega⟩) = ix3 b n C := by
      funext a
      fin_cases a
      · rfl
      · rfl
      · exact Fin.ext (by show 1024 + (C.val - 1024) = C.val; omega)
    rw [val_main_v26_apply, val_main_v24_apply, e, val_main_v25_apply, val_main_cst_apply]
    rfl

end Cert.Reference11Ideal.Conv

end
-- ==== Proof.Ctx.lean ====
/- The context's projection to queries, keys and values: the call's result, and the reference's, are the same array. -/
module

public import proofs.«01_k».proof.Proof.Qkv
public import proofs.«01_k».proof.Proof.Gen.Kernel12Ideal.Value
public import proofs.«01_k».proof.Proof.Gen.Reference12Ideal.Read

@[expose] public section

set_option maxRecDepth 16384

noncomputable section

namespace Cert.Real

open Idealize.ShloMosaic

/-- Column `C` of the projection of row `r` of the context, a query's column scaled. -/
def ctxAt (A : FVec Ideal ⟨3, ![8, 256, 2048]⟩ .bf16) (W : FVec Ideal ⟨2, ![2048, 6144]⟩ .f32) (r : Fin 2048) (C : Fin 6144) : EReal :=
  (∑ k : Fin 2048, A (ix3 ⟨r.val / 256, by omega⟩ ⟨r.val % 256, by omega⟩ k) * W (ix2 k C)) * colFac C

def ctxProj (A : FVec Ideal ⟨3, ![8, 256, 2048]⟩ .bf16) (W : FVec Ideal ⟨2, ![2048, 6144]⟩ .f32) : FVec Ideal ⟨2, ![2048, 6144]⟩ .bf16 :=
  fun y => ctxAt A W (y 0) (y 1)

end Cert.Real

namespace Cert.Kernel12Ideal.Ctx

open Idealize.ShloMosaic Idealize.ShloMosaic.TcCoe Idealize.SL.Sem
open Cert.Kernel12Ideal Cert.Kernel12Ideal.Gen Cert.Real

variable (m : (ℓ : Loc nD τ sig) → Buf (Elt Ideal) ℓ)

theorem idx : ∀ t : Fin cfg0.N, win0_0.index t = ![t.val / 6, 0] ∧ win0_1.index t = ![0, t.val % 6] ∧ win0_2.index t = ![0, t.val % 6]
    ∧ win0_3.index t = ![t.val / 6, t.val % 6] ∧ t.val < 12 := (by decide +kernel : ∀ t : Fin grid0.N, _)

/-- The row and the column of grid point `t`'s block. -/
def rowOf (t : Fin cfg0.N) (R : Fin 1024) : Fin 2048 := ⟨1024 * (t.val / 6) + R.val, by have := (idx t).2.2.2.2; omega⟩
def colOf (t : Fin cfg0.N) (C : Fin 1024) : Fin 6144 := ⟨1024 * (t.val % 6) + C.val, by omega⟩

theorem a_block (c : Dev nD) (t : Fin cfg0.N) (R : Fin 1024) (k : Fin 2048) :
    iblk m c 0 t (ix2 R k) = m ((c : Thread nD τ).loc main_arg0) (ix3 ⟨(rowOf t R).val / 256, by omega⟩ ⟨(rowOf t R).val % 256, by omega⟩ k) := by
  have e : ((cfg0.win 0).blk t).view.emb (ix2 R k) = ix2 (rowOf t R) k := by blk_ext! [idx t, rowOf]
  blk_simp [iblk]
  rw [e]
  entry_read
  pointwise

theorem w_block (c : Dev nD) (t : Fin cfg0.N) (k : Fin 2048) (C : Fin 1024) :
    iblk m c 1 t (ix2 k C) = m ((c : Thread nD τ).loc main_arg1) (ix2 k (colOf t C)) := by
  blk_simp [iblk]
  entry_read
  pointwise
  blk_ext [idx t, colOf]

theorem s_block (c : Dev nD) (t : Fin cfg0.N) (C : Fin 1024) : (iblk m c 2 t (ix2 0 C) : EReal) = colFac (colOf t C) := by
  have e : ((cfg0.win 2).blk t).view.emb (ix2 0 C) = ix2 0 (colOf t C) := by blk_ext! [idx t, colOf]
  blk_simp [iblk]
  rw [e]
  entry_read
  refine (Cert.Kernel2Ideal.Qkv.fac_ix _ _ (colOf t C)).trans ?_
  unfold colFac
  split
  · rfl
  · exact one_bits

theorem pay1 (x : FVec Ideal S1024x2048 .bf16) (w : FVec Ideal S2048x1024 .bf16) (s : FVec Ideal S1x1024 .f32) (R C : Fin 1024) :
    (k0_pay1 (F := Ideal) x w s (ix2 R C) : EReal) = (∑ k : Fin 2048, (x (ix2 R k) : EReal) * w (ix2 k C)) * s (ix2 0 C) := by
  pointwise [k0_pay1]

theorem final (c : Dev nD) :
    (dats m 0 c).arrAt 3 cfg0.N = ctxProj (m ((c : Thread nD τ).loc main_arg0)) (m ((c : Thread nD τ).loc main_arg1)) := by
  refine (dats m 0 c).arrAt_eq_of_covers 3 _ (by decide +kernel) fun t hf y => ?_
  obtain ⟨R, C, rfl⟩ : ∃ (R : Fin 1024) (C : Fin 1024), y = ix2 R C := ⟨y 0, y 1, funext fun a => by fin_cases a <;> rfl⟩
  have e : ((cfg0.win 3).blk t).view.emb (ix2 R C) = ix2 (rowOf t R) (colOf t C) := by blk_ext! [idx t, rowOf, colOf]
  rw [e]
  blk_simp
  rw [after0_3]
  frame_out
  refine (pay1 _ _ _ _ _).trans ?_
  show _ = ctxAt _ _ (rowOf t R) (colOf t C)
  unfold ctxAt
  refine congrArg₂ (· * ·) (Finset.sum_congr rfl fun k _ => ?_) (s_block m c t C)
  exact congrArg₂ (· * ·) (a_block m c t R k) (w_block m c t k C)

end Cert.Kernel12Ideal.Ctx

namespace Cert.Reference12Ideal.Ctx

open Idealize.ShloMosaic Idealize.ShloMosaic.TcCoe Idealize.SL.Sem
open Cert.Reference12Ideal Cert.Reference12Ideal.Gen Cert.Real Cert.Reference12Ideal.Read

variable (A : FVec Ideal S8x256x2048 .bf16) (W : FVec Ideal S2048x6144 .f32)

theorem concat_ix (x y z : FVec Ideal S8x256x2048 .f32) (b : Fin 8) (n : Fin 256) (C : Fin 6144) :
    concatenate S8x256x6144 2 [⟨S8x256x2048, x⟩, ⟨S8x256x2048, y⟩, ⟨S8x256x2048, z⟩] concatenates_S8x256x2048_S8x256x2048_S8x256x2048_S8x256x6144_d2 (ix3 b n C)
      = if h : C.val < 2048 then x (ix3 b n ⟨C.val, h⟩) else if h' : C.val - 2048 < 2048 then y (ix3 b n ⟨C.val - 2048, h'⟩)
        else z (ix3 b n ⟨C.val - 2048 - 2048, by omega⟩) := by
  pointwise

theorem dot_ix (b : Fin 8) (n : Fin 256) (C : Fin 6144) :
    (val_main_v1 (F := Ideal) A W (ix3 b n C) : EReal) = ∑ k : Fin 2048, A (ix3 b n k) * W (ix2 k C) := by
  have el : ∀ k, lidx_main_v1 (ix3 b n C) k = ix3 b n k := fun k => funext fun a => by fin_cases a <;> rfl
  have er : ∀ k, ridx_main_v1 (ix3 b n C) k = ix2 k C := fun k => funext fun a => by fin_cases a <;> rfl
  rw [val_main_v1_apply]
  refine Finset.sum_congr rfl fun k _ => ?_
  rw [el, er]
  rfl

theorem value : val_main_v9 (F := Ideal) A W = ctxProj A W := by
  funext y
  obtain ⟨r, C, rfl⟩ : ∃ (r : Fin 2048) (C : Fin 6144), y = ix2 r C := ⟨y 0, y 1, funext fun a => by fin_cases a <;> rfl⟩
  show _ = ctxAt A W r C
  have e8 : idx_main_v8 (ix2 r C) = ix3 ⟨r.val / 256, by omega⟩ ⟨r.val % 256, by omega⟩ C := by
    funext a
    fin_cases a <;> apply Fin.ext
    · show (r.val * 6144 + C.val) / 1572864 = r.val / 256
      omega
    · show (r.val * 6144 + C.val) / 6144 % 256 = r.val % 256
      omega
    · show (r.val * 6144 + C.val) % 6144 = C.val
      omega
  rw [val_main_v9_apply, val_main_v8_apply, e8]
  unfold ctxAt colFac val_main_v7
  generalize (⟨r.val / 256, by omega⟩ : Fin 8) = b
  generalize (⟨r.val % 256, by omega⟩ : Fin 256) = n
  refine (concat_ix _ _ _ b n C).trans ?_
  split
  · next h =>
    have e : idx_main_v2 (ix3 b n ⟨C.val, h⟩) = ix3 b n C := funext fun a => by fin_cases a <;> rfl
    rw [val_main_v6_apply, val_main_v2_apply, e, dot_ix, val_main_v5_apply, val_main_cst_apply]
    rfl
  · next h =>
    rw [mul_one]
    split
    · next h' =>
      have e : idx_main_v3 (ix3 b n ⟨C.val - 2048, h'⟩) = ix3 b n C := by
        funext a
        fin_cases a
        · rfl
        · rfl
        · exact Fin.ext (by show 2048 + (C.val - 2048) = C.val; omega)
      rw [val_main_v3_apply, e, dot_ix]
    · next h' =>
      have e : idx_main_v4 (ix3 b n ⟨C.val - 2048 - 2048, by omega⟩) = ix3 b n C := by
        funext a
        fin_cases a
        · rfl
        · rfl
        · exact Fin.ext (by show 4096 + (C.val - 2048 - 2048) = C.val; omega)
      rw [val_main_v4_apply, e, dot_ix]

end Cert.Reference12Ideal.Ctx

end
-- ==== Proof.Ada.lean ====
/- The scales, shifts and gates of every layer's modulation: the call's result, and the reference's, are the same array. -/
module

public import proofs.«01_k».proof.Proof.Gen.Kernel13Ideal.Value
public import proofs.«01_k».proof.Proof.Gen.Reference13Ideal.Read
public import proofs.«01_k».proof.Proof.Norm
public import Idealize.ShloMosaic.Lib.Routing.OpsPair
public import Idealize.ShloMosaic.Lib.Routing.OpsSet
public import proofs.«01_k».proof.Proof.Glu

@[expose] public section

set_option maxRecDepth 16384

noncomputable section

namespace Cert.Real

open Idealize.ShloMosaic

/-- The condition of row `r`: a batch's, then the context's, then zeros. -/
def condAt (c : FVec Ideal ⟨2, ![8, 2048]⟩ .f32) (x : FVec Ideal ⟨1, ![2048]⟩ .f32) (r : Fin 16) (k : Fin 2048) : EReal :=
  if h : r.val < 8 then c (ix2 ⟨r.val, h⟩ k) else if r.val = 8 then x (ix1 k) else 0

/-- Column `C` of layer `l`'s modulation by the condition of row `r`. -/
def adaAt (c : FVec Ideal ⟨2, ![8, 2048]⟩ .f32) (x : FVec Ideal ⟨1, ![2048]⟩ .f32) (W : FVec Ideal ⟨3, ![4, 2048, 12288]⟩ .f32)
    (B : FVec Ideal ⟨2, ![4, 12288]⟩ .f32) (l : Fin 4) (r : Fin 16) (C : Fin 12288) : EReal :=
  (∑ k : Fin 2048, condAt c x r k * Ideal.logistic (condAt c x r k) * W (ix3 l k C)) + B (ix2 l C)

def adaMods (c : FVec Ideal ⟨2, ![8, 2048]⟩ .f32) (x : FVec Ideal ⟨1, ![2048]⟩ .f32) (W : FVec Ideal ⟨3, ![4, 2048, 12288]⟩ .f32)
    (B : FVec Ideal ⟨2, ![4, 12288]⟩ .f32) : FVec Ideal ⟨3, ![4, 16, 12288]⟩ .f32 :=
  fun y => adaAt c x W B (y 0) (y 1) (y 2)

end Cert.Real

namespace Cert.Kernel13Ideal.Ada

open Idealize.ShloMosaic Idealize.ShloMosaic.TcCoe Idealize.SL.Sem
open Cert.Kernel13Ideal Cert.Kernel13Ideal.Gen Cert.Real

variable (m : (ℓ : Loc nD τ sig) → Buf (Elt Ideal) ℓ)

theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12]
    ∧ t.val < 48 := (by decide +kernel : ∀ t : Fin grid0.N, _)

/-- The layer of grid point `t`, and its block's column `C`. -/
def layOf (t : Fin cfg0.N) : Fin 4 := ⟨t.val / 12, by have := (idx t).2.2.2.2; omega⟩
def colOf (t : Fin cfg0.N) (C : Fin 1024) : Fin 12288 := ⟨1024 * (t.val % 12) + C.val, by omega⟩

theorem w_block (c : Dev nD) (t : Fin cfg0.N) (k : Fin 2048) (C : Fin 1024) :
    iblk m c 1 t (ix3 0 k C) = m ((c : Thread nD τ).loc main_arg2) (ix3 (layOf t) k (colOf t C)) := by
  blk_ext! [iblk, V, idx t, layOf, colOf]

theorem bias_ix (x : FVec Ideal S4x12288 .f32) (l : Fin 4) (C : Fin 12288) :
    shapeCast S4x1x12288 x shapeCasts_S4x12288_S4x1x12288 (ix3 l 0 C) = x (ix2 l C) := by
  pointwise

theorem b_block (c : Dev nD) (t : Fin cfg0.N) (C : Fin 1024) :
    iblk m c 2 t (ix3 0 0 C) = m ((c : Thread nD τ).loc main_arg3) (ix2 (layOf t) (colOf t C)) := by
  have e : ((cfg0.win 2).blk t).view.emb (ix3 0 0 C) = ix3 (layOf t) 0 (colOf t C) := by blk_ext! [idx t, layOf, colOf]
  blk_simp [iblk]
  rw [e]
  entry_read
  exact bias_ix _ _ _

/-! ## The conditions, set into sixteen rows of zeros -/

theorem lands_c (i : IVec S1 32) (hi : ∀ x, i x = 0#32) (a : Fin 8) (r : Fin 16) (d k : Fin 2048) :
    scatter_S16x2048_S1_S8x2048_01_n_0_0.resultIdx? (ix2 a d) i = some (ix2 r k) ↔ a.val = r.val ∧ d = k := by
  have w0 : scatter_S16x2048_S1_S8x2048_01_n_0_0.window (ix2 a d) 0 = a.val := rfl
  have w1 : scatter_S16x2048_S1_S8x2048_01_n_0_0.window (ix2 a d) 1 = d.val := rfl
  have s0 : scatter_S16x2048_S1_S8x2048_01_n_0_0.start (ix2 a d) i 0 = 0 := by
    show (i _).toInt = 0
    rw [hi]
    rfl
  have s1 : scatter_S16x2048_S1_S8x2048_01_n_0_0.start (ix2 a d) i 1 = 0 := rfl
  refine (Routing.resultIdx?_ix2 (R := 16) (C := 2048) _ _ i r k).trans ?_
  rw [s0, s1, w0, w1, Fin.ext_iff]
  omega

theorem lands_x (i : IVec S1 32) (hi : ∀ x, i x = 8#32) (r : Fin 16) (d k : Fin 2048) :
    scatter_S16x2048_S1_S2048_0_0_0_0.resultIdx? (ix1 d) i = some (ix2 r k) ↔ r.val = 8 ∧ d = k := by
  have w0 : scatter_S16x2048_S1_S2048_0_0_0_0.window (ix1 d) 0 = 0 := rfl
  have w1 : scatter_S16x2048_S1_S2048_0_0_0_0.window (ix1 d) 1 = d.val := rfl
  have s0 : scatter_S16x2048_S1_S2048_0_0_0_0.start (ix1 d) i 0 = 8 := by
    show (i _).toInt = 8
    rw [hi]
    rfl
  have s1 : scatter_S16x2048_S1_S2048_0_0_0_0.start (ix1 d) i 1 = 0 := rfl
  refine (Routing.resultIdx?_ix2 (R := 16) (C := 2048) _ _ i r k).trans ?_
  rw [s0, s1, w0, w1, Fin.ext_iff]
  omega

theorem set_c (x : FVec Ideal S16x2048 .f32) (i : IVec S1 32) (hi : ∀ j, i j = 0#32) (u : FVec Ideal S8x2048 .f32) (r : Fin 16) (k : Fin 2048) :
    Host.scatter scatter_S16x2048_S1_S8x2048_01_n_0_0 (fun _ b => b) x i u (ix2 r k) = if h : r.val < 8 then u (ix2 ⟨r.val, h⟩ k) else x (ix2 r k) := by
  have all : ∀ j : S8x2048.Idx, ∃ (a : Fin 8) (d : Fin 2048), j = ix2 a d := fun j => ⟨j 0, j 1, funext fun b => by fin_cases b <;> rfl⟩
  split
  · next h =>
    refine Routing.scatter_set_hit _ x i u _ _ (fun j hj => ?_) (ix2 ⟨r.val, h⟩ k) ((lands_c i hi _ r k k).2 ⟨rfl, rfl⟩)
    obtain ⟨a, d, rfl⟩ := all j
    obtain ⟨ha, rfl⟩ := (lands_c i hi a r d k).1 hj
    exact congrArg (fun b => u (ix2 b d)) (Fin.ext ha)
  · next h =>
    refine Routing.scatter_set_miss _ x i u _ fun j hj => ?_
    obtain ⟨a, d, rfl⟩ := all j
    have := (lands_c i hi a r d k).1 hj
    omega

theorem set_x (x : FVec Ideal S16x2048 .f32) (i : IVec S1 32) (hi : ∀ j, i j = 8#32) (u : FVec Ideal S2048 .f32) (r : Fin 16) (k : Fin 2048) :
    Host.scatter scatter_S16x2048_S1_S2048_0_0_0_0 (fun _ b => b) x i u (ix2 r k) = if r.val = 8 then u (ix1 k) else x (ix2 r k) := by
  have all : ∀ j : S2048.Idx, ∃ d : Fin 2048, j = ix1 d := fun j => ⟨j 0, funext fun b => by fin_cases b <;> rfl⟩
  split
  · next h =>
    refine Routing.scatter_set_hit _ x i u _ _ (fun j hj => ?_) (ix1 k) ((lands_x i hi r k k).2 ⟨h, rfl⟩)
    obtain ⟨d, rfl⟩ := all j
    obtain ⟨_, rfl⟩ := (lands_x i hi r d k).1 hj
    rfl
  · next h =>
    refine Routing.scatter_set_miss _ x i u _ fun j hj => ?_
    obtain ⟨d, rfl⟩ := all j
    exact h ((lands_x i hi r d k).1 hj).1

theorem conds (x : FVec Ideal S16x2048 .f32) (hx : ∀ j, (x j : EReal) = 0) (i j : IVec S1 32) (hi : ∀ x, i x = 0#32) (hj : ∀ x, j x = 8#32)
    (u : FVec Ideal S8x2048 .f32) (v : FVec Ideal S2048 .f32) (r : Fin 16) (k : Fin 2048) :
    (Host.scatter scatter_S16x2048_S1_S2048_0_0_0_0 (fun _ b => b)
      (Host.scatter scatter_S16x2048_S1_S8x2048_01_n_0_0 (fun _ b => b) x i u) j v (ix2 r k) : EReal) = condAt u v r k := by
  rw [set_x _ j hj, set_c _ i hi]
  unfold condAt
  by_cases h : r.val < 8
  · rw [if_neg (by omega), dif_pos h, dif_pos h]
  · rw [dif_neg h, dif_neg h, hx]

theorem c_block (c : Dev nD) (t : Fin cfg0.N) (r : Fin 16) (k : Fin 2048) :
    (iblk m c 0 t (ix2 r k) : EReal) = condAt (m ((c : Thread nD τ).loc main_arg0)) (m ((c : Thread nD τ).loc main_arg1)) r k := by
  have e : ((cfg0.win 0).blk t).view.emb (ix2 r k) = ix2 r k := by blk_ext! [idx t]
  blk_simp [iblk]
  rw [e]
  entry_read
  exact conds _ (fun _ => zeroWord) _ _ (fun _ => rfl) (fun _ => rfl) _ _ r k

/-! ## The result -/

theorem pay (v0 : FVec Ideal S16x2048 .f32) (v5 : FVec Ideal S1x2048x1024 .f32) (v9 : FVec Ideal S1x1x1024 .f32) (r : Fin 16) (C : Fin 1024) :
    (k0_pay1 (F := Ideal) v0 v5 v9 (ix3 0 r C) : EReal)
      = (∑ k : Fin 2048, (v0 (ix2 r k) : EReal) * Ideal.logistic (v0 (ix2 r k)) * (v5 (ix3 0 k C) : EReal)) + (v9 (ix3 0 0 C) : EReal) := by
  pointwise [k0_pay1]

theorem final (c : Dev nD) :
    (dats m 0 c).arrAt 3 cfg0.N = adaMods (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ (by decide +kernel) fun t hf y => ?_
  obtain ⟨r, C, rfl⟩ : ∃ (r : Fin 16) (C : Fin 1024), y = ix3 0 r C :=
    ⟨y 1, y 2, funext fun a => by fin_cases a <;> first | rfl | exact Subsingleton.elim (α := Fin 1) _ _⟩
  have e : ((cfg0.win 3).blk t).view.emb (ix3 0 r C) = ix3 (layOf t) r (colOf t C) := by blk_ext! [idx t, layOf, colOf]
  rw [e]
  blk_simp
  rw [after0_3]
  frame_out
  refine (pay _ _ _ _ _).trans ?_
  show _ = adaAt _ _ _ _ (layOf t) r (colOf t C)
  unfold adaAt
  simp only [c_block, w_block, b_block]

end Cert.Kernel13Ideal.Ada

namespace Cert.Reference13Ideal.Ada

open Idealize.ShloMosaic Idealize.ShloMosaic.TcCoe Idealize.SL.Sem
open Cert.Reference13Ideal Cert.Reference13Ideal.Gen Cert.Real Cert.Reference13Ideal.Read

variable (c : FVec Ideal S8x2048 .f32) (x : FVec Ideal S2048 .f32) (W : FVec Ideal S4x2048x12288 .f32) (B : FVec Ideal S4x12288 .f32)

theorem concat_ix (u : FVec Ideal S8x2048 .f32) (v : FVec Ideal S1x2048 .f32) (z : FVec Ideal S7x2048 .f32) (r : Fin 16) (k : Fin 2048) :
    concatenate S16x2048 0 [⟨S8x2048, u⟩, ⟨S1x2048, v⟩, ⟨S7x2048, z⟩] concatenates_S8x2048_S1x2048_S7x2048_S16x2048_d0 (ix2 r k)
      = if h : r.val < 8 then u (ix2 ⟨r.val, h⟩ k) else if h9 : r.val - 8 < 1 then v (ix2 ⟨r.val - 8, h9⟩ k) else z (ix2 ⟨r.val - 8 - 1, by omega⟩ k) := by
  pointwise

theorem cond_ix (r : Fin 16) (k : Fin 2048) : (val_main_v2 (F := Ideal) c x (ix2 r k) : EReal) = condAt c x r k := by
  unfold val_main_v2 condAt
  refine (concat_ix _ _ _ r k).trans ?_
  split
  · rfl
  · split
    · next h h9 =>
      rw [if_pos (by omega), val_main_v0_apply]
      exact congrArg x (funext fun a => by fin_cases a <;> rfl)
    · next h h9 =>
      rw [if_neg (by omega), val_main_v1_apply, val_main_cst_apply]
      exact zeroWord

theorem silu_ix (r : Fin 16) (k : Fin 2048) :
    (val_main_v3 (F := Ideal) c x (ix2 r k) : EReal) = condAt c x r k * Ideal.logistic (condAt c x r k) := by
  rw [val_main_v3_apply, val_main_call0_v5_apply, val_main_call0_v4_apply, val_main_call0_cst_0_apply, val_main_call0_v3_apply, val_main_call0_v2_apply,
    val_main_call0_cst_apply, val_main_call0_v1_apply, val_main_call0_v0_apply, cond_ix]
  show _ * Ideal.div (Ideal.ofBits .f32 0x3F800000#32) (Ideal.ofBits .f32 0x3F800000#32 + Ideal.exp (-_)) = _
  rw [oneWord]
  rfl

theorem value : val_main_v8 (F := Ideal) c x W B = adaMods c x W B := by
  funext y
  obtain ⟨l, r, C, rfl⟩ : ∃ l r C, y = ix3 l r C := ⟨y 0, y 1, y 2, funext fun a => by fin_cases a <;> rfl⟩
  show _ = adaAt c x W B l r C
  rw [val_main_v8_apply, val_main_v5_apply, val_main_v4_apply, val_main_v7_apply, val_main_v6_apply]
  unfold adaAt
  refine congrArg₂ (fun p q : EReal => p + q) (Finset.sum_congr rfl fun k _ => ?_) (congrArg B (funext fun a => by fin_cases a <;> rfl))
  have el : lidx_main_v4 (idx_main_v5 (ix3 l r C)) k = ix3 l k C := funext fun a => by fin_cases a <;> rfl
  have er : ridx_main_v4 (idx_main_v5 (ix3 l r C)) k = ix2 r k := funext fun a => by fin_cases a <;> rfl
  rw [el, er, silu_ix]
  exact mul_comm _ _

end Cert.Reference13Ideal.Ada

end
-- ==== Proof.Gates.lean ====
/- The projection to an mLSTM's gates: the call's result, and the reference's, are the same sums. -/
module

public import proofs.«01_k».proof.Proof.Gen.Kernel14Ideal.Value
public import proofs.«01_k».proof.Proof.Gen.Reference14Ideal.Read
public import proofs.«01_k».proof.Proof.In
public import proofs.«01_k».proof.Proof.Route

@[expose] public section

set_option maxRecDepth 16384

noncomputable section

namespace Cert.Real

open Idealize.ShloMosaic

/-- The weight of channel `k` in column `C` of 128: the 16 columns of the gates, and zeros after them. -/
def gateW (W : FVec Ideal ⟨2, ![2048, 5136]⟩ .f32) (k : Fin 2048) (C : Fin 128) : EReal :=
  if C.val < 16 then W (ix2 k ⟨4096 + C.val, by omega⟩) else 0

/-- The projection of row `r` (a token of a batch) to column `C`. -/
def gateAt (A : FVec Ideal ⟨3, ![8, 4096, 2048]⟩ .bf16) (W : FVec Ideal ⟨2, ![2048, 5136]⟩ .f32) (r : Fin 32768) (C : Fin 128) : EReal :=
  ∑ k : Fin 2048, A (ix3 ⟨r.val / 4096, by omega⟩ ⟨r.val % 4096, by omega⟩ k) * gateW W k C

def gateProj (A : FVec Ideal ⟨3, ![8, 4096, 2048]⟩ .bf16) (W : FVec Ideal ⟨2, ![2048, 5136]⟩ .f32) : FVec Ideal ⟨2, ![32768, 128]⟩ .f32 :=
  fun y => gateAt A W (y 0) (y 1)

end Cert.Real

namespace Cert.Kernel14Ideal.Gates

open Idealize.ShloMosaic Idealize.ShloMosaic.TcCoe Idealize.SL.Sem
open Cert.Kernel14Ideal Cert.Kernel14Ideal.Gen Cert.Real

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ t.val < 32 := (by decide +kernel : ∀ t : Fin grid0.N, _)

def rowOf (t : Fin cfg0.N) (R : Fin 1024) : Fin 32768 := ⟨1024 * t.val + R.val, by have := (idx t).2.2.2; omega⟩

theorem a_block (c : Dev nD) (t : Fin cfg0.N) (R : Fin 1024) (k : Fin 2048) :
    iblk m c 0 t (ix2 R k) = m ((c : Thread nD τ).loc main_arg0) (ix3 ⟨(rowOf t R).val / 4096, by omega⟩ ⟨(rowOf t R).val % 4096, by omega⟩ k) := by
  blk_simp [iblk]
  entry_read
  pointwise
  blk_ext [idx t, rowOf]

theorem cols_ix (x : FVec Ideal S2048x5136 .f32) (k : Fin 2048) (d : Fin 16) :
    extractStridedSlice S2048x16 ![0, 4096] x slices_S2048x5136_S2048x16_0_4096 (ix2 k d) = x (ix2 k ⟨4096 + d.val, by omega⟩) := by
  pointwise

/-- No column set lies past the sixteenth. -/
theorem past (i : IVec S1 32) (hi : ∀ x, i x = 0#32) (k : Fin 2048) (C : Fin 128) (hC : ¬C.val < 16) (j : S2048x16.Idx) :
    scatter_S2048x128_S1_S2048x16_01_n_1_0.resultIdx? j i ≠ some (ix2 k C) := by
  obtain ⟨a, d, rfl⟩ : ∃ (a : Fin 2048) (d : Fin 16), j = ix2 a d := ⟨j 0, j 1, funext fun b => by fin_cases b <;> rfl⟩
  have w1 : scatter_S2048x128_S1_S2048x16_01_n_1_0.window (ix2 a d) 1 = d.val := rfl
  have s1 : scatter_S2048x128_S1_S2048x16_01_n_1_0.start (ix2 a d) i 1 = 0 := by
    show (i _).toInt = 0
    rw [hi]
    rfl
  intro h
  have h1 := ((Routing.resultIdx?_ix2 (R := 2048) (C := 128) _ _ i k C).1 h).2
  rw [s1, w1] at h1
  omega

theorem padded (x : FVec Ideal S2048x128 .f32) (hx : ∀ j, (x j : EReal) = 0) (i : IVec S1 32) (hi : ∀ j, i j = 0#32) (W : FVec Ideal S2048x5136 .f32) (k : Fin 2048) (C : Fin 128) :
    (Host.scatter scatter_S2048x128_S1_S2048x16_01_n_1_0 (fun _ b => b) x i
      (extractStridedSlice S2048x16 ![0, 4096] W slices_S2048x5136_S2048x16_0_4096) (ix2 k C) : EReal) = gateW W k C := by
  unfold gateW
  split
  · next h => exact (Cert.Kernel8Ideal.Route.padded x i hi _ k ⟨C.val, h⟩).trans (cols_ix W k ⟨C.val, h⟩)
  · next h => exact (Routing.scatter_set_miss _ x i _ _ (past i hi k C h)).trans (hx _)

theorem w_block (c : Dev nD) (t : Fin cfg0.N) (k : Fin 2048) (C : Fin 128) :
    (iblk m c 1 t (ix2 k C) : EReal) = gateW (m ((c : Thread nD τ).loc main_arg1)) k C := by
  have e : ((cfg0.win 1).blk t).view.emb (ix2 k C) = ix2 k C := by blk_ext! [idx t]
  blk_simp [iblk]
  rw [e]
  entry_read
  generalize hx : broadcastInDim S2048x128 ![] bcast_S_S2048x128 (constant (F := Ideal) S_ .f32 0x00000000#32) = x
  generalize hi : broadcastInDim S1 ![] bcast_S_S1 (constantI S_ 32 0#32) = i
  have x0 : ∀ j, (x j : EReal) = 0 := fun j => by rw [← hx]; exact zeroWord
  have i0 : ∀ j, i j = 0#32 := fun j => by rw [← hi]; rfl
  clear hx hi
  pointwise
  exact padded x x0 i i0 _ k C

theorem pay (v0 : FVec Ideal S1024x2048 .bf16) (v2 : FVec Ideal S2048x128 .bf16) (R : Fin 1024) (C : Fin 128) :
    (k0_pay1 (F := Ideal) v0 v2 (ix2 R C) : EReal) = ∑ k : Fin 2048, (v0 (ix2 R k) : EReal) * (v2 (ix2 k C) : EReal) := by
  pointwise [k0_pay1]

theorem final (c : Dev nD) :
    (dats m 0 c).arrAt 2 cfg0.N = gateProj (m ((c : Thread nD τ).loc main_arg0)) (m ((c : Thread nD τ).loc main_arg1)) := by
  refine (dats m 0 c).arrAt_eq_of_covers 2 _ (by decide +kernel) fun t hf y => ?_
  obtain ⟨R, C, rfl⟩ : ∃ (R : Fin 1024) (C : Fin 128), y = ix2 R C := ⟨y 0, y 1, funext fun a => by fin_cases a <;> rfl⟩
  have e : ((cfg0.win 2).blk t).view.emb (ix2 R C) = ix2 (rowOf t R) C := by blk_ext! [idx t, rowOf]
  rw [e]
  blk_simp
  rw [after0_2]
  frame_out
  refine (pay _ _ _ _).trans ?_
  show _ = gateAt _ _ (rowOf t R) C
  unfold gateAt
  refine Finset.sum_congr rfl fun k _ => ?_
  rw [a_block, w_block]

end Cert.Kernel14Ideal.Gates

namespace Cert.Reference14Ideal.Gates

open Idealize.ShloMosaic Idealize.ShloMosaic.TcCoe Idealize.SL.Sem
open Cert.Reference14Ideal Cert.Reference14Ideal.Gen Cert.Real Cert.Reference14Ideal.Read

variable (A : FVec Ideal S8x4096x2048 .bf16) (W : FVec Ideal S2048x5136 .f32)

theorem concat_ix (x : FVec Ideal S32768x16 .f32) (y : FVec Ideal S32768x112 .f32) (r : Fin 32768) (C : Fin 128) :
    concatenate S32768x128 1 [⟨S32768x16, x⟩, ⟨S32768x112, y⟩] concatenates_S32768x16_S32768x112_S32768x128_d1 (ix2 r C)
      = if h : C.val < 16 then x (ix2 r ⟨C.val, h⟩) else y (ix2 r ⟨C.val - 16, by omega⟩) := by
  pointwise

theorem v2_ix (r : Fin 32768) (C : Fin 5136) :
    val_main_v2 (F := Ideal) A W (ix2 r C) = ∑ k : Fin 2048, A (ix3 ⟨r.val / 4096, by omega⟩ ⟨r.val % 4096, by omega⟩ k) * W (ix2 k C) :=
  Cert.Reference3Ideal.In.v2_ix A W r C

theorem value : val_main_v5 (F := Ideal) A W = gateProj A W := by
  funext y
  obtain ⟨r, C, rfl⟩ : ∃ (r : Fin 32768) (C : Fin 128), y = ix2 r C := ⟨y 0, y 1, funext fun a => by fin_cases a <;> rfl⟩
  show _ = gateAt A W r C
  unfold val_main_v5 gateAt gateW
  rw [concat_ix]
  split
  · next h =>
    have e : idx_main_v3 (ix2 r ⟨C.val, h⟩) = ix2 r ⟨4096 + C.val, by omega⟩ := funext fun a => by fin_cases a <;> rfl
    rw [val_main_v3_apply, e, v2_ix]
  · next h =>
    rw [val_main_v4_apply, val_main_cst_apply]
    exact zeroWord.trans (Finset.sum_eq_zero fun k _ => mul_zero _).symm

end Cert.Reference14Ideal.Gates

end
-- ==== Proof.CtxIn.lean ====
/- The input projection of an even layer's context tokens: the call's result, and the reference's, are the same sums. -/
module

public import proofs.«01_k».proof.Proof.Gen.Kernel15Ideal.Value
public import proofs.«01_k».proof.Proof.Gen.Reference15Ideal.Read
public import proofs.«01_k».proof.Proof.In

@[expose] public section

set_option maxRecDepth 16384

noncomputable section

namespace Cert.Real

open Idealize.ShloMosaic

/-- The batch and the token of row `r` of the context. -/
def cbat (r : Fin 2048) : Fin 8 := ⟨r.val / 256, by omega⟩
def ctok (r : Fin 2048) : Fin 256 := ⟨r.val % 256, by omega⟩

def ctxInAt (A : FVec Ideal ⟨3, ![8, 256, 2048]⟩ .bf16) (W : FVec Ideal ⟨2, ![2048, 5136]⟩ .f32) (r : Fin 2048) (C : Fin 5120) : EReal :=
  ∑ k : Fin 2048, A (ix3 (cbat r) (ctok r) k) * W (ix2 k (inCol C))

/-- The input projection of the context, by row and column. -/
def ctxIn (A : FVec Ideal ⟨3, ![8, 256, 2048]⟩ .bf16) (W : FVec Ideal ⟨2, ![2048, 5136]⟩ .f32) : FVec Ideal ⟨2, ![2048, 5120]⟩ .f32 :=
  fun y => ctxInAt A W (y 0) (y 1)

end Cert.Real

namespace Cert.Kernel15Ideal.CtxIn

open Idealize.ShloMosaic Idealize.ShloMosaic.TcCoe Idealize.SL.Sem
open Cert.Kernel15Ideal Cert.Kernel15Ideal.Gen Cert.Real

variable (m : (ℓ : Loc nD τ sig) → Buf (Elt Ideal) ℓ)

theorem idx : ∀ t : Fin cfg0.N, win0_0.index t = ![t.val / 5, 0] ∧ win0_1.index t = ![0, t.val % 5] ∧ win0_2.index t = ![t.val / 5, t.val % 5]
    ∧ t.val < 10 := (by decide +kernel : ∀ t : Fin grid0.N, _)

def rowOf (t : Fin cfg0.N) (R : Fin 1024) : Fin 2048 := ⟨1024 * (t.val / 5) + R.val, by have := (idx t).2.2.2; omega⟩
def colOf (t : Fin cfg0.N) (C : Fin 1024) : Fin 5120 := ⟨1024 * (t.val % 5) + C.val, by omega⟩

theorem a_block (c : Dev nD) (t : Fin cfg0.N) (R : Fin 1024) (k : Fin 2048) :
    iblk m c 0 t (ix2 R k) = m ((c : Thread nD τ).loc main_arg0) (ix3 (cbat (rowOf t R)) (ctok (rowOf t R)) k) := by
  blk_simp [iblk]
  entry_read
  pointwise
  blk_ext [idx t, rowOf, cbat, ctok]

theorem w_block (c : Dev nD) (t : Fin cfg0.N) (k : Fin 2048) (C : Fin 1024) :
    iblk m c 1 t (ix2 k C) = m ((c : Thread nD τ).loc main_arg1) (ix2 k (inCol (colOf t C))) := by
  have e : ((cfg0.win 1).blk t).view.emb (ix2 k C) = ix2 k (colOf t C) := by blk_ext! [idx t, colOf]
  blk_simp [iblk]
  rw [e]
  entry_read
  exact Cert.Kernel3Ideal.In.main_ix _ k (colOf t C)

theorem final (c : Dev nD) :
    (dats m 0 c).arrAt 2 cfg0.N = ctxIn (m ((c : Thread nD τ).loc main_arg0)) (m ((c : Thread nD τ).loc main_arg1)) := by
  refine (dats m 0 c).arrAt_eq_of_covers 2 _ (by decide +kernel) fun t hf y => ?_
  obtain ⟨R, C, rfl⟩ : ∃ (R : Fin 1024) (C : Fin 1024), y = ix2 R C := ⟨y 0, y 1, funext fun a => by fin_cases a <;> rfl⟩
  have e : ((cfg0.win 2).blk t).view.emb (ix2 R C) = ix2 (rowOf t R) (colOf t C) := by blk_ext! [idx t, colOf, rowOf]
  rw [e]
  blk_simp
  rw [after0_2]
  frame_out
  refine (Cert.Kernel3Ideal.In.pay _ _ _ _).trans ?_
  show _ = ctxInAt _ _ (rowOf t R) (colOf t C)
  unfold ctxInAt
  simp only [a_block, w_block]

end Cert.Kernel15Ideal.CtxIn

namespace Cert.Reference15Ideal.CtxIn

open Idealize.ShloMosaic Idealize.ShloMosaic.TcCoe Idealize.SL.Sem
open Cert.Reference15Ideal Cert.Reference15Ideal.Gen Cert.Real Cert.Reference15Ideal.Read

variable (A : FVec Ideal S8x256x2048 .bf16) (W : FVec Ideal S2048x5136 .f32)

theorem v2_ix (r : Fin 2048) (C : Fin 5136) :
    val_main_v2 (F := Ideal) A W (ix2 r C) = ∑ k : Fin 2048, A (ix3 (cbat r) (ctok r) k) * W (ix2 k C) := by
  have e : idx_main_v2 (ix2 r C) = ix3 (cbat r) (ctok r) C := by
    funext a
    fin_cases a <;> apply Fin.ext
    · show (r.val * 5136 + C.val) / 1314816 = r.val / 256
      omega
    · show (r.val * 5136 + C.val) / 5136 % 256 = r.val % 256
      omega
    · show (r.val * 5136 + C.val) % 5136 = C.val
      omega
  rw [val_main_v2_apply, e, val_main_v1_apply]
  refine Finset.sum_congr rfl fun k _ => ?_
  congr 1
  · rw [val_main_v0_apply]
    refine congrArg A (funext fun a => by fin_cases a <;> rfl)
  · refine congrArg W (funext fun a => by fin_cases a <;> rfl)

theorem value : val_main_v5 (F := Ideal) A W = ctxIn A W := by
  funext y
  obtain ⟨r, C, rfl⟩ : ∃ (r : Fin 2048) (C : Fin 5120), y = ix2 r C := ⟨y 0, y 1, funext fun a => by fin_cases a <;> rfl⟩
  show _ = ctxInAt A W r C
  unfold val_main_v5 val_main_v3 val_main_v4 ctxInAt
  rw [← v2_ix]
  exact Cert.Kernel3Ideal.In.main_ix _ r C

end Cert.Reference15Ideal.CtxIn

end
-- ==== Proof.CtxOut.lean ====
/- The output projections of the context tokens, of an odd layer and of an even one: the calls' results, and the references',
   are the same arrays. -/
module

public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.CtxIn
public import proofs.«01_k».proof.Proof.Mix

@[expose] public section

set_option maxRecDepth 16384

noncomputable section

namespace Cert.Real

open Idealize.ShloMosaic

abbrev CtxHalf := FVec Ideal ⟨3, ![8, 256, 1024]⟩ .bf16
abbrev CtxToks (t : FTy) := FVec Ideal ⟨3, ![8, 256, 2048]⟩ t
abbrev OutW := FVec Ideal ⟨2, ![2048, 2048]⟩ .f32

/-- The residual plus the gate times a projection `p`, at row `r` and column `C`. -/
def gated (X : CtxToks .f32) (G : FVec Ideal ⟨3, ![8, 1, 2048]⟩ .f32) (p : Fin 8 → Fin 256 → Fin 2048 → EReal) (r C : Fin 2048) : EReal :=
  X (ix3 (cbat r) (ctok r) C) + G (ix3 (cbat r) 0 C) * p (cbat r) (ctok r) C

/-- The two kinds of projection: of one array, and of two halves. -/
def projOne (A : CtxToks .bf16) (W : OutW) (b : Fin 8) (n : Fin 256) (C : Fin 2048) : EReal := ∑ k : Fin 2048, A (ix3 b n k) * W (ix2 k C)
def projTwo (A B : CtxHalf) (W : OutW) (b : Fin 8) (n : Fin 256) (C : Fin 2048) : EReal :=
  ∑ k : Fin 1024, A (ix3 b n k) * W (ix2 (lo k) C) + ∑ k : Fin 1024, B (ix3 b n k) * W (ix2 (hi k) C)

def ctxOut (A : CtxToks .bf16) (W : OutW) (X : CtxToks .f32) (G : FVec Ideal ⟨3, ![8, 1, 2048]⟩ .f32) : OutW :=
  fun y => gated X G (projOne A W) (y 0) (y 1)

def ctxMix (A B : CtxHalf) (W : OutW) (X : CtxToks .f32) (G : FVec Ideal ⟨3, ![8, 1, 2048]⟩ .f32) : OutW :=
  fun y => gated X G (projTwo A B W) (y 0) (y 1)

end Cert.Real

namespace Cert.Kernel16Ideal.CtxOut

open Idealize.ShloMosaic Idealize.ShloMosaic.TcCoe Idealize.SL.Sem
open Cert.Kernel16Ideal Cert.Kernel16Ideal.Gen Cert.Real

variable (m : (ℓ : Loc nD τ sig) → Buf (Elt Ideal) ℓ)

/-- A grid point is a batch. -/
theorem idx : ∀ t : Fin cfg0.N, win0_0.index t = ![t.val, 0] ∧ win0_1.index t = ![0, 0] ∧ win0_2.index t = ![t.val, 0]
    ∧ win0_3.index t = ![t.val, 0, 0] ∧ win0_4.index t = ![t.val, 0] ∧ t.val < 8 := (by decide +kernel : ∀ t : Fin grid0.N, _)

def rowOf (t : Fin cfg0.N) (R : Fin 256) : Fin 2048 := ⟨256 * t.val + R.val, by have := (idx t).2.2.2.2.2; omega⟩

theorem a_block (c : Dev nD) (t : Fin cfg0.N) (R : Fin 256) (k : Fin 2048) :
    iblk m c 0 t (ix2 R k) = m ((c : Thread nD τ).loc main_arg0) (ix3 (cbat (rowOf t R)) (ctok (rowOf t R)) k) := by
  blk_simp [iblk]
  entry_read
  pointwise
  blk_ext [idx t, rowOf, cbat, ctok]

theorem w_block (c : Dev nD) (t : Fin cfg0.N) (k C : Fin 2048) :
    iblk m c 1 t (ix2 k C) = m ((c : Thread nD τ).loc main_arg1) (ix2 k C) := by
  blk_simp [iblk]
  entry_read
  pointwise
  blk_ext [idx t]

theorem x_block (c : Dev nD) (t : Fin cfg0.N) (R : Fin 256) (C : Fin 2048) :
    iblk m c 2 t (ix2 R C) = m ((c : Thread nD τ).loc main_arg2) (ix3 (cbat (rowOf t R)) (ctok (rowOf t R)) C) := by
  blk_simp [iblk]
  entry_read
  pointwise
  blk_ext [idx t, rowOf, cbat, ctok]

theorem g_block (c : Dev nD) (t : Fin cfg0.N) (R : Fin 256) (C : Fin 2048) :
    iblk m c 3 t (ix3 0 0 C) = m ((c : Thread nD τ).loc main_arg3) (ix3 (cbat (rowOf t R)) 0 C) := by
  blk_ext! [iblk, V, idx t, rowOf, cbat]

theorem pay (v0 : FVec Ideal S256x2048 .bf16) (v2 : FVec Ideal S2048x2048 .bf16) (v5 : FVec Ideal S256x2048 .f32) (v7 : FVec Ideal S1x1x2048 .f32)
    (R : Fin 256) (C : Fin 2048) :
    (k0_pay1 (F := Ideal) v0 v2 v5 v7 (ix2 R C) : EReal)
      = v5 (ix2 R C) + v7 (ix3 0 0 C) * ∑ k : Fin 2048, (v0 (ix2 R k) : EReal) * (v2 (ix2 k C) : EReal) := by
  pointwise [k0_pay1]

theorem final (c : Dev nD) :
    (dats m 0 c).arrAt 4 cfg0.N = ctxOut (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨R, C, rfl⟩ : ∃ (R : Fin 256) (C : Fin 2048), y = ix2 R C := ⟨y 0, y 1, funext fun a => by fin_cases a <;> rfl⟩
  have e : ((cfg0.win 4).blk t).view.emb (ix2 R C) = ix2 (rowOf t R) C := by blk_ext! [idx t, rowOf]
  rw [e]
  blk_simp
  rw [after0_4]
  frame_out
  refine (pay _ _ _ _ _ _).trans ?_
  rw [x_block, g_block m c t R]
  show _ = gated _ _ (projOne _ _) (rowOf t R) C
  unfold gated projOne
  simp only [a_block, w_block]

end Cert.Kernel16Ideal.CtxOut

namespace Cert.Kernel17Ideal.CtxOut

open Idealize.ShloMosaic Idealize.ShloMosaic.TcCoe Idealize.SL.Sem
open Cert.Kernel17Ideal Cert.Kernel17Ideal.Gen Cert.Real

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0, 0] ∧ win0_6.index t = ![t.val, 0] ∧ t.val < 8 :=
  (by decide +kernel : ∀ t : Fin grid0.N, _)

def rowOf (t : Fin cfg0.N) (R : Fin 256) : Fin 2048 := ⟨256 * t.val + R.val, by have := (idx t).2.2.2.2.2.2.2; omega⟩

theorem a_block (c : Dev nD) (t : Fin cfg0.N) (R : Fin 256) (k : Fin 1024) :
    iblk m c 0 t (ix2 R k) = m ((c : Thread nD τ).loc main_arg0) (ix3 (cbat (rowOf t R)) (ctok (rowOf t R)) k) := by
  blk_simp [iblk]
  entry_read
  pointwise
  blk_ext [idx t, rowOf, cbat, ctok]

theorem b_block (c : Dev nD) (t : Fin cfg0.N) (R : Fin 256) (k : Fin 1024) :
    iblk m c 2 t (ix2 R k) = m ((c : Thread nD τ).loc main_arg1) (ix3 (cbat (rowOf t R)) (ctok (rowOf t R)) k) := by
  blk_simp [iblk]
  entry_read
  pointwise
  blk_ext [idx t, rowOf, cbat, ctok]

theorem w_block (c : Dev nD) (t : Fin cfg0.N) (k : Fin 1024) (C : Fin 2048) :
    iblk m c 1 t (ix2 k C) = m ((c : Thread nD τ).loc main_arg2) (ix2 (lo k) C) := by
  blk_simp [iblk]
  entry_read
  pointwise
  blk_ext [idx t, lo]

theorem u_block (c : Dev nD) (t : Fin cfg0.N) (k : Fin 1024) (C : Fin 2048) :
    iblk m c 3 t (ix2 k C) = m ((c : Thread nD τ).loc main_arg2) (ix2 (hi k) C) := by
  blk_simp [iblk]
  entry_read
  pointwise
  blk_ext [idx t, hi]

theorem x_block (c : Dev nD) (t : Fin cfg0.N) (R : Fin 256) (C : Fin 2048) :
    iblk m c 4 t (ix2 R C) = m ((c : Thread nD τ).loc main_arg3) (ix3 (cbat (rowOf t R)) (ctok (rowOf t R)) C) := by
  blk_simp [iblk]
  entry_read
  pointwise
  blk_ext [idx t, rowOf, cbat, ctok]

theorem g_block (c : Dev nD) (t : Fin cfg0.N) (R : Fin 256) (C : Fin 2048) :
    iblk m c 5 t (ix3 0 0 C) = m ((c : Thread nD τ).loc main_arg4) (ix3 (cbat (rowOf t R)) 0 C) := by
  blk_ext! [iblk, V, idx t, rowOf, cbat]

theorem pay (v0 : FVec Ideal S256x1024 .bf16) (v2 : FVec Ideal S1024x2048 .bf16) (v5 : FVec Ideal S256x1024 .bf16) (v7 : FVec Ideal S1024x2048 .bf16)
    (v11 : FVec Ideal S256x2048 .f32) (v13 : FVec Ideal S1x1x2048 .f32) (R : Fin 256) (C : Fin 2048) :
    (k0_pay1 (F := Ideal) v0 v2 v5 v7 v11 v13 (ix2 R C) : EReal)
      = v11 (ix2 R C) + v13 (ix3 0 0 C) * (∑ k : Fin 1024, (v0 (ix2 R k) : EReal) * (v2 (ix2 k C) : EReal)
          + ∑ k : Fin 1024, (v5 (ix2 R k) : EReal) * (v7 (ix2 k C) : EReal)) := by
  pointwise [k0_pay1]

theorem final (c : Dev nD) :
    (dats m 0 c).arrAt 6 cfg0.N = ctxMix (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨R, C, rfl⟩ : ∃ (R : Fin 256) (C : Fin 2048), y = ix2 R C := ⟨y 0, y 1, funext fun a => by fin_cases a <;> rfl⟩
  have e : ((cfg0.win 6).blk t).view.emb (ix2 R C) = ix2 (rowOf t R) C := by blk_ext! [idx t, rowOf]
  rw [e]
  blk_simp
  rw [after0_6]
  frame_out
  refine (pay _ _ _ _ _ _ _ _).trans ?_
  rw [x_block, g_block m c t R]
  show _ = gated _ _ (projTwo _ _ _) (rowOf t R) C
  unfold gated projTwo
  simp only [a_block, w_block, b_block, u_block]

end Cert.Kernel17Ideal.CtxOut

namespace Cert.Reference16Ideal.CtxOut

open Idealize.ShloMosaic Idealize.ShloMosaic.TcCoe Idealize.SL.Sem
open Cert.Reference16Ideal Cert.Reference16Ideal.Gen Cert.Real Cert.Reference16Ideal.Read

variable (A : CtxToks .bf16) (W : OutW) (X : CtxToks .f32) (G : FVec Ideal S8x1x2048 .f32)

theorem v1_ix (b : Fin 8) (n : Fin 256) (C : Fin 2048) : (val_main_v1 (F := Ideal) A W (ix3 b n C) : EReal) = projOne A W b n C := by
  rw [val_main_v1_apply]
  refine Finset.sum_congr rfl fun k _ => ?_
  congr 1
  · rw [val_main_v0_apply]
    refine congrArg A (funext fun a => by fin_cases a <;> rfl)
  · refine congrArg W (funext fun a => by fin_cases a <;> rfl)

/-- The rows of the result, as batches and tokens. -/
theorem rows (r C : Fin 2048) : idx_main_v5 (ix2 r C) = ix3 (cbat r) (ctok r) C := by
  funext a
  fin_cases a <;> apply Fin.ext
  · show (r.val * 2048 + C.val) / 524288 = r.val / 256
    omega
  · show (r.val * 2048 + C.val) / 2048 % 256 = r.val % 256
    omega
  · show (r.val * 2048 + C.val) % 2048 = C.val
    omega

theorem value : val_main_v5 (F := Ideal) A W X G = ctxOut A W X G := by
  funext y
  obtain ⟨r, C, rfl⟩ : ∃ (r : Fin 2048) (C : Fin 2048), y = ix2 r C := ⟨y 0, y 1, funext fun a => by fin_cases a <;> rfl⟩
  have eg : idx_main_v2 (ix3 (cbat r) (ctok r) C) = ix3 (cbat r) 0 C := funext fun a => by fin_cases a <;> rfl
  rw [val_main_v5_apply, rows, val_main_v4_apply, val_main_v3_apply, v1_ix, val_main_v2_apply, eg]
  rfl

end Cert.Reference16Ideal.CtxOut

namespace Cert.Reference17Ideal.CtxOut

open Idealize.ShloMosaic Idealize.ShloMosaic.TcCoe Idealize.SL.Sem
open Cert.Reference17Ideal Cert.Reference17Ideal.Gen Cert.Real Cert.Reference17Ideal.Read

variable (A B : CtxHalf) (W : OutW) (X : CtxToks .f32) (G : FVec Ideal S8x1x2048 .f32)

theorem concat_ix (b : Fin 8) (n : Fin 256) (k : Fin 2048) :
    val_main_v0 (F := Ideal) A B (ix3 b n k)
      = if h : k.val < 1024 then A (ix3 b n ⟨k.val, h⟩) else B (ix3 b n ⟨k.val - 1024, by omega⟩) := by
  unfold val_main_v0
  pointwise

/-- After the two halves are joined, the projection is the one of a single array. -/
theorem v2_ix (b : Fin 8) (n : Fin 256) (C : Fin 2048) : (val_main_v2 (F := Ideal) A B W (ix3 b n C) : EReal) = projTwo A B W b n C := by
  refine (Cert.Reference16Ideal.CtxOut.v1_ix (val_main_v0 (F := Ideal) A B) W b n C).trans ?_
  refine (Fin.sum_univ_add (a := 1024) (b := 1024) (fun k : Fin 2048 => (val_main_v0 (F := Ideal) A B (ix3 b n k) : EReal) * W (ix2 k C))).trans ?_
  unfold projTwo
  congr 1
  · refine Finset.sum_congr rfl fun k _ => congrArg (fun x : EReal => x * W (ix2 (lo k) C)) ?_
    exact (concat_ix A B b n (lo k)).trans (dif_pos (show (lo k).val < 1024 from k.isLt))
  · refine Finset.sum_congr rfl fun k _ => congrArg (fun x : EReal => x * W (ix2 (hi k) C)) ?_
    refine (concat_ix A B b n (hi k)).trans ((dif_neg (show ¬ (hi k).val < 1024 from by show ¬ 1024 + k.val < 1024; omega)).trans ?_)
    exact congrArg (fun j => B (ix3 b n j)) (Fin.ext (Nat.add_sub_cancel_left 1024 k.val))

theorem value : val_main_v6 (F := Ideal) A B W X G = ctxMix A B W X G := by
  funext y
  obtain ⟨r, C, rfl⟩ : ∃ (r : Fin 2048) (C : Fin 2048), y = ix2 r C := ⟨y 0, y 1, funext fun a => by fin_cases a <;> rfl⟩
  have e : idx_main_v6 (ix2 r C) = ix3 (cbat r) (ctok r) C := Cert.Reference16Ideal.CtxOut.rows r C
  have eg : idx_main_v3 (ix3 (cbat r) (ctok r) C) = ix3 (cbat r) 0 C := funext fun a => by fin_cases a <;> rfl
  rw [val_main_v6_apply, e, val_main_v5_apply, val_main_v4_apply, v2_ix, val_main_v3_apply, eg]
  rfl

end Cert.Reference17Ideal.CtxOut

end
-- ==== Proof.AttnCtx.lean ====
/- The attention of the context's tokens among themselves: one tile of 256 queries, two chains, each in a slot of its own. -/
module

public import proofs.«01_k».proof.Proof.Final
public import proofs.«01_k».proof.Proof.Gen.Kernel18Ideal.Value

@[expose] public section

set_option maxRecDepth 16384

noncomputable section

namespace Cert.Real

open Idealize.ShloMosaic

/-- The attention's result for context token `t` of batch `b`, column `e` of head `h`. -/
def attnCtxAt (B : FVec Ideal ⟨3, ![8, 256, 6144]⟩ .bf16) (lam : EReal) (g : FVec Ideal ⟨1, ![2048]⟩ .f32) (b h : Fin 8) (t e : Fin 256) : EReal :=
  headNorm (fun e => (diffAttn (ctxR B 0 (by decide) b h t) (ctxR B 2048 (by decide) b h) (ctxR B 4096 (by decide) b h) lam.toReal e : EReal))
    (g (ix1 ⟨256 * h.val + e.val, by omega⟩)) e

/-- The attention's result array. -/
def attnCtx (B : FVec Ideal ⟨3, ![8, 256, 6144]⟩ .bf16) (lam : EReal) (g : FVec Ideal ⟨1, ![2048]⟩ .f32) : FVec Ideal ⟨3, ![8, 256, 2048]⟩ .bf16 :=
  fun y => attnCtxAt B lam g (y 0) ⟨(y 2).val / 256, by have : (y 2).val < 2048 := (y 2).isLt; omega⟩ (y 1) ⟨(y 2).val % 256, Nat.mod_lt _ (by decide)⟩

theorem attnCtx_ix (B : FVec Ideal ⟨3, ![8, 256, 6144]⟩ .bf16) (lam : EReal) (g : FVec Ideal ⟨1, ![2048]⟩ .f32) (b h : Fin 8) (t e : Fin 256)
    (C : Fin 2048) (hC : C.val = 256 * h.val + e.val) : attnCtx B lam g (ix3 b t C) = attnCtxAt B lam g b h t e := by
  show attnCtxAt B lam g b ⟨C.val / 256, _⟩ t ⟨C.val % 256, _⟩ = _
  congr 1
  · exact Fin.ext (by simp only; omega)
  · exact Fin.ext (by simp only; omega)

/-- The context's projected rows and lambda are numbers. -/
structure NumsCtx (B : FVec Ideal ⟨3, ![8, 256, 6144]⟩ .bf16) (lam : EReal) : Prop where
  ctx : ∀ i, Num (B i)
  lam : Num lam

end Cert.Real

namespace Cert.Kernel18Ideal.AttnCtx

open Idealize.ShloMosaic Idealize.ShloMosaic.TcCoe Idealize.SL.Sem
open Idealize.ShloMosaic.Pipeline (Dat)
open Cert.Kernel18Ideal Cert.Kernel18Ideal.Gen Cert.Real
open Cert.Kernel18Ideal.Gen.kernelRun0_A
open Cert.KernelIdeal.Attn (qk256 qk256_apply lanes2 lanes2_num diffOf diffOf_apply normOf normOf_apply sum_real)

section generic

variable {F : FTy → Type} [FloatOps F]

/-- The stored scores of a chain. -/
def sc (q k : Vec F S1x256x128 .bf16) : FVec F S1x256x256 .f32 := shapeCast S1x256x256 (qk256 q k) shapeCasts_S256x256_S1x256x256

/-- The row maxima of a chain. -/
def mx (q k : Vec F S1x256x128 .bf16) : FVec F S256x1 .f32 :=
  shapeCast S256x1 (multiReduction .maximumf [1] S256 (lanes2 (qk256 q k)) 0xFF800000#32 reduces_S256x128_S256 (.inl rfl) rfl) shapeCasts_S256_S256x1

/-- Two to the score less the row's maximum. -/
def expo (m : FVec F S256x1 .f32) (s : Vec F S1x256x256 .f32) : FVec F S256x256 .f32 :=
  exp2 (subf (shapeCast S256x256 s shapeCasts_S1x256x256_S256x256) (broadcastTo S256x256 m broadcasts_S256x1_S256x256))

/-- The exponentials as stored. -/
def prob (m : FVec F S256x1 .f32) (s : Vec F S1x256x256 .f32) : FVec F S1x256x256 .bf16 :=
  shapeCast S1x256x256 (truncf .bf16 (expo m s) bitsLt_bf16_f32) shapeCasts_S256x256_S1x256x256

/-- The values weighted by the stored exponentials, over the row sums. -/
def outOf (m : FVec F S256x1 .f32) (s : Vec F S1x256x256 .f32) (v : Vec F S1x256x256 .bf16) : FVec F S256x256 .f32 :=
  divf (matmul dot_S256x256_S256x256_S256x256_1_0_0_1_n_n none (shapeCast S256x256 (prob m s) shapeCasts_S1x256x256_S256x256)
      (shapeCast S256x256 v shapeCasts_S1x256x256_S256x256) (constant S256x256 .f32 0x00000000#32))
    (broadcastTo S256x256 (shapeCast S256x1 (multiReduction .add [1] S256 (expo m s) 0x00000000#32 reduces_S256x256_S256 (.inl rfl) rfl)
      shapeCasts_S256_S256x1) broadcasts_S256x1_S256x256)

/-- The whole output of a chain. -/
def chain (q k : Vec F S1x256x128 .bf16) (v : Vec F S1x256x256 .bf16) : FVec F S256x256 .f32 := outOf (mx q k) (sc q k) v

end generic

/-- A slot read right after its store. -/
theorem load_same {sig : RefSig} {κ : Kind} {sp : Space} {e : EltTy} (v : View sig κ sp S3x256x256 e) (off : Fin 3 → ℕ)
    (inb : ∀ a, off a + S1x256x256.size a ≤ S3x256x256.size a) (w : S1x256x256.Idx → Elt Ideal e) (L : List (View.Piece (Elt Ideal) S3x256x256 e)) :
    v.readCov (⟨Rect.unit (s := S3x256x256) off S1x256x256.size inb, w⟩ :: L) (Rect.unit (s := S3x256x256) off S1x256x256.size inb).toLoadRect = w := by
  rw [View.readCov_eq_canon']
  funext x
  exact View.canon_cons_emb (Val := Elt Ideal) (Rect.unit (s := S3x256x256) off S1x256x256.size inb) w L x

/-- A slot read after a store into another one. -/
theorem load_other {sig : RefSig} {κ : Kind} {sp : Space} {e : EltTy} (v : View sig κ sp S3x256x256 e) (w w' : S1x256x256.Idx → Elt Ideal e)
    (L : List (View.Piece (Elt Ideal) S3x256x256 e)) :
    v.readCov (⟨Rect.unit (s := S3x256x256) ![1, 0, 0] S1x256x256.size inb_S3x256x256_S1x256x256_1_0_0, w'⟩
        :: ⟨Rect.unit (s := S3x256x256) ![0, 0, 0] S1x256x256.size inb_S3x256x256_S1x256x256_0_0_0, w⟩ :: L)
      (Rect.unit (s := S3x256x256) ![0, 0, 0] S1x256x256.size inb_S3x256x256_S1x256x256_0_0_0).toLoadRect = w :=
  (View.readCov_skip v _ _ _ _ (by decide)).trans (load_same v _ _ _ _)

theorem load_apply {sp : Space} {s : Shape} {e : EltTy} (A : Memref sig .tc sp s e) (hA : A.IsWhole) (x : Vec Ideal s e) (r : Rect s) (j : r.shape.Idx) :
    View.readAt (Elt Ideal) A.view r.toLoadRect (hA.unread x) j = x (r.emb j) := by
  rw [View.readAt_eq_ld, hA.read_unread]
  rfl

theorem inbQ (i : Fin 2) : ∀ a, (![0, 0, 128 * i.val] : Fin 3 → ℕ) a + S1x256x128.size a ≤ S1x256x256.size a := by
  intro a; fin_cases a <;> simp <;> omega

variable (c : Dev nD) (arg3 : Memref sig .tc .smem S1 .f32) (harg3 : arg3.IsWhole) (arg4 : Memref sig .tc .vmem S1x256x256 .bf16) (harg4 : arg4.IsWhole)
  (arg5 : Memref sig .tc .vmem S1x256x256 .bf16) (harg5 : arg5.IsWhole) (arg6 : Memref sig .tc .vmem S1x256x256 .bf16) (harg6 : arg6.IsWhole)
  (arg7 : Memref sig .tc .vmem S1x256 .f32) (harg7 : arg7.IsWhole) (arg8 : Memref sig .tc .vmem S1x256x256 .bf16) (harg8 : arg8.IsWhole)
  (arg9 : Memref sig .tc .vmem S3x256x256 .f32) (harg9 : arg9.IsWhole) (arg10 : Memref sig .tc .vmem S3x256x256 .bf16) (harg10 : arg10.IsWhole)
  (x0 : Vec Ideal S1 .f32) (x1 x2 x3 : Vec Ideal S1x256x256 .bf16) (x4 : Vec Ideal S1x256 .f32)

/-- Half-head `i` of a block's queries or keys. -/
def half (arg : Memref sig .tc .vmem S1x256x256 .bf16) (harg : arg.IsWhole) (x : Vec Ideal S1x256x256 .bf16) (i : Fin 2) : Vec Ideal S1x256x128 .bf16 :=
  View.readAt (Elt Ideal) arg.view (Rect.unit (s := S1x256x256) ![0, 0, 128 * i.val] S1x256x128.size (inbQ i)).toLoadRect (harg.unread x)

theorem half_apply (arg : Memref sig .tc .vmem S1x256x256 .bf16) (harg : arg.IsWhole) (x : Vec Ideal S1x256x256 .bf16) (i : Fin 2) (a : Fin 256)
    (d : Fin 128) : half arg harg x i (ix3 0 a d) = x (ix3 0 a (halfCol i d)) := by
  refine (load_apply arg harg x _ (ix3 0 a d : S1x256x128.Idx)).trans (congrArg x (funext fun k => Fin.ext ((Rect.idx_unit_val _ _ _ _ k).trans ?_)))
  fin_cases k <;> simp [halfCol]

/-- A whole block of values. -/
def full (arg : Memref sig .tc .vmem S1x256x256 .bf16) (harg : arg.IsWhole) (x : Vec Ideal S1x256x256 .bf16) : Vec Ideal S1x256x256 .bf16 :=
  View.readAt (Elt Ideal) arg.view (Rect.unit (s := S1x256x256) ![0, 0, 0] S1x256x256.size inb_S1x256x256_S1x256x256_0_0_0).toLoadRect (harg.unread x)

theorem full_eq (arg : Memref sig .tc .vmem S1x256x256 .bf16) (harg : arg.IsWhole) (x : Vec Ideal S1x256x256 .bf16) : full arg harg x = x := by
  funext j
  refine (load_apply arg harg x _ j).trans (congrArg x (funext fun k => Fin.ext ((Rect.idx_unit_val _ _ _ _ k).trans ?_)))
  fin_cases k <;> simp

/-- The gains. -/
def gain : Vec Ideal S1x256 .f32 :=
  View.readAt (Elt Ideal) arg7.view (Rect.unit (s := S1x256) ![0, 0] S1x256.size inb_S1x256_S1x256_0_0).toLoadRect (harg7.unread x4)

theorem gain_eq : gain arg7 harg7 x4 = x4 := by
  funext j
  refine (load_apply arg7 harg7 x4 _ j).trans (congrArg x4 (funext fun k => Fin.ext ((Rect.idx_unit_val _ _ _ _ k).trans ?_)))
  fin_cases k <;> simp

theorem lam_eq : sl.r c arg3 harg3 x0 = x0 (ix1 0) := by
  refine (load_apply arg3 harg3 x0 (Rect.unit (s := S1) ![0] S1.size _) _).trans (congrArg x0 (funext fun k => ?_))
  fin_cases k
  exact Subsingleton.elim (α := Fin 1) _ _

/-- Each load of scores finds those of its own chain. -/
theorem scores : sl.v27 c arg4 harg4 arg5 harg5 arg9 x1 x2 = sc (half arg4 harg4 x1 0) (half arg5 harg5 x2 0)
    ∧ sl.v38 c arg4 harg4 arg5 harg5 arg9 x1 x2 = sc (half arg4 harg4 x1 1) (half arg5 harg5 x2 1) :=
  ⟨load_other arg9.view _ _ _, load_same arg9.view _ _ _ _⟩

/-- Each load of exponentials finds those of its own chain. -/
theorem exps : sl.v49 c arg4 harg4 arg5 harg5 arg9 arg10 x1 x2
      = prob (mx (half arg4 harg4 x1 0) (half arg5 harg5 x2 0)) (sc (half arg4 harg4 x1 0) (half arg5 harg5 x2 0))
    ∧ sl.v56 c arg4 harg4 arg5 harg5 arg9 arg10 x1 x2
      = prob (mx (half arg4 harg4 x1 1) (half arg5 harg5 x2 1)) (sc (half arg4 harg4 x1 1) (half arg5 harg5 x2 1)) := by
  obtain ⟨s0, s1⟩ := scores c arg4 harg4 arg5 harg5 arg9 x1 x2
  rw [← s0, ← s1]
  exact ⟨load_other arg10.view _ _ _, load_same arg10.view _ _ _ _⟩

/-- The run stores the normalized difference of the two chains. -/
theorem stored (i : grid0.Coords) :
    (kernelRun0_A c i arg3 harg3 arg4 harg4 arg5 harg5 arg6 harg6 arg7 harg7 arg8 harg8 arg9 harg9 arg10 harg10 x0 x1 x2 x3 x4).fst
      = [⟨Rect.unit (s := S1x256x256) ![0, 0, 0] S1x256x256.size inb_S1x256x256_S1x256x256_0_0_0,
          normOf (diffOf (sl.r c arg3 harg3 x0) (chain (half arg4 harg4 x1 0) (half arg5 harg5 x2 0) (full arg6 harg6 x3))
            (chain (half arg4 harg4 x1 1) (half arg5 harg5 x2 1) (full arg6 harg6 x3))) (gain arg7 harg7 x4)⟩] := by
  obtain ⟨s0, s1⟩ := scores c arg4 harg4 arg5 harg5 arg9 x1 x2
  obtain ⟨p0, p1⟩ := exps c arg4 harg4 arg5 harg5 arg9 arg10 x1 x2
  unfold chain outOf
  rw [← p0, ← p1, ← s0, ← s1]
  rfl

theorem outOf_apply (m : FVec Ideal S256x1 .f32) (s : FVec Ideal S1x256x256 .f32) (v : FVec Ideal S1x256x256 .bf16) (a e : Fin 256) :
    outOf (F := Ideal) m s v (ix2 a e) = Ideal.div (∑ l : Fin 256, Ideal.exp2 (s (ix3 0 a l) - m (ix2 a 0)) * v (ix3 0 l e))
      (∑ l : Fin 256, Ideal.exp2 (s (ix3 0 a l) - m (ix2 a 0))) := by
  pointwise [outOf, prob, expo]
  rfl

theorem sc_apply (q k : FVec Ideal S1x256x128 .bf16) (a l : Fin 256) : sc (F := Ideal) q k (ix3 0 a l) = ∑ d : Fin 128, q (ix3 0 a d) * k (ix3 0 l d) := by
  refine Eq.trans ?_ (qk256_apply q k a l)
  pointwise [sc]

/-- The scores being numbers, the row maxima are. -/
theorem mx_num (q k : FVec Ideal S1x256x128 .bf16) (a : Fin 256) (h : ∀ l, Num (qk256 (F := Ideal) q k (ix2 a l))) :
    Num (mx (F := Ideal) q k (ix2 a 0)) := by
  have e : ∀ m : FVec Ideal S256x128 .f32, shapeCast S256x1 (multiReduction (F := Ideal) .maximumf [1] S256 m 0xFF800000#32 reduces_S256x128_S256 (.inl rfl) rfl)
      shapeCasts_S256_S256x1 (ix2 a 0) = Finset.fold max (Ideal.ofBits .f32 0xFF800000#32) (fun x : Fin 128 => m (ix2 a x)) Finset.univ := by
    intro m
    pointwise
  unfold mx
  rw [e]
  exact Num.fold _ (lanes2_num _ a h) _ negInf_lt

/-- Weighted values over the sum of the weights, all numbers. -/
theorem soft_real (m : ℝ) (S V : Fin 256 → ℝ) (s v : Fin 256 → EReal) (M : EReal) (hm : M = m) (hs : ∀ l, s l = (S l : EReal))
    (hv : ∀ l, v l = (V l : EReal)) :
    Ideal.div (∑ l : Fin 256, Ideal.exp2 (s l - M) * v l) (∑ l : Fin 256, Ideal.exp2 (s l - M)) = (soft S V : EReal) := by
  have hp : ∀ l, Ideal.exp2 (s l - M) = (((2 : ℝ) ^ (S l - m) : ℝ) : EReal) := by
    intro l
    rw [hs, hm, ← EReal.coe_sub, Ideal.exp2_coe]
    rfl
  have hE : ∀ l, (2 : ℝ) ^ (S l - m) = (2 : ℝ) ^ S l * (2 : ℝ) ^ (-m) := by
    intro l
    rw [← Real.rpow_add two_pos, sub_eq_add_neg]
  have hz : (2 : ℝ) ^ (-m) ≠ 0 := (Real.rpow_pos_of_pos two_pos _).ne'
  rw [sum_real _ _ _ _ hp hv, Finset.sum_congr rfl fun l _ => hp l, ← coe_sum, div_real _ _ (scaled_sum_ne S _ _ hz hE), soft_scaled S V _ _ hz hE]

variable (q k v : Fin 256 → Fin 256 → ℝ) (lam : ℝ) (hlam : x0 (ix1 0) = (lam : EReal)) (hq : ∀ R C, x1 (ix3 0 R C) = (q R C : EReal))
  (hk : ∀ R C, x2 (ix3 0 R C) = (k R C : EReal)) (hv : ∀ R C, x3 (ix3 0 R C) = (v R C : EReal))

include hq hk in
theorem score_real (i : Fin 2) (a l : Fin 256) :
    ∑ d : Fin 128, half arg4 harg4 x1 i (ix3 0 a d) * half arg5 harg5 x2 i (ix3 0 l d) = (dotHalf i (q a) (k l) : EReal) :=
  sum_real _ _ _ _ (fun d => (half_apply _ _ _ _ _ _).trans (hq _ _)) fun d => (half_apply _ _ _ _ _ _).trans (hk _ _)

include hq hk hv in
theorem chain_real (i : Fin 2) (a e : Fin 256) :
    chain (half arg4 harg4 x1 i) (half arg5 harg5 x2 i) (full arg6 harg6 x3) (ix2 a e)
      = (soft (fun l => dotHalf i (q a) (k l)) (fun l => v l e) : EReal) := by
  obtain ⟨m, hm⟩ := Num.eq (mx_num (half arg4 harg4 x1 i) (half arg5 harg5 x2 i) a fun l => by
    rw [qk256_apply, score_real arg4 harg4 arg5 harg5 x1 x2 q k hq hk]
    exact Num.coe _)
  unfold chain
  rw [outOf_apply, full_eq]
  exact soft_real m _ _ _ _ _ hm (fun l => (sc_apply _ _ a l).trans (score_real arg4 harg4 arg5 harg5 x1 x2 q k hq hk i a l)) fun l => hv l e

include hlam hq hk hv in
/-- The tile that the run leaves. -/
theorem tile_real (i : grid0.Coords) (y : S1x256x256.Idx) :
    View.canon (kernelRun0_A c i arg3 harg3 arg4 harg4 arg5 harg5 arg6 harg6 arg7 harg7 arg8 harg8 arg9 harg9 arg10 harg10 x0 x1 x2 x3 x4).fst y
      = headNorm (fun e => (diffAttn (q (y 1)) k v lam e : EReal)) (x4 (ix2 0 (y 2))) (y 2) := by
  rw [stored]
  obtain ⟨b, a, e, rfl⟩ : ∃ b a e, y = ix3 b a e := ⟨y 0, y 1, y 2, funext fun a => by fin_cases a <;> rfl⟩
  have h0 : (ix3 b a e : S1x256x256.Idx) = (Rect.unit (s := S1x256x256) ![0, 0, 0] S1x256x256.size inb_S1x256x256_S1x256x256_0_0_0).emb
      (ix3 b a e : S1x256x256.Idx) := by
    funext k
    refine Fin.ext (Eq.trans ?_ (Rect.idx_unit_val _ _ _ _ k).symm)
    fin_cases k <;> simp
  refine (congrArg (View.canon _) h0).trans ((View.canon_cons_emb (Val := Elt Ideal) _ _ _ _).trans ?_)
  refine (normOf_apply _ _ b a e).trans ?_
  rw [gain_eq]
  have ho : ∀ e, diffOf (F := Ideal) (sl.r c arg3 harg3 x0) (chain (half arg4 harg4 x1 0) (half arg5 harg5 x2 0) (full arg6 harg6 x3))
      (chain (half arg4 harg4 x1 1) (half arg5 harg5 x2 1) (full arg6 harg6 x3)) (ix2 a e) = (diffAttn (q a) k v lam e : EReal) := by
    intro e
    refine (diffOf_apply _ _ _ a e).trans ?_
    rw [chain_real arg4 harg4 arg5 harg5 arg6 harg6 x1 x2 x3 q k v hq hk hv 0 a e,
      chain_real arg4 harg4 arg5 harg5 arg6 harg6 x1 x2 x3 q k v hq hk hv 1 a e, lam_eq, hlam, ← EReal.coe_mul, ← EReal.coe_sub]
    rfl
  simp only [ho]
  rfl

variable (m : (ℓ : Loc nD τ sig) → Buf (Elt Ideal) ℓ)

/-- The blocks' places, point by point: batch and head. -/
theorem idx : ∀ t : Fin cfg0.N, win0_0.index t = ![0] ∧ win0_1.index t = ![t.val / 8, 0, t.val % 8] ∧ win0_2.index t = ![t.val / 8, 0, 8 + t.val % 8]
    ∧ win0_3.index t = ![t.val / 8, 0, 16 + t.val % 8] ∧ win0_4.index t = ![0, t.val % 8] ∧ win0_5.index t = ![t.val / 8, 0, t.val % 8] ∧ t.val < 64 :=
  (by decide +kernel : ∀ t : Fin grid0.N, _)

def bOf (t : Fin cfg0.N) : Fin 8 := ⟨t.val / 8, by have := (idx t).2.2.2.2.2.2; omega⟩
def hOf (t : Fin cfg0.N) : Fin 8 := ⟨t.val % 8, by omega⟩

theorem lam_block (c : Dev nD) (t : Fin cfg0.N) : iblk m c 0 t (ix1 0) = m ((c : Thread nD τ).loc main_arg1) ix0 := by
  have := (idx t).2.2.2.2.2.2
  blk_simp [iblk]
  entry_read
  pointwise
  blk_ext [idx t]

theorem q_block (c : Dev nD) (t : Fin cfg0.N) (R C : Fin 256) :
    iblk m c 1 t (ix3 0 R C) = m ((c : Thread nD τ).loc main_arg0) (ix3 (bOf t) R ⟨0 + 256 * (hOf t).val + C.val, by omega⟩) := by
  blk_ext! [iblk, V, idx t, bOf, hOf]

theorem k_block (c : Dev nD) (t : Fin cfg0.N) (R C : Fin 256) :
    iblk m c 2 t (ix3 0 R C) = m ((c : Thread nD τ).loc main_arg0) (ix3 (bOf t) R ⟨2048 + 256 * (hOf t).val + C.val, by omega⟩) := by
  blk_ext! [iblk, V, idx t, bOf, hOf]

theorem v_block (c : Dev nD) (t : Fin cfg0.N) (R C : Fin 256) :
    iblk m c 3 t (ix3 0 R C) = m ((c : Thread nD τ).loc main_arg0) (ix3 (bOf t) R ⟨4096 + 256 * (hOf t).val + C.val, by omega⟩) := by
  blk_ext! [iblk, V, idx t, bOf, hOf]

theorem g_block (c : Dev nD) (t : Fin cfg0.N) (C : Fin 256) :
    iblk m c 4 t (ix2 0 C) = m ((c : Thread nD τ).loc main_arg2) (ix1 ⟨256 * (hOf t).val + C.val, by omega⟩) := by
  blk_simp [iblk]
  entry_read
  pointwise
  blk_ext [idx t, hOf]

theorem out_place (t : Fin cfg0.N) (y : S1x256x256.Idx) :
    ((cfg0.win 5).blk t).view.emb y = ix3 (bOf t) (y 1) ⟨256 * (hOf t).val + (y 2).val, by have : (y 2).val < 256 := (y 2).isLt; omega⟩ := by
  blk_ext! [idx t, bOf, hOf]

/-- The kernel's result array. -/
theorem final (c : Dev nD) (hn : NumsCtx (m ((c : Thread nD τ).loc main_arg0)) (m ((c : Thread nD τ).loc main_arg1) ix0)) :
    (dats m 0 c).arrAt 5 cfg0.N = attnCtx (m ((c : Thread nD τ).loc main_arg0)) (m ((c : Thread nD τ).loc main_arg1) ix0)
      (m ((c : Thread nD τ).loc main_arg2)) := by
  refine (dats m 0 c).arrAt_eq_of_covers 5 _ (by decide +kernel) fun t _ y => ?_
  blk_simp
  rw [after0_5, out_place]
  refine Eq.trans ?_ (attnCtx_ix _ _ _ _ (hOf t) _ (y 2) _ rfl).symm
  unfold outsAt0 out0_A_5
  rw [View.read_writes_junk_eq_canon]
  refine (tile_real c _ _ _ _ _ _ _ _ _ _ _ _ _ _ _ _ (iblk m c 0 t) (iblk m c 1 t) (iblk m c 2 t) (iblk m c 3 t) (iblk m c 4 t)
    (ctxR (m ((c : Thread nD τ).loc main_arg0)) 0 (by decide) (bOf t) (hOf t)) (ctxR (m ((c : Thread nD τ).loc main_arg0)) 2048 (by decide) (bOf t) (hOf t))
    (ctxR (m ((c : Thread nD τ).loc main_arg0)) 4096 (by decide) (bOf t) (hOf t)) (EReal.toReal (m ((c : Thread nD τ).loc main_arg1) ix0))
    ((lam_block m c t).trans (coe_of_num hn.lam)) (fun R C => (q_block m c t R C).trans (coe_of_num (hn.ctx _)))
    (fun R C => (k_block m c t R C).trans (coe_of_num (hn.ctx _))) (fun R C => (v_block m c t R C).trans (coe_of_num (hn.ctx _))) _ y).trans ?_
  unfold attnCtxAt
  exact congrArg (fun z => headNorm _ z _) (g_block m c t (y 2))

end Cert.Kernel18Ideal.AttnCtx

end
-- ==== Proof.RefAttnCtx.lean ====
/- The reference's value of the context's attention, by the softmax argument of the latents' one. -/
module

public import proofs.«01_k».proof.Proof.Ref
public import proofs.«01_k».proof.Proof.AttnCtx
public import proofs.«01_k».proof.Proof.Gen.Reference18Ideal.Read

@[expose] public section

set_option maxRecDepth 16384

noncomputable section

namespace Cert.Reference18Ideal.AttnCtx

open Idealize.ShloMosaic Idealize.ShloMosaic.TcCoe Idealize.SL.Sem
open Cert.Reference18Ideal Cert.Reference18Ideal.Gen Cert.Real Cert.Reference18Ideal.Read
open Cert.ReferenceIdeal.Attn (two_bits zero_bits mul_def bits_def norm_def)

variable (B : FVec Ideal S8x256x6144 .bf16) (lam : FVec Ideal S_ .f32) (g : FVec Ideal S2048 .f32)

theorem v5_ix (i : Fin 2) (b h : Fin 8) (t : Fin 256) (d : Fin 128) :
    val_main_v5 (F := Ideal) B (ix5 i b h t d) = B (ix3 b t ⟨0 + 256 * h.val + (halfCol i d).val, by omega⟩) := by
  pointwise [val_main_v5, val_main_v4, val_main_v1, val_main_v0]
  exact congrArg (fun C => B (ix3 b t C)) (Fin.ext (by simp only [halfCol]; omega))

theorem v7_ix (i : Fin 2) (b h : Fin 8) (t : Fin 256) (d : Fin 128) :
    val_main_v7 (F := Ideal) B (ix5 i b h t d) = B (ix3 b t ⟨2048 + 256 * h.val + (halfCol i d).val, by omega⟩) := by
  pointwise [val_main_v7, val_main_v6, val_main_v2, val_main_v0]
  exact congrArg (fun C => B (ix3 b t C)) (Fin.ext (by simp only [halfCol]; omega))

theorem v9_ix (b h : Fin 8) (t e : Fin 256) :
    val_main_v9 (F := Ideal) B (ix4 b h t e) = B (ix3 b t ⟨4096 + 256 * h.val + e.val, by omega⟩) := by
  pointwise [val_main_v9, val_main_v8, val_main_v3, val_main_v0]
  exact congrArg (fun C => B (ix3 b t C)) (Fin.ext (by simp only; omega))

theorem max14 (x : FVec Ideal S2x8x8x256x256 .f32) (y : FVec Ideal S_ .f32) (i : Fin 2) (b h : Fin 8) (t : Fin 256) :
    Host.reduce FloatOps.maximumf x y reducesTo_S2x8x8x256x256_S2x8x8x256_d4 h_S_ (ix4 i b h t)
      = Finset.fold max (y (Shape.Idx.first h_S_)) (fun l : Fin 256 => x (ix5 i b h t l)) Finset.univ := by
  pointwise

theorem cast26 (x : FVec Ideal S1x8x8x256x256 .f32) (b h : Fin 8) (t l : Fin 256) :
    shapeCast S8x8x256x256 x shapeCasts_S1x8x8x256x256_S8x8x256x256 (ix4 b h t l) = x (ix5 0 b h t l) := by
  pointwise

theorem cast45 (b h : Fin 8) (t e : Fin 256) : val_main_v45 (F := Ideal) g (ix4 b h t e) = g (ix1 ⟨256 * h.val + e.val, by omega⟩) := by
  pointwise [val_main_v45, val_main_v44, val_main_v33]
  exact congrArg (fun C => g (ix1 C)) (Fin.ext (by simp only; omega))

theorem cast50 (x : FVec Ideal S8x8x256x256 .f32) (b : Fin 8) (t : Fin 256) (C : Fin 2048) :
    shapeCast S8x256x2048 (transpose S8x256x8x256 [0, 2, 1, 3] x transposes_S8x8x256x256_S8x256x8x256_0_2_1_3)
        shapeCasts_S8x256x8x256_S8x256x2048 (ix3 b t C)
      = x (ix4 b ⟨C.val / 256, by omega⟩ t ⟨C.val % 256, by omega⟩) := by
  pointwise

variable (hn : NumsCtx B (lam ix0))

/-- The score of token `t` against key `l`. -/
def scoreR (i : Fin 2) (b h : Fin 8) (t l : Fin 256) : ℝ := dotHalf i (ctxR B 0 (by decide) b h t) (ctxR B 2048 (by decide) b h l)

include hn in
theorem score_real (i : Fin 2) (b h : Fin 8) (t l : Fin 256) : val_main_v10 (F := Ideal) B (ix5 i b h t l) = (scoreR B i b h t l : EReal) := by
  have e1 : ∀ k, lidx_main_v10 (ix5 i b h t l) k = ix5 i b h t k := fun k => funext fun a => by fin_cases a <;> rfl
  have e2 : ∀ k, ridx_main_v10 (ix5 i b h t l) k = ix5 i b h l k := fun k => funext fun a => by fin_cases a <;> rfl
  rw [val_main_v10_apply]
  exact Cert.KernelIdeal.Attn.sum_real _ _ (fun d => ctxR B 0 (by decide) b h t (halfCol i d)) (fun d => ctxR B 2048 (by decide) b h l (halfCol i d))
    (fun d => (congrArg _ (e1 d)).trans ((v5_ix B i b h t d).trans (coe_of_num (hn.ctx _))))
    fun d => (congrArg _ (e2 d)).trans ((v7_ix B i b h l d).trans (coe_of_num (hn.ctx _)))

include hn in
theorem logit_real (i : Fin 2) (b h : Fin 8) (t l : Fin 256) :
    val_main_v13 (F := Ideal) B (ix5 i b h t l) = (scoreR B i b h t l * Real.log 2 : ℝ) := by
  have hl : ∀ x, val_main_v12 (F := Ideal) x = (Real.log 2 : EReal) := by
    intro x
    rw [val_main_v12_apply, val_main_v11_apply, val_main_cst_apply]
    show Ideal.log (Ideal.ofBits .f32 0x40000000#32) = _
    rw [two_bits, Ideal.log_coe, if_neg (by norm_num)]
  rw [val_main_v13_apply, score_real B lam hn, hl]
  exact (EReal.coe_mul _ _).symm

include hn in
theorem max_real (i : Fin 2) (b h : Fin 8) (t : Fin 256) : ∃ m : ℝ, val_main_v16 (F := Ideal) B (ix4 i b h t) = (m : EReal) := by
  have hf : Num (val_main_v14 (F := Ideal) B (ix4 i b h t)) := by
    unfold val_main_v14
    rw [max14]
    exact Num.fold _ (fun l => by rw [logit_real B lam hn]; exact Num.coe _) _ negInf_lt
  rw [val_main_v16_apply, val_main_v15_apply, val_main_cst_1_apply]
  refine Num.eq (x := max (Ideal.ofBits .f32 0xFF800000#32) (val_main_v14 (F := Ideal) B (ix4 i b h t))) ?_
  exact ⟨lt_max_of_lt_right hf.1, max_lt negInf_lt hf.2⟩

theorem max_spread (i : Fin 2) (b h : Fin 8) (t l : Fin 256) :
    val_main_v18 (F := Ideal) B (ix5 i b h t l) = val_main_v16 (F := Ideal) B (ix4 i b h t) := by
  rw [val_main_v18_apply, val_main_v17_apply]
  exact congrArg (val_main_v16 (F := Ideal) B) (funext fun a => by fin_cases a <;> rfl)

theorem sum_spread (i : Fin 2) (b h : Fin 8) (t l : Fin 256) :
    val_main_v23 (F := Ideal) B (ix5 i b h t l) = ∑ k : Fin 256, val_main_v20 (F := Ideal) B (ix5 i b h t k) := by
  have e : ∀ k, idx_main_v21 (idx_main_v22 (idx_main_v23 (ix5 i b h t l))) k = ix5 i b h t k := fun k => funext fun a => by fin_cases a <;> rfl
  rw [val_main_v23_apply, val_main_v22_apply, val_main_v21_apply, val_main_cst_2_apply]
  refine (congrArg (· + _) zero_bits).trans ((zero_add _).trans (Finset.sum_congr rfl fun k _ => ?_))
  rw [e]

include hn in
/-- The reference's weights: two to the score over the sum of those powers, in one common scale. -/
theorem weight_real (i : Fin 2) (b h : Fin 8) (t : Fin 256) : ∃ (E : Fin 256 → ℝ) (s : ℝ), s ≠ 0 ∧ (∀ l, E l = (2 : ℝ) ^ scoreR B i b h t l * s)
    ∧ ∀ l, val_main_v24 (F := Ideal) B (ix5 i b h t l) = (E l / ∑ k, E k : ℝ) := by
  obtain ⟨m, hm⟩ := max_real B lam hn i b h t
  have hE : ∀ l, Real.exp (scoreR B i b h t l * Real.log 2 - m) = (2 : ℝ) ^ scoreR B i b h t l * Real.exp (-m) := by
    intro l
    rw [sub_eq_add_neg, Real.exp_add, Real.rpow_def_of_pos two_pos, mul_comm (Real.log 2)]
  have hx : ∀ l, val_main_v20 (F := Ideal) B (ix5 i b h t l) = (Real.exp (scoreR B i b h t l * Real.log 2 - m) : EReal) := by
    intro l
    rw [val_main_v20_apply, val_main_v19_apply, max_spread, hm, logit_real B lam hn]
    refine (congrArg Ideal.exp (EReal.coe_sub _ _).symm).trans (Ideal.exp_coe _)
  refine ⟨_, Real.exp (-m), (Real.exp_pos _).ne', hE, fun l => ?_⟩
  rw [val_main_v24_apply, sum_spread, hx, Finset.sum_congr rfl fun k _ => hx k, ← coe_sum]
  exact div_real _ _ (scaled_sum_ne _ _ _ (Real.exp_pos _).ne' hE)

theorem weight_fst (b h : Fin 8) (t l : Fin 256) : val_main_v26 (F := Ideal) B (ix4 b h t l) = val_main_v24 (F := Ideal) B (ix5 0 b h t l) := by
  have e : idx_main_v25 (ix5 0 b h t l) = ix5 0 b h t l := funext fun a => by fin_cases a <;> rfl
  unfold val_main_v26
  rw [cast26, val_main_v25_apply, e]

theorem weight_snd (b h : Fin 8) (t l : Fin 256) : val_main_v28 (F := Ideal) B (ix4 b h t l) = val_main_v24 (F := Ideal) B (ix5 1 b h t l) := by
  have e : idx_main_v27 (ix5 0 b h t l) = ix5 1 b h t l := funext fun a => by fin_cases a <;> rfl
  unfold val_main_v28
  rw [cast26, val_main_v27_apply, e]

include hn in
theorem attn_real (b h : Fin 8) (t e : Fin 256) :
    val_main_v32 (F := Ideal) B lam (ix4 b h t e)
      = (diffAttn (ctxR B 0 (by decide) b h t) (ctxR B 2048 (by decide) b h) (ctxR B 4096 (by decide) b h) (EReal.toReal (lam ix0)) e : EReal) := by
  obtain ⟨E, s, hs, hE, hw⟩ := weight_real B lam hn 0 b h t
  obtain ⟨E', s', hs', hE', hw'⟩ := weight_real B lam hn 1 b h t
  have e1 : ∀ k, lidx_main_v32 (ix4 b h t e) k = ix4 b h t k := fun k => funext fun a => by fin_cases a <;> rfl
  have e2 : ∀ k, ridx_main_v32 (ix4 b h t e) k = ix4 b h k e := fun k => funext fun a => by fin_cases a <;> rfl
  have hd : ∀ l, val_main_v31 (F := Ideal) B lam (ix4 b h t l)
      = ((E l / ∑ k, E k) - EReal.toReal (lam ix0) * (E' l / ∑ k, E' k) : ℝ) := by
    intro l
    rw [val_main_v31_apply, val_main_v30_apply, weight_fst, weight_snd, hw, hw', val_main_v29_apply, EReal.coe_sub, EReal.coe_mul]
    refine congrArg (fun z : EReal => _ - z * _) ?_
    exact (congrArg lam (funext fun a => a.elim0)).trans (coe_of_num hn.lam)
  rw [val_main_v32_apply]
  refine (Cert.KernelIdeal.Attn.sum_real _ _ _ (fun l => ctxR B 4096 (by decide) b h l e) (fun l => (congrArg _ (e1 l)).trans (hd l)) fun l =>
    (congrArg _ (e2 l)).trans ((v9_ix B b h l e).trans (coe_of_num (hn.ctx _)))).trans (congrArg _ ?_)
  have s0 := soft_scaled (scoreR B 0 b h t) (fun l => ctxR B 4096 (by decide) b h l e) E s hs hE
  have s1 := soft_scaled (scoreR B 1 b h t) (fun l => ctxR B 4096 (by decide) b h l e) E' s' hs' hE'
  show _ = soft (scoreR B 0 b h t) _ - _ * soft (scoreR B 1 b h t) _
  rw [← s0, ← s1, Finset.sum_div, Finset.sum_div, Finset.mul_sum, ← Finset.sum_sub_distrib]
  exact Finset.sum_congr rfl fun l _ => by ring

theorem mean_spread (b h : Fin 8) (t e : Fin 256) :
    val_main_v42 (F := Ideal) B lam (ix4 b h t e)
      = Ideal.rsqrt (Ideal.div (∑ x : Fin 256, val_main_v32 (F := Ideal) B lam (ix4 b h t x) * val_main_v32 (F := Ideal) B lam (ix4 b h t x))
          (Ideal.ofBits .f32 0x43800000#32) + Ideal.ofBits .f32 0x358637BD#32) := by
  have e1 : ∀ k, idx_main_v35 (idx_main_v36 (idx_main_v42 (ix4 b h t e))) k = ix4 b h t k := fun k => funext fun a => by fin_cases a <;> rfl
  have h35 : val_main_v35 (F := Ideal) B lam (idx_main_v36 (idx_main_v42 (ix4 b h t e)))
      = ∑ x : Fin 256, val_main_v32 (F := Ideal) B lam (ix4 b h t x) * val_main_v32 (F := Ideal) B lam (ix4 b h t x) := by
    rw [val_main_v35_apply, val_main_cst_3_apply]
    refine (congrArg (· + _) zero_bits).trans ((zero_add _).trans (Finset.sum_congr rfl fun k _ => ?_))
    rw [e1, val_main_v34_apply, mul_def]
  rw [val_main_v42_apply, val_main_v41_apply, val_main_v40_apply, val_main_v38_apply, val_main_v36_apply, h35, val_main_v37_apply,
    val_main_v39_apply, val_main_cst_4_apply, val_main_cst_5_apply, norm_def, bits_def, bits_def]

include hn in
/-- The reference's result is the attention. -/
theorem ref_value : val_main_v51 (F := Ideal) B lam g = attnCtx B (lam ix0) g := by
  funext y
  obtain ⟨b, t, C, rfl⟩ : ∃ b t C, y = ix3 b t C := ⟨y 0, y 1, y 2, funext fun a => by fin_cases a <;> rfl⟩
  refine ((cast50 (val_main_v48 (F := Ideal) B lam g) b t C).trans ?_).trans
    (attnCtx_ix B (lam ix0) g b ⟨C.val / 256, by omega⟩ t ⟨C.val % 256, by omega⟩ C (by simp only; omega)).symm
  rw [val_main_v48_apply, val_main_v46_apply, val_main_v43_apply, mean_spread, cast45, val_main_v47_apply, val_main_cst_6_apply, mul_def, mul_def, mul_def, bits_def]
  simp only [attn_real B lam hn]
  unfold attnCtxAt headNorm
  with_reducible rfl

end Cert.Reference18Ideal.AttnCtx

end
-- ==== Proof.CtxNorm.lean ====
/- The context's modulated normalizations, before a mixer and before the experts, and its affinities to the experts: each call's
   results, and the reference's, are the latents' functions of a row at the context's rows. -/
module

public import proofs.«01_k».proof.Proof.Gen.Kernel19Ideal.Value
public import proofs.«01_k».proof.Proof.Gen.Reference19Ideal.Read
public import proofs.«01_k».proof.Proof.Gen.Kernel21Ideal.Value
public import proofs.«01_k».proof.Proof.Gen.Reference21Ideal.Read
public import proofs.«01_k».proof.Proof.Route

@[expose] public section

set_option maxRecDepth 16384

noncomputable section

namespace Cert.Real

open Idealize.ShloMosaic

/-- The context's rows where the functions of the latents' rows look for them: the first 256 of 4096. -/
def wide {D : ℕ} {f : FTy} (X : FVec Ideal ⟨3, ![8, 256, D]⟩ f) : FVec Ideal ⟨3, ![8, 4096, D]⟩ f :=
  fun y => X (ix3 (y 0) ⟨(y 1).val % 256, Nat.mod_lt _ (by decide)⟩ (y 2))

def first (n : Fin 256) : Fin 4096 := ⟨n.val, by omega⟩

theorem wide_ix {D : ℕ} {f : FTy} (X : FVec Ideal ⟨3, ![8, 256, D]⟩ f) (b : Fin 8) (n : Fin 256) (k : Fin D) :
    wide X (ix3 b (first n) k) = X (ix3 b n k) :=
  congrArg (fun j => X (ix3 b j k)) (Fin.ext (Nat.mod_eq_of_lt n.isLt))

abbrev CtxTokens := FVec Ideal ⟨3, ![8, 256, 2048]⟩ .f32

def modCtxAt (X : CtxTokens) (g : Gains) (s h : Mods) (b : Fin 8) (n : Fin 256) (C : Fin 2048) : EReal := modAt (wide X) g s h b (first n) C

theorem modCtxAt_eq (X : CtxTokens) (g : Gains) (s h : Mods) (b : Fin 8) (n : Fin 256) (C : Fin 2048) : modCtxAt X g s h b n C
    = X (ix3 b n C) * rmsInv (fun k => X (ix3 b n k)) * g (ix1 C) * (Ideal.ofBits .f32 0x3F800000#32 + s (ix3 b 0 C)) + h (ix3 b 0 C) := by
  unfold modCtxAt modAt normAt
  simp only [wide_ix]

/-- The context's normalized and modulated tokens, and the same as the projections take them. -/
def modCtx (X : CtxTokens) (g : Gains) (s h : Mods) : CtxTokens := fun y => modCtxAt X g s h (y 0) (y 1) (y 2)

def modCtxCast (X : CtxTokens) (g : Gains) (s h : Mods) : FVec Ideal ⟨3, ![8, 256, 2048]⟩ .bf16 := fun y => modCtxAt X g s h (y 0) (y 1) (y 2)

/-- The context's affinities, expert by expert. -/
def affCtx (X : CtxTokens) (g : Gains) (s h : Mods) (W : Routers) : FVec Ideal ⟨3, ![8, 16, 256]⟩ .f32 :=
  fun y => softmax16 (routeAt (wide X) g s h W (y 0) (first (y 2))) (y 1)

end Cert.Real

namespace Cert.Kernel19Ideal.ModCtx

open Idealize.ShloMosaic Idealize.ShloMosaic.TcCoe Idealize.SL.Sem
open Cert.Kernel19Ideal Cert.Kernel19Ideal.Gen Cert.Real

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0]
    ∧ win0_3.index t = ![t.val, 0, 0] ∧ win0_4.index t = ![t.val, 0, 0] ∧ t.val < 8 := (by decide +kernel : ∀ t : Fin grid0.N, _)

/-- The batch of grid point `t`. -/
def batOf (t : Fin cfg0.N) : Fin 8 := ⟨t.val, (idx t).2.2.2.2.2⟩

theorem x_block (c : Dev nD) (t : Fin cfg0.N) (R : Fin 256) (k : Fin 2048) :
    iblk m c 0 t (ix3 0 R k) = m ((c : Thread nD τ).loc main_arg0) (ix3 (batOf t) R k) := by
  blk_ext! [iblk, V, idx t, batOf]

theorem g_block (c : Dev nD) (t : Fin cfg0.N) (C : Fin 2048) :
    iblk m c 1 t (ix2 0 C) = m ((c : Thread nD τ).loc main_arg1) (ix1 C) := by
  blk_simp [iblk]
  entry_read
  pointwise
  blk_ext [idx t]

theorem s_block (c : Dev nD) (t : Fin cfg0.N) (C : Fin 2048) :
    iblk m c 2 t (ix3 0 0 C) = m ((c : Thread nD τ).loc main_arg2) (ix3 (batOf t) 0 C) := by
  blk_ext! [iblk, V, idx t, batOf]

theorem h_block (c : Dev nD) (t : Fin cfg0.N) (C : Fin 2048) :
    iblk m c 3 t (ix3 0 0 C) = m ((c : Thread nD τ).loc main_arg3) (ix3 (batOf t) 0 C) := by
  blk_ext! [iblk, V, idx t, batOf]

theorem pay1 (x : FVec Ideal S1x256x2048 .f32) (g : FVec Ideal S1x2048 .f32) (s h : FVec Ideal S1x1x2048 .f32) (R : Fin 256) (C : Fin 2048) :
    (k0_pay1 (F := Ideal) x g s h (ix3 0 R C) : EReal)
      = x (ix3 0 R C) * rmsInv (fun k => x (ix3 0 R k)) * g (ix2 0 C) * (Ideal.ofBits .f32 0x3F800000#32 + s (ix3 0 0 C)) + h (ix3 0 0 C) := by
  unfold rmsInv
  pointwise [k0_pay1]

theorem final (c : Dev nD) :
    (dats m 0 c).arrAt 4 cfg0.N = modCtxCast (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨R, C, rfl⟩ : ∃ (R : Fin 256) (C : Fin 2048), y = ix3 0 R C :=
    ⟨y 1, y 2, funext fun a => by fin_cases a <;> first | rfl | exact Subsingleton.elim (α := Fin 1) _ _⟩
  have e : ((cfg0.win 4).blk t).view.emb (ix3 0 R C) = ix3 (batOf t) R C := by blk_ext! [idx t, batOf]
  rw [e]
  blk_simp
  rw [after0_4]
  frame_out
  refine (pay1 _ _ _ _ _ _).trans ?_
  refine Eq.trans ?_ (modCtxAt_eq _ _ _ _ (batOf t) R C).symm
  simp only [x_block, g_block, s_block, h_block]

end Cert.Kernel19Ideal.ModCtx

namespace Cert.Kernel21Ideal.RouteCtx

open Idealize.ShloMosaic Idealize.ShloMosaic.TcCoe Idealize.SL.Sem
open Cert.Kernel21Ideal Cert.Kernel21Ideal.Gen Cert.Real
open Cert.Kernel8Ideal.Route (lane)

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0]
    ∧ win0_3.index t = ![t.val, 0, 0] ∧ win0_4.index t = ![0, 0] ∧ win0_5.index t = ![t.val, 0, 0]
    ∧ win0_6.index t = ![t.val, 0, 0] ∧ t.val < 8 := (by decide +kernel : ∀ t : Fin grid0.N, _)

def batOf (t : Fin cfg0.N) : Fin 8 := ⟨t.val, (idx t).2.2.2.2.2.2.2⟩

theorem x_block (c : Dev nD) (t : Fin cfg0.N) (R : Fin 256) (k : Fin 2048) :
    iblk m c 0 t (ix3 0 R k) = m ((c : Thread nD τ).loc main_arg0) (ix3 (batOf t) R k) := by
  blk_ext! [iblk, V, idx t, batOf]

theorem g_block (c : Dev nD) (t : Fin cfg0.N) (C : Fin 2048) :
    iblk m c 1 t (ix2 0 C) = m ((c : Thread nD τ).loc main_arg1) (ix1 C) := by
  blk_simp [iblk]
  entry_read
  pointwise
  blk_ext [idx t]

theorem s_block (c : Dev nD) (t : Fin cfg0.N) (C : Fin 2048) :
    iblk m c 2 t (ix3 0 0 C) = m ((c : Thread nD τ).loc main_arg2) (ix3 (batOf t) 0 C) := by
  blk_ext! [iblk, V, idx t, batOf]

theorem h_block (c : Dev nD) (t : Fin cfg0.N) (C : Fin 2048) :
    iblk m c 3 t (ix3 0 0 C) = m ((c : Thread nD τ).loc main_arg3) (ix3 (batOf t) 0 C) := by
  blk_ext! [iblk, V, idx t, batOf]

theorem w_block (c : Dev nD) (t : Fin cfg0.N) (k : Fin 2048) (e : Fin 16) :
    (iblk m c 4 t (ix2 k (lane e)) : EReal) = m ((c : Thread nD τ).loc main_arg4) (ix2 k e) := by
  blk_simp [iblk]
  entry_read
  pointwise
  have he : ((View.whole main_v3).slice (win0_4.rect t)).emb (ix2 k (lane e)) = ix2 k (lane e) := by blk_ext [idx t]
  rw [he]
  generalize hi : broadcastInDim S1 ![] bcast_S_S1 (constantI S_ 32 0#32) = i
  exact Cert.Kernel8Ideal.Route.padded _ i (fun x => hi ▸ rfl) _ k e

variable (v0 : FVec Ideal S1x256x2048 .f32) (v2 : FVec Ideal S1x2048 .f32) (v4 v6 : FVec Ideal S1x1x2048 .f32) (v30 : FVec Ideal S2048x128 .bf16)

theorem pay2 (R : Fin 256) (C : Fin 2048) :
    (k0_pay2 (F := Ideal) v0 v2 v4 v6 (ix2 R C) : EReal)
      = v0 (ix3 0 R C) * rmsInv (fun k => v0 (ix3 0 R k)) * v2 (ix2 0 C) * (Ideal.ofBits .f32 0x3F800000#32 + v4 (ix3 0 0 C)) + v6 (ix3 0 0 C) := by
  unfold rmsInv
  pointwise [k0_pay2]

theorem pay3 (R : Fin 256) (C : Fin 2048) : k0_pay3 (F := Ideal) v0 v2 v4 v6 (ix3 0 R C) = k0_pay2 (F := Ideal) v0 v2 v4 v6 (ix2 R C) := by
  unfold k0_pay3
  generalize k0_pay2 (F := Ideal) v0 v2 v4 v6 = y
  pointwise

theorem pay4 (e : Fin 16) (R : Fin 256) :
    (k0_pay4 (F := Ideal) v0 v2 v4 v6 v30 (ix2 e R) : EReal) = ∑ k : Fin 2048, (k0_pay2 (F := Ideal) v0 v2 v4 v6 (ix2 R k) : EReal) * v30 (ix2 k (lane e)) := by
  unfold k0_pay4
  generalize k0_pay2 (F := Ideal) v0 v2 v4 v6 = y
  pointwise [lane]

theorem pay1 (l : FVec Ideal S16x256 .f32) (e : Fin 16) (R : Fin 256) :
    (k0_pay1 (F := Ideal) l (ix3 0 e R) : EReal) = softmax16 (fun k => l (ix2 k R)) e := by
  unfold softmax16 greatest
  pointwise [k0_pay1]

theorem mod_ix (c : Dev nD) (t : Fin cfg0.N) (R : Fin 256) (C : Fin 2048) :
    (k0_pay2 (F := Ideal) (iblk m c 0 t) (iblk m c 1 t) (iblk m c 2 t) (iblk m c 3 t) (ix2 R C) : EReal)
      = modCtxAt (m ((c : Thread nD τ).loc main_arg0)) (m ((c : Thread nD τ).loc main_arg1)) (m ((c : Thread nD τ).loc main_arg2))
        (m ((c : Thread nD τ).loc main_arg3)) (batOf t) R C := by
  refine (pay2 _ _ _ _ _ _).trans (Eq.trans ?_ (modCtxAt_eq _ _ _ _ (batOf t) R C).symm)
  simp only [x_block, g_block, s_block, h_block]

theorem final (c : Dev nD) :
    (dats m 0 c).arrAt 5 cfg0.N = modCtx (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  obtain ⟨R, C, rfl⟩ : ∃ (R : Fin 256) (C : Fin 2048), y = ix3 0 R C :=
    ⟨y 1, y 2, funext fun a => by fin_cases a <;> first | rfl | exact Subsingleton.elim (α := Fin 1) _ _⟩
  have e : ((cfg0.win 5).blk t).view.emb (ix3 0 R C) = ix3 (batOf t) R C := by blk_ext! [idx t, batOf]
  rw [e]
  blk_simp
  rw [after0_5]
  frame_out
  exact (pay3 _ _ _ _ _ _).trans (mod_ix m c t R C)

theorem final_aff (c : Dev nD) :
    (dats m 0 c).arrAt 6 cfg0.N = affCtx (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e, R, rfl⟩ : ∃ (e : Fin 16) (R : Fin 256), y = ix3 0 e R :=
    ⟨y 1, y 2, funext fun a => by fin_cases a <;> first | rfl | exact Subsingleton.elim (α := Fin 1) _ _⟩
  have he : ((cfg0.win 6).blk t).view.emb (ix3 0 e R) = ix3 (batOf t) e R := by blk_ext! [idx t, batOf]
  rw [he]
  blk_simp
  rw [after0_6]
  frame_out
  refine (pay1 _ _ _).trans ?_
  refine congrArg (fun l => softmax16 l e) (funext fun k => ?_)
  refine (pay4 _ _ _ _ _ _ _).trans (Finset.sum_congr rfl fun j _ => ?_)
  exact congrArg₂ (· * ·) (mod_ix m c t R j) (w_block m c t j k)

end Cert.Kernel21Ideal.RouteCtx

namespace Cert.Reference21Ideal.RouteCtx

open Idealize.ShloMosaic Idealize.ShloMosaic.TcCoe Idealize.SL.Sem
open Cert.Reference21Ideal Cert.Reference21Ideal.Gen Cert.Real Cert.Reference21Ideal.Read
open Cert.Reference6Ideal.Norm (mul_def bits_def inv_def)

variable (X : FVec Ideal S8x256x2048 .f32) (g : FVec Ideal S2048 .f32) (s h : FVec Ideal S8x1x2048 .f32) (W : FVec Ideal S2048x16 .f32)

theorem inv_ix (b : Fin 8) (n : Fin 256) (C : Fin 2048) : val_main_v8 (F := Ideal) X (ix3 b n C) = rmsInv (fun k => X (ix3 b n k)) := by
  have e1 : ∀ k, idx_main_v1 (idx_main_v2 (idx_main_v8 (ix3 b n C))) k = ix3 b n k := fun k => funext fun a => by fin_cases a <;> rfl
  have h : val_main_v1 (F := Ideal) X (idx_main_v2 (idx_main_v8 (ix3 b n C))) = ∑ k : Fin 2048, X (ix3 b n k) * X (ix3 b n k) := by
    rw [val_main_v1_apply, val_main_cst_apply]
    refine (congrArg (· + _) zeroWord).trans ((zero_add _).trans (Finset.sum_congr rfl fun k _ => ?_))
    rw [e1, val_main_v0_apply, mul_def]
  rw [val_main_v8_apply, val_main_v7_apply, val_main_v6_apply, val_main_v4_apply, val_main_v2_apply, h, val_main_v3_apply, val_main_v5_apply,
    val_main_cst_0_apply, val_main_cst_1_apply, inv_def, bits_def, bits_def]
  rfl

theorem mod_ix (b : Fin 8) (n : Fin 256) (C : Fin 2048) : (val_main_v18 (F := Ideal) X g s h (ix3 b n C) : EReal) = modCtxAt X g s h b n C := by
  have eg : idx_main_v10 (idx_main_v11 (ix3 b n C)) = ix1 C := funext fun a => by fin_cases a; rfl
  have es : idx_main_v15 (ix3 b n C) = ix3 b 0 C := funext fun a => by fin_cases a <;> rfl
  have eh : idx_main_v17 (ix3 b n C) = ix3 b 0 C := funext fun a => by fin_cases a <;> rfl
  rw [val_main_v18_apply, val_main_v16_apply, val_main_v12_apply, val_main_v9_apply, inv_ix, val_main_v11_apply, val_main_v10_apply, eg,
    val_main_v15_apply, es, val_main_v14_apply, val_main_v13_apply, val_main_cst_2_apply, val_main_v17_apply, eh, modCtxAt_eq]
  rfl

theorem value : val_main_v18 (F := Ideal) X g s h = modCtx X g s h := by
  funext y
  obtain ⟨b, n, C, rfl⟩ : ∃ b n C, y = ix3 b n C := ⟨y 0, y 1, y 2, funext fun a => by fin_cases a <;> rfl⟩
  exact mod_ix X g s h b n C

theorem route_ix (b : Fin 8) (n : Fin 256) (e : Fin 16) :
    (val_main_v19 (F := Ideal) X g s h W (ix3 b n e) : EReal) = routeAt (wide X) g s h W b (first n) e := by
  have el : ∀ k, lidx_main_v19 (ix3 b n e) k = ix3 b n k := fun k => funext fun a => by fin_cases a <;> rfl
  have er : ∀ k, ridx_main_v19 (ix3 b n e) k = ix2 k e := fun k => funext fun a => by fin_cases a <;> rfl
  rw [val_main_v19_apply]
  refine Finset.sum_congr rfl fun k _ => ?_
  rw [el, er, mod_ix]
  rfl

theorem max20 (x : FVec Ideal S8x256x16 .f32) (y : FVec Ideal S_ .f32) (b : Fin 8) (n : Fin 256) :
    Host.reduce FloatOps.maximumf x y reducesTo_S8x256x16_S8x256_d2 h_S_ (ix2 b n)
      = Finset.fold max (y (Shape.Idx.first h_S_)) (fun e : Fin 16 => x (ix3 b n e)) Finset.univ := by
  pointwise

theorem exp_ix (b : Fin 8) (n : Fin 256) (e : Fin 16) : (val_main_v26 (F := Ideal) X g s h W (ix3 b n e) : EReal)
    = Ideal.exp (routeAt (wide X) g s h W b (first n) e - greatest (routeAt (wide X) g s h W b (first n))) := by
  have ei : idx_main_v23 (idx_main_v24 (ix3 b n e)) = ix2 b n := funext fun a => by fin_cases a <;> rfl
  have h20 : (val_main_v20 (F := Ideal) X g s h W (ix2 b n) : EReal) = greatest (routeAt (wide X) g s h W b (first n)) := by
    unfold val_main_v20
    rw [max20, val_main_cst_3_apply]
    exact congrArg (fun l => Finset.univ.fold max _ l) (funext fun k => route_ix X g s h W b n k)
  have h24 : (val_main_v24 (F := Ideal) X g s h W (ix3 b n e) : EReal) = greatest (routeAt (wide X) g s h W b (first n)) := by
    rw [val_main_v24_apply, val_main_v23_apply, ei, val_main_v22_apply, val_main_v21_apply, val_main_cst_4_apply, h20]
    exact greatest_max _
  rw [val_main_v26_apply, val_main_v25_apply, route_ix, h24]
  rfl

theorem value_aff : val_main_v31 (F := Ideal) X g s h W = affCtx X g s h W := by
  funext y
  obtain ⟨b, e, n, rfl⟩ : ∃ b e n, y = ix3 b e n := ⟨y 0, y 1, y 2, funext fun a => by fin_cases a <;> rfl⟩
  have ei : idx_main_v31 (ix3 b e n) = ix3 b n e := funext fun a => by fin_cases a <;> rfl
  have ek : ∀ k, idx_main_v27 (idx_main_v28 (idx_main_v29 (ix3 b n e))) k = ix3 b n k := fun k => funext fun a => by fin_cases a <;> rfl
  have hs : (val_main_v29 (F := Ideal) X g s h W (ix3 b n e) : EReal)
      = ∑ k, Ideal.exp (routeAt (wide X) g s h W b (first n) k - greatest (routeAt (wide X) g s h W b (first n))) := by
    rw [val_main_v29_apply, val_main_v28_apply, val_main_v27_apply, val_main_cst_5_apply]
    refine (congrArg (· + _) zeroWord).trans ((zero_add _).trans (Finset.sum_congr rfl fun k _ => ?_))
    rw [ek, exp_ix]
  rw [val_main_v31_apply, ei, val_main_v30_apply, hs, exp_ix]
  rfl

end Cert.Reference21Ideal.RouteCtx

namespace Cert.Reference19Ideal.ModCtx

open Idealize.ShloMosaic Idealize.ShloMosaic.TcCoe Idealize.SL.Sem
open Cert.Reference19Ideal Cert.Reference19Ideal.Gen Cert.Real Cert.Reference19Ideal.Read

theorem value (X : FVec Ideal S8x256x2048 .f32) (g : FVec Ideal S2048 .f32) (s h : FVec Ideal S8x1x2048 .f32) :
    val_main_v19 (F := Ideal) X g s h = modCtxCast X g s h := by
  funext y
  obtain ⟨b, n, C, rfl⟩ : ∃ b n C, y = ix3 b n C := ⟨y 0, y 1, y 2, funext fun a => by fin_cases a <;> rfl⟩
  rw [val_main_v19_apply]
  exact Cert.Reference21Ideal.RouteCtx.mod_ix X g s h b n C

end Cert.Reference19Ideal.ModCtx

end
-- ==== Proof.CtxGates.lean ====
/- The context's projection to an mLSTM's gates: the call's result, and the reference's, are the same sums. -/
module

public import proofs.«01_k».proof.Proof.Gen.Kernel20Ideal.Value
public import proofs.«01_k».proof.Proof.Gen.Reference20Ideal.Read
public import proofs.«01_k».proof.Proof.CtxIn
public import proofs.«01_k».proof.Proof.Gates

@[expose] public section

set_option maxRecDepth 16384

noncomputable section

namespace Cert.Real

open Idealize.ShloMosaic

/-- The projection of row `r` (a token of a batch of the context) to column `C`. -/
def gateCtxAt (A : FVec Ideal ⟨3, ![8, 256, 2048]⟩ .bf16) (W : FVec Ideal ⟨2, ![2048, 5136]⟩ .f32) (r : Fin 2048) (C : Fin 128) : EReal :=
  ∑ k : Fin 2048, A (ix3 (cbat r) (ctok r) k) * gateW W k C

def gateCtx (A : FVec Ideal ⟨3, ![8, 256, 2048]⟩ .bf16) (W : FVec Ideal ⟨2, ![2048, 5136]⟩ .f32) : FVec Ideal ⟨2, ![2048, 128]⟩ .f32 :=
  fun y => gateCtxAt A W (y 0) (y 1)

end Cert.Real

namespace Cert.Kernel20Ideal.GatesCtx

open Idealize.ShloMosaic Idealize.ShloMosaic.TcCoe Idealize.SL.Sem
open Cert.Kernel20Ideal Cert.Kernel20Ideal.Gen Cert.Real

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ t.val < 2 := (by decide +kernel : ∀ t : Fin grid0.N, _)

def rowOf (t : Fin cfg0.N) (R : Fin 1024) : Fin 2048 := ⟨1024 * t.val + R.val, by have := (idx t).2.2.2; omega⟩

theorem a_block (c : Dev nD) (t : Fin cfg0.N) (R : Fin 1024) (k : Fin 2048) :
    iblk m c 0 t (ix2 R k) = m ((c : Thread nD τ).loc main_arg0) (ix3 (cbat (rowOf t R)) (ctok (rowOf t R)) k) := by
  blk_simp [iblk]
  entry_read
  pointwise
  blk_ext [idx t, rowOf, cbat, ctok]

theorem w_block (c : Dev nD) (t : Fin cfg0.N) (k : Fin 2048) (C : Fin 128) :
    (iblk m c 1 t (ix2 k C) : EReal) = gateW (m ((c : Thread nD τ).loc main_arg1)) k C := by
  have e : ((cfg0.win 1).blk t).view.emb (ix2 k C) = ix2 k C := by blk_ext! [idx t]
  blk_simp [iblk]
  rw [e]
  entry_read
  generalize hx : broadcastInDim S2048x128 ![] bcast_S_S2048x128 (constant (F := Ideal) S_ .f32 0x00000000#32) = x
  generalize hi : broadcastInDim S1 ![] bcast_S_S1 (constantI S_ 32 0#32) = i
  have x0 : ∀ j, (x j : EReal) = 0 := fun j => by rw [← hx]; exact zeroWord
  have i0 : ∀ j, i j = 0#32 := fun j => by rw [← hi]; rfl
  clear hx hi
  pointwise
  exact Cert.Kernel14Ideal.Gates.padded x x0 i i0 _ k C

theorem final (c : Dev nD) :
    (dats m 0 c).arrAt 2 cfg0.N = gateCtx (m ((c : Thread nD τ).loc main_arg0)) (m ((c : Thread nD τ).loc main_arg1)) := by
  refine (dats m 0 c).arrAt_eq_of_covers 2 _ (by decide +kernel) fun t hf y => ?_
  obtain ⟨R, C, rfl⟩ : ∃ (R : Fin 1024) (C : Fin 128), y = ix2 R C := ⟨y 0, y 1, funext fun a => by fin_cases a <;> rfl⟩
  have e : ((cfg0.win 2).blk t).view.emb (ix2 R C) = ix2 (rowOf t R) C := by blk_ext! [idx t, rowOf]
  rw [e]
  blk_simp
  rw [after0_2]
  frame_out
  refine (Cert.Kernel14Ideal.Gates.pay _ _ _ _).trans ?_
  show _ = gateCtxAt _ _ (rowOf t R) C
  unfold gateCtxAt
  refine Finset.sum_congr rfl fun k _ => ?_
  rw [a_block, w_block]

end Cert.Kernel20Ideal.GatesCtx

namespace Cert.Reference20Ideal.GatesCtx

open Idealize.ShloMosaic Idealize.ShloMosaic.TcCoe Idealize.SL.Sem
open Cert.Reference20Ideal Cert.Reference20Ideal.Gen Cert.Real Cert.Reference20Ideal.Read

variable (A : FVec Ideal S8x256x2048 .bf16) (W : FVec Ideal S2048x5136 .f32)

theorem concat_ix (x : FVec Ideal S2048x16 .f32) (y : FVec Ideal S2048x112 .f32) (r : Fin 2048) (C : Fin 128) :
    concatenate S2048x128 1 [⟨S2048x16, x⟩, ⟨S2048x112, y⟩] concatenates_S2048x16_S2048x112_S2048x128_d1 (ix2 r C)
      = if h : C.val < 16 then x (ix2 r ⟨C.val, h⟩) else y (ix2 r ⟨C.val - 16, by omega⟩) := by
  pointwise

theorem v2_ix (r : Fin 2048) (C : Fin 5136) :
    val_main_v2 (F := Ideal) A W (ix2 r C) = ∑ k : Fin 2048, A (ix3 (cbat r) (ctok r) k) * W (ix2 k C) :=
  Cert.Reference15Ideal.CtxIn.v2_ix A W r C

theorem value : val_main_v5 (F := Ideal) A W = gateCtx A W := by
  funext y
  obtain ⟨r, C, rfl⟩ : ∃ (r : Fin 2048) (C : Fin 128), y = ix2 r C := ⟨y 0, y 1, funext fun a => by fin_cases a <;> rfl⟩
  show _ = gateCtxAt A W r C
  unfold val_main_v5 gateCtxAt gateW
  rw [concat_ix]
  split
  · next h =>
    have e : idx_main_v3 (ix2 r ⟨C.val, h⟩) = ix2 r ⟨4096 + C.val, by omega⟩ := funext fun a => by fin_cases a <;> rfl
    rw [val_main_v3_apply, e, v2_ix]
  · next h =>
    rw [val_main_v4_apply, val_main_cst_apply]
    exact zeroWord.trans (Finset.sum_eq_zero fun k _ => mul_zero _).symm

end Cert.Reference20Ideal.GatesCtx

end
-- ==== Proof.CtxGlu.lean ====
/- The gate of the context's S5 channels: the call's result, and the reference's, are the latents' function of a row at the
   context's rows. -/
module

public import proofs.«01_k».proof.Proof.Gen.Kernel22Ideal.Value
public import proofs.«01_k».proof.Proof.Gen.Reference22Ideal.Read
public import proofs.«01_k».proof.Proof.Glu
public import proofs.«01_k».proof.Proof.CtxNorm

@[expose] public section

set_option maxRecDepth 16384

noncomputable section

namespace Cert.Real

open Idealize.ShloMosaic

abbrev CtxCells := FVec Ideal ⟨3, ![8, 256, 1024]⟩ .f32
abbrev CtxBranches := FVec Ideal ⟨3, ![8, 256, 5120]⟩ .f32

def skipCtxAt (Y : CtxCells) (Z : CtxBranches) (D : FVec Ideal ⟨1, ![1024]⟩ .f32) (b : Fin 8) (n : Fin 256) (C : Fin 1024) : EReal :=
  skipAt (wide Y) (wide Z) D b (first n) C

theorem skipCtxAt_eq (Y : CtxCells) (Z : CtxBranches) (D : FVec Ideal ⟨1, ![1024]⟩ .f32) (b : Fin 8) (n : Fin 256) (C : Fin 1024) :
    skipCtxAt Y Z D b n C = gelu (Y (ix3 b n C) + D (ix1 C) * Z (ix3 b n ⟨4096 + C.val, by omega⟩)) := by
  unfold skipCtxAt skipAt
  simp only [wide_ix]

def gluCtx (Y : CtxCells) (Z : CtxBranches) (D : FVec Ideal ⟨1, ![1024]⟩ .f32) (W : FVec Ideal ⟨2, ![1024, 1024]⟩ .f32) :
    FVec Ideal ⟨3, ![8, 256, 1024]⟩ .bf16 :=
  fun y => gluAt (wide Y) (wide Z) D W (y 0) (first (y 1)) (y 2)

end Cert.Real

namespace Cert.Kernel22Ideal.GluCtx

open Idealize.ShloMosaic Idealize.ShloMosaic.TcCoe Idealize.SL.Sem
open Cert.Kernel22Ideal Cert.Kernel22Ideal.Gen Cert.Real

variable (m : (ℓ : Loc nD τ sig) → Buf (Elt Ideal) ℓ)

theorem idx : ∀ t : Fin cfg0.N, win0_0.index t = ![t.val, 0, 0] ∧ win0_1.index t = ![t.val, 0, 4] ∧ win0_2.index t = ![0, 0]
    ∧ win0_3.index t = ![0, 0] ∧ win0_4.index t = ![t.val, 0, 0] ∧ t.val < 8 := (by decide +kernel : ∀ t : Fin grid0.N, _)

/-- The batch of grid point `t`. -/
def batOf (t : Fin cfg0.N) : Fin 8 := ⟨t.val, (idx t).2.2.2.2.2⟩

theorem y_block (c : Dev nD) (t : Fin cfg0.N) (R : Fin 256) (k : Fin 1024) :
    iblk m c 0 t (ix3 0 R k) = m ((c : Thread nD τ).loc main_arg0) (ix3 (batOf t) R k) := by
  blk_ext! [iblk, V, idx t, batOf]

theorem z_block (c : Dev nD) (t : Fin cfg0.N) (R : Fin 256) (k : Fin 1024) :
    iblk m c 1 t (ix3 0 R k) = m ((c : Thread nD τ).loc main_arg1) (ix3 (batOf t) R ⟨4096 + k.val, by omega⟩) := by
  blk_ext! [iblk, V, idx t, batOf]

theorem d_block (c : Dev nD) (t : Fin cfg0.N) (C : Fin 1024) :
    iblk m c 2 t (ix2 0 C) = m ((c : Thread nD τ).loc main_arg2) (ix1 C) := by
  blk_simp [iblk]
  entry_read
  pointwise
  blk_ext [idx t]

theorem w_block (c : Dev nD) (t : Fin cfg0.N) (k C : Fin 1024) :
    iblk m c 3 t (ix2 k C) = m ((c : Thread nD τ).loc main_arg3) (ix2 k C) := by
  blk_simp [iblk]
  entry_read
  pointwise
  blk_ext [idx t]

theorem pay (v0 : FVec Ideal S1x256x1024 .f32) (v2 : FVec Ideal S1x1024 .f32) (v4 : FVec Ideal S1x256x1024 .f32) (v23 : FVec Ideal S1024x1024 .bf16)
    (R : Fin 256) (C : Fin 1024) :
    (k0_pay1 (F := Ideal) v0 v2 v4 v23 (ix3 0 R C) : EReal)
      = gelu (v0 (ix3 0 R C) + v2 (ix2 0 C) * v4 (ix3 0 R C))
        * Ideal.logistic (∑ k : Fin 1024, gelu (v0 (ix3 0 R k) + v2 (ix2 0 k) * v4 (ix3 0 R k)) * (v23 (ix2 k C) : EReal)) := by
  unfold gelu
  pointwise [k0_pay1]

theorem final (c : Dev nD) :
    (dats m 0 c).arrAt 4 cfg0.N = gluCtx (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨R, C, rfl⟩ : ∃ (R : Fin 256) (C : Fin 1024), y = ix3 0 R C :=
    ⟨y 1, y 2, funext fun a => by fin_cases a <;> first | rfl | exact Subsingleton.elim (α := Fin 1) _ _⟩
  have e : ((cfg0.win 4).blk t).view.emb (ix3 0 R C) = ix3 (batOf t) R C := by blk_ext! [idx t, batOf]
  rw [e]
  blk_simp
  rw [after0_4]
  frame_out
  refine (pay _ _ _ _ _ _).trans ?_
  show _ = gluAt _ _ _ _ (batOf t) (first R) C
  unfold gluAt skipAt
  simp only [y_block, z_block, d_block, w_block, wide_ix]

end Cert.Kernel22Ideal.GluCtx

namespace Cert.Reference22Ideal.GluCtx

open Idealize.ShloMosaic Idealize.ShloMosaic.TcCoe Idealize.SL.Sem
open Cert.Reference22Ideal Cert.Reference22Ideal.Gen Cert.Real Cert.Reference22Ideal.Read
open Cert.Reference7Ideal.Glu (mul_def add_def bits_def tanh_def)

variable (Y : FVec Ideal S8x256x1024 .f32) (Z : FVec Ideal S8x256x5120 .f32) (D : FVec Ideal S1024 .f32) (W : FVec Ideal S1024x1024 .f32)

theorem sum_ix (b : Fin 8) (n : Fin 256) (C : Fin 1024) :
    (val_main_v4 (F := Ideal) Y Z D (ix3 b n C) : EReal) = Y (ix3 b n C) + D (ix1 C) * Z (ix3 b n ⟨4096 + C.val, by omega⟩) := by
  have ez : idx_main_v0 (ix3 b n C) = ix3 b n ⟨4096 + C.val, by omega⟩ := funext fun a => by fin_cases a <;> rfl
  have ed : idx_main_v1 (idx_main_v2 (ix3 b n C)) = ix1 C := funext fun a => by fin_cases a; rfl
  rw [val_main_v4_apply, val_main_v3_apply, val_main_v2_apply, val_main_v1_apply, ed, val_main_v0_apply, ez, add_def, mul_def]

theorem skip_ix (b : Fin 8) (n : Fin 256) (C : Fin 1024) : (val_main_v17 (F := Ideal) Y Z D (ix3 b n C) : EReal) = skipCtxAt Y Z D b n C := by
  rw [val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_v5_apply, sum_ix,
    val_main_cst_apply, val_main_cst_0_apply, val_main_cst_1_apply, val_main_cst_2_apply, skipCtxAt_eq]
  simp only [mul_def, add_def, bits_def, tanh_def]
  unfold gelu
  generalize Y (ix3 b n C) + D (ix1 C) * Z (ix3 b n ⟨4096 + C.val, by omega⟩) = x
  rw [mul_comm (x * x) x]

theorem value : val_main_v26 (F := Ideal) Y Z D W = gluCtx Y Z D W := by
  funext y
  obtain ⟨b, n, C, rfl⟩ : ∃ b n C, y = ix3 b n C := ⟨y 0, y 1, y 2, funext fun a => by fin_cases a <;> rfl⟩
  have el : ∀ k, lidx_main_v18 (ix3 b n C) k = ix3 b n k := fun k => funext fun a => by fin_cases a <;> rfl
  have er : ∀ k, ridx_main_v18 (ix3 b n C) k = ix2 k C := fun k => funext fun a => by fin_cases a <;> rfl
  have h : (val_main_v18 (F := Ideal) Y Z D W (ix3 b n C) : EReal) = ∑ k : Fin 1024, skipCtxAt Y Z D b n k * W (ix2 k C) := by
    rw [val_main_v18_apply]
    refine Finset.sum_congr rfl fun k _ => ?_
    rw [el, er, skip_ix]
  show _ = gluAt (wide Y) (wide Z) D W b (first n) C
  rw [val_main_v26_apply, val_main_v25_apply, val_main_v24_apply, val_main_v23_apply, val_main_v22_apply, val_main_v21_apply, val_main_v20_apply,
    val_main_v19_apply, h, skip_ix, val_main_cst_3_apply, val_main_cst_4_apply]
  show skipCtxAt Y Z D b n C * Ideal.div (Ideal.ofBits .f32 0x3F800000#32) (Ideal.ofBits .f32 0x3F800000#32 + Ideal.exp (-_)) = _
  rw [oneWord]
  rfl

end Cert.Reference22Ideal.GluCtx

end
-- ==== Proof.CtxHeads.lean ====
/- The normalization of the context's heads under its gate: the call's result, and the reference's, are the latents' function of a
   row at the context's rows. -/
module

public import proofs.«01_k».proof.Proof.Gen.Kernel23Ideal.Value
public import proofs.«01_k».proof.Proof.Gen.Reference23Ideal.Read
public import proofs.«01_k».proof.Proof.Heads
public import proofs.«01_k».proof.Proof.CtxGlu

@[expose] public section

set_option maxRecDepth 16384

noncomputable section

namespace Cert.Real

open Idealize.ShloMosaic

def headCtxAt (P Q : CtxCells) (Z : CtxBranches) (g : HeadGains) (b : Fin 8) (n : Fin 256) (h : Fin 4) (d : Fin 256) : EReal :=
  headAt (wide P) (wide Q) (wide Z) g b (first n) h d

theorem headCtxAt_eq (P Q : CtxCells) (Z : CtxBranches) (g : HeadGains) (b : Fin 8) (n : Fin 256) (h : Fin 4) (d : Fin 256) : headCtxAt P Q Z g b n h d
    = (P (ix3 b n (headCol h d)) + Q (ix3 b n (headCol h d))) * headInv (fun k => P (ix3 b n (headCol h k)) + Q (ix3 b n (headCol h k)))
      * g (ix1 (headCol h d)) * Ideal.logistic (Z (ix3 b n ⟨3072 + (headCol h d).val, by omega⟩)) := by
  unfold headCtxAt headAt
  simp only [wide_ix]

def headsCtx (P Q : CtxCells) (Z : CtxBranches) (g : HeadGains) : FVec Ideal ⟨3, ![8, 256, 1024]⟩ .bf16 :=
  fun y => headCtxAt P Q Z g (y 0) (y 1) (headOf (y 2)) (inHead (y 2))

end Cert.Real

namespace Cert.Kernel23Ideal.HeadsCtx

open Idealize.ShloMosaic Idealize.ShloMosaic.TcCoe Idealize.SL.Sem
open Cert.Kernel23Ideal Cert.Kernel23Ideal.Gen Cert.Real

variable (m : (ℓ : Loc nD τ sig) → Buf (Elt Ideal) ℓ)

theorem idx : ∀ t : Fin cfg0.N, win0_0.index t = ![t.val, 0, 0] ∧ win0_1.index t = ![t.val, 0, 0]
    ∧ win0_2.index t = ![t.val, 0, 3] ∧ win0_3.index t = ![0, 0] ∧ win0_4.index t = ![t.val, 0, 0] ∧ t.val < 8 :=
  (by decide +kernel : ∀ t : Fin grid0.N, _)

/-- The batch of grid point `t`. -/
def batOf (t : Fin cfg0.N) : Fin 8 := ⟨t.val, (idx t).2.2.2.2.2⟩

theorem p_block (c : Dev nD) (t : Fin cfg0.N) (R : Fin 256) (k : Fin 1024) :
    iblk m c 0 t (ix3 0 R k) = m ((c : Thread nD τ).loc main_arg0) (ix3 (batOf t) R k) := by
  blk_ext! [iblk, V, idx t, batOf]

theorem q_block (c : Dev nD) (t : Fin cfg0.N) (R : Fin 256) (k : Fin 1024) :
    iblk m c 1 t (ix3 0 R k) = m ((c : Thread nD τ).loc main_arg1) (ix3 (batOf t) R k) := by
  blk_ext! [iblk, V, idx t, batOf]

theorem z_block (c : Dev nD) (t : Fin cfg0.N) (R : Fin 256) (k : Fin 1024) :
    iblk m c 2 t (ix3 0 R k) = m ((c : Thread nD τ).loc main_arg2) (ix3 (batOf t) R ⟨3072 + k.val, by omega⟩) := by
  blk_ext! [iblk, V, idx t, batOf]

theorem g_block (c : Dev nD) (t : Fin cfg0.N) (C : Fin 1024) :
    iblk m c 3 t (ix2 0 C) = m ((c : Thread nD τ).loc main_arg3) (ix1 C) := by
  blk_simp [iblk]
  entry_read
  pointwise
  blk_ext [idx t]

/-! ## What the body computes -/

variable (x0 x1 x2 : FVec Ideal S1x256x1024 .f32) (x3 : FVec Ideal S1x1024 .f32)

/-- Column `d` of head `h` in a block, from the two sums, the gates and the gains. -/
def tileAt (R : Fin 256) (h : Fin 4) (d : Fin 256) : EReal :=
  (x0 (ix3 0 R (headCol h d)) + x1 (ix3 0 R (headCol h d))) * headInv (fun k => x0 (ix3 0 R (headCol h k)) + x1 (ix3 0 R (headCol h k)))
    * x3 (ix2 0 (headCol h d)) * Ideal.logistic (x2 (ix3 0 R (headCol h d)))

def tile : FVec Ideal S1x256x1024 .bf16 := fun y => tileAt x0 x1 x2 x3 (y 1) (headOf (y 2)) (inHead (y 2))

/-! Each store's values, head by head. -/

theorem head0 (R : Fin 256) (d : Fin 256) : (k0_pay5 (F := Ideal) x0 x1 x2 x3 (ix3 0 R d) : EReal) = tileAt x0 x1 x2 x3 R 0 d := by
  unfold tileAt headInv headCol
  pointwise [k0_pay5, k0_pay2, k0_pay3, k0_pay4]

theorem head1 (R : Fin 256) (d : Fin 256) :
    (k0_pay9 (F := Ideal) (k0_pay3 x2) (k0_pay4 x3) (k0_pay6 x0 x1) (k0_pay7 x0 x1) k0_pay8 (ix3 0 R d) : EReal) = tileAt x0 x1 x2 x3 R 1 d := by
  unfold tileAt headInv headCol
  pointwise [k0_pay9, k0_pay2, k0_pay3, k0_pay4, k0_pay6, k0_pay7, k0_pay8]

theorem head2 (R : Fin 256) (d : Fin 256) :
    (k0_pay10 (F := Ideal) (k0_pay2 x0 x1) (k0_pay3 x2) (k0_pay4 x3) (ix3 0 R d) : EReal) = tileAt x0 x1 x2 x3 R 2 d := by
  unfold tileAt headInv headCol
  pointwise [k0_pay10, k0_pay2, k0_pay3, k0_pay4]

theorem head3 (R : Fin 256) (d : Fin 256) :
    (k0_pay1 (F := Ideal) (k0_pay3 x2) (k0_pay11 (k0_pay2 x0 x1)) (k0_pay12 (k0_pay4 x3)) (ix3 0 R d) : EReal) = tileAt x0 x1 x2 x3 R 3 d := by
  unfold tileAt headInv headCol
  pointwise [k0_pay1, k0_pay2, k0_pay3, k0_pay4, k0_pay11, k0_pay12]

theorem piece_eq (h : Fin 4) (o : Nat) (ho : o = 256 * h.val) (inb : ∀ a, (![0, 0, o] : Fin 3 → Nat) a + S1x256x256.size a ≤ S1x256x1024.size a)
    (p : FVec Ideal S1x256x256 .bf16) (hp : ∀ (R : Fin 256) (d : Fin 256), (p (ix3 0 R d) : EReal) = tileAt x0 x1 x2 x3 R h d) (x : S1x256x256.Idx) :
    p x = tile x0 x1 x2 x3 ((Rect.unit (s := S1x256x1024) ![0, 0, o] S1x256x256.size inb).emb x) := by
  obtain ⟨R, d, rfl⟩ : ∃ (R : Fin 256) (d : Fin 256), x = ix3 0 R d :=
    ⟨x 1, x 2, funext fun a => by fin_cases a <;> first | rfl | exact Subsingleton.elim (α := Fin 1) _ _⟩
  have e : (Rect.unit (s := S1x256x1024) ![0, 0, o] S1x256x256.size inb).emb (ix3 0 R d) = ix3 0 R (headCol h d) := by
    refine funext fun a => Fin.ext ((Rect.emb_apply _ _ a).trans ?_)
    match a with
    | ⟨0, _⟩ => rfl
    | ⟨1, _⟩ => show 0 + 1 * R.val = R.val; omega
    | ⟨2, _⟩ => show o + 1 * d.val = 256 * h.val + d.val; omega
  rw [e]
  show _ = tileAt x0 x1 x2 x3 R (headOf (headCol h d)) (inHead (headCol h d))
  rw [headOf_headCol, inHead_headCol]
  exact hp R d

theorem out_eq (R : Fin 256) (C : Fin 1024) : out0_4 (F := Ideal) x0 x1 x2 x3 (ix3 0 R C) = tile x0 x1 x2 x3 (ix3 0 R C) := by
  unfold out0_4 k0_pay13 k0_pay14 k0_pay15
  have e : ∀ x : FVec Ideal S1x256x1024 .f32, View.ld (Val := Elt Ideal) (e' := .f32) x r0_0 = x := fun x =>
    View.ld_unit_lit (Val := Elt Ideal) (e := .f32) (S := S1x256x1024) (off := ![0, 0, 0]) inb_S1x256x1024_S1x256x1024_0_0_0 x (by decide)
  have e3 : View.ld (Val := Elt Ideal) (e' := .f32) x3 r0_1 = x3 :=
    View.ld_unit_lit (Val := Elt Ideal) (e := .f32) (S := S1x1024) (off := ![0, 0]) inb_S1x1024_S1x1024_0_0 x3 (by decide)
  rw [e, e, e, e3]
  refine View.canon_apply_of_pieces (Val := Elt Ideal) (tile x0 x1 x2 x3) _ ?_ (ix3 0 R C) (cover0_4 _ _ _ _ _)
  intro p hp x
  simp only [List.mem_cons, List.not_mem_nil, or_false] at hp
  rcases hp with rfl | rfl | rfl | rfl
  · exact piece_eq _ _ _ _ 3 768 rfl inb_S1x256x1024_S1x256x256_0_0_768 _ (head3 _ _ _ _) x
  · exact piece_eq _ _ _ _ 2 512 rfl inb_S1x256x1024_S1x256x256_0_0_512 _ (head2 _ _ _ _) x
  · exact piece_eq _ _ _ _ 1 256 rfl inb_S1x256x1024_S1x256x256_0_0_256 _ (head1 _ _ _ _) x
  · exact piece_eq _ _ _ _ 0 0 rfl inb_S1x256x1024_S1x256x256_0_0_0 _ (head0 _ _ _ _) x

theorem final (c : Dev nD) :
    (dats m 0 c).arrAt 4 cfg0.N = headsCtx (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨R, C, rfl⟩ : ∃ (R : Fin 256) (C : Fin 1024), y = ix3 0 R C :=
    ⟨y 1, y 2, funext fun a => by fin_cases a <;> first | rfl | exact Subsingleton.elim (α := Fin 1) _ _⟩
  have e : ((cfg0.win 4).blk t).view.emb (ix3 0 R C) = ix3 (batOf t) R C := by blk_ext! [idx t, batOf]
  rw [e]
  blk_simp
  rw [after0_4]
  refine (out_eq _ _ _ _ R C).trans ?_
  refine Eq.trans ?_ (headCtxAt_eq _ _ _ _ (batOf t) R (headOf C) (inHead C)).symm
  show tileAt _ _ _ _ R (headOf C) (inHead C) = _
  unfold tileAt
  simp only [p_block, q_block, z_block, g_block]

end Cert.Kernel23Ideal.HeadsCtx

namespace Cert.Reference23Ideal.HeadsCtx

open Idealize.ShloMosaic Idealize.ShloMosaic.TcCoe Idealize.SL.Sem
open Cert.Reference23Ideal Cert.Reference23Ideal.Gen Cert.Real Cert.Reference23Ideal.Read
open Cert.Reference10Ideal.Heads (mul_def add_def bits_def inv_def)

variable (P Q : FVec Ideal S8x256x1024 .f32) (Z : FVec Ideal S8x256x5120 .f32) (g : FVec Ideal S1024 .f32)

theorem sum_ix (b : Fin 8) (n : Fin 256) (h : Fin 4) (d : Fin 256) :
    (val_main_v1 (F := Ideal) P Q (ix4 b n h d) : EReal) = P (ix3 b n (headCol h d)) + Q (ix3 b n (headCol h d)) := by
  have e : idx_main_v1 (ix4 b n h d) = ix3 b n (headCol h d) := by
    funext a
    fin_cases a <;> apply Fin.ext
    · show (((b.val * 256 + n.val) * 4 + h.val) * 256 + d.val) / 262144 = b.val
      omega
    · show (((b.val * 256 + n.val) * 4 + h.val) * 256 + d.val) / 1024 % 256 = n.val
      omega
    · show (((b.val * 256 + n.val) * 4 + h.val) * 256 + d.val) % 1024 = 256 * h.val + d.val
      omega
  rw [val_main_v1_apply, e, val_main_v0_apply, add_def]

theorem inv_ix (b : Fin 8) (n : Fin 256) (h : Fin 4) (d : Fin 256) :
    (val_main_v10 (F := Ideal) P Q (ix4 b n h d) : EReal) = headInv (fun k => P (ix3 b n (headCol h k)) + Q (ix3 b n (headCol h k))) := by
  have e3 : ∀ k, idx_main_v3 (idx_main_v4 (idx_main_v10 (ix4 b n h d))) k = ix4 b n h k := fun k => funext fun a => by fin_cases a <;> rfl
  have hs : (val_main_v3 (F := Ideal) P Q (idx_main_v4 (idx_main_v10 (ix4 b n h d))) : EReal)
      = ∑ k : Fin 256, (P (ix3 b n (headCol h k)) + Q (ix3 b n (headCol h k))) * (P (ix3 b n (headCol h k)) + Q (ix3 b n (headCol h k))) := by
    rw [val_main_v3_apply, val_main_cst_apply]
    refine (congrArg (· + _) zeroWord).trans ((zero_add _).trans (Finset.sum_congr rfl fun k _ => ?_))
    rw [e3, val_main_v2_apply, sum_ix, mul_def]
  rw [val_main_v10_apply, val_main_v9_apply, val_main_v8_apply, val_main_v6_apply, val_main_v4_apply, hs, val_main_v5_apply, val_main_v7_apply,
    val_main_cst_0_apply, val_main_cst_1_apply, inv_def, bits_def, bits_def]
  rfl

theorem gain_ix (b : Fin 8) (n : Fin 256) (h : Fin 4) (d : Fin 256) : val_main_v14 (F := Ideal) g (ix4 b n h d) = g (ix1 (headCol h d)) := by
  have e : idx_main_v12 (idx_main_v13 (idx_main_v14 (ix4 b n h d))) = ix1 (headCol h d) := by
    funext a
    fin_cases a
    exact Fin.ext (by show h.val * 256 + d.val = 256 * h.val + d.val; omega)
  rw [val_main_v14_apply, val_main_v13_apply, val_main_v12_apply, e]

theorem value : val_main_v25 (F := Ideal) P Q Z g = headsCtx P Q Z g := by
  funext y
  obtain ⟨b, n, C, rfl⟩ : ∃ b n C, y = ix3 b n C := ⟨y 0, y 1, y 2, funext fun a => by fin_cases a <;> rfl⟩
  refine Eq.trans ?_ (headCtxAt_eq P Q Z g b n (headOf C) (inHead C)).symm
  have e17 : idx_main_v17 (ix3 b n C) = ix4 b n (headOf C) (inHead C) := by
    funext a
    fin_cases a <;> apply Fin.ext
    · show ((b.val * 256 + n.val) * 1024 + C.val) / 262144 = b.val
      omega
    · show ((b.val * 256 + n.val) * 1024 + C.val) / 1024 % 256 = n.val
      omega
    · show ((b.val * 256 + n.val) * 1024 + C.val) / 256 % 4 = C.val / 256
      omega
    · show ((b.val * 256 + n.val) * 1024 + C.val) % 256 = C.val % 256
      omega
  have e16 : idx_main_v16 (ix3 b n C) = ix3 b n ⟨3072 + (headCol (headOf C) (inHead C)).val, by omega⟩ := by
    funext a
    fin_cases a
    · rfl
    · rfl
    · exact Fin.ext (by show 3072 + C.val = 3072 + (256 * (C.val / 256) + C.val % 256); omega)
  rw [val_main_v25_apply, val_main_v24_apply, val_main_v17_apply, e17, val_main_v15_apply, val_main_v11_apply, sum_ix, inv_ix, gain_ix,
    val_main_v23_apply, val_main_v22_apply, val_main_v21_apply, val_main_v20_apply, val_main_v19_apply, val_main_v18_apply, val_main_v16_apply, e16,
    val_main_cst_2_apply, val_main_cst_3_apply]
  show _ * _ * _ * Ideal.div (Ideal.ofBits .f32 0x3F800000#32) (Ideal.ofBits .f32 0x3F800000#32 + Ideal.exp (-_)) = _
  rw [oneWord]
  rfl

end Cert.Reference23Ideal.HeadsCtx

end
-- ==== Proof.CtxConv.lean ====
/- The convolution of the context's queries and keys over its tokens: the call's result, and the reference's, are the same array. -/
module

public import proofs.«01_k».proof.Proof.Gen.Kernel24Ideal.Value
public import proofs.«01_k».proof.Proof.Gen.Reference24Ideal.Read
public import proofs.«01_k».proof.Proof.Conv

@[expose] public section

set_option maxRecDepth 16384

noncomputable section

namespace Cert.Real

open Idealize.ShloMosaic

/-- The first tap, on the token before, and the last, on the token after: nothing at the ends of the 256 tokens. -/
def ctxBefore (x : Fin 256 → EReal) (w : EReal) (n : Fin 256) : EReal :=
  if n.val = 0 then 0 else x ⟨(n.val + 256 - 1) % 256, by omega⟩ * w

def ctxAfter (x : Fin 256 → EReal) (w : EReal) (n : Fin 256) : EReal :=
  if n.val = 255 then 0 else x ⟨(n.val + 256 - 255) % 256, by omega⟩ * w

/-- The three taps at token `n` of the context, by a channel's weights. -/
def ctxTaps (x : Fin 256 → EReal) (w : Fin 3 → EReal) (n : Fin 256) : EReal :=
  ctxBefore x (w 0) n + x n * w 1 + ctxAfter x (w 2) n

def convCtxAt (Z : FVec Ideal ⟨3, ![8, 256, 5120]⟩ .f32) (w : FVec Ideal ⟨2, ![3, 2048]⟩ .f32) (b : Fin 8) (n : Fin 256) (C : Fin 2048) : EReal :=
  ctxTaps (fun k => Z (ix3 b k ⟨C.val, by omega⟩)) (fun i => w (ix2 i C)) n
    * Ideal.logistic (ctxTaps (fun k => Z (ix3 b k ⟨C.val, by omega⟩)) (fun i => w (ix2 i C)) n) * keyFac C

def convCtx (Z : FVec Ideal ⟨3, ![8, 256, 5120]⟩ .f32) (w : FVec Ideal ⟨2, ![3, 2048]⟩ .f32) : FVec Ideal ⟨3, ![8, 256, 2048]⟩ .bf16 :=
  fun y => convCtxAt Z w (y 0) (y 1) (y 2)

end Cert.Real

namespace Cert.Kernel24Ideal.ConvCtx

open Idealize.ShloMosaic Idealize.ShloMosaic.TcCoe Idealize.SL.Sem
open Cert.Kernel24Ideal Cert.Kernel24Ideal.Gen Cert.Real
open Cert.Kernel11Ideal.Conv (fac_ix pick)

variable (m : (ℓ : Loc nD τ sig) → Buf (Elt Ideal) ℓ)

theorem idx : ∀ t : Fin cfg0.N, win0_0.index t = ![t.val / 8, 0, t.val % 8] ∧ win0_1.index t = ![0, t.val % 8] ∧ win0_2.index t = ![0, t.val % 8]
    ∧ win0_3.index t = ![t.val / 8, 0, t.val % 8] ∧ t.val < 64 := (by decide +kernel : ∀ t : Fin grid0.N, _)

/-- The batch of grid point `t`, and its block's column `C`. -/
def batOf (t : Fin cfg0.N) : Fin 8 := ⟨t.val / 8, by have := (idx t).2.2.2.2; omega⟩
def colOf (t : Fin cfg0.N) (C : Fin 256) : Fin 2048 := ⟨256 * (t.val % 8) + C.val, by omega⟩

theorem z_block (c : Dev nD) (t : Fin cfg0.N) (R : Fin 256) (C : Fin 256) :
    iblk m c 0 t (ix3 0 R C) = m ((c : Thread nD τ).loc main_arg0) (ix3 (batOf t) R ⟨(colOf t C).val, by omega⟩) := by
  blk_ext! [iblk, V, idx t, batOf, colOf]

theorem w_block (c : Dev nD) (t : Fin cfg0.N) (i : Fin 3) (C : Fin 256) :
    iblk m c 1 t (ix2 i C) = m ((c : Thread nD τ).loc main_arg1) (ix2 i (colOf t C)) := by
  blk_ext! [iblk, V, idx t, colOf]

theorem s_block (c : Dev nD) (t : Fin cfg0.N) (C : Fin 256) : (iblk m c 2 t (ix2 0 C) : EReal) = keyFac (colOf t C) := by
  have e : ((cfg0.win 2).blk t).view.emb (ix2 0 C) = ix2 0 (colOf t C) := by blk_ext! [idx t, colOf]
  blk_simp [iblk]
  rw [e]
  entry_read
  refine (fac_ix _ _ (colOf t C)).trans ?_
  unfold keyFac
  split
  · exact oneWord
  · rfl

/-! ## What the body computes -/

theorem before_ix (x : FVec Ideal S256x256 .f32) (R : Fin 256) (C : Fin 256) :
    dynamicRotate 0 1#32 none x rotates_S256x256_d0 (ix2 R C) = x (ix2 ⟨(R.val + 256 - 1) % 256, by omega⟩ C) := by
  refine congrArg x (funext fun a => ?_)
  fin_cases a
  · exact Fin.ext (by show (R.val + 256 - 1) % 256 = _; rfl)
  · rfl

theorem after_ix (x : FVec Ideal S256x256 .f32) (R : Fin 256) (C : Fin 256) :
    dynamicRotate 0 255#32 none x rotates_S256x256_d0 (ix2 R C) = x (ix2 ⟨(R.val + 256 - 255) % 256, by omega⟩ C) := by
  refine congrArg x (funext fun a => ?_)
  fin_cases a
  · exact Fin.ext (by show (R.val + 256 - 255) % 256 = _; rfl)
  · rfl

theorem mask_ix (v : BitVec 32) (R : Fin 256) (C : Fin 256) :
    cmpi .eq (iota .tc S256x256 32 [0] iota_S256x256_d0_w32) (broadcast S256x256 v) (ix2 R C) = if R.val = v.toNat then 1#1 else 0#1 :=
  Eq.trans rfl (Cert.Kernel11Ideal.Conv.mask_ix v ⟨R.val, by omega⟩ C)

theorem pay1 (z : FVec Ideal S1x256x256 .f32) (w : FVec Ideal S3x256 .f32) (s : FVec Ideal S1x256 .f32) (R : Fin 256) (C : Fin 256) :
    (k0_pay1 (F := Ideal) z w s (ix3 0 R C) : EReal)
      = ctxTaps (fun k => z (ix3 0 k C)) (fun i => w (ix2 i C)) R * Ideal.logistic (ctxTaps (fun k => z (ix3 0 k C)) (fun i => w (ix2 i C)) R) * s (ix2 0 C) := by
  have cast_ix : ∀ k : Fin 256, shapeCast S256x256 z shapeCasts_S1x256x256_S256x256 (ix2 k C) = z (ix3 0 k C) := fun k => by pointwise
  unfold k0_pay1
  dsimp only
  have m0 := mask_ix 0#32 R C
  have m1 := mask_ix 255#32 R C
  generalize cmpi .eq (iota .tc S256x256 32 [0] iota_S256x256_d0_w32) (broadcast S256x256 0#32) = i0 at m0 ⊢
  generalize cmpi .eq (iota .tc S256x256 32 [0] iota_S256x256_d0_w32) (broadcast S256x256 255#32) = i1 at m1 ⊢
  have r0 := before_ix (shapeCast S256x256 z shapeCasts_S1x256x256_S256x256) R C
  have r1 := after_ix (shapeCast S256x256 z shapeCasts_S1x256x256_S256x256) R C
  rw [cast_ix] at r0 r1
  generalize dynamicRotate 0 1#32 none (shapeCast S256x256 z shapeCasts_S1x256x256_S256x256) rotates_S256x256_d0 = y0 at r0 ⊢
  generalize dynamicRotate 0 255#32 none (shapeCast S256x256 z shapeCasts_S1x256x256_S256x256) rotates_S256x256_d0 = y1 at r1 ⊢
  pointwise
  rw [pick _ _ _ m0, pick _ _ _ m1, r0, r1]
  rfl

theorem final (c : Dev nD) :
    (dats m 0 c).arrAt 3 cfg0.N = convCtx (m ((c : Thread nD τ).loc main_arg0)) (m ((c : Thread nD τ).loc main_arg1)) := by
  refine (dats m 0 c).arrAt_eq_of_covers 3 _ (by decide +kernel) fun t hf y => ?_
  obtain ⟨R, C, rfl⟩ : ∃ (R : Fin 256) (C : Fin 256), y = ix3 0 R C :=
    ⟨y 1, y 2, funext fun a => by fin_cases a <;> first | rfl | exact Subsingleton.elim (α := Fin 1) _ _⟩
  have e : ((cfg0.win 3).blk t).view.emb (ix3 0 R C) = ix3 (batOf t) R (colOf t C) := by blk_ext! [idx t, batOf, colOf]
  rw [e]
  blk_simp
  rw [after0_3]
  frame_out
  refine (pay1 _ _ _ _ _).trans ?_
  show _ = convCtxAt _ _ (batOf t) R (colOf t C)
  unfold convCtxAt
  simp only [z_block, w_block, s_block]

end Cert.Kernel24Ideal.ConvCtx

namespace Cert.Reference24Ideal.ConvCtx

open Idealize.ShloMosaic Idealize.ShloMosaic.TcCoe Idealize.SL.Sem
open Cert.Reference24Ideal Cert.Reference24Ideal.Gen Cert.Real Cert.Reference24Ideal.Read
open Cert.Reference11Ideal.Conv (mul_def add_def)

variable (Z : FVec Ideal S8x256x5120 .f32) (w : FVec Ideal S3x2048 .f32)

theorem padded (x : FVec Ideal S8x256x2048 .f32) (v : FVec Ideal S_ .f32) (b : Fin 8) (j : Fin 258) (C : Fin 2048) :
    pad S8x258x2048 ![0, 1, 0] ![0, 1, 0] ![0, 0, 0] x v pads_S8x256x2048_S8x258x2048_000_110_000 h_S_ (ix3 b j C)
      = if h : 1 ≤ j.val ∧ j.val - 1 < 256 then x (ix3 b ⟨j.val - 1, h.2⟩ C) else v (Shape.Idx.first h_S_) := by
  pointwise

/-- Row `j` of the padded array: token `j - 1`, and nothing at the two ends. -/
theorem row_in (b : Fin 8) (j : Fin 258) (k : Fin 256) (hk : j.val = k.val + 1) (C : Fin 2048) :
    (val_main_v1 (F := Ideal) Z (ix3 b j C) : EReal) = Z (ix3 b k ⟨C.val, by omega⟩) := by
  have e : idx_main_v0 (ix3 b k C) = ix3 b k ⟨C.val, by omega⟩ := funext fun a => by fin_cases a <;> rfl
  have ek : (⟨j.val - 1, by omega⟩ : Fin 256) = k := Fin.ext (by show j.val - 1 = k.val; omega)
  unfold val_main_v1
  rw [padded, dif_pos ⟨by omega, by omega⟩, ek, val_main_v0_apply, e]

theorem row_out (b : Fin 8) (j : Fin 258) (hj : j.val = 0 ∨ j.val = 257) (C : Fin 2048) : (val_main_v1 (F := Ideal) Z (ix3 b j C) : EReal) = 0 := by
  unfold val_main_v1
  rw [padded, dif_neg (by omega)]
  exact Cert.Reference11Ideal.Conv.pad_zero _

theorem taps_ix (b : Fin 8) (n : Fin 256) (C : Fin 2048) :
    (val_main_v21 (F := Ideal) Z w (ix3 b n C) : EReal) = ctxTaps (fun k => Z (ix3 b k ⟨C.val, by omega⟩)) (fun i => w (ix2 i C)) n := by
  have e0 : idx_main_v3 (idx_main_v4 (idx_main_v5 (idx_main_v6 (ix3 b n C)))) = ix2 0 C := by
    funext a
    fin_cases a
    · rfl
    · exact Fin.ext (Nat.mod_eq_of_lt C.isLt)
  have e1 : idx_main_v9 (idx_main_v10 (idx_main_v11 (idx_main_v12 (ix3 b n C)))) = ix2 1 C := by
    funext a
    fin_cases a
    · rfl
    · exact Fin.ext (Nat.mod_eq_of_lt C.isLt)
  have e2 : idx_main_v16 (idx_main_v17 (idx_main_v18 (idx_main_v19 (ix3 b n C)))) = ix2 2 C := by
    funext a
    fin_cases a
    · rfl
    · exact Fin.ext (Nat.mod_eq_of_lt C.isLt)
  have d0 : idx_main_v2 (ix3 b n C) = ix3 b ⟨n.val, by omega⟩ C := funext fun a => by fin_cases a <;> rfl
  have d1 : idx_main_v8 (ix3 b n C) = ix3 b ⟨1 + n.val, by omega⟩ C := funext fun a => by fin_cases a <;> rfl
  have d2 : idx_main_v15 (ix3 b n C) = ix3 b ⟨2 + n.val, by omega⟩ C := funext fun a => by fin_cases a <;> rfl
  rw [val_main_v21_apply, val_main_v14_apply, val_main_v7_apply, val_main_v13_apply, val_main_v20_apply, val_main_v6_apply, val_main_v5_apply,
    val_main_v4_apply, val_main_v3_apply, e0, val_main_v12_apply, val_main_v11_apply, val_main_v10_apply, val_main_v9_apply, e1,
    val_main_v19_apply, val_main_v18_apply, val_main_v17_apply, val_main_v16_apply, e2, val_main_v2_apply, d0, val_main_v8_apply, d1,
    val_main_v15_apply, d2, row_in Z b ⟨1 + n.val, by omega⟩ n (Nat.add_comm _ _) C]
  simp only [mul_def, add_def]
  unfold ctxTaps ctxBefore ctxAfter
  refine congrArg₂ (· + ·) (congrArg (· + _) ?_) ?_
  · split
    · next h => rw [row_out Z b ⟨n.val, by omega⟩ (Or.inl h) C, zero_mul]
    · next h => rw [row_in Z b ⟨n.val, by omega⟩ ⟨(n.val + 256 - 1) % 256, by omega⟩ (by show n.val = (n.val + 256 - 1) % 256 + 1; omega) C]
  · split
    · next h => rw [row_out Z b ⟨2 + n.val, by omega⟩ (Or.inr (by show 2 + n.val = 257; omega)) C, zero_mul]
    · next h => rw [row_in Z b ⟨2 + n.val, by omega⟩ ⟨(n.val + 256 - 255) % 256, by omega⟩ (by show 2 + n.val = (n.val + 256 - 255) % 256 + 1; omega) C]

theorem silu_ix (b : Fin 8) (n : Fin 256) (C : Fin 2048) :
    (val_main_v22 (F := Ideal) Z w (ix3 b n C) : EReal) = ctxTaps (fun k => Z (ix3 b k ⟨C.val, by omega⟩)) (fun i => w (ix2 i C)) n
      * Ideal.logistic (ctxTaps (fun k => Z (ix3 b k ⟨C.val, by omega⟩)) (fun i => w (ix2 i C)) n) := by
  rw [val_main_v22_apply, val_main_call1_v5_apply, val_main_call1_v4_apply, val_main_call1_cst_0_apply, val_main_call1_v3_apply, val_main_call1_v2_apply,
    val_main_call1_cst_apply, val_main_call1_v1_apply, val_main_call1_v0_apply, taps_ix]
  show _ * Ideal.div (Ideal.ofBits .f32 0x3F800000#32) (Ideal.ofBits .f32 0x3F800000#32 + Ideal.exp (-_)) = _
  rw [oneWord]
  rfl

theorem concat_ix (x y : FVec Ideal S8x256x1024 .f32) (b : Fin 8) (n : Fin 256) (C : Fin 2048) :
    concatenate S8x256x2048 2 [⟨S8x256x1024, x⟩, ⟨S8x256x1024, y⟩] concatenates_S8x256x1024_S8x256x1024_S8x256x2048_d2 (ix3 b n C)
      = if h : C.val < 1024 then x (ix3 b n ⟨C.val, h⟩) else y (ix3 b n ⟨C.val - 1024, by omega⟩) := by
  pointwise

theorem value : val_main_v28 (F := Ideal) Z w = convCtx Z w := by
  funext y
  obtain ⟨b, n, C, rfl⟩ : ∃ b n C, y = ix3 b n C := ⟨y 0, y 1, y 2, funext fun a => by fin_cases a <;> rfl⟩
  show _ = convCtxAt Z w b n C
  rw [val_main_v28_apply]
  unfold convCtxAt keyFac val_main_v27
  rw [← silu_ix]
  refine (concat_ix _ _ b n C).trans ?_
  split
  · next h =>
    have e : idx_main_v23 (ix3 b n ⟨C.val, h⟩) = ix3 b n C := funext fun a => by fin_cases a <;> rfl
    rw [val_main_v23_apply, e, mul_one]
  · next h =>
    have e : idx_main_v24 (ix3 b n ⟨C.val - 1024, by omega⟩) = ix3 b n C := by
      funext a
      fin_cases a
      · rfl
      · rfl
      · exact Fin.ext (by show 1024 + (C.val - 1024) = C.val; omega)
    rw [val_main_v26_apply, val_main_v24_apply, e, val_main_v25_apply, val_main_cst_apply]
    rfl

end Cert.Reference24Ideal.ConvCtx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Pre_finite_ctx
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Final
public import proofs.«01_k».proof.Proof.Ref
public import proofs.«01_k».proof.Proof.Pre
public import proofs.«01_k».proof.Proof.In
public import proofs.«01_k».proof.Proof.Out
public import proofs.«01_k».proof.Proof.Mix
public import proofs.«01_k».proof.Proof.Qkv
public import proofs.«01_k».proof.Proof.RefQkv
public import proofs.«01_k».proof.Proof.Norm
public import proofs.«01_k».proof.Proof.Glu
public import proofs.«01_k».proof.Proof.Route
public import proofs.«01_k».proof.Proof.Mod
public import proofs.«01_k».proof.Proof.Heads
public import proofs.«01_k».proof.Proof.Conv
public import proofs.«01_k».proof.Proof.Ctx
public import proofs.«01_k».proof.Proof.Ada
public import proofs.«01_k».proof.Proof.Gates
public import proofs.«01_k».proof.Proof.CtxIn
public import proofs.«01_k».proof.Proof.CtxOut
public import proofs.«01_k».proof.Proof.AttnCtx
public import proofs.«01_k».proof.Proof.RefAttnCtx
public import proofs.«01_k».proof.Proof.CtxNorm
public import proofs.«01_k».proof.Proof.CtxGates
public import proofs.«01_k».proof.Proof.CtxGlu
public import proofs.«01_k».proof.Proof.CtxHeads
public import proofs.«01_k».proof.Proof.CtxConv
public import Idealize.ShloMosaic.Adequacy
public import Idealize.ShloMosaic.Init

@[expose] public section

noncomputable section

namespace Cert.Proof

open Idealize.ShloMosaic Idealize.ShloMosaic.TcCoe Idealize.SL.Sem Cert.Real

/-- The reference's frame: its run, read at the arguments; it declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem attention : Cert.algebraic_KernelIdeal_ReferenceIdeal_pre_finite := by
  intro m ρ m' ρ' hpre hagree
  have hn := fun c : Dev Cert.KernelIdeal.nD =>
    Cert.Pre_finite.Attn.nums _ _ _ _ (hpre c).1 (hpre c).2.1 (hpre c).2.2
  refine ⟨fun c => attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2) ix0)
    (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Attn.final m c (hn c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v63_eq m' c).trans ?_
    rw [(hagree c).1, (hagree c).2.1, (hagree c).2.2.1, (hagree c).2.2.2]
    exact Cert.ReferenceIdeal.Attn.ref_value _ _ _ _ (hn c)

theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem projection_qkv : Cert.algebraic_Kernel2Ideal_Reference2Ideal := by
  intro m ρ m' ρ' _ hagree
  refine ⟨fun c => qkvProj (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)), ?_, ?_⟩
  · exact (θ_run Cert.Kernel2Ideal.defs _ _).mono
      (fun r h c => ⟨(h c).1.trans (Cert.Kernel2Ideal.Qkv.final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    refine (Cert.Reference2Ideal.Read.val_main_v45_eq m' c).trans ?_
    rw [(hagree c).1, (hagree c).2.1, (hagree c).2.2.1, (hagree c).2.2.2]
    exact Cert.Reference2Ideal.Qkv.value _ _ _ _

theorem projection_in : Cert.algebraic_Kernel3Ideal_Reference3Ideal := by
  intro m ρ m' ρ' _ hagree
  refine ⟨fun c => inProj (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run Cert.Kernel3Ideal.defs _ _).mono
      (fun r h c => ⟨(h c).1.trans (Cert.Kernel3Ideal.In.final m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Value.run (F := Ideal) m' ρ')
    refine (Cert.Reference3Ideal.Read.val_main_v5_eq _ _).trans ?_
    rw [(hagree c).1, (hagree c).2]
    exact Cert.Reference3Ideal.In.value _ _

theorem projection_out : Cert.algebraic_Kernel4Ideal_Reference4Ideal := by
  intro m ρ m' ρ' _ hagree
  refine ⟨fun c => outProj (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3)), ?_, ?_⟩
  · exact (θ_run Cert.Kernel4Ideal.defs _ _).mono
      (fun r h c => ⟨(h c).1.trans (Cert.Kernel4Ideal.Out.final m c), (h c).2⟩)
      (Cert.Kernel4Ideal.Value.run_blocks (F := Ideal) m ρ)
  · refine (θ_run Cert.Reference4Ideal.defs _ _).mono (fun r h c => ⟨(h c).1.trans ?_, (h c).2⟩)
      (Cert.Reference4Ideal.Value.run (F := Ideal) m' ρ')
    refine (Cert.Reference4Ideal.Read.val_main_v5_eq _ _ _ _).trans ?_
    rw [(hagree c).1, (hagree c).2.1, (hagree c).2.2.1, (hagree c).2.2.2]
    exact Cert.Reference4Ideal.Out.value _ _ _ _

theorem projection_mix : Cert.algebraic_Kernel5Ideal_Reference5Ideal := by
  intro m ρ m' ρ' _ hagree
  refine ⟨fun c => mixProj (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4)), ?_, ?_⟩
  · exact (θ_run Cert.Kernel5Ideal.defs _ _).mono
      (fun r h c => ⟨(h c).1.trans (Cert.Kernel5Ideal.Mix.final m c), (h c).2⟩)
      (Cert.Kernel5Ideal.Value.run_blocks (F := Ideal) m ρ)
  · refine (θ_run Cert.Reference5Ideal.defs _ _).mono (fun r h c => ⟨(h c).1.trans ?_, (h c).2⟩)
      (Cert.Reference5Ideal.Value.run (F := Ideal) m' ρ')
    refine (Cert.Reference5Ideal.Read.val_main_v6_eq _ _ _ _ _).trans ?_
    rw [(hagree c).1, (hagree c).2.1, (hagree c).2.2.1, (hagree c).2.2.2.1, (hagree c).2.2.2.2]
    exact Cert.Reference5Ideal.Mix.value _ _ _ _ _

theorem frame_r6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_r7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_r8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem final_norm : Cert.algebraic_Kernel6Ideal_Reference6Ideal := by
  intro m ρ m' ρ' _ hagree
  refine ⟨fun c => normed (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · exact (θ_run Cert.Kernel6Ideal.defs _ _).mono
      (fun r h c => ⟨(h c).1.trans (Cert.Kernel6Ideal.Norm.final m c), (h c).2⟩)
      (Cert.Kernel6Ideal.Value.run_blocks (F := Ideal) m ρ)
  · refine (θ_run Cert.Reference6Ideal.defs _ _).mono (fun r h c => ⟨(h c).1.trans ?_, (h c).2⟩)
      (Cert.Reference6Ideal.Value.run (F := Ideal) m' ρ')
    refine (Cert.Reference6Ideal.Read.val_main_v12_eq _ _).trans ?_
    rw [(hagree c).1, (hagree c).2]
    exact Cert.Reference6Ideal.Norm.value _ _

theorem s5_gate : Cert.algebraic_Kernel7Ideal_Reference7Ideal := by
  intro m ρ m' ρ' _ hagree
  refine ⟨fun c => glu (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  · exact (θ_run Cert.Kernel7Ideal.defs _ _).mono
      (fun r h c => ⟨(h c).1.trans (Cert.Kernel7Ideal.Glu.final m c), (h c).2⟩)
      (Cert.Kernel7Ideal.Value.run_blocks (F := Ideal) m ρ)
  · refine (θ_run Cert.Reference7Ideal.defs _ _).mono (fun r h c => ⟨(h c).1.trans ?_, (h c).2⟩)
      (Cert.Reference7Ideal.Value.run (F := Ideal) m' ρ')
    refine (Cert.Reference7Ideal.Read.val_main_v26_eq m' c).trans ?_
    rw [(hagree c).1, (hagree c).2.1, (hagree c).2.2.1, (hagree c).2.2.2]
    exact Cert.Reference7Ideal.Glu.value _ _ _ _

theorem routing : Cert.algebraic_Kernel8Ideal_Reference8Ideal := by
  intro m ρ m' ρ' _ hagree
  refine ⟨fun c => modulated (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))
    (m ((c.tc : Thread Cert.Kernel8Ideal.nD Cert.Kernel8Ideal.τ).loc Cert.Kernel8Ideal.main_arg2))
    (m ((c.tc : Thread Cert.Kernel8Ideal.nD Cert.Kernel8Ideal.τ).loc Cert.Kernel8Ideal.main_arg3)),
    fun c => affinities (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))
    (m ((c.tc : Thread Cert.Kernel8Ideal.nD Cert.Kernel8Ideal.τ).loc Cert.Kernel8Ideal.main_arg2))
    (m ((c.tc : Thread Cert.Kernel8Ideal.nD Cert.Kernel8Ideal.τ).loc Cert.Kernel8Ideal.main_arg3))
    (m ((c.tc : Thread Cert.Kernel8Ideal.nD Cert.Kernel8Ideal.τ).loc Cert.Kernel8Ideal.main_arg4)), ?_, ?_⟩
  · exact (θ_run Cert.Kernel8Ideal.defs _ _).mono
      (fun r h c => ⟨(h c).1.trans (Cert.Kernel8Ideal.Route.final m c), (h c).2.1.trans (Cert.Kernel8Ideal.Route.final_aff m c), (h c).2.2⟩)
      (Cert.Kernel8Ideal.Value.run_blocks (F := Ideal) m ρ)
  · refine (θ_run Cert.Reference8Ideal.defs _ _).mono (fun r h c => ⟨(h c).1.trans ?_, (h c).2.1.trans ?_, (h c).2.2⟩)
      (Cert.Reference8Ideal.Value.run (F := Ideal) m' ρ')
    · refine (Cert.Reference8Ideal.Read.val_main_v18_eq _ _ _ _).trans ?_
      rw [(hagree c).1, (hagree c).2.1, (hagree c).2.2.1, (hagree c).2.2.2.1]
      exact Cert.Reference8Ideal.Route.value _ _ _ _
    · refine (Cert.Reference8Ideal.Read.val_main_v31_eq m' c).trans ?_
      rw [(hagree c).1, (hagree c).2.1, (hagree c).2.2.1, (hagree c).2.2.2.1, (hagree c).2.2.2.2]
      exact Cert.Reference8Ideal.Route.value_aff _ _ _ _ _

theorem frame_r9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_r10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_r11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem frame_r12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem frame_r13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_r14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem frame_r15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_r16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_r17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem mixer_norm : Cert.algebraic_Kernel9Ideal_Reference9Ideal := by
  intro m ρ m' ρ' _ hagree
  refine ⟨fun c => modulatedCast (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2))
    (m ((c.tc : Thread Cert.Kernel9Ideal.nD Cert.Kernel9Ideal.τ).loc Cert.Kernel9Ideal.main_arg3)), ?_, ?_⟩
  · exact (θ_run Cert.Kernel9Ideal.defs _ _).mono
      (fun r h c => ⟨(h c).1.trans (Cert.Kernel9Ideal.Mod.final m c), (h c).2⟩)
      (Cert.Kernel9Ideal.Value.run_blocks (F := Ideal) m ρ)
  · refine (θ_run Cert.Reference9Ideal.defs _ _).mono (fun r h c => ⟨(h c).1.trans ?_, (h c).2⟩)
      (Cert.Reference9Ideal.Value.run (F := Ideal) m' ρ')
    refine (Cert.Reference9Ideal.Read.val_main_v19_eq _ _ _ _).trans ?_
    rw [(hagree c).1, (hagree c).2.1, (hagree c).2.2.1, (hagree c).2.2.2]
    exact Cert.Reference9Ideal.Mod.value _ _ _ _

theorem mlstm_heads : Cert.algebraic_Kernel10Ideal_Reference10Ideal := by
  intro m ρ m' ρ' _ hagree
  refine ⟨fun c => heads (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2))
    (m ((c.tc : Thread Cert.Kernel10Ideal.nD Cert.Kernel10Ideal.τ).loc Cert.Kernel10Ideal.main_arg3)), ?_, ?_⟩
  · exact (θ_run Cert.Kernel10Ideal.defs _ _).mono
      (fun r h c => ⟨(h c).1.trans (Cert.Kernel10Ideal.Heads.final m c), (h c).2⟩)
      (Cert.Kernel10Ideal.Value.run_blocks (F := Ideal) m ρ)
  · refine (θ_run Cert.Reference10Ideal.defs _ _).mono (fun r h c => ⟨(h c).1.trans ?_, (h c).2⟩)
      (Cert.Reference10Ideal.Value.run (F := Ideal) m' ρ')
    refine (Cert.Reference10Ideal.Read.val_main_v25_eq _ _ _ _).trans ?_
    rw [(hagree c).1, (hagree c).2.1, (hagree c).2.2.1, (hagree c).2.2.2]
    exact Cert.Reference10Ideal.Heads.value _ _ _ _

theorem convolution : Cert.algebraic_Kernel11Ideal_Reference11Ideal := by
  intro m ρ m' ρ' _ hagree
  refine ⟨fun c => convolved (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1)), ?_, ?_⟩
  · exact (θ_run Cert.Kernel11Ideal.defs _ _).mono
      (fun r h c => ⟨(h c).1.trans (Cert.Kernel11Ideal.Conv.final m c), (h c).2⟩)
      (Cert.Kernel11Ideal.Value.run_blocks (F := Ideal) m ρ)
  · refine (θ_run Cert.Reference11Ideal.defs _ _).mono (fun r h c => ⟨(h c).1.trans ?_, (h c).2⟩)
      (Cert.Reference11Ideal.Value.run (F := Ideal) m' ρ')
    refine (Cert.Reference11Ideal.Read.val_main_v28_eq m' c).trans ?_
    rw [(hagree c).1, (hagree c).2]
    exact Cert.Reference11Ideal.Conv.value _ _

theorem projection_ctx : Cert.algebraic_Kernel12Ideal_Reference12Ideal := by
  intro m ρ m' ρ' _ hagree
  refine ⟨fun c => ctxProj (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1)), ?_, ?_⟩
  · exact (θ_run Cert.Kernel12Ideal.defs _ _).mono
      (fun r h c => ⟨(h c).1.trans (Cert.Kernel12Ideal.Ctx.final m c), (h c).2⟩)
      (Cert.Kernel12Ideal.Value.run_blocks (F := Ideal) m ρ)
  · refine (θ_run Cert.Reference12Ideal.defs _ _).mono (fun r h c => ⟨(h c).1.trans ?_, (h c).2⟩)
      (Cert.Reference12Ideal.Value.run (F := Ideal) m' ρ')
    refine (Cert.Reference12Ideal.Read.val_main_v9_eq _ _).trans ?_
    rw [(hagree c).1, (hagree c).2]
    exact Cert.Reference12Ideal.Ctx.value _ _

theorem modulations : Cert.algebraic_Kernel13Ideal_Reference13Ideal := by
  intro m ρ m' ρ' _ hagree
  refine ⟨fun c => adaMods (m ((c.tc : Thread Cert.Kernel13Ideal.nD Cert.Kernel13Ideal.τ).loc Cert.Kernel13Ideal.main_arg0))
    (m ((c.tc : Thread Cert.Kernel13Ideal.nD Cert.Kernel13Ideal.τ).loc Cert.Kernel13Ideal.main_arg1))
    (m ((c.tc : Thread Cert.Kernel13Ideal.nD Cert.Kernel13Ideal.τ).loc Cert.Kernel13Ideal.main_arg2))
    (m ((c.tc : Thread Cert.Kernel13Ideal.nD Cert.Kernel13Ideal.τ).loc Cert.Kernel13Ideal.main_arg3)), ?_, ?_⟩
  · exact (θ_run Cert.Kernel13Ideal.defs _ _).mono
      (fun r h c => ⟨(h c).1.trans (Cert.Kernel13Ideal.Ada.final m c), (h c).2⟩)
      (Cert.Kernel13Ideal.Value.run_blocks (F := Ideal) m ρ)
  · refine (θ_run Cert.Reference13Ideal.defs _ _).mono (fun r h c => ⟨(h c).1.trans ?_, (h c).2⟩)
      (Cert.Reference13Ideal.Value.run (F := Ideal) m' ρ')
    refine (Cert.Reference13Ideal.Read.val_main_v8_eq _ _ _ _).trans ?_
    rw [(hagree c).1, (hagree c).2.1, (hagree c).2.2.1, (hagree c).2.2.2]
    exact Cert.Reference13Ideal.Ada.value _ _ _ _

theorem projection_gates : Cert.algebraic_Kernel14Ideal_Reference14Ideal := by
  intro m ρ m' ρ' _ hagree
  refine ⟨fun c => gateProj (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1)), ?_, ?_⟩
  · exact (θ_run Cert.Kernel14Ideal.defs _ _).mono
      (fun r h c => ⟨(h c).1.trans (Cert.Kernel14Ideal.Gates.final m c), (h c).2⟩)
      (Cert.Kernel14Ideal.Value.run_blocks (F := Ideal) m ρ)
  · refine (θ_run Cert.Reference14Ideal.defs _ _).mono (fun r h c => ⟨(h c).1.trans ?_, (h c).2⟩)
      (Cert.Reference14Ideal.Value.run (F := Ideal) m' ρ')
    refine (Cert.Reference14Ideal.Read.val_main_v5_eq _ _).trans ?_
    rw [(hagree c).1, (hagree c).2]
    exact Cert.Reference14Ideal.Gates.value _ _

theorem projection_ctx_in : Cert.algebraic_Kernel15Ideal_Reference15Ideal := by
  intro m ρ m' ρ' _ hagree
  refine ⟨fun c => ctxIn (m ((c.tc : Thread Cert.Kernel15Ideal.nD Cert.Kernel15Ideal.τ).loc Cert.Kernel15Ideal.main_arg0))
    (m ((c.tc : Thread Cert.Kernel15Ideal.nD Cert.Kernel15Ideal.τ).loc Cert.Kernel15Ideal.main_arg1)), ?_, ?_⟩
  · exact (θ_run Cert.Kernel15Ideal.defs _ _).mono
      (fun r h c => ⟨(h c).1.trans (Cert.Kernel15Ideal.CtxIn.final m c), (h c).2⟩)
      (Cert.Kernel15Ideal.Value.run_blocks (F := Ideal) m ρ)
  · refine (θ_run Cert.Reference15Ideal.defs _ _).mono (fun r h c => ⟨(h c).1.trans ?_, (h c).2⟩)
      (Cert.Reference15Ideal.Value.run (F := Ideal) m' ρ')
    refine (Cert.Reference15Ideal.Read.val_main_v5_eq _ _).trans ?_
    rw [(hagree c).1, (hagree c).2]
    exact Cert.Reference15Ideal.CtxIn.value _ _

theorem projection_ctx_out : Cert.algebraic_Kernel16Ideal_Reference16Ideal := by
  intro m ρ m' ρ' _ hagree
  refine ⟨fun c => ctxOut (m ((c.tc : Thread Cert.Kernel16Ideal.nD Cert.Kernel16Ideal.τ).loc Cert.Kernel16Ideal.main_arg0))
    (m ((c.tc : Thread Cert.Kernel16Ideal.nD Cert.Kernel16Ideal.τ).loc Cert.Kernel16Ideal.main_arg1))
    (m ((c.tc : Thread Cert.Kernel16Ideal.nD Cert.Kernel16Ideal.τ).loc Cert.Kernel16Ideal.main_arg2))
    (m ((c.tc : Thread Cert.Kernel16Ideal.nD Cert.Kernel16Ideal.τ).loc Cert.Kernel16Ideal.main_arg3)), ?_, ?_⟩
  · exact (θ_run Cert.Kernel16Ideal.defs _ _).mono
      (fun r h c => ⟨(h c).1.trans (Cert.Kernel16Ideal.CtxOut.final m c), (h c).2⟩)
      (Cert.Kernel16Ideal.Value.run_blocks (F := Ideal) m ρ)
  · refine (θ_run Cert.Reference16Ideal.defs _ _).mono (fun r h c => ⟨(h c).1.trans ?_, (h c).2⟩)
      (Cert.Reference16Ideal.Value.run (F := Ideal) m' ρ')
    refine (Cert.Reference16Ideal.Read.val_main_v5_eq _ _ _ _).trans ?_
    rw [(hagree c).1, (hagree c).2.1, (hagree c).2.2.1, (hagree c).2.2.2]
    exact Cert.Reference16Ideal.CtxOut.value _ _ _ _

theorem projection_ctx_mix : Cert.algebraic_Kernel17Ideal_Reference17Ideal := by
  intro m ρ m' ρ' _ hagree
  refine ⟨fun c => ctxMix (m ((c.tc : Thread Cert.Kernel17Ideal.nD Cert.Kernel17Ideal.τ).loc Cert.Kernel17Ideal.main_arg0))
    (m ((c.tc : Thread Cert.Kernel17Ideal.nD Cert.Kernel17Ideal.τ).loc Cert.Kernel17Ideal.main_arg1))
    (m ((c.tc : Thread Cert.Kernel17Ideal.nD Cert.Kernel17Ideal.τ).loc Cert.Kernel17Ideal.main_arg2))
    (m ((c.tc : Thread Cert.Kernel17Ideal.nD Cert.Kernel17Ideal.τ).loc Cert.Kernel17Ideal.main_arg3))
    (m ((c.tc : Thread Cert.Kernel17Ideal.nD Cert.Kernel17Ideal.τ).loc Cert.Kernel17Ideal.main_arg4)), ?_, ?_⟩
  · exact (θ_run Cert.Kernel17Ideal.defs _ _).mono
      (fun r h c => ⟨(h c).1.trans (Cert.Kernel17Ideal.CtxOut.final m c), (h c).2⟩)
      (Cert.Kernel17Ideal.Value.run_blocks (F := Ideal) m ρ)
  · refine (θ_run Cert.Reference17Ideal.defs _ _).mono (fun r h c => ⟨(h c).1.trans ?_, (h c).2⟩)
      (Cert.Reference17Ideal.Value.run (F := Ideal) m' ρ')
    refine (Cert.Reference17Ideal.Read.val_main_v6_eq _ _ _ _ _).trans ?_
    rw [(hagree c).1, (hagree c).2.1, (hagree c).2.2.1, (hagree c).2.2.2.1, (hagree c).2.2.2.2]
    exact Cert.Reference17Ideal.CtxOut.value _ _ _ _ _

theorem frame_r18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The precondition of the context's attention: its projected rows and lambda are numbers. -/
theorem nums_ctx (B : FVec Ideal Cert.Pre_finite_ctx.S8x256x6144 .bf16) (lam : FVec Ideal Cert.Pre_finite_ctx.S_ .f32)
    (g : FVec Ideal Cert.Pre_finite_ctx.S2048 .f32) (h0 : (Cert.Pre_finite_ctx.fn (F := Ideal) B lam g).1 = fun _ => 1#1)
    (h1 : (Cert.Pre_finite_ctx.fn (F := Ideal) B lam g).2 = fun _ => 1#1) : NumsCtx B (lam ix0) where
  ctx i := Cert.Pre_finite.Attn.num_of_abs _ _ Cert.Pre_finite.Attn.top_bf16 (congrFun h0 i)
  lam := Cert.Pre_finite.Attn.num_of_abs _ _ Cert.Pre_finite.Attn.top_f32 (congrFun h1 ix0)

theorem attention_ctx : Cert.algebraic_Kernel18Ideal_Reference18Ideal_pre_finite_ctx := by
  intro m ρ m' ρ' hpre hagree
  have hn := fun c : Dev Cert.Kernel18Ideal.nD => nums_ctx _ _ _ (hpre c).1 (hpre c).2
  refine ⟨fun c => attnCtx (m ((c.tc : Thread Cert.Kernel18Ideal.nD Cert.Kernel18Ideal.τ).loc Cert.Kernel18Ideal.main_arg0))
    (m ((c.tc : Thread Cert.Kernel18Ideal.nD Cert.Kernel18Ideal.τ).loc Cert.Kernel18Ideal.main_arg1) ix0)
    (m ((c.tc : Thread Cert.Kernel18Ideal.nD Cert.Kernel18Ideal.τ).loc Cert.Kernel18Ideal.main_arg2)), ?_, ?_⟩
  · exact (θ_run Cert.Kernel18Ideal.defs _ _).mono
      (fun r h c => ⟨(h c).1.trans (Cert.Kernel18Ideal.AttnCtx.final m c (hn c)), (h c).2⟩)
      (Cert.Kernel18Ideal.Value.run_blocks (F := Ideal) m ρ)
  · refine (θ_run Cert.Reference18Ideal.defs _ _).mono (fun r h c => ⟨(h c).1.trans ?_, (h c).2⟩)
      (Cert.Reference18Ideal.Value.run (F := Ideal) m' ρ')
    refine (Cert.Reference18Ideal.Read.val_main_v51_eq m' c).trans ?_
    rw [(hagree c).1, (hagree c).2.1, (hagree c).2.2]
    exact Cert.Reference18Ideal.AttnCtx.ref_value _ _ _ (hn c)

theorem frame_r19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem frame_r20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem frame_r21 : Cert.quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

theorem frame_r22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem frame_r23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem frame_r24 : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem mixer_norm_ctx : Cert.algebraic_Kernel19Ideal_Reference19Ideal := by
  intro m ρ m' ρ' _ hagree
  refine ⟨_, (θ_run Cert.Kernel19Ideal.defs _ _).mono
      (fun r h c => ⟨(h c).1.trans (Cert.Kernel19Ideal.ModCtx.final m c), (h c).2⟩)
      (Cert.Kernel19Ideal.Value.run_blocks (F := Ideal) m ρ), ?_⟩
  refine (θ_run Cert.Reference19Ideal.defs _ _).mono (fun r h c => ⟨(h c).1.trans ?_, (h c).2⟩)
    (Cert.Reference19Ideal.Value.run (F := Ideal) m' ρ')
  refine (Cert.Reference19Ideal.Read.val_main_v19_eq _ _ _ _).trans ?_
  rw [(hagree c).1, (hagree c).2.1, (hagree c).2.2.1, (hagree c).2.2.2]
  exact Cert.Reference19Ideal.ModCtx.value _ _ _ _

theorem projection_gates_ctx : Cert.algebraic_Kernel20Ideal_Reference20Ideal := by
  intro m ρ m' ρ' _ hagree
  refine ⟨_, (θ_run Cert.Kernel20Ideal.defs _ _).mono
      (fun r h c => ⟨(h c).1.trans (Cert.Kernel20Ideal.GatesCtx.final m c), (h c).2⟩)
      (Cert.Kernel20Ideal.Value.run_blocks (F := Ideal) m ρ), ?_⟩
  refine (θ_run Cert.Reference20Ideal.defs _ _).mono (fun r h c => ⟨(h c).1.trans ?_, (h c).2⟩)
    (Cert.Reference20Ideal.Value.run (F := Ideal) m' ρ')
  refine (Cert.Reference20Ideal.Read.val_main_v5_eq _ _).trans ?_
  rw [(hagree c).1, (hagree c).2]
  exact Cert.Reference20Ideal.GatesCtx.value _ _

theorem routing_ctx : Cert.algebraic_Kernel21Ideal_Reference21Ideal := by
  intro m ρ m' ρ' _ hagree
  refine ⟨_, _, (θ_run Cert.Kernel21Ideal.defs _ _).mono
      (fun r h c => ⟨(h c).1.trans (Cert.Kernel21Ideal.RouteCtx.final m c), (h c).2.1.trans (Cert.Kernel21Ideal.RouteCtx.final_aff m c), (h c).2.2⟩)
      (Cert.Kernel21Ideal.Value.run_blocks (F := Ideal) m ρ), ?_⟩
  refine (θ_run Cert.Reference21Ideal.defs _ _).mono (fun r h c => ⟨(h c).1.trans ?_, (h c).2.1.trans ?_, (h c).2.2⟩)
    (Cert.Reference21Ideal.Value.run (F := Ideal) m' ρ')
  · refine (Cert.Reference21Ideal.Read.val_main_v18_eq _ _ _ _).trans ?_
    rw [(hagree c).1, (hagree c).2.1, (hagree c).2.2.1, (hagree c).2.2.2.1]
    exact Cert.Reference21Ideal.RouteCtx.value _ _ _ _
  · refine (Cert.Reference21Ideal.Read.val_main_v31_eq m' c).trans ?_
    rw [(hagree c).1, (hagree c).2.1, (hagree c).2.2.1, (hagree c).2.2.2.1, (hagree c).2.2.2.2]
    exact Cert.Reference21Ideal.RouteCtx.value_aff _ _ _ _ _

theorem s5_gate_ctx : Cert.algebraic_Kernel22Ideal_Reference22Ideal := by
  intro m ρ m' ρ' _ hagree
  refine ⟨_, (θ_run Cert.Kernel22Ideal.defs _ _).mono
      (fun r h c => ⟨(h c).1.trans (Cert.Kernel22Ideal.GluCtx.final m c), (h c).2⟩)
      (Cert.Kernel22Ideal.Value.run_blocks (F := Ideal) m ρ), ?_⟩
  refine (θ_run Cert.Reference22Ideal.defs _ _).mono (fun r h c => ⟨(h c).1.trans ?_, (h c).2⟩)
    (Cert.Reference22Ideal.Value.run (F := Ideal) m' ρ')
  refine (Cert.Reference22Ideal.Read.val_main_v26_eq m' c).trans ?_
  rw [(hagree c).1, (hagree c).2.1, (hagree c).2.2.1, (hagree c).2.2.2]
  exact Cert.Reference22Ideal.GluCtx.value _ _ _ _

theorem mlstm_heads_ctx : Cert.algebraic_Kernel23Ideal_Reference23Ideal := by
  intro m ρ m' ρ' _ hagree
  refine ⟨_, (θ_run Cert.Kernel23Ideal.defs _ _).mono
      (fun r h c => ⟨(h c).1.trans (Cert.Kernel23Ideal.HeadsCtx.final m c), (h c).2⟩)
      (Cert.Kernel23Ideal.Value.run_blocks (F := Ideal) m ρ), ?_⟩
  refine (θ_run Cert.Reference23Ideal.defs _ _).mono (fun r h c => ⟨(h c).1.trans ?_, (h c).2⟩)
    (Cert.Reference23Ideal.Value.run (F := Ideal) m' ρ')
  refine (Cert.Reference23Ideal.Read.val_main_v25_eq _ _ _ _).trans ?_
  rw [(hagree c).1, (hagree c).2.1, (hagree c).2.2.1, (hagree c).2.2.2]
  exact Cert.Reference23Ideal.HeadsCtx.value _ _ _ _

theorem convolution_ctx : Cert.algebraic_Kernel24Ideal_Reference24Ideal := by
  intro m ρ m' ρ' _ hagree
  refine ⟨_, (θ_run Cert.Kernel24Ideal.defs _ _).mono
      (fun r h c => ⟨(h c).1.trans (Cert.Kernel24Ideal.ConvCtx.final m c), (h c).2⟩)
      (Cert.Kernel24Ideal.Value.run_blocks (F := Ideal) m ρ), ?_⟩
  refine (θ_run Cert.Reference24Ideal.defs _ _).mono (fun r h c => ⟨(h c).1.trans ?_, (h c).2⟩)
    (Cert.Reference24Ideal.Value.run (F := Ideal) m' ρ')
  refine (Cert.Reference24Ideal.Read.val_main_v28_eq m' c).trans ?_
  rw [(hagree c).1, (hagree c).2]
  exact Cert.Reference24Ideal.ConvCtx.value _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Pre_finite.Gen.facts, Cert.Pre_finite_ctx.Gen.facts,
    fun m ρ _ => Cert.Kernel.Gen.frame m ρ,
    fun m ρ _ => Cert.KernelIdeal.Gen.frame m ρ,
    fun m ρ _ => Cert.KernelIdeal.Gen.frame m ρ,
    frame_r, fun m ρ _ => frame_r m ρ trivial,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, frame_r7,
    fun m ρ _ => Cert.Kernel8.Gen.frame m ρ, fun m ρ _ => Cert.Kernel8Ideal.Gen.frame m ρ, frame_r8,
    fun m ρ _ => Cert.Kernel9.Gen.frame m ρ, fun m ρ _ => Cert.Kernel9Ideal.Gen.frame m ρ, frame_r9,
    fun m ρ _ => Cert.Kernel10.Gen.frame m ρ, fun m ρ _ => Cert.Kernel10Ideal.Gen.frame m ρ, frame_r10,
    fun m ρ _ => Cert.Kernel11.Gen.frame m ρ, fun m ρ _ => Cert.Kernel11Ideal.Gen.frame m ρ, frame_r11,
    fun m ρ _ => Cert.Kernel12.Gen.frame m ρ, fun m ρ _ => Cert.Kernel12Ideal.Gen.frame m ρ, frame_r12,
    fun m ρ _ => Cert.Kernel13.Gen.frame m ρ, fun m ρ _ => Cert.Kernel13Ideal.Gen.frame m ρ, frame_r13,
    fun m ρ _ => Cert.Kernel14.Gen.frame m ρ, fun m ρ _ => Cert.Kernel14Ideal.Gen.frame m ρ, frame_r14,
    fun m ρ _ => Cert.Kernel15.Gen.frame m ρ, fun m ρ _ => Cert.Kernel15Ideal.Gen.frame m ρ, frame_r15,
    fun m ρ _ => Cert.Kernel16.Gen.frame m ρ, fun m ρ _ => Cert.Kernel16Ideal.Gen.frame m ρ, frame_r16,
    fun m ρ _ => Cert.Kernel17.Gen.frame m ρ, fun m ρ _ => Cert.Kernel17Ideal.Gen.frame m ρ, frame_r17,
    fun m ρ _ => Cert.Kernel18.Gen.frame m ρ, fun m ρ _ => Cert.Kernel18Ideal.Gen.frame m ρ,
    fun m ρ _ => Cert.Kernel18Ideal.Gen.frame m ρ, frame_r18, fun m ρ _ => frame_r18 m ρ trivial,
    fun m ρ _ => Cert.Kernel19.Gen.frame m ρ, fun m ρ _ => Cert.Kernel19Ideal.Gen.frame m ρ, frame_r19,
    fun m ρ _ => Cert.Kernel20.Gen.frame m ρ, fun m ρ _ => Cert.Kernel20Ideal.Gen.frame m ρ, frame_r20,
    fun m ρ _ => Cert.Kernel21.Gen.frame m ρ, fun m ρ _ => Cert.Kernel21Ideal.Gen.frame m ρ, frame_r21,
    fun m ρ _ => Cert.Kernel22.Gen.frame m ρ, fun m ρ _ => Cert.Kernel22Ideal.Gen.frame m ρ, frame_r22,
    fun m ρ _ => Cert.Kernel23.Gen.frame m ρ, fun m ρ _ => Cert.Kernel23Ideal.Gen.frame m ρ, frame_r23,
    fun m ρ _ => Cert.Kernel24.Gen.frame m ρ, fun m ρ _ => Cert.Kernel24Ideal.Gen.frame m ρ, frame_r24,
    trivial, attention, trivial, projection_qkv, trivial, projection_in, trivial, projection_out, trivial, projection_mix,
    trivial, final_norm, trivial, s5_gate, trivial, routing,
    trivial, mixer_norm, trivial, mlstm_heads, trivial, convolution, trivial, projection_ctx,
    trivial, modulations, trivial, projection_gates,
    trivial, projection_ctx_in, trivial, projection_ctx_out, trivial, projection_ctx_mix,
    trivial, attention_ctx, trivial, mixer_norm_ctx, trivial, projection_gates_ctx, trivial, routing_ctx,
    trivial, s5_gate_ctx, trivial, mlstm_heads_ctx, trivial, convolution_ctx⟩

end Cert.Proof

end
